-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRefIdeal (m : (ℓ : Loc Cert.BackRefIdeal.nD Cert.BackRefIdeal.τ Cert.BackRefIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontRefIdeal (m : (ℓ : Loc Cert.FrontRefIdeal.nD Cert.FrontRefIdeal.τ Cert.FrontRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0)
      ∧ r.2.mem ((c.tc : Thread Cert.BackRefIdeal.nD Cert.BackRefIdeal.τ).loc Cert.BackRefIdeal.main_arg1) = m ((c.tc : Thread Cert.BackRefIdeal.nD Cert.BackRefIdeal.τ).loc Cert.BackRefIdeal.main_arg1)
      ∧ r.2.mem ((c.tc : Thread Cert.BackRefIdeal.nD Cert.BackRefIdeal.τ).loc Cert.BackRefIdeal.main_arg2) = m ((c.tc : Thread Cert.BackRefIdeal.nD Cert.BackRefIdeal.τ).loc Cert.BackRefIdeal.main_arg2)
      ∧ r.2.mem ((c.tc : Thread Cert.BackRefIdeal.nD Cert.BackRefIdeal.τ).loc Cert.BackRefIdeal.main_arg3) = m ((c.tc : Thread Cert.BackRefIdeal.nD Cert.BackRefIdeal.τ).loc Cert.BackRefIdeal.main_arg3)
      ∧ r.2.mem ((c.tc : Thread Cert.BackRefIdeal.nD Cert.BackRefIdeal.τ).loc Cert.BackRefIdeal.main_arg4) = m ((c.tc : Thread Cert.BackRefIdeal.nD Cert.BackRefIdeal.τ).loc Cert.BackRefIdeal.main_arg4)
      ∧ r.2.mem ((c.tc : Thread Cert.BackRefIdeal.nD Cert.BackRefIdeal.τ).loc Cert.BackRefIdeal.main_arg5) = m ((c.tc : Thread Cert.BackRefIdeal.nD Cert.BackRefIdeal.τ).loc Cert.BackRefIdeal.main_arg5)
      ∧ r.2.mem ((c.tc : Thread Cert.BackRefIdeal.nD Cert.BackRefIdeal.τ).loc Cert.BackRefIdeal.main_arg6) = m ((c.tc : Thread Cert.BackRefIdeal.nD Cert.BackRefIdeal.τ).loc Cert.BackRefIdeal.main_arg6))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8)
      ∧ r.2.mem ((c.tc : Thread Cert.FrontRefIdeal.nD Cert.FrontRefIdeal.τ).loc Cert.FrontRefIdeal.main_arg9) = m ((c.tc : Thread Cert.FrontRefIdeal.nD Cert.FrontRefIdeal.τ).loc Cert.FrontRefIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v27_1)) (v1 : (c : Dev Cert.KernelIdeal.nD) → Buf (Elt Ideal) ((c.tc : Thread Cert.KernelIdeal.nD Cert.KernelIdeal.τ).loc Cert.KernelIdeal.main_v27_2)) (v2 : (c : Dev Cert.KernelIdeal.nD) → Buf (Elt Ideal) ((c.tc : Thread Cert.KernelIdeal.nD Cert.KernelIdeal.τ).loc Cert.KernelIdeal.main_v27_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_1) = v0 c
          ∧ r.2.mem ((c.tc : Thread Cert.KernelIdeal.nD Cert.KernelIdeal.τ).loc Cert.KernelIdeal.main_v27_2) = v1 c
          ∧ r.2.mem ((c.tc : Thread Cert.KernelIdeal.nD Cert.KernelIdeal.τ).loc Cert.KernelIdeal.main_v27_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v168) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m' ((c.tc : Thread Cert.BackRefIdeal.nD Cert.BackRefIdeal.τ).loc Cert.BackRefIdeal.main_arg0) = m ((c.tc : Thread Cert.BackIdeal.nD Cert.BackIdeal.τ).loc Cert.BackIdeal.main_arg0)
      ∧ m' ((c.tc : Thread Cert.BackRefIdeal.nD Cert.BackRefIdeal.τ).loc Cert.BackRefIdeal.main_arg1) = m ((c.tc : Thread Cert.BackIdeal.nD Cert.BackIdeal.τ).loc Cert.BackIdeal.main_arg1)
      ∧ m' ((c.tc : Thread Cert.BackRefIdeal.nD Cert.BackRefIdeal.τ).loc Cert.BackRefIdeal.main_arg2) = m ((c.tc : Thread Cert.BackIdeal.nD Cert.BackIdeal.τ).loc Cert.BackIdeal.main_arg2)
      ∧ m' ((c.tc : Thread Cert.BackRefIdeal.nD Cert.BackRefIdeal.τ).loc Cert.BackRefIdeal.main_arg3) = m ((c.tc : Thread Cert.BackIdeal.nD Cert.BackIdeal.τ).loc Cert.BackIdeal.main_arg3)
      ∧ m' ((c.tc : Thread Cert.BackRefIdeal.nD Cert.BackRefIdeal.τ).loc Cert.BackRefIdeal.main_arg4) = m ((c.tc : Thread Cert.BackIdeal.nD Cert.BackIdeal.τ).loc Cert.BackIdeal.main_arg4)
      ∧ m' ((c.tc : Thread Cert.BackRefIdeal.nD Cert.BackRefIdeal.τ).loc Cert.BackRefIdeal.main_arg5) = m ((c.tc : Thread Cert.BackIdeal.nD Cert.BackIdeal.τ).loc Cert.BackIdeal.main_arg5)
      ∧ m' ((c.tc : Thread Cert.BackRefIdeal.nD Cert.BackRefIdeal.τ).loc Cert.BackRefIdeal.main_arg6) = m ((c.tc : Thread Cert.BackIdeal.nD Cert.BackIdeal.τ).loc Cert.BackIdeal.main_arg6)) →
    ∃ (v0 : (c : Dev Cert.BackIdeal.nD) → Buf (Elt Ideal) ((c.tc : Thread Cert.BackIdeal.nD Cert.BackIdeal.τ).loc Cert.BackIdeal.main_v4_0)) (v1 : (c : Dev Cert.BackIdeal.nD) → Buf (Elt Ideal) ((c.tc : Thread Cert.BackIdeal.nD Cert.BackIdeal.τ).loc Cert.BackIdeal.main_v4_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v4_0) = v0 c
          ∧ r.2.mem ((c.tc : Thread Cert.BackIdeal.nD Cert.BackIdeal.τ).loc Cert.BackIdeal.main_v4_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6))
      ∧ θ_run (Cert.BackRefIdeal.defs (F := Ideal)) (onTc (τ := Cert.BackRefIdeal.τ) (Cert.BackRefIdeal.main (F := Ideal))) ⟨m', fun _ => 0, g'⟩ (fun r => ∀ c : Dev Cert.BackRefIdeal.nD,
          r.2.mem ((c.tc : Thread Cert.BackRefIdeal.nD Cert.BackRefIdeal.τ).loc Cert.BackRefIdeal.main_v37) = v0 c
          ∧ r.2.mem ((c.tc : Thread Cert.BackRefIdeal.nD Cert.BackRefIdeal.τ).loc Cert.BackRefIdeal.main_v75) = v1 c
          ∧ r.2.mem ((c.tc : Thread Cert.BackRefIdeal.nD Cert.BackRefIdeal.τ).loc Cert.BackRefIdeal.main_arg0) = m' ((c.tc : Thread Cert.BackRefIdeal.nD Cert.BackRefIdeal.τ).loc Cert.BackRefIdeal.main_arg0)
          ∧ r.2.mem ((c.tc : Thread Cert.BackRefIdeal.nD Cert.BackRefIdeal.τ).loc Cert.BackRefIdeal.main_arg1) = m' ((c.tc : Thread Cert.BackRefIdeal.nD Cert.BackRefIdeal.τ).loc Cert.BackRefIdeal.main_arg1)
          ∧ r.2.mem ((c.tc : Thread Cert.BackRefIdeal.nD Cert.BackRefIdeal.τ).loc Cert.BackRefIdeal.main_arg2) = m' ((c.tc : Thread Cert.BackRefIdeal.nD Cert.BackRefIdeal.τ).loc Cert.BackRefIdeal.main_arg2)
          ∧ r.2.mem ((c.tc : Thread Cert.BackRefIdeal.nD Cert.BackRefIdeal.τ).loc Cert.BackRefIdeal.main_arg3) = m' ((c.tc : Thread Cert.BackRefIdeal.nD Cert.BackRefIdeal.τ).loc Cert.BackRefIdeal.main_arg3)
          ∧ r.2.mem ((c.tc : Thread Cert.BackRefIdeal.nD Cert.BackRefIdeal.τ).loc Cert.BackRefIdeal.main_arg4) = m' ((c.tc : Thread Cert.BackRefIdeal.nD Cert.BackRefIdeal.τ).loc Cert.BackRefIdeal.main_arg4)
          ∧ r.2.mem ((c.tc : Thread Cert.BackRefIdeal.nD Cert.BackRefIdeal.τ).loc Cert.BackRefIdeal.main_arg5) = m' ((c.tc : Thread Cert.BackRefIdeal.nD Cert.BackRefIdeal.τ).loc Cert.BackRefIdeal.main_arg5)
          ∧ r.2.mem ((c.tc : Thread Cert.BackRefIdeal.nD Cert.BackRefIdeal.τ).loc Cert.BackRefIdeal.main_arg6) = m' ((c.tc : Thread Cert.BackRefIdeal.nD Cert.BackRefIdeal.τ).loc Cert.BackRefIdeal.main_arg6))

def preserves_Front_FrontIdeal : Prop :=
  True

def algebraic_FrontIdeal_FrontRefIdeal [hFrontIdeal : Cert.FrontIdeal.Facts] [hFrontRefIdeal : Cert.FrontRefIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
      ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)
      ∧ m' ((c.tc : Thread Cert.FrontRefIdeal.nD Cert.FrontRefIdeal.τ).loc Cert.FrontRefIdeal.main_arg9) = m ((c.tc : Thread Cert.FrontIdeal.nD Cert.FrontIdeal.τ).loc Cert.FrontIdeal.main_arg9)) →
    ∃ (v0 : (c : Dev Cert.FrontIdeal.nD) → Buf (Elt Ideal) ((c.tc : Thread Cert.FrontIdeal.nD Cert.FrontIdeal.τ).loc Cert.FrontIdeal.main_v3_0)) (v1 : (c : Dev Cert.FrontIdeal.nD) → Buf (Elt Ideal) ((c.tc : Thread Cert.FrontIdeal.nD Cert.FrontIdeal.τ).loc Cert.FrontIdeal.main_v3_1)) (v2 : (c : Dev Cert.FrontIdeal.nD) → Buf (Elt Ideal) ((c.tc : Thread Cert.FrontIdeal.nD Cert.FrontIdeal.τ).loc Cert.FrontIdeal.main_v3_2)) (v3 : (c : Dev Cert.FrontIdeal.nD) → Buf (Elt Ideal) ((c.tc : Thread Cert.FrontIdeal.nD Cert.FrontIdeal.τ).loc Cert.FrontIdeal.main_v3_3)) (v4 : (c : Dev Cert.FrontIdeal.nD) → Buf (Elt Ideal) ((c.tc : Thread Cert.FrontIdeal.nD Cert.FrontIdeal.τ).loc Cert.FrontIdeal.main_v3_4)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v3_0) = v0 c
          ∧ r.2.mem ((c.tc : Thread Cert.FrontIdeal.nD Cert.FrontIdeal.τ).loc Cert.FrontIdeal.main_v3_1) = v1 c
          ∧ r.2.mem ((c.tc : Thread Cert.FrontIdeal.nD Cert.FrontIdeal.τ).loc Cert.FrontIdeal.main_v3_2) = v2 c
          ∧ r.2.mem ((c.tc : Thread Cert.FrontIdeal.nD Cert.FrontIdeal.τ).loc Cert.FrontIdeal.main_v3_3) = v3 c
          ∧ r.2.mem ((c.tc : Thread Cert.FrontIdeal.nD Cert.FrontIdeal.τ).loc Cert.FrontIdeal.main_v3_4) = v4 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v25) = v0 c
          ∧ r.2.mem ((c.tc : Thread Cert.FrontRefIdeal.nD Cert.FrontRefIdeal.τ).loc Cert.FrontRefIdeal.main_v44) = v1 c
          ∧ r.2.mem ((c.tc : Thread Cert.FrontRefIdeal.nD Cert.FrontRefIdeal.τ).loc Cert.FrontRefIdeal.main_v45) = v2 c
          ∧ r.2.mem ((c.tc : Thread Cert.FrontRefIdeal.nD Cert.FrontRefIdeal.τ).loc Cert.FrontRefIdeal.main_v54) = v3 c
          ∧ r.2.mem ((c.tc : Thread Cert.FrontRefIdeal.nD Cert.FrontRefIdeal.τ).loc Cert.FrontRefIdeal.main_v56) = v4 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7)
          ∧ r.2.mem ((c.tc : Thread Cert.FrontRefIdeal.nD Cert.FrontRefIdeal.τ).loc Cert.FrontRefIdeal.main_arg8) = m' ((c.tc : Thread Cert.FrontRefIdeal.nD Cert.FrontRefIdeal.τ).loc Cert.FrontRefIdeal.main_arg8)
          ∧ r.2.mem ((c.tc : Thread Cert.FrontRefIdeal.nD Cert.FrontRefIdeal.τ).loc Cert.FrontRefIdeal.main_arg9) = m' ((c.tc : Thread Cert.FrontRefIdeal.nD Cert.FrontRefIdeal.τ).loc Cert.FrontRefIdeal.main_arg9))

def Claim : Prop :=
  ∃ (hKernel : Cert.Kernel.Facts) (hKernelIdeal : Cert.KernelIdeal.Facts) (hReferenceIdeal : Cert.ReferenceIdeal.Facts) (hBack : Cert.Back.Facts) (hBackIdeal : Cert.BackIdeal.Facts) (hBackRefIdeal : Cert.BackRefIdeal.Facts) (hFront : Cert.Front.Facts) (hFrontIdeal : Cert.FrontIdeal.Facts) (hFrontRefIdeal : Cert.FrontRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Back (hBack := hBack)
    ∧ quiescent_BackIdeal (hBackIdeal := hBackIdeal)
    ∧ quiescent_BackRefIdeal (hBackRefIdeal := hBackRefIdeal)
    ∧ quiescent_Front (hFront := hFront)
    ∧ quiescent_FrontIdeal (hFrontIdeal := hFrontIdeal)
    ∧ quiescent_FrontRefIdeal (hFrontRefIdeal := hFrontRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Back_BackIdeal
    ∧ algebraic_BackIdeal_BackRefIdeal (hBackIdeal := hBackIdeal) (hBackRefIdeal := hBackRefIdeal)
    ∧ preserves_Front_FrontIdeal
    ∧ algebraic_FrontIdeal_FrontRefIdeal (hFrontIdeal := hFrontIdeal) (hFrontRefIdeal := hFrontRefIdeal)
-- ==== Pre_finite.lean ====
abbrev S17664x1024 : Shape := ⟨2, ![17664, 1024]⟩
abbrev S17664x1536 : Shape := ⟨2, ![17664, 1536]⟩
abbrev S17664x512 : Shape := ⟨2, ![17664, 512]⟩
abbrev S17664x128 : Shape := ⟨2, ![17664, 128]⟩
abbrev S1x128x4x128x128 : Shape := ⟨5, ![1, 128, 4, 128, 128]⟩
abbrev S1x128x3x1536 : Shape := ⟨4, ![1, 128, 3, 1536]⟩
abbrev S1x128x30x512 : Shape := ⟨4, ![1, 128, 30, 512]⟩
abbrev S1x4x1536 : Shape := ⟨3, ![1, 4, 1536]⟩
abbrev S1x4 : Shape := ⟨2, ![1, 4]⟩
abbrev S1x128 : Shape := ⟨2, ![1, 128]⟩
abbrev S1x31x512 : Shape := ⟨3, ![1, 31, 512]⟩
abbrev S1x512 : Shape := ⟨2, ![1, 512]⟩
abbrev S1x1024x1024 : Shape := ⟨3, ![1, 1024, 1024]⟩
abbrev S_ : Shape := ⟨0, ![]⟩

class Facts : Prop where
  bcast_S_S17664x1536 : S_.BroadcastsInDim S17664x1536 (![] : Fin 0 → Fin S17664x1536.rank)
  reducesTo_S17664x1536_S_d0_1 : S17664x1536.ReducesTo [0, 1] S_
  h_S_ : 0 < S_.numel
  bcast_S_S17664x128 : S_.BroadcastsInDim S17664x128 (![] : Fin 0 → Fin S17664x128.rank)
  reducesTo_S17664x128_S_d0_1 : S17664x128.ReducesTo [0, 1] S_
  bcast_S_S1x128x3x1536 : S_.BroadcastsInDim S1x128x3x1536 (![] : Fin 0 → Fin S1x128x3x1536.rank)
  reducesTo_S1x128x3x1536_S_d0_1_2_3 : S1x128x3x1536.ReducesTo [0, 1, 2, 3] S_
  bcast_S_S1x4x1536 : S_.BroadcastsInDim S1x4x1536 (![] : Fin 0 → Fin S1x4x1536.rank)
  reducesTo_S1x4x1536_S_d0_1_2 : S1x4x1536.ReducesTo [0, 1, 2] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg9 : FVec F S1x4 .f32) (main_arg10 : FVec F S1x4 .f32) (main_v13 : IVec S_ 1) (main_v16 : IVec S1x4x1536 1) : IVec S_ 1 :=
  let main_c_5 : IVec S_ 1 := constantI S_ 1 1#1
  let main_v17 : IVec S_ 1 := (fun x v => Host.reduce IntOp.andi x v reducesTo_S1x4x1536_S_d0_1_2 h_S_) main_v16 main_c_5
  let main_v18 : IVec S_ 1 := andi main_v13 main_v17
  let main_v19 : FVec F S1x4 .f32 := Host.absf main_arg9
  let main_cst_6 : FVec F S_ .f32 := constant S_ .f32 0x7F800000#32
  let main_v20 : FVec F S1x4 .f32 := broadcastInDim S1x4 ![] bcast_S_S1x4 main_cst_6
  let main_v21 : IVec S1x4 1 := cmpf .olt main_v19 main_v20
  let main_c_7 : IVec S_ 1 := constantI S_ 1 1#1
  let main_v22 : IVec S_ 1 := (fun x v => Host.reduce IntOp.andi x v reducesTo_S1x4_S_d0_1 h_S_) main_v21 main_c_7
  let main_v23 : IVec S_ 1 := andi main_v18 main_v22
  let main_v24 : FVec F S1x4 .f32 := Host.absf main_arg10
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  main_v28

def fn {F : FTy → Type} [FloatOps F] (main_arg0 : FVec F S17664x1024 .f32) (main_arg1 : FVec F S17664x1536 .f32) (main_arg2 : FVec F S17664x512 .f32) (main_arg3 : FVec F S17664x512 .f32) (main_arg4 : FVec F S17664x128 .f32) (main_arg5 : FVec F S1x128x4x128x128 .f32) (main_arg6 : FVec F S1x128x3x1536 .f32) (main_arg7 : FVec F S1x128x30x512 .f32) (main_arg8 : FVec F S1x4x1536 .f32) (main_arg9 : FVec F S1x4 .f32) (main_arg10 : FVec F S1x4 .f32) (main_arg11 : FVec F S1x128 .f32) (main_arg12 : FVec F S1x31x512 .f32) (main_arg13 : FVec F S1x512 .f32) (main_arg14 : FVec F S1x512 .f32) (main_arg15 : FVec F S1x1024x1024 .f32) : IVec S_ 1 :=
  let main_v0 : FVec F S17664x1536 .f32 := Host.absf main_arg1
  let main_cst : FVec F S_ .f32 := constant S_ .f32 0x7F800000#32
  let main_v1 : FVec F S17664x1536 .f32 := broadcastInDim S17664x1536 ![] bcast_S_S17664x1536 main_cst
  let main_v2 : IVec S17664x1536 1 := cmpf .olt main_v0 main_v1
  let main_c : IVec S_ 1 := constantI S_ 1 1#1
  let main_v3 : IVec S_ 1 := (fun x v => Host.reduce IntOp.andi x v reducesTo_S17664x1536_S_d0_1 h_S_) main_v2 main_c
  let main_v4 : FVec F S17664x128 .f32 := Host.absf main_arg4
  let main_cst_0 : FVec F S_ .f32 := constant S_ .f32 0x7F800000#32
  let main_v5 : FVec F S17664x128 .f32 := broadcastInDim S17664x128 ![] bcast_S_S17664x128 main_cst_0
  let main_v6 : IVec S17664x128 1 := cmpf .olt main_v4 main_v5
  let main_c_1 : IVec S_ 1 := constantI S_ 1 1#1
  let main_v7 : IVec S_ 1 := (fun x v => Host.reduce IntOp.andi x v reducesTo_S17664x128_S_d0_1 h_S_) main_v6 main_c_1
  let main_v8 : IVec S_ 1 := andi main_v3 main_v7
  let main_v9 : FVec F S1x128x3x1536 .f32 := Host.absf main_arg6
  let main_cst_2 : FVec F S_ .f32 := constant S_ .f32 0x7F800000#32
  let main_v10 : FVec F S1x128x3x1536 .f32 := broadcastInDim S1x128x3x1536 ![] bcast_S_S1x128x3x1536 main_cst_2
  let main_v11 : IVec S1x128x3x1536 1 := cmpf .olt main_v9 main_v10
  let main_c_3 : IVec S_ 1 := constantI S_ 1 1#1
  let main_v12 : IVec S_ 1 := (fun x v => Host.reduce IntOp.andi x v reducesTo_S1x128x3x1536_S_d0_1_2_3 h_S_) main_v11 main_c_3
  let main_v13 : IVec S_ 1 := andi main_v8 main_v12
  let main_v14 : FVec F S1x4x1536 .f32 := Host.absf main_arg8
  let main_cst_4 : FVec F S_ .f32 := constant S_ .f32 0x7F800000#32
  let main_v15 : FVec F S1x4x1536 .f32 := broadcastInDim S1x4x1536 ![] bcast_S_S1x4x1536 main_cst_4
  let main_v16 : IVec S1x4x1536 1 := cmpf .olt main_v14 main_v15
  fn_part1 (F := F) main_arg9 main_arg10 main_v13 main_v16
-- ==== Kernel.lean ====
abbrev S17664x1024 : Shape := ⟨2, ![17664, 1024]⟩
abbrev S17664x1536 : Shape := ⟨2, ![17664, 1536]⟩
abbrev S17664x512 : Shape := ⟨2, ![17664, 512]⟩
abbrev S17664x128 : Shape := ⟨2, ![17664, 128]⟩
abbrev S1x128x4x128x128 : Shape := ⟨5, ![1, 128, 4, 128, 128]⟩
abbrev S1x128x3x1536 : Shape := ⟨4, ![1, 128, 3, 1536]⟩
abbrev S1x128x30x512 : Shape := ⟨4, ![1, 128, 30, 512]⟩
abbrev S1x4x1536 : Shape := ⟨3, ![1, 4, 1536]⟩
abbrev S1x4 : Shape := ⟨2, ![1, 4]⟩
abbrev S1x128 : Shape := ⟨2, ![1, 128]⟩
abbrev S1x31x512 : Shape := ⟨3, ![1, 31, 512]⟩
abbrev S1x512 : Shape := ⟨2, ![1, 512]⟩
abbrev S1x1024x1024 : Shape := ⟨3, ![1, 1024, 1024]⟩
abbrev S4x1x1536 : Shape := ⟨3, ![4, 1, 1536]⟩
abbrev S4x8x1536 : Shape := ⟨3, ![4, 8, 1536]⟩
abbrev S_ : Shape := ⟨0, ![]⟩
abbrev S4 : Shape := ⟨1, ![4]⟩
abbrev S1 : Shape := ⟨1, ![1]⟩
abbrev S2 : Shape := ⟨1, ![2]⟩
abbrev S31x1x512 : Shape := ⟨3, ![31, 1, 512]⟩
abbrev S31x8x512 : Shape := ⟨3, ![31, 8, 512]⟩
abbrev S1024x1024 : Shape := ⟨2, ![1024, 1024]⟩
abbrev S128x3x1536 : Shape := ⟨3, ![128, 3, 1536]⟩
abbrev S3x128x1536 : Shape := ⟨3, ![3, 128, 1536]⟩
abbrev S128x30x512 : Shape := ⟨3, ![128, 30, 512]⟩
abbrev S30x128x512 : Shape := ⟨3, ![30, 128, 512]⟩
abbrev S2208x8x1024 : Shape := ⟨3, ![2208, 8, 1024]⟩
abbrev S2208x8x1536 : Shape := ⟨3, ![2208, 8, 1536]⟩
abbrev S2208x8x512 : Shape := ⟨3, ![2208, 8, 512]⟩
abbrev S2208x8x128 : Shape := ⟨3, ![2208, 8, 128]⟩
abbrev S16x8x1024 : Shape := ⟨3, ![16, 8, 1024]⟩
abbrev S16x8x1536 : Shape := ⟨3, ![16, 8, 1536]⟩
abbrev S16x8x512 : Shape := ⟨3, ![16, 8, 512]⟩
abbrev S16x8x128 : Shape := ⟨3, ![16, 8, 128]⟩
abbrev S1x16x4x128x128 : Shape := ⟨5, ![1, 16, 4, 128, 128]⟩
abbrev S3x16x1536 : Shape := ⟨3, ![3, 16, 1536]⟩
abbrev S30x16x512 : Shape := ⟨3, ![30, 16, 512]⟩
abbrev S128x1024 : Shape := ⟨2, ![128, 1024]⟩
abbrev S16x4x128x128 : Shape := ⟨4, ![16, 4, 128, 128]⟩
abbrev S1x8x1536 : Shape := ⟨3, ![1, 8, 1536]⟩
abbrev S8x1536 : Shape := ⟨2, ![8, 1536]⟩
abbrev S8x1x1536 : Shape := ⟨3, ![8, 1, 1536]⟩
abbrev S8x128 : Shape := ⟨2, ![8, 128]⟩
abbrev S8 : Shape := ⟨1, ![8]⟩
abbrev S8x1 : Shape := ⟨2, ![8, 1]⟩
abbrev S8x1x128 : Shape := ⟨3, ![8, 1, 128]⟩
abbrev S8x512 : Shape := ⟨2, ![8, 512]⟩
abbrev S8x1x512 : Shape := ⟨3, ![8, 1, 512]⟩
abbrev S1x8x512 : Shape := ⟨3, ![1, 8, 512]⟩
abbrev S16x1x1536 : Shape := ⟨3, ![16, 1, 1536]⟩
abbrev S16x1536 : Shape := ⟨2, ![16, 1536]⟩
abbrev S1x16x1536 : Shape := ⟨3, ![1, 16, 1536]⟩
abbrev S1x16x512 : Shape := ⟨3, ![1, 16, 512]⟩
abbrev S16x512 : Shape := ⟨2, ![16, 512]⟩
abbrev S16x1x512 : Shape := ⟨3, ![16, 1, 512]⟩
abbrev S128x128 : Shape := ⟨2, ![128, 128]⟩
abbrev S128x1 : Shape := ⟨2, ![128, 1]⟩
abbrev S256x128 : Shape := ⟨2, ![256, 128]⟩
abbrev S128x256 : Shape := ⟨2, ![128, 256]⟩
abbrev S16x128 : Shape := ⟨2, ![16, 128]⟩
abbrev S1x1x1x128x128 : Shape := ⟨5, ![1, 1, 1, 128, 128]⟩
abbrev S1x1 : Shape := ⟨2, ![1, 1]⟩
abbrev S128x8 : Shape := ⟨2, ![128, 8]⟩
abbrev S128 : Shape := ⟨1, ![128]⟩

abbrev nBuf : Space → Nat
  | .hbm => 53
  | .vmem => 36
  | .smem => 0
  | _ => 0

abbrev bufTy : (tb : Table) → Fin (tcTables nBuf tb) → BufTy
  | .hbm, ⟨0, _⟩ => ⟨S17664x1024, .f32⟩
  | .hbm, ⟨1, _⟩ => ⟨S17664x1536, .f32⟩
  | .hbm, ⟨2, _⟩ => ⟨S17664x512, .f32⟩
  | .hbm, ⟨3, _⟩ => ⟨S17664x512, .f32⟩
  | .hbm, ⟨4, _⟩ => ⟨S17664x128, .f32⟩
  | .hbm, ⟨5, _⟩ => ⟨S1x128x4x128x128, .f32⟩
  | .hbm, ⟨6, _⟩ => ⟨S1x128x3x1536, .f32⟩
  | .hbm, ⟨7, _⟩ => ⟨S1x128x30x512, .f32⟩
  | .hbm, ⟨8, _⟩ => ⟨S1x4x1536, .f32⟩
  | .hbm, ⟨9, _⟩ => ⟨S1x4, .f32⟩
  | .hbm, ⟨10, _⟩ => ⟨S1x4, .f32⟩
  | .hbm, ⟨11, _⟩ => ⟨S1x128, .f32⟩
  | .hbm, ⟨12, _⟩ => ⟨S1x31x512, .f32⟩
  | .hbm, ⟨13, _⟩ => ⟨S1x512, .f32⟩
  | .hbm, ⟨14, _⟩ => ⟨S1x512, .f32⟩
  | .hbm, ⟨15, _⟩ => ⟨S1x1024x1024, .f32⟩
  | .hbm, ⟨16, _⟩ => ⟨S4x1x1536, .f32⟩
  | .hbm, ⟨17, _⟩ => ⟨S4x8x1536, .f32⟩
  | .hbm, ⟨18, _⟩ => ⟨S_, .f32⟩
  | .hbm, ⟨19, _⟩ => ⟨S1x128, .f32⟩
  | .hbm, ⟨20, _⟩ => ⟨S4, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S4, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S31x1x512, .f32⟩
  | .hbm, ⟨37, _⟩ => ⟨S31x8x512, .f32⟩
  | .hbm, ⟨38, _⟩ => ⟨S1024x1024, .f32⟩
  | .hbm, ⟨39, _⟩ => ⟨S1024x1024, .bf16⟩
  | .hbm, ⟨40, _⟩ => ⟨S128x3x1536, .f32⟩
  | .hbm, ⟨41, _⟩ => ⟨S3x128x1536, .f32⟩
  | .hbm, ⟨42, _⟩ => ⟨S128x30x512, .f32⟩
  | .hbm, ⟨43, _⟩ => ⟨S30x128x512, .f32⟩
  | .hbm, ⟨44, _⟩ => ⟨S2208x8x1024, .f32⟩
  | .hbm, ⟨45, _⟩ => ⟨S2208x8x1536, .f32⟩
  | .hbm, ⟨46, _⟩ => ⟨S2208x8x512, .f32⟩
  | .hbm, ⟨47, _⟩ => ⟨S2208x8x512, .f32⟩
  | .hbm, ⟨48, _⟩ => ⟨S2208x8x128, .f32⟩
  | .hbm, ⟨49, _⟩ => ⟨S1024x1024, .f32⟩
  | .hbm, ⟨50, _⟩ => ⟨S1x128x4x128x128, .f32⟩
  | .hbm, ⟨51, _⟩ => ⟨S3x128x1536, .f32⟩
  | .hbm, ⟨52, _⟩ => ⟨S30x128x512, .f32⟩
  | .local _ .vmem, ⟨0, _⟩ => ⟨S16x8x1024, .f32⟩
  | .local _ .vmem, ⟨1, _⟩ => ⟨S16x8x1024, .f32⟩
  | .local _ .vmem, ⟨2, _⟩ => ⟨S16x8x1536, .f32⟩
  | .local _ .vmem, ⟨3, _⟩ => ⟨S16x8x1536, .f32⟩
  | .local _ .vmem, ⟨4, _⟩ => ⟨S16x8x512, .f32⟩
  | .local _ .vmem, ⟨5, _⟩ => ⟨S16x8x512, .f32⟩
  | .local _ .vmem, ⟨6, _⟩ => ⟨S16x8x512, .f32⟩
  | .local _ .vmem, ⟨7, _⟩ => ⟨S16x8x512, .f32⟩
  | .local _ .vmem, ⟨8, _⟩ => ⟨S16x8x128, .f32⟩
  | .local _ .vmem, ⟨9, _⟩ => ⟨S16x8x128, .f32⟩
  | .local _ .vmem, ⟨10, _⟩ => ⟨S1x16x4x128x128, .f32⟩
  | .local _ .vmem, ⟨11, _⟩ => ⟨S1x16x4x128x128, .f32⟩
  | .local _ .vmem, ⟨12, _⟩ => ⟨S3x16x1536, .f32⟩
  | .local _ .vmem, ⟨13, _⟩ => ⟨S3x16x1536, .f32⟩
  | .local _ .vmem, ⟨14, _⟩ => ⟨S30x16x512, .f32⟩
  | .local _ .vmem, ⟨15, _⟩ => ⟨S30x16x512, .f32⟩
  | .local _ .vmem, ⟨16, _⟩ => ⟨S4x8x1536, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S31x8x512, .f32⟩
  | .local _ .vmem, ⟨21, _⟩ => ⟨S1x512, .f32⟩
  | .local _ .vmem, ⟨22, _⟩ => ⟨S1x512, .f32⟩
  | .local _ .vmem, ⟨23, _⟩ => ⟨S1024x1024, .bf16⟩
  | .local _ .vmem, ⟨24, _⟩ => ⟨S128x1024, .f32⟩
  | .local _ .vmem, ⟨25, _⟩ => ⟨S128x1024, .f32⟩
  | .local _ .vmem, ⟨26, _⟩ => ⟨S1x16x4x128x128, .f32⟩
  | .local _ .vmem, ⟨27, _⟩ => ⟨S1x16x4x128x128, .f32⟩
  | .local _ .vmem, ⟨28, _⟩ => ⟨S3x16x1536, .f32⟩
  | .local _ .vmem, ⟨29, _⟩ => ⟨S3x16x1536, .f32⟩
  | .local _ .vmem, ⟨30, _⟩ => ⟨S30x16x512, .f32⟩
  | .local _ .vmem, ⟨31, _⟩ => ⟨S30x16x512, .f32⟩
  | .local _ .vmem, ⟨32, _⟩ => ⟨S16x8x512, .f32⟩
  | .local _ .vmem, ⟨33, _⟩ => ⟨S16x8x512, .f32⟩
  | .local _ .vmem, ⟨34, _⟩ => ⟨S16x8x512, .f32⟩
  | .local _ .vmem, ⟨35, _⟩ => ⟨S16x8x1024, .f32⟩
  | _, _ => ⟨S17664x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27_0 : Ref sig .tc := ⟨.hbm, 49, rfl⟩
abbrev main_v27_1 : Ref sig .tc := ⟨.hbm, 50, rfl⟩
abbrev main_v27_2 : Ref sig .tc := ⟨.hbm, 51, rfl⟩
abbrev main_v27_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x16x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S30x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x8x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S31x8x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x16x4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S3x16x1536 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S30x16x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S17664x1024 : Shape := ⟨2, ![17664, 1024]⟩
abbrev S17664x1536 : Shape := ⟨2, ![17664, 1536]⟩
abbrev S17664x512 : Shape := ⟨2, ![17664, 512]⟩
abbrev S17664x128 : Shape := ⟨2, ![17664, 128]⟩
abbrev S1x128x4x128x128 : Shape := ⟨5, ![1, 128, 4, 128, 128]⟩
abbrev S1x128x3x1536 : Shape := ⟨4, ![1, 128, 3, 1536]⟩
abbrev S1x128x30x512 : Shape := ⟨4, ![1, 128, 30, 512]⟩
abbrev S1x4x1536 : Shape := ⟨3, ![1, 4, 1536]⟩
abbrev S1x4 : Shape := ⟨2, ![1, 4]⟩
abbrev S1x128 : Shape := ⟨2, ![1, 128]⟩
abbrev S1x31x512 : Shape := ⟨3, ![1, 31, 512]⟩
abbrev S1x512 : Shape := ⟨2, ![1, 512]⟩
abbrev S1x1024x1024 : Shape := ⟨3, ![1, 1024, 1024]⟩
abbrev S128x3x1536 : Shape := ⟨3, ![128, 3, 1536]⟩
abbrev S1024x1536 : Shape := ⟨2, ![1024, 1536]⟩
abbrev S128x8x1536 : Shape := ⟨3, ![128, 8, 1536]⟩
abbrev S128x11x1536 : Shape := ⟨3, ![128, 11, 1536]⟩
abbrev S128x30x512 : Shape := ⟨3, ![128, 30, 512]⟩
abbrev S1024x512 : Shape := ⟨2, ![1024, 512]⟩
abbrev S128x8x512 : Shape := ⟨3, ![128, 8, 512]⟩
abbrev S128x38x512 : Shape := ⟨3, ![128, 38, 512]⟩
abbrev S1x1x1536 : Shape := ⟨3, ![1, 1, 1536]⟩
abbrev S1536 : Shape := ⟨1, ![1536]⟩
abbrev S_ : Shape := ⟨0, ![]⟩
abbrev S128x8x4x128 : Shape := ⟨4, ![128, 8, 4, 128]⟩
abbrev S128x8x4 : Shape := ⟨3, ![128, 8, 4]⟩
abbrev S128x8x4x1 : Shape := ⟨4, ![128, 8, 4, 1]⟩
abbrev S1024x128 : Shape := ⟨2, ![1024, 128]⟩
abbrev S128x8x128 : Shape := ⟨3, ![128, 8, 128]⟩
abbrev S4 : Shape := ⟨1, ![4]⟩
abbrev S1x1x4 : Shape := ⟨3, ![1, 1, 4]⟩
abbrev S128x4x128x128 : Shape := ⟨4, ![128, 4, 128, 128]⟩
abbrev S128x4x8x128 : Shape := ⟨4, ![128, 4, 8, 128]⟩
abbrev S128x4x8 : Shape := ⟨3, ![128, 4, 8]⟩
abbrev S128x4x8x8 : Shape := ⟨4, ![128, 4, 8, 8]⟩
abbrev S128x4x1x8 : Shape := ⟨4, ![128, 4, 1, 8]⟩
abbrev S128x4x8x1 : Shape := ⟨4, ![128, 4, 8, 1]⟩
abbrev S128x4x8x256 : Shape := ⟨4, ![128, 4, 8, 256]⟩
abbrev S128x4x1 : Shape := ⟨3, ![128, 4, 1]⟩
abbrev S128x4 : Shape := ⟨2, ![128, 4]⟩
abbrev S128x4x1x1 : Shape := ⟨4, ![128, 4, 1, 1]⟩
abbrev S3x128x1536 : Shape := ⟨3, ![3, 128, 1536]⟩
abbrev S30x128x512 : Shape := ⟨3, ![30, 128, 512]⟩

abbrev nBuf : Space → Nat
  | .hbm => 233
  | .vmem => 0
  | .smem => 0
  | _ => 0

abbrev hbmTy0_0 (i : Nat) : BufTy := match i % 128 with
  | 0 => ⟨S17664x1024, .f32⟩
  | 1 => ⟨S17664x1536, .f32⟩
  | 2 => ⟨S17664x512, .f32⟩
  | 3 => ⟨S17664x512, .f32⟩
  | 4 => ⟨S17664x128, .f32⟩
  | 5 => ⟨S1x128x4x128x128, .f32⟩
  | 6 => ⟨S1x128x3x1536, .f32⟩
  | 7 => ⟨S1x128x30x512, .f32⟩
  | 8 => ⟨S1x4x1536, .f32⟩
  | 9 => ⟨S1x4, .f32⟩
  | 10 => ⟨S1x4, .f32⟩
  | 11 => ⟨S1x128, .f32⟩
  | 12 => ⟨S1x31x512, .f32⟩
  | 13 => ⟨S1x512, .f32⟩
  | 14 => ⟨S1x512, .f32⟩
  | 15 => ⟨S1x1024x1024, .f32⟩
  | 16 => ⟨S128x3x1536, .f32⟩
  | 17 => ⟨S1024x1536, .f32⟩
  | 18 => ⟨S128x8x1536, .f32⟩
  | 19 => ⟨S128x11x1536, .f32⟩
  | 20 => ⟨S128x30x512, .f32⟩
  | 21 => ⟨S1024x512, .f32⟩
  | 22 => ⟨S128x8x512, .f32⟩
  | 23 => ⟨S128x38x512, .f32⟩
  | 24 => ⟨S128x8x1536, .f32⟩
  | 25 => ⟨S1x1x1536, .f32⟩
  | 26 => ⟨S1536, .f32⟩
  | 27 => ⟨S1x1x1536, .f32⟩
  | 28 => ⟨S128x8x1536, .f32⟩
  | 29 => ⟨S128x8x1536, .f32⟩
  | 30 => ⟨S_, .f32⟩
  | 31 => ⟨S128x8x1536, .f32⟩
  | 32 => ⟨S128x8x1536, .f32⟩
  | 33 => ⟨S128x8x1536, .f32⟩
  | 34 => ⟨S1x1x1536, .f32⟩
  | 35 => ⟨S1536, .f32⟩
  | 36 => ⟨S1x1x1536, .f32⟩
  | 37 => ⟨S128x8x1536, .f32⟩
  | 38 => ⟨S128x8x1536, .f32⟩
  | 39 => ⟨S128x8x1536, .f32⟩
  | 40 => ⟨S128x8x1536, .f32⟩
  | 41 => ⟨S1x1x1536, .f32⟩
  | 42 => ⟨S1536, .f32⟩
  | 43 => ⟨S1x1x1536, .f32⟩
  | 44 => ⟨S128x8x1536, .f32⟩
  | 45 => ⟨S128x8x1536, .f32⟩
  | 46 => ⟨S128x8x1536, .f32⟩
  | 47 => ⟨S128x8x1536, .f32⟩
  | 48 => ⟨S1x1x1536, .f32⟩
  | 49 => ⟨S1536, .f32⟩
  | 50 => ⟨S1x1x1536, .f32⟩
  | 51 => ⟨S128x8x1536, .f32⟩
  | 52 => ⟨S128x8x1536, .f32⟩
  | 53 => ⟨S128x8x1536, .f32⟩
  | 54 => ⟨S128x8x1536, .f32⟩
  | 55 => ⟨S128x8x1536, .f32⟩
  | 56 => ⟨S_, .f32⟩
  | 57 => ⟨S128x8x1536, .f32⟩
  | 58 => ⟨S128x8x1536, .f32⟩
  | 59 => ⟨S_, .f32⟩
  | 60 => ⟨S128x8x1536, .f32⟩
  | 61 => ⟨S128x8x1536, .f32⟩
  | 62 => ⟨S128x8x1536, .f32⟩
  | 63 => ⟨S128x8x512, .f32⟩
  | 64 => ⟨S128x8x4x128, .f32⟩
  | 65 => ⟨S128x8x4x128, .f32⟩
  | 66 => ⟨S_, .f32⟩
  | 67 => ⟨S128x8x4, .f32⟩
  | 68 => ⟨S128x8x4x1, .f32⟩
  | 69 => ⟨S_, .f32⟩
  | 70 => ⟨S128x8x4x1, .f32⟩
  | 71 => ⟨S128x8x4x1, .f32⟩
  | 72 => ⟨S128x8x4x1, .f32⟩
  | 73 => ⟨S128x8x4x128, .f32⟩
  | 74 => ⟨S128x8x4x128, .f32⟩
  | 75 => ⟨S128x8x512, .f32⟩
  | 76 => ⟨S128x8x4x128, .f32⟩
  | 77 => ⟨S1024x128, .f32⟩
  | 78 => ⟨S128x8x128, .f32⟩
  | 79 => ⟨S128x8x4, .f32⟩
  | 80 => ⟨S128x8x4, .f32⟩
  | 81 => ⟨S128x8x4, .f32⟩
  | 82 => ⟨S_, .f32⟩
  | 83 => ⟨S128x8x4, .f32⟩
  | 84 => ⟨S128x8x4, .f32⟩
  | 85 => ⟨S_, .f32⟩
  | 86 => ⟨S128x8x4, .f32⟩
  | 87 => ⟨S128x8x4, .f32⟩
  | 88 => ⟨S4, .f32⟩
  | 89 => ⟨S4, .f32⟩
  | 90 => ⟨S4, .f32⟩
  | 91 => ⟨S128x8x4, .f32⟩
  | 92 => ⟨S4, .f32⟩
  | 93 => ⟨S1x1x4, .f32⟩
  | 94 => ⟨S128x8x4, .f32⟩
  | 95 => ⟨S128x8x4, .f32⟩
  | 96 => ⟨S_, .f32⟩
  | 97 => ⟨S128x8x4, .f32⟩
  | 98 => ⟨S128x8x4, .f32⟩
  | 99 => ⟨S128x8x4, .f32⟩
  | 100 => ⟨S128x8x4, .f32⟩
  | 101 => ⟨S128x8x4, .i1⟩
  | 102 => ⟨S128x8x4, .f32⟩
  | 103 => ⟨S128x8x4, .f32⟩
  | 104 => ⟨S128x8x4, .f32⟩
  | 105 => ⟨S128x8x4, .f32⟩
  | 106 => ⟨S128x8x4, .f32⟩
  | 107 => ⟨S128x8x4, .f32⟩
  | 108 => ⟨S128x8x4, .f32⟩
  | 109 => ⟨S128x8x4, .f32⟩
  | 110 => ⟨S1x1x4, .f32⟩
  | 111 => ⟨S128x8x4, .f32⟩
  | 112 => ⟨S128x8x4, .f32⟩
  | 113 => ⟨S128x4x128x128, .f32⟩
  | 114 => ⟨S128x4x8x128, .f32⟩
  | 115 => ⟨S128x4x8x128, .f32⟩
  | 116 => ⟨S128x4x8, .f32⟩
  | 117 => ⟨S128x4x8, .f32⟩
  | 118 => ⟨S128x4x8x8, .i32⟩
  | 119 => ⟨S128x4x8x8, .i32⟩
  | 120 => ⟨S128x4x8x8, .i1⟩
  | 121 => ⟨S128x4x1x8, .f32⟩
  | 122 => ⟨S_, .f32⟩
  | 123 => ⟨S_, .f32⟩
  | 124 => ⟨S128x4x8x8, .f32⟩
  | 125 => ⟨S128x4x8x8, .f32⟩
  | 126 => ⟨S128x4x8x8, .f32⟩
  | 127 => ⟨S_, .f32⟩
  | _ => ⟨S17664x1024, .f32⟩

abbrev hbmTy0_1 (i : Nat) : BufTy := match i % 128 with
  | 0 => ⟨S128x4x8, .f32⟩
  | 1 => ⟨S128x4x8x8, .i1⟩
  | 2 => ⟨S128x4x8x1, .f32⟩
  | 3 => ⟨S128x4x1x8, .f32⟩
  | 4 => ⟨S128x4x8x8, .f32⟩
  | 5 => ⟨S128x4x8x8, .f32⟩
  | 6 => ⟨S128x4x8x8, .f32⟩
  | 7 => ⟨S_, .f32⟩
  | 8 => ⟨S_, .f32⟩
  | 9 => ⟨S128x4x8x8, .f32⟩
  | 10 => ⟨S128x4x8x8, .f32⟩
  | 11 => ⟨S128x4x8x8, .f32⟩
  | 12 => ⟨S128x4x8x1, .f32⟩
  | 13 => ⟨S128x4x8x128, .f32⟩
  | 14 => ⟨S128x4x8x128, .f32⟩
  | 15 => ⟨S128x4x8x1, .f32⟩
  | 16 => ⟨S128x4x8x128, .f32⟩
  | 17 => ⟨S128x4x8x128, .f32⟩
  | 18 => ⟨S128x4x8x8, .i1⟩
  | 19 => ⟨S128x4x8x8, .f32⟩
  | 20 => ⟨S128x4x8x8, .f32⟩
  | 21 => ⟨S_, .f32⟩
  | 22 => ⟨S_, .f32⟩
  | 23 => ⟨S128x4x8x8, .f32⟩
  | 24 => ⟨S128x4x8x8, .f32⟩
  | 25 => ⟨S128x4x8, .f32⟩
  | 26 => ⟨S128x4x8x1, .f32⟩
  | 27 => ⟨S128x4x8x128, .f32⟩
  | 28 => ⟨S128x4x8x128, .f32⟩
  | 29 => ⟨S128x4x8x256, .f32⟩
  | 30 => ⟨S128x4x8x256, .i32⟩
  | 31 => ⟨S_, .f32⟩
  | 32 => ⟨S128x4x8x256, .f32⟩
  | 33 => ⟨S_, .i32⟩
  | 34 => ⟨S128x4x8x256, .i32⟩
  | 35 => ⟨S128x4x8x256, .i1⟩
  | 36 => ⟨S128x4x8x256, .f32⟩
  | 37 => ⟨S128x4x8x256, .f32⟩
  | 38 => ⟨S128x4x8x256, .f32⟩
  | 39 => ⟨S_, .i32⟩
  | 40 => ⟨S128x4x8x256, .i32⟩
  | 41 => ⟨S128x4x8x256, .i1⟩
  | 42 => ⟨S128x4x8x256, .f32⟩
  | 43 => ⟨S128x4x8x256, .f32⟩
  | 44 => ⟨S128x4x8x256, .f32⟩
  | 45 => ⟨S_, .i32⟩
  | 46 => ⟨S128x4x8x256, .i32⟩
  | 47 => ⟨S128x4x8x256, .i1⟩
  | 48 => ⟨S128x4x8x256, .f32⟩
  | 49 => ⟨S128x4x8x256, .f32⟩
  | 50 => ⟨S128x4x8x256, .f32⟩
  | 51 => ⟨S_, .i32⟩
  | 52 => ⟨S128x4x8x256, .i32⟩
  | 53 => ⟨S128x4x8x256, .i1⟩
  | 54 => ⟨S128x4x8x256, .f32⟩
  | 55 => ⟨S128x4x8x256, .f32⟩
  | 56 => ⟨S128x4x8x256, .f32⟩
  | 57 => ⟨S_, .i32⟩
  | 58 => ⟨S128x4x8x256, .i32⟩
  | 59 => ⟨S128x4x8x256, .i1⟩
  | 60 => ⟨S128x4x8x256, .f32⟩
  | 61 => ⟨S128x4x8x256, .f32⟩
  | 62 => ⟨S128x4x8x256, .f32⟩
  | 63 => ⟨S_, .i32⟩
  | 64 => ⟨S128x4x8x256, .i32⟩
  | 65 => ⟨S128x4x8x256, .i1⟩
  | 66 => ⟨S128x4x8x256, .f32⟩
  | 67 => ⟨S128x4x8x256, .f32⟩
  | 68 => ⟨S128x4x8x256, .f32⟩
  | 69 => ⟨S_, .i32⟩
  | 70 => ⟨S128x4x8x256, .i32⟩
  | 71 => ⟨S128x4x8x256, .i1⟩
  | 72 => ⟨S128x4x8x256, .f32⟩
  | 73 => ⟨S128x4x8x256, .f32⟩
  | 74 => ⟨S128x4x8x256, .f32⟩
  | 75 => ⟨S_, .i32⟩
  | 76 => ⟨S128x4x8x256, .i32⟩
  | 77 => ⟨S128x4x8x256, .i1⟩
  | 78 => ⟨S128x4x8x256, .f32⟩
  | 79 => ⟨S128x4x8x256, .f32⟩
  | 80 => ⟨S128x4x8x256, .f32⟩
  | 81 => ⟨S128x4x8x128, .f32⟩
  | 82 => ⟨S128x4x8x128, .f32⟩
  | 83 => ⟨S128x4x8x128, .f32⟩
  | 84 => ⟨S128x4x8x128, .f32⟩
  | 85 => ⟨S128x4x1, .f32⟩
  | 86 => ⟨S128x4, .f32⟩
  | 87 => ⟨S128x4, .f32⟩
  | 88 => ⟨S128x4x1x1, .f32⟩
  | 89 => ⟨S128x4x128x128, .f32⟩
  | 90 => ⟨S128x4x128x128, .f32⟩
  | 91 => ⟨S128x4x1, .f32⟩
  | 92 => ⟨S128x4x8, .f32⟩
  | 93 => ⟨S128x4x8, .f32⟩
  | 94 => ⟨S128x4x8, .f32⟩
  | 95 => ⟨S128x4x8x1, .f32⟩
  | 96 => ⟨S128x4x8x128, .f32⟩
  | 97 => ⟨S128x4x8x128, .f32⟩
  | 98 => ⟨S128x4x128x128, .f32⟩
  | 99 => ⟨S128x4x128x128, .f32⟩
  | 100 => ⟨S1x128x4x128x128, .f32⟩
  | 101 => ⟨S128x3x1536, .f32⟩
  | 102 => ⟨S3x128x1536, .f32⟩
  | 103 => ⟨S128x30x512, .f32⟩
  | 104 => ⟨S30x128x512, .f32⟩
  | _ => ⟨S17664x1024, .f32⟩

abbrev hbmTy (i : Nat) : BufTy := match i / 128 with
  | 0 => hbmTy0_0 i
  | 1 => hbmTy0_1 i
  | _ => ⟨S17664x1024, .f32⟩

abbrev bufTy : (tb : Table) → Fin (tcTables nBuf tb) → BufTy
  | .hbm, ⟨i, _⟩ => hbmTy i
  | _, _ => ⟨S17664x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_0 : Ref sig .tc := ⟨.hbm, 66, rfl⟩
abbrev main_v41 : Ref sig .tc := ⟨.hbm, 67, rfl⟩
abbrev main_v42 : Ref sig .tc := ⟨.hbm, 68, rfl⟩
abbrev main_cst_1 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_2 : Ref sig .tc := ⟨.hbm, 82, rfl⟩
abbrev main_v55 : Ref sig .tc := ⟨.hbm, 83, rfl⟩
abbrev main_v56 : Ref sig .tc := ⟨.hbm, 84, rfl⟩
abbrev main_cst_3 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_4 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v80 : Ref sig .tc := ⟨.hbm, 126, rfl⟩
abbrev main_cst_5 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_6 : Ref sig .tc := ⟨.hbm, 135, rfl⟩
abbrev main_call3_v0 : Ref sig .tc := ⟨.hbm, 136, rfl⟩
abbrev main_call3_v1 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_7 : Ref sig .tc := ⟨.hbm, 149, rfl⟩
abbrev main_call4_v0 : Ref sig .tc := ⟨.hbm, 150, rfl⟩
abbrev main_call4_v1 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_8 : Ref sig .tc := ⟨.hbm, 159, rfl⟩
abbrev main_v106 : Ref sig .tc := ⟨.hbm, 160, rfl⟩
abbrev main_c : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_c_9 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_10 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_c_11 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_c_12 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_c_13 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_c_14 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_c_15 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩

abbrev nD : Nat := 1
abbrev τ : Topo := Topo.v7x

variable {F : FTy → Type} [FloatOps F]
-- ==== Back.lean ====
abbrev S16384x1024 : Shape := ⟨2, ![16384, 1024]⟩
abbrev S1024x1024 : Shape := ⟨2, ![1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S128x2816 : Shape := ⟨2, ![128, 2816]⟩
abbrev S352x1024 : Shape := ⟨2, ![352, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 13
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1x1024, .f32⟩
  | .hbm, ⟨11, _⟩ => ⟨S16384x1024, .f32⟩
  | .hbm, ⟨12, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S352x1024, .f32⟩
  | .local _ .vmem, ⟨9, _⟩ => ⟨S352x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![42], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v16 : BitVec 32 := Scalar.muli arg0 c128_i32
  v16
def k0_off1 (i : grid0.Coords) : Fin 2 → Nat :=
  let arg0 : BitVec 32 := BitVec.ofNat 32 (i 0).val
  let c128_i32 : BitVec 32 := 128#32
  let v16 : BitVec 32 := Scalar.muli arg0 c128_i32
  let v17 : BitVec 32 := v16
  let v18 : Index := Scalar.indexCast v17
  let c0_7 : Index := 0#32
  ![v18.toNat, 0]
def k0_mult2 (i : grid0.Coords) : BitVec 32 :=
  let arg0 : BitVec 32 := BitVec.ofNat 32 (i 0).val
  let c128_i32_10 : BitVec 32 := 128#32
  let v25 : BitVec 32 := Scalar.muli arg0 c128_i32_10
  v25
def k0_mult3 (i : grid0.Coords) : BitVec 32 :=
  let arg0 : BitVec 32 := BitVec.ofNat 32 (i 0).val
  let c352_i32 : BitVec 32 := 352#32
  let v34 : BitVec 32 := Scalar.muli arg0 c352_i32
  v34
def k0_off2 (i : grid0.Coords) : Fin 2 → Nat :=
  let arg0 : BitVec 32 := BitVec.ofNat 32 (i 0).val
  let c352_i32 : BitVec 32 := 352#32
  let v34 : BitVec 32 := Scalar.muli arg0 c352_i32
  let v35 : BitVec 32 := v34
  let v36 : Index := Scalar.indexCast v35
  let c0_14 : Index := 0#32
  ![v36.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let c8_i32_1 : BitVec 32 := 8#32
  let v4 : BitVec 32 := Scalar.subi arg0 c8_i32_1
  let c32_i32 : BitVec 32 := 32#32
  let v5 : BitVec 1 := Scalar.cmpi .slt v4 c32_i32
  let v6 : BitVec 1 := Scalar.andi v3 v5
  let v7 : BitVec 32 := Scalar.extui v6
  let c0_i32_2 : BitVec 32 := 0#32
  let v8 : BitVec 1 := Scalar.cmpi .ne v7 c0_i32_2
  v8

def k0_cond3 (i : grid0.Coords) : BitVec 1 :=
  let arg0 : BitVec 32 := BitVec.ofNat 32 (i 0).val
  let c8_i32_3 : BitVec 32 := 8#32
  let v9 : BitVec 32 := Scalar.subi arg0 c8_i32_3
  let c32_i32_4 : BitVec 32 := 32#32
  let v10 : BitVec 1 := Scalar.cmpi .sge v9 c32_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c32_i32 : BitVec 32 := 32#32
  let v1 : BitVec 32 := Scalar.subi v0 c32_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.subi arg0 c8_i32
  let c32_i32 : BitVec 32 := 32#32
  let v1 : BitVec 32 := Scalar.subi v0 c32_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BackRefIdeal.lean ====
abbrev S16384x1024 : Shape := ⟨2, ![16384, 1024]⟩
abbrev S1024x1024 : Shape := ⟨2, ![1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024x1 : Shape := ⟨2, ![1024, 1]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S1024, .f32⟩
  | .hbm, ⟨61, _⟩ => ⟨S1024x2816, .f32⟩
  | .hbm, ⟨62, _⟩ => ⟨S1024x2816, .f32⟩
  | .hbm, ⟨63, _⟩ => ⟨S2816x1024, .f32⟩
  | .hbm, ⟨64, _⟩ => ⟨S1024x1024, .f32⟩
  | .hbm, ⟨65, _⟩ => ⟨S_, .f32⟩
  | .hbm, ⟨66, _⟩ => ⟨S1024, .f32⟩
  | .hbm, ⟨67, _⟩ => ⟨S1024x1, .f32⟩
  | .hbm, ⟨68, _⟩ => ⟨S_, .f32⟩
  | .hbm, ⟨69, _⟩ => ⟨S1024x1, .f32⟩
  | .hbm, ⟨70, _⟩ => ⟨S1024x1, .f32⟩
  | .hbm, ⟨71, _⟩ => ⟨S_, .f32⟩
  | .hbm, ⟨72, _⟩ => ⟨S1024x1, .f32⟩
  | .hbm, ⟨73, _⟩ => ⟨S1024x1, .f32⟩
  | .hbm, ⟨74, _⟩ => ⟨S1024x1, .f32⟩
  | .hbm, ⟨75, _⟩ => ⟨S1024x1024, .f32⟩
  | .hbm, ⟨76, _⟩ => ⟨S1024x1024, .f32⟩
  | .hbm, ⟨77, _⟩ => ⟨S1x1024, .f32⟩
  | .hbm, ⟨78, _⟩ => ⟨S1024x1024, .f32⟩
  | .hbm, ⟨79, _⟩ => ⟨S1024x1024, .f32⟩
  | .hbm, ⟨80, _⟩ => ⟨S1024x2816, .f32⟩
  | .hbm, ⟨81, _⟩ => ⟨S1024x2816, .f32⟩
  | .hbm, ⟨82, _⟩ => ⟨S1024x2816, .f32⟩
  | .hbm, ⟨83, _⟩ => ⟨S_, .f32⟩
  | .hbm, ⟨84, _⟩ => ⟨S1024x2816, .f32⟩
  | .hbm, ⟨85, _⟩ => ⟨S1024x2816, .f32⟩
  | .hbm, ⟨86, _⟩ => ⟨S_, .f32⟩
  | .hbm, ⟨87, _⟩ => ⟨S1024x2816, .f32⟩
  | .hbm, ⟨88, _⟩ => ⟨S1024x2816, .f32⟩
  | .hbm, ⟨89, _⟩ => ⟨S1024x2816, .f32⟩
  | .hbm, ⟨90, _⟩ => ⟨S1024x2816, .f32⟩
  | .hbm, ⟨91, _⟩ => ⟨S1024x2816, .f32⟩
  | .hbm, ⟨92, _⟩ => ⟨S1024x1024, .f32⟩
  | .hbm, ⟨93, _⟩ => ⟨S_, .f32⟩
  | .hbm, ⟨94, _⟩ => ⟨S1024x1024, .f32⟩
  | .hbm, ⟨95, _⟩ => ⟨S1024x1024, .f32⟩
  | .hbm, ⟨96, _⟩ => ⟨S1024x1024, .f32⟩
  | .hbm, ⟨97, _⟩ => ⟨S1024x1024, .f32⟩
  | .hbm, ⟨98, _⟩ => ⟨S_, .f32⟩
  | .hbm, ⟨99, _⟩ => ⟨S1024, .f32⟩
  | .hbm, ⟨100, _⟩ => ⟨S1024x1, .f32⟩
  | .hbm, ⟨101, _⟩ => ⟨S_, .f32⟩
  | .hbm, ⟨102, _⟩ => ⟨S1024x1, .f32⟩
  | .hbm, ⟨103, _⟩ => ⟨S1024x1, .f32⟩
  | .hbm, ⟨104, _⟩ => ⟨S_, .f32⟩
  | .hbm, ⟨105, _⟩ => ⟨S1024x1, .f32⟩
  | .hbm, ⟨106, _⟩ => ⟨S1024x1, .f32⟩
  | .hbm, ⟨107, _⟩ => ⟨S1024x1, .f32⟩
  | .hbm, ⟨108, _⟩ => ⟨S1024x1024, .f32⟩
  | .hbm, ⟨109, _⟩ => ⟨S1024x1024, .f32⟩
  | .hbm, ⟨110, _⟩ => ⟨S1x1024, .f32⟩
  | .hbm, ⟨111, _⟩ => ⟨S1024x1024, .f32⟩
  | .hbm, ⟨112, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_10 : Ref sig .tc := ⟨.hbm, 98, rfl⟩
abbrev main_v64 : Ref sig .tc := ⟨.hbm, 99, rfl⟩
abbrev main_v65 : Ref sig .tc := ⟨.hbm, 100, rfl⟩
abbrev main_cst_11 : Ref sig .tc := ⟨.hbm, 101, rfl⟩
abbrev main_v66 : Ref sig .tc := ⟨.hbm, 102, rfl⟩
abbrev main_v67 : Ref sig .tc := ⟨.hbm, 103, rfl⟩
abbrev main_cst_12 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩

abbrev nD : Nat := 1
abbrev τ : Topo := Topo.v7x

variable {F : FTy → Type} [FloatOps F]
-- ==== Front.lean ====
abbrev S16384x1024 : Shape := ⟨2, ![16384, 1024]⟩
abbrev S1280x1024 : Shape := ⟨2, ![1280, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2048 : Shape := ⟨2, ![1024, 2048]⟩
abbrev S1024x1024 : Shape := ⟨2, ![1024, 1024]⟩
abbrev S1024x128 : Shape := ⟨2, ![1024, 128]⟩
abbrev S1024x2816 : Shape := ⟨2, ![1024, 2816]⟩
abbrev S2816x1024 : Shape := ⟨2, ![2816, 1024]⟩
abbrev S17664x1024 : Shape := ⟨2, ![17664, 1024]⟩
abbrev S17664x1536 : Shape := ⟨2, ![17664, 1536]⟩
abbrev S17664x512 : Shape := ⟨2, ![17664, 512]⟩
abbrev S17664x128 : Shape := ⟨2, ![17664, 128]⟩
abbrev S256x1024 : Shape := ⟨2, ![256, 1024]⟩
abbrev S128x2816 : Shape := ⟨2, ![128, 2816]⟩
abbrev S352x1024 : Shape := ⟨2, ![352, 1024]⟩
abbrev S256x1536 : Shape := ⟨2, ![256, 1536]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x2816 : Shape := ⟨2, ![256, 2816]⟩
abbrev S256x2048 : Shape := ⟨2, ![256, 2048]⟩

abbrev nBuf : Space → Nat
  | .hbm => 18
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S1280x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024, .f32⟩
  | .hbm, ⟨7, _⟩ => ⟨S1024x2048, .bf16⟩
  | .hbm, ⟨8, _⟩ => ⟨S1024x1024, .bf16⟩
  | .hbm, ⟨9, _⟩ => ⟨S1024x128, .bf16⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S17664x1024, .f32⟩
  | .hbm, ⟨14, _⟩ => ⟨S17664x1536, .f32⟩
  | .hbm, ⟨15, _⟩ => ⟨S17664x512, .f32⟩
  | .hbm, ⟨16, _⟩ => ⟨S17664x512, .f32⟩
  | .hbm, ⟨17, _⟩ => ⟨S17664x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S352x1024, .f32⟩
  | .local _ .vmem, ⟨9, _⟩ => ⟨S352x1024, .f32⟩
  | .local _ .vmem, ⟨10, _⟩ => ⟨S1x1024, .f32⟩
  | .local _ .vmem, ⟨11, _⟩ => ⟨S1x1024, .f32⟩
  | .local _ .vmem, ⟨12, _⟩ => ⟨S1024x2048, .bf16⟩
  | .local _ .vmem, ⟨13, _⟩ => ⟨S1024x1024, .bf16⟩
  | .local _ .vmem, ⟨14, _⟩ => ⟨S1024x128, .bf16⟩
  | .local _ .vmem, ⟨15, _⟩ => ⟨S256x1024, .f32⟩
  | .local _ .vmem, ⟨16, _⟩ => ⟨S256x1024, .f32⟩
  | .local _ .vmem, ⟨17, _⟩ => ⟨S256x1536, .f32⟩
  | .local _ .vmem, ⟨18, _⟩ => ⟨S256x1536, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x128, .f32⟩
  | .local _ .vmem, ⟨24, _⟩ => ⟨S256x128, .f32⟩
  | .local _ .vmem, ⟨25, _⟩ => ⟨S1024x2816, .bf16⟩
  | .local _ .vmem, ⟨26, _⟩ => ⟨S1024x2816, .bf16⟩
  | .local _ .vmem, ⟨27, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![77], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c128_i32 : BitVec 32 := 128#32
  let v16 : BitVec 32 := Scalar.muli arg0 c128_i32
  v16
def k0_off1 (i : grid0.Coords) : Fin 2 → Nat :=
  let arg0 : BitVec 32 := BitVec.ofNat 32 (i 0).val
  let c128_i32 : BitVec 32 := 128#32
  let v16 : BitVec 32 := Scalar.muli arg0 c128_i32
  let v17 : BitVec 32 := v16
  let v18 : Index := Scalar.indexCast v17
  let c0_7 : Index := 0#32
  ![v18.toNat, 0]
def k0_mult2 (i : grid0.Coords) : BitVec 32 :=
  let arg0 : BitVec 32 := BitVec.ofNat 32 (i 0).val
  let c128_i32_10 : BitVec 32 := 128#32
  let v25 : BitVec 32 := Scalar.muli arg0 c128_i32_10
  v25
def k0_mult3 (i : grid0.Coords) : BitVec 32 :=
  let arg0 : BitVec 32 := BitVec.ofNat 32 (i 0).val
  let c352_i32 : BitVec 32 := 352#32
  let v34 : BitVec 32 := Scalar.muli arg0 c352_i32
  v34
def k0_off2 (i : grid0.Coords) : Fin 2 → Nat :=
  let arg0 : BitVec 32 := BitVec.ofNat 32 (i 0).val
  let c352_i32 : BitVec 32 := 352#32
  let v34 : BitVec 32 := Scalar.muli arg0 c352_i32
  let v35 : BitVec 32 := v34
  let v36 : Index := Scalar.indexCast v35
  let c0_14 : Index := 0#32
  ![v36.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let c8_i32_1 : BitVec 32 := 8#32
  let v4 : BitVec 32 := Scalar.subi arg0 c8_i32_1
  let c64_i32 : BitVec 32 := 64#32
  let v5 : BitVec 1 := Scalar.cmpi .slt v4 c64_i32
  let v6 : BitVec 1 := Scalar.andi v3 v5
  let v7 : BitVec 32 := Scalar.extui v6
  let c0_i32_2 : BitVec 32 := 0#32
  let v8 : BitVec 1 := Scalar.cmpi .ne v7 c0_i32_2
  v8

def k0_cond3 (i : grid0.Coords) : BitVec 1 :=
  let arg0 : BitVec 32 := BitVec.ofNat 32 (i 0).val
  let c8_i32_3 : BitVec 32 := 8#32
  let v9 : BitVec 32 := Scalar.subi arg0 c8_i32_3
  let c64_i32_4 : BitVec 32 := 64#32
  let v10 : BitVec 1 := Scalar.cmpi .sge v9 c64_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c63_i32 : BitVec 32 := 63#32
  let v1 : BitVec 32 := Scalar.maxsi c0_i32 v0
  let v2 : BitVec 32 := Scalar.minsi c63_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c64_i32 : BitVec 32 := 64#32
  let v1 : BitVec 32 := Scalar.subi v0 c64_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FrontRefIdeal.lean ====
abbrev S16384x1024 : Shape := ⟨2, ![16384, 1024]⟩
abbrev S1280x1024 : Shape := ⟨2, ![1280, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2048 : Shape := ⟨2, ![1024, 2048]⟩
abbrev S1024x1024 : Shape := ⟨2, ![1024, 1024]⟩
abbrev S1024x128 : Shape := ⟨2, ![1024, 128]⟩
abbrev S17664x1024 : Shape := ⟨2, ![17664, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S17664 : Shape := ⟨1, ![17664]⟩
abbrev S17664x1 : Shape := ⟨2, ![17664, 1]⟩
abbrev S17664x2816 : Shape := ⟨2, ![17664, 2816]⟩
abbrev S17664x2048 : Shape := ⟨2, ![17664, 2048]⟩
abbrev S17664x1536 : Shape := ⟨2, ![17664, 1536]⟩
abbrev S17664x512 : Shape := ⟨2, ![17664, 512]⟩
abbrev S17664x128 : Shape := ⟨2, ![17664, 128]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1280x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024, .f32⟩
  | .hbm, ⟨7, _⟩ => ⟨S1024x2048, .bf16⟩
  | .hbm, ⟨8, _⟩ => ⟨S1024x1024, .bf16⟩
  | .hbm, ⟨9, _⟩ => ⟨S1024x128, .bf16⟩
  | .hbm, ⟨10, _⟩ => ⟨S17664x1024, .f32⟩
  | .hbm, ⟨11, _⟩ => ⟨S1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S17664x1024, .f32⟩
  | .hbm, ⟨16, _⟩ => ⟨S_, .f32⟩
  | .hbm, ⟨17, _⟩ => ⟨S17664, .f32⟩
  | .hbm, ⟨18, _⟩ => ⟨S17664x1, .f32⟩
  | .hbm, ⟨19, _⟩ => ⟨S_, .f32⟩
  | .hbm, ⟨20, _⟩ => ⟨S17664x1, .f32⟩
  | .hbm, ⟨21, _⟩ => ⟨S17664x1, .f32⟩
  | .hbm, ⟨22, _⟩ => ⟨S_, .f32⟩
  | .hbm, ⟨23, _⟩ => ⟨S17664x1, .f32⟩
  | .hbm, ⟨24, _⟩ => ⟨S17664x1, .f32⟩
  | .hbm, ⟨25, _⟩ => ⟨S17664x1, .f32⟩
  | .hbm, ⟨26, _⟩ => ⟨S17664x1024, .f32⟩
  | .hbm, ⟨27, _⟩ => ⟨S17664x1024, .f32⟩
  | .hbm, ⟨28, _⟩ => ⟨S1x1024, .f32⟩
  | .hbm, ⟨29, _⟩ => ⟨S17664x1024, .f32⟩
  | .hbm, ⟨30, _⟩ => ⟨S17664x1024, .f32⟩
  | .hbm, ⟨31, _⟩ => ⟨S17664x2816, .f32⟩
  | .hbm, ⟨32, _⟩ => ⟨S17664x2816, .f32⟩
  | .hbm, ⟨33, _⟩ => ⟨S17664x2816, .f32⟩
  | .hbm, ⟨34, _⟩ => ⟨S_, .f32⟩
  | .hbm, ⟨35, _⟩ => ⟨S17664x2816, .f32⟩
  | .hbm, ⟨36, _⟩ => ⟨S17664x2816, .f32⟩
  | .hbm, ⟨37, _⟩ => ⟨S_, .f32⟩
  | .hbm, ⟨38, _⟩ => ⟨S17664x2816, .f32⟩
  | .hbm, ⟨39, _⟩ => ⟨S17664x2816, .f32⟩
  | .hbm, ⟨40, _⟩ => ⟨S17664x2816, .f32⟩
  | .hbm, ⟨41, _⟩ => ⟨S17664x2816, .f32⟩
  | .hbm, ⟨42, _⟩ => ⟨S17664x2816, .f32⟩
  | .hbm, ⟨43, _⟩ => ⟨S17664x1024, .f32⟩
  | .hbm, ⟨44, _⟩ => ⟨S_, .f32⟩
  | .hbm, ⟨45, _⟩ => ⟨S17664x1024, .f32⟩
  | .hbm, ⟨46, _⟩ => ⟨S17664x1024, .f32⟩
  | .hbm, ⟨47, _⟩ => ⟨S17664x1024, .f32⟩
  | .hbm, ⟨48, _⟩ => ⟨S1024, .f32⟩
  | .hbm, ⟨49, _⟩ => ⟨S17664x1024, .f32⟩
  | .hbm, ⟨50, _⟩ => ⟨S_, .f32⟩
  | .hbm, ⟨51, _⟩ => ⟨S17664, .f32⟩
  | .hbm, ⟨52, _⟩ => ⟨S17664x1, .f32⟩
  | .hbm, ⟨53, _⟩ => ⟨S_, .f32⟩
  | .hbm, ⟨54, _⟩ => ⟨S17664x1, .f32⟩
  | .hbm, ⟨55, _⟩ => ⟨S17664x1, .f32⟩
  | .hbm, ⟨56, _⟩ => ⟨S_, .f32⟩
  | .hbm, ⟨57, _⟩ => ⟨S17664x1, .f32⟩
  | .hbm, ⟨58, _⟩ => ⟨S17664x1, .f32⟩
  | .hbm, ⟨59, _⟩ => ⟨S17664x1, .f32⟩
  | .hbm, ⟨60, _⟩ => ⟨S17664x1024, .f32⟩
  | .hbm, ⟨61, _⟩ => ⟨S17664x1024, .f32⟩
  | .hbm, ⟨62, _⟩ => ⟨S1x1024, .f32⟩
  | .hbm, ⟨63, _⟩ => ⟨S17664x1024, .f32⟩
  | .hbm, ⟨64, _⟩ => ⟨S17664x1024, .f32⟩
  | .hbm, ⟨65, _⟩ => ⟨S1024x2048, .f32⟩
  | .hbm, ⟨66, _⟩ => ⟨S17664x2048, .f32⟩
  | .hbm, ⟨67, _⟩ => ⟨S1024x1024, .f32⟩
  | .hbm, ⟨68, _⟩ => ⟨S17664x1024, .f32⟩
  | .hbm, ⟨69, _⟩ => ⟨S17664x1536, .f32⟩
  | .hbm, ⟨70, _⟩ => ⟨S17664x512, .f32⟩
  | .hbm, ⟨71, _⟩ => ⟨S17664x512, .f32⟩
  | .hbm, ⟨72, _⟩ => ⟨S17664x512, .f32⟩
  | .hbm, ⟨73, _⟩ => ⟨S17664x512, .f32⟩
  | .hbm, ⟨74, _⟩ => ⟨S17664x512, .f32⟩
  | .hbm, ⟨75, _⟩ => ⟨S_, .f32⟩
  | .hbm, ⟨76, _⟩ => ⟨S17664x512, .f32⟩
  | .hbm, ⟨77, _⟩ => ⟨S17664x512, .f32⟩
  | .hbm, ⟨78, _⟩ => ⟨S_, .f32⟩
  | .hbm, ⟨79, _⟩ => ⟨S17664x512, .f32⟩
  | .hbm, ⟨80, _⟩ => ⟨S17664x512, .f32⟩
  | .hbm, ⟨81, _⟩ => ⟨S17664x512, .f32⟩
  | .hbm, ⟨82, _⟩ => ⟨S1024x128, .f32⟩
  | .hbm, ⟨83, _⟩ => ⟨S17664x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]
-- ==== Proof.MixConv.lean ====
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The blocks the windows take. -/
theorem idx1 : ∀ t : Fin cfg0.N, win0_1.index t = ![128 + t.val, 0, 0] :=
  (by decide +kernel : ∀ t : Fin grid0.N, win0_1.index t = ![128 + t.val, 0, 0])
theorem idx3 : ∀ t : Fin cfg0.N, win0_3.index t = ![128 + t.val, 0, 0] :=
  (by decide +kernel : ∀ t : Fin grid0.N, win0_3.index t = ![128 + t.val, 0, 0])
theorem idx7 : ∀ t : Fin cfg0.N, win0_7.index t = ![0, t.val, 0] :=
  (by decide +kernel : ∀ t : Fin grid0.N, win0_7.index t = ![0, t.val, 0])
theorem idx18 : ∀ t : Fin cfg0.N, win0_18.index t = ![0, t.val, 0] :=
  (by decide +kernel : ∀ t : Fin grid0.N, win0_18.index t = ![0, t.val, 0])
theorem idx19 : ∀ t : Fin cfg0.N, win0_19.index t = ![0, t.val, 0] :=
  (by decide +kernel : ∀ t : Fin grid0.N, win0_19.index t = ![0, t.val, 0])

/-- The rows of the second argument, eight to a sequence. -/
theorem V_main_v23_apply (c : Dev nD) (a : Fin 2208) (s : Fin 8) (k : Fin 1536) :
    V m c main_v23 (ix3 a s k) = m ((c.tc : Thread nD τ).loc main_arg1) (ix2 ⟨a.val * 8 + s.val, by omega⟩ k) := by
  entry_read
  pointwise

/-- The host's reshaped rows by entry. -/
theorem V_main_v25_apply (c : Dev nD) (a : Fin 2208) (s : Fin 8) (k : Fin 512) :
    V m c main_v25 (ix3 a s k) = m ((c.tc : Thread nD τ).loc main_arg3) (ix2 ⟨a.val * 8 + s.val, by omega⟩ k) := by
  entry_read
  pointwise

/-- The time-major window by entry. -/
theorem V_main_v21_apply (c : Dev nD) (r : Fin 30) (b : Fin 128) (k : Fin 512) :
    V m c main_v21 (ix3 r b k) = m ((c.tc : Thread nD τ).loc main_arg7) (ix4 0 b r k) := by
  entry_read
  pointwise

/-- A projected row of a point. -/
theorem qkv_apply (c : Dev nD) (t : Fin cfg0.N) (b : Fin 16) (s : Fin 8) (k : Fin 1536) (h : 16384 + (t.val * 16 + b.val) * 8 + s.val < 17664) :
    iblk m c 1 t (ix3 b s k) = m ((c.tc : Thread nD τ).loc main_arg1) (ix2 ⟨16384 + (t.val * 16 + b.val) * 8 + s.val, h⟩ k) := by
  have hN : t.val < 8 := lt_of_lt_of_eq t.isLt (show cfg0.N = 8 from N_0)
  refine Eq.trans ?_ ((V_main_v23_apply m c ⟨(128 + t.val) * 16 + b.val, by omega⟩ s k).trans ?_)
  · blk_ext [iblk, idx1 t]
  · exact congrArg (fun q => m ((c.tc : Thread nD τ).loc main_arg1) (ix2 q k)) (Fin.ext (by show ((128 + t.val) * 16 + b.val) * 8 + s.val = 16384 + (t.val * 16 + b.val) * 8 + s.val; omega))

set_option maxHeartbeats 1000000 in
/-- What the new window of the first convolution holds. -/
theorem sq_piece (c : Dev nD) (t : Fin cfg0.N) (r : Fin 3) (b : Fin 16) (k : Fin 1536) :
    (outsAt0 m c t).2.2.1 (ix3 r b k) = iblk m c 1 t (ix3 b ⟨r.val + 5, by omega⟩ k) := by
  simp only [outsAt0]
  unfold out0_A_18
  refine (View.read_writes_junk_apply_eq_canon ..).trans ?_
  refine (View.canon_apply_of_pieces (fun y : S3x16x1536.Idx => iblk m c 1 t (ix3 (y 1) ⟨(y 0).val + 5, by have := (y 0).isLt; simp at this; omega⟩ (y 2))) _ (fun p hp x => ?_) _ (cover0_A_18 ..)).trans rfl
  have hp' : p ∈ (_ :: _ :: _ :: []) := hp
  clear hp
  simp only [List.mem_cons, List.mem_nil_iff, or_false] at hp'
  rcases hp' with rfl | rfl | rfl
  all_goals
    obtain ⟨b', k', rfl⟩ : ∃ (b' : Fin 16) (k' : Fin 1536), x = (ix3 0 b' k' : S1x16x1536.Idx) :=
      ⟨x 1, x 2, by funext a; match a with | ⟨0, _⟩ => exact Subsingleton.elim (α := Fin 1) _ _ | ⟨1, _⟩ => rfl | ⟨2, _⟩ => rfl⟩
    dsimp only
    simp only [kernelRun0_A.sl.v4603, kernelRun0_A.sl.v4600, View.readAt_eq_ld, Memref.IsWhole.read_unread]
    pointwise [k0_pay841, k0_pay842]
    refine congrArg (iblk m c 1 t) (funext fun a => ?_)
    match a with
    | ⟨0, _⟩ => exact Fin.ext (by show b'.val = 0 + 1 * b'.val; omega)
    | ⟨1, _⟩ => exact Fin.ext (by first | rfl | simp)
    | ⟨2, _⟩ => exact Fin.ext (by show k'.val = 0 + 1 * k'.val; omega)

/-- A word of the sequences' gate inputs, from the fourth argument. -/
theorem cin_apply (c : Dev nD) (t : Fin cfg0.N) (b : Fin 16) (s : Fin 8) (k : Fin 512) (h : 16384 + (t.val * 16 + b.val) * 8 + s.val < 17664) :
    iblk m c 3 t (ix3 b s k) = m ((c.tc : Thread nD τ).loc main_arg3) (ix2 ⟨16384 + (t.val * 16 + b.val) * 8 + s.val, h⟩ k) := by
  have hN : t.val < 8 := lt_of_lt_of_eq t.isLt (show cfg0.N = 8 from N_0)
  refine Eq.trans ?_ ((V_main_v25_apply m c ⟨(128 + t.val) * 16 + b.val, by omega⟩ s k).trans ?_)
  · blk_ext [iblk, idx3 t]
  · exact congrArg (fun q => m ((c.tc : Thread nD τ).loc main_arg3) (ix2 q k)) (Fin.ext (by show ((128 + t.val) * 16 + b.val) * 8 + s.val = 16384 + (t.val * 16 + b.val) * 8 + s.val; omega))

/-- A word of the sequences' gate window, from the eighth argument. -/
theorem sc0_apply (c : Dev nD) (t : Fin cfg0.N) (r : Fin 30) (b : Fin 16) (k : Fin 512) (h : t.val * 16 + b.val < 128) :
    iblk m c 7 t (ix3 r b k) = m ((c.tc : Thread nD τ).loc main_arg7) (ix4 0 ⟨t.val * 16 + b.val, h⟩ r k) := by
  refine Eq.trans ?_ (V_main_v21_apply m c r ⟨t.val * 16 + b.val, h⟩ k)
  · blk_ext [iblk, idx7 t]

/-- The new window of the gate's convolution, of one block: the old window moved on by eight steps, then the eight new ones. -/
def scG (c : Dev nD) (t : Fin cfg0.N) : S30x16x512.Idx → Elt Ideal .f32 := fun y =>
  if h : (y 0).val < 22 then iblk m c 7 t (ix3 ⟨(y 0).val + 8, by omega⟩ (y 1) (y 2))
  else iblk m c 3 t (ix3 (y 1) ⟨(y 0).val - 22, by have h' : (y 0).val < 30 := (y 0).isLt; omega⟩ (y 2))

set_option maxHeartbeats 4000000 in
/-- What the new window of the gate's convolution holds. -/
theorem sc_piece (c : Dev nD) (t : Fin cfg0.N) : (outsAt0 m c t).2.2.2 = scG m c t := by
  funext y
  simp only [outsAt0]
  unfold out0_A_19
  refine (View.read_writes_junk_apply_eq_canon ..).trans ?_
  refine View.canon_apply_of_pieces (scG m c t) _ (fun p hp x => ?_) _ (cover0_A_19 ..)
  have hp' : p ∈ (_ :: _ :: _ :: _ :: _ :: _ :: _ :: _ :: _ :: _ :: _ :: _ :: _ :: _ :: _ :: _ :: _ :: _ :: _ :: _ :: _ :: _ :: _ :: _ :: _ :: _ :: _ :: _ :: _ :: _ :: []) := hp
  clear hp
  simp only [List.mem_cons, List.mem_nil_iff, or_false] at hp'
  rcases hp' with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    obtain ⟨b', k', rfl⟩ : ∃ (b' : Fin 16) (k' : Fin 512), x = (ix3 0 b' k' : S1x16x512.Idx) :=
      ⟨x 1, x 2, by funext a; match a with | ⟨0, _⟩ => exact Subsingleton.elim (α := Fin 1) _ _ | ⟨1, _⟩ => rfl | ⟨2, _⟩ => rfl⟩
    dsimp only
    simp only [kernelRun0_A.sl.v4608, kernelRun0_A.sl.v4605, kernelRun0_A.sl.v4613, kernelRun0_A.sl.v4610, kernelRun0_A.sl.v4618, kernelRun0_A.sl.v4615, kernelRun0_A.sl.v4623, kernelRun0_A.sl.v4620, kernelRun0_A.sl.v4628, kernelRun0_A.sl.v4625, kernelRun0_A.sl.v4633, kernelRun0_A.sl.v4630, kernelRun0_A.sl.v4638, kernelRun0_A.sl.v4635, kernelRun0_A.sl.v4643, kernelRun0_A.sl.v4640, kernelRun0_A.sl.v4648, kernelRun0_A.sl.v4645, kernelRun0_A.sl.v4653, kernelRun0_A.sl.v4650, kernelRun0_A.sl.v4658, kernelRun0_A.sl.v4655, kernelRun0_A.sl.v4663, kernelRun0_A.sl.v4660, kernelRun0_A.sl.v4668, kernelRun0_A.sl.v4665, kernelRun0_A.sl.v4673, kernelRun0_A.sl.v4670, kernelRun0_A.sl.v4678, kernelRun0_A.sl.v4675, kernelRun0_A.sl.v4683, kernelRun0_A.sl.v4680, kernelRun0_A.sl.v4688, kernelRun0_A.sl.v4685, kernelRun0_A.sl.v4693, kernelRun0_A.sl.v4690, kernelRun0_A.sl.v4698, kernelRun0_A.sl.v4695, kernelRun0_A.sl.v4703, kernelRun0_A.sl.v4700, kernelRun0_A.sl.v4708, kernelRun0_A.sl.v4705, kernelRun0_A.sl.v4713, kernelRun0_A.sl.v4710, kernelRun0_A.sl.v4718, kernelRun0_A.sl.v4715, kernelRun0_A.sl.v4723, kernelRun0_A.sl.v4720, kernelRun0_A.sl.v4728, kernelRun0_A.sl.v4725, kernelRun0_A.sl.v4733, kernelRun0_A.sl.v4730, kernelRun0_A.sl.v4738, kernelRun0_A.sl.v4735, kernelRun0_A.sl.v4743, kernelRun0_A.sl.v4740, kernelRun0_A.sl.v4748, kernelRun0_A.sl.v4745, View.readAt_eq_ld, Memref.IsWhole.read_unread]
    first
      | refine Eq.trans ?_ (dif_pos (Nat.le_of_ble_eq_true rfl)).symm
        pointwise [k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873]
        refine congrArg (iblk m c 7 t) (funext fun a => ?_)
        match a with
        | ⟨0, _⟩ => exact Fin.ext (by first | rfl | simp)
        | ⟨1, _⟩ => exact Fin.ext (by show b'.val = 0 + 1 * b'.val; omega)
        | ⟨2, _⟩ => exact Fin.ext (by show k'.val = 0 + 1 * k'.val; omega)
      | refine Eq.trans ?_ (dif_neg (Nat.not_lt.mpr (Nat.le_of_ble_eq_true rfl))).symm
        pointwise [k0_pay844, k0_pay845, k0_pay846, k0_pay847, k0_pay848, k0_pay849, k0_pay850, k0_pay851, k0_pay852, k0_pay853, k0_pay854, k0_pay855, k0_pay856, k0_pay857, k0_pay858, k0_pay859, k0_pay860, k0_pay861, k0_pay862, k0_pay863, k0_pay864, k0_pay865, k0_pay866, k0_pay867, k0_pay868, k0_pay869, k0_pay870, k0_pay871, k0_pay872, k0_pay873]
        refine congrArg (iblk m c 3 t) (funext fun a => ?_)
        match a with
        | ⟨0, _⟩ => exact Fin.ext (by show b'.val = 0 + 1 * b'.val; omega)
        | ⟨1, _⟩ => exact Fin.ext (by first | rfl | simp)
        | ⟨2, _⟩ => exact Fin.ext (by show k'.val = 0 + 1 * k'.val; omega)

end Cert.KernelIdeal.Val

end
-- ==== Proof.MixRows.lean ====
module

public import proofs.«01_k».proof.Proof.MixConv

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

/-- A sequence's rows before the convolution, the three kept ones first. -/
def extRow (x1 : Vec Ideal S16x8x1536 .f32) (x6 : Vec Ideal S3x16x1536 .f32) (b : Fin 16) (p : ℕ) (k : Fin 1536) : EReal :=
  if h : p < 3 then x6 (ix3 ⟨p, h⟩ b k) else if h' : p - 3 < 8 then x1 (ix3 b ⟨p - 3, h'⟩ k) else 0

/-- The convolution's sum of four taps. -/
def tapRow (x1 : Vec Ideal S16x8x1536 .f32) (x6 : Vec Ideal S3x16x1536 .f32) (x8 : Vec Ideal S4x8x1536 .f32) (b : Fin 16) (e : Fin 8) (t : ℕ) (k : Fin 1536) : EReal :=
  extRow x1 x6 b t k * x8 (ix3 0 e k) + extRow x1 x6 b (t + 1) k * x8 (ix3 1 e k) + extRow x1 x6 b (t + 2) k * x8 (ix3 2 e k)
    + extRow x1 x6 b (t + 3) k * x8 (ix3 3 e k)

/-- The row after the activation. -/
def actRow (x1 : Vec Ideal S16x8x1536 .f32) (x6 : Vec Ideal S3x16x1536 .f32) (x8 : Vec Ideal S4x8x1536 .f32) (b : Fin 16) (e : Fin 8) (t : ℕ) (k : Fin 1536) : EReal :=
  tapRow x1 x6 x8 b e t k * Ideal.logistic (tapRow x1 x6 x8 b e t k)

/-- A key's word: the row's part of the head that starts at column `o`, over its length. -/
def keyRow (x1 : Vec Ideal S16x8x1536 .f32) (x6 : Vec Ideal S3x16x1536 .f32) (x8 : Vec Ideal S4x8x1536 .f32) (b : Fin 16) (e : Fin 8) (t : ℕ) (o : ℕ) (ho : o + 128 ≤ 1536) (d : Fin 128) : EReal :=
  actRow x1 x6 x8 b e t ⟨o + d.val, by omega⟩
    * Ideal.rsqrt ((∑ x : Fin 128, actRow x1 x6 x8 b e t ⟨o + x.val, by omega⟩ * actRow x1 x6 x8 b e t ⟨o + x.val, by omega⟩) + Ideal.ofBits .f32 897988541#32)

/-- All keys of a block. -/
def keys (x1 : Vec Ideal S16x8x1536 .f32) (x6 : Vec Ideal S3x16x1536 .f32) (x8 : Vec Ideal S4x8x1536 .f32) : S16x8x512.Idx → Elt Ideal .f32 := fun y =>
  keyRow x1 x6 x8 (y 0) ⟨(y 0).val % 8, Nat.mod_lt _ (by decide)⟩ (y 1).val (512 + (y 2).val / 128 * 128) (by have h : (y 2).val < 512 := (y 2).isLt; omega)
    ⟨(y 2).val % 128, Nat.mod_lt _ (by decide)⟩

/-- All values of a block. -/
def vals (x1 : Vec Ideal S16x8x1536 .f32) (x6 : Vec Ideal S3x16x1536 .f32) (x8 : Vec Ideal S4x8x1536 .f32) : S16x8x512.Idx → Elt Ideal .f32 := fun y =>
  actRow x1 x6 x8 (y 0) ⟨(y 0).val % 8, Nat.mod_lt _ (by decide)⟩ (y 1).val ⟨1024 + (y 2).val, by have h : (y 2).val < 512 := (y 2).isLt; omega⟩

/-- Where a store of eight sequences lands. -/
theorem unit_emb3 {n : ℕ} {g t o : ℕ} (inb : ∀ a, (![g, t, o] : Fin 3 → ℕ) a + (⟨3, ![8, 1, n]⟩ : Shape).size a ≤ S16x8x512.size a) (b : Fin 8) (d : Fin n)
    (hb : g + b.val < 16) (ht : t < 8) (hd : o + d.val < 512) :
    (Rect.unit (s := S16x8x512) ![g, t, o] (⟨3, ![8, 1, n]⟩ : Shape).size inb).emb (ix3 b 0 d) = ix3 ⟨g + b.val, hb⟩ ⟨t, ht⟩ ⟨o + d.val, hd⟩ := by
  funext a
  match a with
  | ⟨0, _⟩ => exact Fin.ext (by show g + 1 * b.val = g + b.val; omega)
  | ⟨1, _⟩ => exact Fin.ext (by show t + 1 * 0 = t; omega)
  | ⟨2, _⟩ => exact Fin.ext (by show o + 1 * d.val = o + d.val; omega)

/-- A key where its store lands. -/
theorem keys_at (x1 : Vec Ideal S16x8x1536 .f32) (x6 : Vec Ideal S3x16x1536 .f32) (x8 : Vec Ideal S4x8x1536 .f32) {g t o : ℕ} (hg : g = 0 ∨ g = 8) (ho : o % 128 = 0)
    (inb : ∀ a, (![g, t, o] : Fin 3 → ℕ) a + S8x1x128.size a ≤ S16x8x512.size a) (b : Fin 8) (d : Fin 128) (hb : g + b.val < 16) (ht : t < 8) (hd : o + 128 ≤ 512) :
    keys x1 x6 x8 ((Rect.unit (s := S16x8x512) ![g, t, o] S8x1x128.size inb).emb (ix3 b 0 d)) = keyRow x1 x6 x8 ⟨g + b.val, hb⟩ b t (512 + o) (by omega) d := by
  refine (congrArg (keys x1 x6 x8) (unit_emb3 inb b d hb ht (by omega))).trans ?_
  have e1 : (⟨(g + b.val) % 8, Nat.mod_lt _ (by decide)⟩ : Fin 8) = b := Fin.ext (by show (g + b.val) % 8 = b.val; omega)
  have e2 : (⟨(o + d.val) % 128, Nat.mod_lt _ (by decide)⟩ : Fin 128) = d := Fin.ext (by show (o + d.val) % 128 = d.val; omega)
  have e3 : 512 + (o + d.val) / 128 * 128 = 512 + o := by omega
  show keyRow x1 x6 x8 ⟨g + b.val, hb⟩ ⟨(g + b.val) % 8, _⟩ t (512 + (o + d.val) / 128 * 128) _ ⟨(o + d.val) % 128, _⟩ = _
  rw [e1, e2]
  congr 1

/-- A value where its store lands. -/
theorem vals_at (x1 : Vec Ideal S16x8x1536 .f32) (x6 : Vec Ideal S3x16x1536 .f32) (x8 : Vec Ideal S4x8x1536 .f32) {g t : ℕ} (hg : g = 0 ∨ g = 8)
    (inb : ∀ a, (![g, t, 0] : Fin 3 → ℕ) a + S8x1x512.size a ≤ S16x8x512.size a) (b : Fin 8) (d : Fin 512) (hb : g + b.val < 16) (ht : t < 8) :
    vals x1 x6 x8 ((Rect.unit (s := S16x8x512) ![g, t, 0] S8x1x512.size inb).emb (ix3 b 0 d)) = actRow x1 x6 x8 ⟨g + b.val, hb⟩ b t ⟨1024 + d.val, by omega⟩ := by
  refine (congrArg (vals x1 x6 x8) (unit_emb3 inb b d hb ht (by omega))).trans ?_
  have e1 : (⟨(g + b.val) % 8, Nat.mod_lt _ (by decide)⟩ : Fin 8) = b := Fin.ext (by show (g + b.val) % 8 = b.val; omega)
  have e2 : (⟨1024 + (0 + d.val), by omega⟩ : Fin 1536) = ⟨1024 + d.val, by omega⟩ := Fin.ext (by show 1024 + (0 + d.val) = 1024 + d.val; omega)
  show actRow x1 x6 x8 ⟨g + b.val, hb⟩ ⟨(g + b.val) % 8, _⟩ t ⟨1024 + (0 + d.val), _⟩ = _
  rw [e1, e2]

/-- One step's rows of eight sequences. -/
def stepRows (x1 : Vec Ideal S16x8x1536 .f32) (g t : ℕ) (inb : ∀ a, (![g, t, 0] : Fin 3 → ℕ) a + S8x1x1536.size a ≤ S16x8x1536.size a) : Vec Ideal S8x1x1536 .f32 := fun y =>
  x1 (ix3 ⟨g + (y 0).val, by have h0 := inb 0; have h : (y 0).val < 8 := (y 0).isLt; have h1 : g + 8 ≤ 16 := h0; omega⟩ ⟨t, by have h0 := inb 1; have h1 : t + 1 ≤ 8 := h0; omega⟩ (y 2))

/-- One kept row of eight sequences. -/
def keptRows (x6 : Vec Ideal S3x16x1536 .f32) (j g : ℕ) (inb : ∀ a, (![j, g, 0] : Fin 3 → ℕ) a + S1x8x1536.size a ≤ S3x16x1536.size a) : Vec Ideal S1x8x1536 .f32 := fun y =>
  x6 (ix3 ⟨j, by have h0 := inb 0; have h1 : j + 1 ≤ 3 := h0; omega⟩ ⟨g + (y 1).val, by have h0 := inb 1; have h : (y 1).val < 8 := (y 1).isLt; have h1 : g + 8 ≤ 16 := h0; omega⟩ (y 2))

/-- One tap. -/
def tapRows (x8 : Vec Ideal S4x8x1536 .f32) (j : ℕ) (inb : ∀ a, (![j, 0, 0] : Fin 3 → ℕ) a + S1x8x1536.size a ≤ S4x8x1536.size a) : Vec Ideal S1x8x1536 .f32 := fun y =>
  x8 (ix3 ⟨j, by have h0 := inb 0; have h1 : j + 1 ≤ 4 := h0; omega⟩ (y 1) (y 2))

/-- The read of one step's rows. -/
theorem read_step (arg2 : Memref sig .tc .vmem S16x8x1536 .f32) (harg2 : arg2.IsWhole) (x1 : Vec Ideal S16x8x1536 .f32) (g t : ℕ) (inb : ∀ a, (![g, t, 0] : Fin 3 → ℕ) a + S8x1x1536.size a ≤ S16x8x1536.size a) :
    View.readAt (Elt Ideal) arg2.view (Rect.unit (s := S16x8x1536) ![g, t, 0] S8x1x1536.size inb).toLoadRect (harg2.unread x1) = stepRows x1 g t inb := by
  rw [View.readAt_eq_ld, Memref.IsWhole.read_unread]
  funext y
  refine congrArg x1 (funext fun a => ?_)
  match a with
  | ⟨0, _⟩ => exact Fin.ext (by show g + 1 * (y 0).val = g + (y 0).val; omega)
  | ⟨1, _⟩ => exact Fin.ext (by have h : (y 1).val < 1 := (y 1).isLt; show t + 1 * (y 1).val = t; omega)
  | ⟨2, _⟩ => exact Fin.ext (by show 0 + 1 * (y 2).val = (y 2).val; omega)

/-- The same read, its size written out. -/
theorem read_step' (arg2 : Memref sig .tc .vmem S16x8x1536 .f32) (harg2 : arg2.IsWhole) (x1 : Vec Ideal S16x8x1536 .f32) (g t : ℕ) (inb : ∀ a, (![g, t, 0] : Fin 3 → ℕ) a + S8x1x1536.size a ≤ S16x8x1536.size a) :
    View.readAt (Elt Ideal) arg2.view (Rect.unit (s := S16x8x1536) ![g, t, 0] ![8, 1, 1536] inb).toLoadRect (harg2.unread x1) = stepRows x1 g t inb :=
  read_step arg2 harg2 x1 g t inb

/-- The read of one kept row. -/
theorem read_kept (arg7 : Memref sig .tc .vmem S3x16x1536 .f32) (harg7 : arg7.IsWhole) (x6 : Vec Ideal S3x16x1536 .f32) (j g : ℕ) (inb : ∀ a, (![j, g, 0] : Fin 3 → ℕ) a + S1x8x1536.size a ≤ S3x16x1536.size a) :
    View.readAt (Elt Ideal) arg7.view (Rect.unit (s := S3x16x1536) ![j, g, 0] S1x8x1536.size inb).toLoadRect (harg7.unread x6) = keptRows x6 j g inb := by
  rw [View.readAt_eq_ld, Memref.IsWhole.read_unread]
  funext y
  refine congrArg x6 (funext fun a => ?_)
  match a with
  | ⟨0, _⟩ => exact Fin.ext (by have h : (y 0).val < 1 := (y 0).isLt; show j + 1 * (y 0).val = j; omega)
  | ⟨1, _⟩ => exact Fin.ext (by show g + 1 * (y 1).val = g + (y 1).val; omega)
  | ⟨2, _⟩ => exact Fin.ext (by show 0 + 1 * (y 2).val = (y 2).val; omega)

/-- The same read, its size written out. -/
theorem read_kept' (arg7 : Memref sig .tc .vmem S3x16x1536 .f32) (harg7 : arg7.IsWhole) (x6 : Vec Ideal S3x16x1536 .f32) (j g : ℕ) (inb : ∀ a, (![j, g, 0] : Fin 3 → ℕ) a + S1x8x1536.size a ≤ S3x16x1536.size a) :
    View.readAt (Elt Ideal) arg7.view (Rect.unit (s := S3x16x1536) ![j, g, 0] ![1, 8, 1536] inb).toLoadRect (harg7.unread x6) = keptRows x6 j g inb :=
  read_kept arg7 harg7 x6 j g inb

/-- The read of one tap. -/
theorem read_tap (arg9 : Memref sig .tc .vmem S4x8x1536 .f32) (harg9 : arg9.IsWhole) (x8 : Vec Ideal S4x8x1536 .f32) (j : ℕ) (inb : ∀ a, (![j, 0, 0] : Fin 3 → ℕ) a + S1x8x1536.size a ≤ S4x8x1536.size a) :
    View.readAt (Elt Ideal) arg9.view (Rect.unit (s := S4x8x1536) ![j, 0, 0] S1x8x1536.size inb).toLoadRect (harg9.unread x8) = tapRows x8 j inb := by
  rw [View.readAt_eq_ld, Memref.IsWhole.read_unread]
  funext y
  refine congrArg x8 (funext fun a => ?_)
  match a with
  | ⟨0, _⟩ => exact Fin.ext (by have h : (y 0).val < 1 := (y 0).isLt; show j + 1 * (y 0).val = j; omega)
  | ⟨1, _⟩ => exact Fin.ext (by show 0 + 1 * (y 1).val = (y 1).val; omega)
  | ⟨2, _⟩ => exact Fin.ext (by show 0 + 1 * (y 2).val = (y 2).val; omega)

/-- The same read, its size written out. -/
theorem read_tap' (arg9 : Memref sig .tc .vmem S4x8x1536 .f32) (harg9 : arg9.IsWhole) (x8 : Vec Ideal S4x8x1536 .f32) (j : ℕ) (inb : ∀ a, (![j, 0, 0] : Fin 3 → ℕ) a + S1x8x1536.size a ≤ S4x8x1536.size a) :
    View.readAt (Elt Ideal) arg9.view (Rect.unit (s := S4x8x1536) ![j, 0, 0] ![1, 8, 1536] inb).toLoadRect (harg9.unread x8) = tapRows x8 j inb :=
  read_tap arg9 harg9 x8 j inb

/-- An index of eight sequences' rows, by its parts. -/
theorem idx81 {n : ℕ} (x : (⟨3, ![8, 1, n]⟩ : Shape).Idx) : ∃ (b : Fin 8) (d : Fin n), x = ix3 b 0 d :=
  ⟨x 0, x 2, by funext a; match a with | ⟨0, _⟩ => rfl | ⟨1, _⟩ => exact Subsingleton.elim (α := Fin 1) _ _ | ⟨2, _⟩ => rfl⟩

end Cert.KernelIdeal.Val

end
-- ==== Proof.MixGates.lean ====
module

public import proofs.«01_k».proof.Proof.MixRows
public import Mathlib.Tactic.IntervalCases

@[expose] public section

set_option maxRecDepth 16384
set_option maxHeartbeats 2000000

noncomputable section

namespace Cert.KernelIdeal.Val

open Cert.KernelIdeal Cert.KernelIdeal.Gen
open Idealize.ShloMosaic Idealize.ShloMosaic.TcCoe Idealize.ShloMosaic.Tactic
open Idealize.ShloMosaic.Pipeline (Dat Cfg Window)

/-- The step of a row inside its sequence. -/
theorem step_of (q : ℕ) (h : q < 128) : (Scalar.select (IntOp.andi (IntOp.xori (IntOp.cmpi CmpIPredicate.slt (IntOp.remsi ArithUnit.vector (BitVec.ofNat 32 q) 8#32) 0#32) (Scalar.cmpi CmpIPredicate.slt 8#32 0#32)) (IntOp.cmpi CmpIPredicate.ne (IntOp.remsi ArithUnit.vector (BitVec.ofNat 32 q) 8#32) 0#32)) (IntOp.addi (IntOp.remsi ArithUnit.vector (BitVec.ofNat 32 q) 8#32) 8#32) (IntOp.remsi ArithUnit.vector (BitVec.ofNat 32 q) 8#32)) = BitVec.ofNat 32 (q % 8) :=
  (by decide +kernel : ∀ q : Fin 128, (Scalar.select (IntOp.andi (IntOp.xori (IntOp.cmpi CmpIPredicate.slt (IntOp.remsi ArithUnit.vector (BitVec.ofNat 32 q.val) 8#32) 0#32) (Scalar.cmpi CmpIPredicate.slt 8#32 0#32)) (IntOp.cmpi CmpIPredicate.ne (IntOp.remsi ArithUnit.vector (BitVec.ofNat 32 q.val) 8#32) 0#32)) (IntOp.addi (IntOp.remsi ArithUnit.vector (BitVec.ofNat 32 q.val) 8#32) 8#32) (IntOp.remsi ArithUnit.vector (BitVec.ofNat 32 q.val) 8#32)) = BitVec.ofNat 32 (q.val % 8)) ⟨q, h⟩

/-- The sequence of a row. -/
theorem seq_of (q : ℕ) (h : q < 128) : (Scalar.select
          (IntOp.andi
            (IntOp.cmpi CmpIPredicate.ne
              (IntOp.subi (BitVec.setWidth 32 (IntOp.cmpi CmpIPredicate.sgt (BitVec.ofNat 32 q) 0#32))
                (BitVec.setWidth 32 (IntOp.cmpi CmpIPredicate.slt (BitVec.ofNat 32 q) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 q) 8#32) 0#32))
          (IntOp.subi (IntOp.divsi ArithUnit.vector (BitVec.ofNat 32 q) 8#32) 1#32)
          (IntOp.divsi ArithUnit.vector (BitVec.ofNat 32 q) 8#32)) = BitVec.ofNat 32 (q / 8) :=
  (by decide +kernel : ∀ q : Fin 128, (Scalar.select
          (IntOp.andi
            (IntOp.cmpi CmpIPredicate.ne
              (IntOp.subi (BitVec.setWidth 32 (IntOp.cmpi CmpIPredicate.sgt (BitVec.ofNat 32 q.val) 0#32))
                (BitVec.setWidth 32 (IntOp.cmpi CmpIPredicate.slt (BitVec.ofNat 32 q.val) 0#32)))
              (Scalar.subi (Scalar.extui (Scalar.cmpi CmpIPredicate.sgt 8#32 0#32))
                (Scalar.extui (Scalar.cmpi CmpIPredicate.slt 8#32 0#32))))
            (IntOp.cmpi CmpIPredicate.ne (IntOp.remsi ArithUnit.vector (BitVec.ofNat 32 q.val) 8#32) 0#32))
          (IntOp.subi (IntOp.divsi ArithUnit.vector (BitVec.ofNat 32 q.val) 8#32) 1#32)
          (IntOp.divsi ArithUnit.vector (BitVec.ofNat 32 q.val) 8#32)) = BitVec.ofNat 32 (q.val / 8)) ⟨q, h⟩

/-- A choice by the step of a row. -/
theorem choose_sge (i k : ℕ) (hi : i < 8) (hk : k < 8) (a b : EReal) :
    Scalar.select (IntOp.cmpi CmpIPredicate.sge (BitVec.ofNat 32 i) (BitVec.ofNat 32 k)) a b = if k ≤ i then a else b := by
  have h := (by decide +kernel : ∀ i k : Fin 8, IntOp.cmpi CmpIPredicate.sge (BitVec.ofNat 32 i.val) (BitVec.ofNat 32 k.val) = if k.val ≤ i.val then 1#1 else 0#1) ⟨i, hi⟩ ⟨k, hk⟩
  rw [h]
  by_cases hc : k ≤ i
  · rw [if_pos hc, if_pos hc]; rfl
  · rw [if_neg hc, if_neg hc]; rfl

/-- A choice by the step of a row. -/
theorem choose_slt (i k : ℕ) (hi : i < 8) (hk : k < 8) (a b : EReal) :
    Scalar.select (IntOp.cmpi CmpIPredicate.slt (BitVec.ofNat 32 i) (BitVec.ofNat 32 k)) a b = if i < k then a else b := by
  have h := (by decide +kernel : ∀ i k : Fin 8, IntOp.cmpi CmpIPredicate.slt (BitVec.ofNat 32 i.val) (BitVec.ofNat 32 k.val) = if i.val < k.val then 1#1 else 0#1) ⟨i, hi⟩ ⟨k, hk⟩
  rw [h]
  by_cases hc : i < k
  · rw [if_pos hc, if_pos hc]; rfl
  · rw [if_neg hc, if_neg hc]; rfl

/-- The divisor, when it isn't zero. -/
theorem eight : Scalar.select (Scalar.cmpi CmpIPredicate.eq 8#32 0#32) 1#32 8#32 = 8#32 := by decide +kernel

/-- The row with the number `n`, at a column. -/
def colOf (g : FVec Ideal S128x128 .f32) (l : Fin 128) (n : ℕ) : EReal := if h : n < 128 then g (ix2 ⟨n, h⟩ l) else 0

/-- A column read at a row. -/
theorem colOf_eq (g : FVec Ideal S128x128 .f32) (l : Fin 128) (n : ℕ) (h : n < 128) : g (ix2 ⟨n, h⟩ l) = colOf g l n := by
  unfold colOf
  rw [dif_pos h]

/-- A column's word at a step of a sequence. -/
def at8 (g : FVec Ideal S128x128 .f32) (l : Fin 128) (b i : ℕ) : EReal := colOf g l (8 * b + i)

/-- One doubling step of the running sums. -/
def up (s : BitVec 32) (x : FVec Ideal S128x128 .f32) : FVec Ideal S128x128 .f32 :=
  addf x (select (cmpi .sge (select (andi (xori k0_pay879 k0_pay880) k0_pay878) (addi k0_pay877 (broadcast S128x128 8#32)) k0_pay877) (broadcast S128x128 s))
    (dynamicRotate 0 s none x rotates_S128x128_d0) (broadcast S128x128 (Scalar.ofBits (F := Ideal) .f32 0x00000000#32)))

/-- One doubling step of the sums from the end. -/
def dn (s : BitVec 32) (k : BitVec 32) (x : FVec Ideal S128x128 .f32) : FVec Ideal S128x128 .f32 :=
  addf x (select (cmpi .slt k0_pay882 (broadcast S128x128 k))
    (dynamicRotate 0 s none x rotates_S128x128_d0) (broadcast S128x128 (Scalar.ofBits (F := Ideal) .f32 0x00000000#32)))

/-- What the step adds. -/
theorem up_1 (x : FVec Ideal S128x128 .f32) (l : Fin 128) (b i : ℕ) (hb : b < 16) (hi : i < 8) :
    at8 (up 1#32 x) l b i = at8 x l b i + if 1 ≤ i then at8 x l b (i - 1) else 0 := by
  unfold at8
  rw [← colOf_eq _ l (8 * b + i) (by omega)]
  pointwise [up, k0_pay877, k0_pay878, k0_pay879, k0_pay880]
  simp only [eight]
  rw [step_of _ (by omega), show (8 * b + i) % 8 = i by omega, choose_sge i 1 hi (by decide)]
  simp only [colOf_eq x l]
  by_cases h : 1 ≤ i
  · rw [if_pos h, if_pos h]
    exact congrArg (fun n => colOf x l (8 * b + i) + colOf x l n) (by omega)
  · rw [if_neg h, if_neg h]

/-- What the step adds. -/
theorem up_2 (x : FVec Ideal S128x128 .f32) (l : Fin 128) (b i : ℕ) (hb : b < 16) (hi : i < 8) :
    at8 (up 2#32 x) l b i = at8 x l b i + if 2 ≤ i then at8 x l b (i - 2) else 0 := by
  unfold at8
  rw [← colOf_eq _ l (8 * b + i) (by omega)]
  pointwise [up, k0_pay877, k0_pay878, k0_pay879, k0_pay880]
  simp only [eight]
  rw [step_of _ (by omega), show (8 * b + i) % 8 = i by omega, choose_sge i 2 hi (by decide)]
  simp only [colOf_eq x l]
  by_cases h : 2 ≤ i
  · rw [if_pos h, if_pos h]
    exact congrArg (fun n => colOf x l (8 * b + i) + colOf x l n) (by omega)
  · rw [if_neg h, if_neg h]

/-- What the step adds. -/
theorem up_4 (x : FVec Ideal S128x128 .f32) (l : Fin 128) (b i : ℕ) (hb : b < 16) (hi : i < 8) :
    at8 (up 4#32 x) l b i = at8 x l b i + if 4 ≤ i then at8 x l b (i - 4) else 0 := by
  unfold at8
  rw [← colOf_eq _ l (8 * b + i) (by omega)]
  pointwise [up, k0_pay877, k0_pay878, k0_pay879, k0_pay880]
  simp only [eight]
  rw [step_of _ (by omega), show (8 * b + i) % 8 = i by omega, choose_sge i 4 hi (by decide)]
  simp only [colOf_eq x l]
  by_cases h : 4 ≤ i
  · rw [if_pos h, if_pos h]
    exact congrArg (fun n => colOf x l (8 * b + i) + colOf x l n) (by omega)
  · rw [if_neg h, if_neg h]

/-- What the step adds. -/
theorem dn_1 (x : FVec Ideal S128x128 .f32) (l : Fin 128) (b i : ℕ) (hb : b < 16) (hi : i < 8) :
    at8 (dn 127#32 7#32 x) l b i = at8 x l b i + if i < 7 then at8 x l b (i + 1) else 0 := by
  unfold at8
  rw [← colOf_eq _ l (8 * b + i) (by omega)]
  pointwise [dn, k0_pay882]
  simp only [eight]
  rw [step_of _ (by omega), show (8 * b + i) % 8 = i by omega, choose_slt i 7 hi (by decide)]
  simp only [colOf_eq x l]
  by_cases h : i < 7
  · rw [if_pos h, if_pos h]
    exact congrArg (fun n => colOf x l (8 * b + i) + colOf x l n) (by omega)
  · rw [if_neg h, if_neg h]

/-- What the step adds. -/
theorem dn_2 (x : FVec Ideal S128x128 .f32) (l : Fin 128) (b i : ℕ) (hb : b < 16) (hi : i < 8) :
    at8 (dn 126#32 6#32 x) l b i = at8 x l b i + if i < 6 then at8 x l b (i + 2) else 0 := by
  unfold at8
  rw [← colOf_eq _ l (8 * b + i) (by omega)]
  pointwise [dn, k0_pay882]
  simp only [eight]
  rw [step_of _ (by omega), show (8 * b + i) % 8 = i by omega, choose_slt i 6 hi (by decide)]
  simp only [colOf_eq x l]
  by_cases h : i < 6
  · rw [if_pos h, if_pos h]
    exact congrArg (fun n => colOf x l (8 * b + i) + colOf x l n) (by omega)
  · rw [if_neg h, if_neg h]

/-- What the step adds. -/
theorem dn_4 (x : FVec Ideal S128x128 .f32) (l : Fin 128) (b i : ℕ) (hb : b < 16) (hi : i < 8) :
    at8 (dn 124#32 4#32 x) l b i = at8 x l b i + if i < 4 then at8 x l b (i + 4) else 0 := by
  unfold at8
  rw [← colOf_eq _ l (8 * b + i) (by omega)]
  pointwise [dn, k0_pay882]
  simp only [eight]
  rw [step_of _ (by omega), show (8 * b + i) % 8 = i by omega, choose_slt i 4 hi (by decide)]
  simp only [colOf_eq x l]
  by_cases h : i < 4
  · rw [if_pos h, if_pos h]
    exact congrArg (fun n => colOf x l (8 * b + i) + colOf x l n) (by omega)
  · rw [if_neg h, if_neg h]

/-- The running sums of the gates inside a sequence. -/
theorem running (g : FVec Ideal S128x128 .f32) (l : Fin 128) (b i : ℕ) (hb : b < 16) (hi : i < 8) :
    at8 (k0_pay881 g (8#32) k0_pay877 k0_pay878 k0_pay879 k0_pay880) l b i = ∑ j ∈ Finset.range (i + 1), at8 g l b j := by
  have e : k0_pay881 g (8#32) k0_pay877 k0_pay878 k0_pay879 k0_pay880 = up 4#32 (up 2#32 (up 1#32 g)) := rfl
  rw [e]
  interval_cases i
  all_goals
    rw [up_4 _ l b _ hb (by decide)]
    first | rw [if_pos (by decide)] | rw [if_neg (by decide)]
    simp (discharger := omega) only [up_2, Nat.reduceSub, Nat.reduceLeDiff, if_true, if_false, ↓reduceIte, add_zero]
    simp (discharger := omega) only [up_1, Nat.reduceSub, Nat.reduceLeDiff, if_true, if_false, ↓reduceIte, add_zero]
    simp only [Finset.sum_range_succ, Finset.sum_range_zero, zero_add, add_zero]
    try abel

/-- What the gates from a row on sum to. -/
theorem from_row (g : FVec Ideal S128x128 .f32) (l : Fin 128) (b i : ℕ) (hb : b < 16) (hi : i < 8) :
    at8 (dn 124#32 4#32 (dn 126#32 6#32 (dn 127#32 7#32 g))) l b i = ∑ j ∈ Finset.range (8 - i), at8 g l b (i + j) := by
  interval_cases i
  all_goals
    rw [dn_4 _ l b _ hb (by decide)]
    first | rw [if_pos (by decide)] | rw [if_neg (by decide)]
    simp (discharger := omega) only [dn_2, Nat.reduceAdd, Nat.reduceLT, Nat.reduceLeDiff, if_true, if_false, ↓reduceIte, add_zero, zero_add]
    simp (discharger := omega) only [dn_1, Nat.reduceAdd, Nat.reduceLT, Nat.reduceLeDiff, if_true, if_false, ↓reduceIte, add_zero, zero_add]
    simp only [Nat.reduceSub, Finset.sum_range_succ, Finset.sum_range_zero, Nat.reduceAdd, zero_add, add_zero]
    try abel

/-- What the gates after a row's own sum to, row by row along the columns. -/
theorem after_row (g : FVec Ideal S128x128 .f32) (l : Fin 128) (b i : ℕ) (hb : b < 16) (hi : i < 8) :
    k0_pay893 (k0_pay885 g k0_pay882 k0_pay883 (k0_pay884 g)) (ix2 l ⟨8 * b + i, by omega⟩)
      = (∑ j ∈ Finset.range (8 - i), at8 g l b (i + j)) - at8 g l b i := by
  have e : k0_pay893 (k0_pay885 g k0_pay882 k0_pay883 (k0_pay884 g)) = transpose S128x128 [1, 0] (subf (dn 124#32 4#32 (dn 126#32 6#32 (dn 127#32 7#32 g))) g) transposes_S128x128_p1_0_S128x128 := rfl
  rw [e, ← from_row g l b i hb hi]
  generalize dn 124#32 4#32 (dn 126#32 6#32 (dn 127#32 7#32 g)) = z
  pointwise
  rw [colOf_eq z l, colOf_eq g l]
  rfl

/-- Two rows of one sequence, the first not before the second. -/
theorem causal_mask (r l : Fin 128) :
    k0_pay890 (iota Kind.tc S128x128 32 [0] iota_S128x128_d0_w32) (iota Kind.tc S128x128 32 [1] iota_S128x128_d1_w32) k0_pay887 (8#32) k0_pay888 (ix2 r l)
      = if r.val / 8 = l.val / 8 ∧ l.val ≤ r.val then 1#1 else 0#1 := by
  pointwise [k0_pay890, k0_pay889, k0_pay887, k0_pay888]
  simp (discharger := omega) only [seq_of]
  exact (by decide +kernel : ∀ r l : Fin 128, IntOp.andi (IntOp.cmpi CmpIPredicate.eq (BitVec.ofNat 32 (r.val / 8)) (BitVec.ofNat 32 (l.val / 8))) (IntOp.cmpi CmpIPredicate.sge (BitVec.ofNat 32 r.val) (BitVec.ofNat 32 l.val)) = if r.val / 8 = l.val / 8 ∧ l.val ≤ r.val then 1#1 else 0#1) r l

/-- Two rows of one sequence, the first after the second. -/
theorem strict_mask (r l : Fin 128) :
    k0_pay891 (iota Kind.tc S128x128 32 [0] iota_S128x128_d0_w32) (iota Kind.tc S128x128 32 [1] iota_S128x128_d1_w32) k0_pay887 (8#32) k0_pay888 (ix2 r l)
      = if r.val / 8 = l.val / 8 ∧ l.val < r.val then 1#1 else 0#1 := by
  pointwise [k0_pay891, k0_pay889, k0_pay887, k0_pay888]
  simp (discharger := omega) only [seq_of]
  exact (by decide +kernel : ∀ r l : Fin 128, IntOp.andi (IntOp.cmpi CmpIPredicate.eq (BitVec.ofNat 32 (r.val / 8)) (BitVec.ofNat 32 (l.val / 8))) (IntOp.cmpi CmpIPredicate.sgt (BitVec.ofNat 32 r.val) (BitVec.ofNat 32 l.val)) = if r.val / 8 = l.val / 8 ∧ l.val < r.val then 1#1 else 0#1) r l

/-- The identity. -/
theorem eye_mask (r l : Fin 128) :
    k0_pay892 (F := Ideal) (iota Kind.tc S128x128 32 [0] iota_S128x128_d0_w32) (iota Kind.tc S128x128 32 [1] iota_S128x128_d1_w32) (ix2 r l)
      = if r = l then 1 else 0 := by
  pointwise [k0_pay892]
  have h := (by decide +kernel : ∀ r l : Fin 128, BitVec.setWidth 32 (IntOp.cmpi CmpIPredicate.eq (BitVec.ofNat 32 r.val) (BitVec.ofNat 32 l.val)) = if r = l then 1#32 else 0#32) r l
  rw [h]
  by_cases hc : r = l
  · rw [if_pos hc, if_pos hc]
    exact (congrArg (fun z : ℝ => (z : EReal)) (show ((BitVec.toInt 1#32 : ℤ) : ℝ) = 1 by norm_num)).trans EReal.coe_one
  · rw [if_neg hc, if_neg hc]
    exact (congrArg (fun z : ℝ => (z : EReal)) (show ((BitVec.toInt 0#32 : ℤ) : ℝ) = 0 by norm_num)).trans EReal.coe_zero

end Cert.KernelIdeal.Val

end
-- ==== Proof.DeltaDefs.lean ====
module

public import proofs.«01_k».proof.Proof.MixGates

@[expose] public section

set_option maxRecDepth 16384

noncomputable section

namespace Cert.KernelIdeal.Val

open Idealize.ShloMosaic

/-- The product of two square matrices of 128 rows. -/
def mm (A B : Fin 128 → Fin 128 → EReal) (r l : Fin 128) : EReal := ∑ x, A r x * B x l

/-- `E - A + (E - A) A²`. -/
def half (E A : Fin 128 → Fin 128 → EReal) (r l : Fin 128) : EReal := (E r l - A r l) + mm (fun r l => E r l - A r l) (mm A A) r l

/-- The inverse of `E + A` as the kernel multiplies it out, `(E - A) (E + A²) (E + A⁴)`. -/
def solver (E A : Fin 128 → Fin 128 → EReal) (r l : Fin 128) : EReal := half E A r l + mm (half E A) (mm (mm A A) (mm A A)) r l

/-- The matrix of one head: a row's gated product with an earlier row of its sequence. -/
def gram (k : Fin 128 → Fin 128 → EReal) (be g : Fin 128 → EReal) (r l : Fin 128) : EReal :=
  if r.val / 8 = l.val / 8 ∧ l.val < r.val then (∑ x, k r x * be r * k l x) * Ideal.exp (if r.val / 8 = l.val / 8 ∧ l.val ≤ r.val then g r - g l else ⊥) else 0

/-- Row `r` of a block of sixteen sequences' keys of one head. -/
def headRow (y : Cert.KernelIdeal.S16x8x512.Idx → EReal) (h : Fin 4) (r d : Fin 128) : EReal :=
  y (ix3 ⟨r.val / 8, by omega⟩ ⟨r.val % 8, by omega⟩ ⟨128 * h.val + d.val, by omega⟩)

end Cert.KernelIdeal.Val

end
-- ==== Proof.DeltaMath.lean ====
module

public import proofs.«01_k».proof.Proof.DeltaDefs
public import Mathlib.Data.Matrix.Mul

@[expose] public section

noncomputable section

namespace Cert.KernelIdeal.Val

open Idealize.ShloMosaic

/-- A value that is a real number. -/
def IsFin (x : EReal) : Prop := ∃ r : ℝ, x = (r : EReal)

/-- A sum of real numbers, read in the extended reals, is their real sum. -/
theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- Real numbers are closed under the operations below. -/
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.sub {x y : EReal} (hx : IsFin x) (hy : IsFin y) : IsFin (x - y) := by
  obtain ⟨a, rfl⟩ := hx; obtain ⟨b, rfl⟩ := hy; exact ⟨a - b, (EReal.coe_sub a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.exp {x : EReal} (hx : IsFin x) : IsFin (Ideal.exp x) := by
  obtain ⟨a, rfl⟩ := hx; exact ⟨_, rfl⟩
theorem IsFin.zero : IsFin 0 := ⟨0, rfl⟩
theorem IsFin.max {x y : EReal} (hx : IsFin x) (hy : IsFin y) : IsFin (max x y) := by
  rcases max_choice x y with h | h <;> rw [h] <;> assumption
theorem IsFin.sum {n : ℕ} {f : Fin n → EReal} (hf : ∀ i, IsFin (f i)) : IsFin (∑ i, f i) := by
  choose g hg using hf
  exact ⟨∑ i, g i, by rw [Finset.sum_congr rfl fun i _ => hg i, coe_sum]⟩
theorem IsFin.ite {p : Prop} [Decidable p] {x y : EReal} (hx : IsFin x) (hy : IsFin y) : IsFin (if p then x else y) := by
  split_ifs <;> assumption

/-- Matrices of real numbers multiply as real matrices do. -/
theorem mm_coe (A B : Matrix (Fin 128) (Fin 128) ℝ) (r l : Fin 128) :
    mm (fun r l => ((A r l : ℝ) : EReal)) (fun r l => ((B r l : ℝ) : EReal)) r l = (((A * B) r l : ℝ) : EReal) := by
  unfold mm
  rw [Matrix.mul_apply, ← coe_sum]
  exact Finset.sum_congr rfl fun x _ => (EReal.coe_mul _ _).symm

/-- The solver of a real matrix. -/
theorem solver_coe (E A : Matrix (Fin 128) (Fin 128) ℝ) (r l : Fin 128) :
    solver (fun r l => ((E r l : ℝ) : EReal)) (fun r l => ((A r l : ℝ) : EReal)) r l
      = ((((E - A) + (E - A) * (A * A) + ((E - A) + (E - A) * (A * A)) * (A * A * (A * A))) r l : ℝ) : EReal) := by
  have hx : mm (fun r l => ((A r l : ℝ) : EReal)) (fun r l => ((A r l : ℝ) : EReal)) = fun r l => (((A * A) r l : ℝ) : EReal) :=
    funext fun r => funext fun l => mm_coe A A r l
  have hd : (fun r l => ((E r l : ℝ) : EReal) - ((A r l : ℝ) : EReal)) = fun r l => (((E - A) r l : ℝ) : EReal) :=
    funext fun r => funext fun l => (EReal.coe_sub _ _).symm
  have hh : half (fun r l => ((E r l : ℝ) : EReal)) (fun r l => ((A r l : ℝ) : EReal))
      = fun r l => ((((E - A) + (E - A) * (A * A)) r l : ℝ) : EReal) := by
    funext r l
    unfold half
    rw [hx, hd, mm_coe, ← EReal.coe_sub, ← EReal.coe_add]
    rfl
  unfold solver
  rw [hh, hx, funext fun r => funext fun l => mm_coe (A * A) (A * A) r l, mm_coe, ← EReal.coe_add]
  rfl

/-- A power of a matrix that only reads earlier rows of the same eight reads rows that much earlier. -/
theorem pow_apply (A : Matrix (Fin 128) (Fin 128) ℝ) (hA : ∀ r l : Fin 128, ¬(r.val / 8 = l.val / 8 ∧ l.val < r.val) → A r l = 0) (n : ℕ) (r l : Fin 128)
    (h : ¬(r.val / 8 = l.val / 8 ∧ l.val + n ≤ r.val)) : (A ^ n) r l = 0 := by
  induction n generalizing r l with
  | zero =>
    rw [pow_zero, Matrix.one_apply_ne]
    intro he
    subst he
    exact h ⟨rfl, by omega⟩
  | succ n ih =>
    rw [pow_succ, Matrix.mul_apply]
    refine Finset.sum_eq_zero fun x _ => ?_
    by_cases h1 : r.val / 8 = x.val / 8 ∧ x.val + n ≤ r.val
    · rw [hA x l (by omega), mul_zero]
    · rw [ih r x h1, zero_mul]

/-- The solver inverts. -/
theorem solver_inv (A : Matrix (Fin 128) (Fin 128) ℝ) (hA : ∀ r l : Fin 128, ¬(r.val / 8 = l.val / 8 ∧ l.val < r.val) → A r l = 0) :
    (1 + A) * ((1 - A) + (1 - A) * (A * A) + ((1 - A) + (1 - A) * (A * A)) * (A * A * (A * A))) = 1 := by
  have h8 : A ^ 8 = 0 := by
    ext r l
    exact pow_apply A hA 8 r l (by omega)
  have : (1 + A) * ((1 - A) + (1 - A) * (A * A) + ((1 - A) + (1 - A) * (A * A)) * (A * A * (A * A))) = 1 - A ^ 8 := by noncomm_ring
  rw [this, h8, sub_zero]

/-- A sum over the rows that vanishes off one sequence is the sum over its eight rows. -/
theorem sum_block (f : Fin 128 → EReal) (b : Fin 16) (hf : ∀ x : Fin 128, x.val / 8 ≠ b.val → f x = 0) :
    ∑ x, f x = ∑ i : Fin 8, f ⟨8 * b.val + i.val, by omega⟩ := by
  refine (Finset.sum_subset (s₁ := Finset.univ.image fun i : Fin 8 => (⟨8 * b.val + i.val, by omega⟩ : Fin 128)) (Finset.subset_univ _) fun x _ hx => ?_).symm.trans ?_
  · refine hf x fun hb => hx (Finset.mem_image.2 ⟨⟨x.val % 8, by omega⟩, Finset.mem_univ _, Fin.ext ?_⟩)
    show 8 * b.val + x.val % 8 = x.val
    omega
  · refine Finset.sum_image fun i _ j _ hij => Fin.ext ?_
    have := congrArg Fin.val hij
    simp only at this
    omega

/-- What the solver makes of a real column satisfies the triangular system, row by row. -/
theorem solver_rows (A : Fin 128 → Fin 128 → EReal) (f : Fin 128 → EReal) (hA : ∀ r l, IsFin (A r l)) (hf : ∀ r, IsFin (f r))
    (hz : ∀ r l : Fin 128, ¬(r.val / 8 = l.val / 8 ∧ l.val < r.val) → A r l = 0) (b : Fin 16) (i : Fin 8) :
    let U := fun r => ∑ x, solver (fun r l => if r = l then 1 else 0) A r x * f x
    U ⟨8 * b.val + i.val, by omega⟩ = f ⟨8 * b.val + i.val, by omega⟩
      - ∑ j : Fin 8, A ⟨8 * b.val + i.val, by omega⟩ ⟨8 * b.val + j.val, by omega⟩ * U ⟨8 * b.val + j.val, by omega⟩ := by
  obtain ⟨α, hα⟩ : ∃ α : Matrix (Fin 128) (Fin 128) ℝ, ∀ r l, A r l = ((α r l : ℝ) : EReal) := by
    choose α hα using hA
    exact ⟨α, hα⟩
  choose φ hφ using hf
  intro U
  have hAe : A = fun r l => ((α r l : ℝ) : EReal) := funext fun r => funext fun l => hα r l
  have hz' : ∀ r l : Fin 128, ¬(r.val / 8 = l.val / 8 ∧ l.val < r.val) → α r l = 0 := fun r l h => by
    have := (hα r l).symm.trans (hz r l h)
    exact EReal.coe_eq_zero.1 this
  have he : (fun r l : Fin 128 => (if r = l then (1 : EReal) else 0)) = fun r l => (((1 : Matrix (Fin 128) (Fin 128) ℝ) r l : ℝ) : EReal) := by
    funext r l
    rw [Matrix.one_apply]
    split_ifs <;> rfl
  obtain ⟨T, hT, hinv⟩ : ∃ T : Matrix (Fin 128) (Fin 128) ℝ, (∀ r l, solver (fun r l => if r = l then 1 else 0) A r l = ((T r l : ℝ) : EReal)) ∧ (1 + α) * T = 1 :=
    ⟨_, fun r l => by rw [he, hAe]; exact solver_coe 1 α r l, solver_inv α hz'⟩
  have hU : ∀ r, U r = ((T.mulVec φ r : ℝ) : EReal) := fun r => by
    show ∑ x, _ = _
    rw [Matrix.mulVec, dotProduct, ← coe_sum]
    exact Finset.sum_congr rfl fun x _ => by rw [hT, hφ, ← EReal.coe_mul]
  have hsys : ∀ r, T.mulVec φ r = φ r - ∑ x, α r x * T.mulVec φ x := fun r => by
    have h := congrFun (congrArg (fun M : Matrix (Fin 128) (Fin 128) ℝ => M.mulVec φ) hinv) r
    simp only [← Matrix.mulVec_mulVec, Matrix.add_mulVec, Matrix.one_mulVec, Pi.add_apply] at h
    rw [← h]
    show _ = _ + ∑ x, α r x * T.mulVec φ x - _
    ring
  rw [← sum_block (fun x => A ⟨8 * b.val + i.val, by omega⟩ x * U x) b (fun x hx => by
    show A _ x * _ = 0
    rw [hz _ x (by simp only; omega), zero_mul])]
  rw [hU, hsys, EReal.coe_sub, ← coe_sum, hφ]
  refine congrArg _ (Finset.sum_congr rfl fun x _ => ?_)
  show _ = A _ x * U x
  rw [hU, hα, ← EReal.coe_mul]

end Cert.KernelIdeal.Val

end
-- ==== Proof.MixPre.lean ====
module

public import proofs.«01_k».proof.Defs
public import proofs.«01_k».proof.Proof.DeltaMath
public import Idealize.ShloMosaic.Lib.ReduceAll
public import Idealize.ShloMosaic.Lib.Affine

@[expose] public section

set_option maxRecDepth 16384

noncomputable section

namespace Cert.KernelIdeal.Val

open Idealize.ShloMosaic

/-- The shape relations the precondition states. -/
instance finiteFacts : Cert.Pre_finite.Facts where
  bcast_S_S17664x1536 := by decide
  reducesTo_S17664x1536_S_d0_1 := by decide
  h_S_ := by decide
  bcast_S_S17664x128 := by decide
  reducesTo_S17664x128_S_d0_1 := by decide
  bcast_S_S1x128x3x1536 := by decide
  reducesTo_S1x128x3x1536_S_d0_1_2_3 := by decide
  bcast_S_S1x4x1536 := by decide
  reducesTo_S1x4x1536_S_d0_1_2 := by decide
  bcast_S_S1x4 := by decide
  reducesTo_S1x4_S_d0_1 := by decide

/-- The word the sizes are compared with. -/
theorem word_top : Ideal.ofBits FTy.f32 0x7F800000#32 = ⊤ := by
  simp [Ideal.ofBits, Ideal.ieee]

/-- A number whose size is less than infinity is real. -/
theorem fin_of_cmp (x : EReal) (h : Ideal.cmp .olt (max x (-x)) ⊤ = 1#1) : IsFin x := by
  have h' : max x (-x) < ⊤ := by
    by_contra hn
    have h0 : Ideal.cmp .olt (max x (-x)) ⊤ = 0#1 := by
      show BitVec.ofBool (decide (max x (-x) < ⊤)) = 0#1
      rw [decide_eq_false hn]
      rfl
    rw [h0] at h
    exact absurd h (by decide)
  induction x with
  | bot => simp at h'
  | top => simp at h'
  | coe r => exact ⟨r, rfl⟩

/-- An array all of whose sizes are less than infinity holds real numbers. -/
theorem fin_of_all {s t : Shape} [Subsingleton t.Idx] {axes : List (Fin s.rank)} {dims : Fin t.rank → Fin s.rank} (x : s.Idx → EReal) (hb : t.BroadcastsInDim s dims) (h : s.ReducesTo axes t) (hu : 0 < t.numel) (j : t.Idx)
    (e : Host.reduce IntOp.andi (cmpf .olt (Host.absf (F := Ideal) (φ := .f32) x) (broadcastInDim s dims hb (constant (F := Ideal) t .f32 0x7F800000#32))) (constantI t 1 1#1) h hu j = 1#1) (i : s.Idx) : IsFin (x i) := by
  have e1 := Host.reduce_andi_all _ _ _ _ j e i
  refine fin_of_cmp (x i) ?_
  rw [← word_top]
  exact e1

/-- What the precondition says. -/
theorem fin_of_pre [Cert.Pre_finite.Facts] (x0 : Vec Ideal Cert.Pre_finite.S17664x1024 .f32) (x1 : Vec Ideal Cert.Pre_finite.S17664x1536 .f32) (x2 x3 : Vec Ideal Cert.Pre_finite.S17664x512 .f32) (x4 : Vec Ideal Cert.Pre_finite.S17664x128 .f32)
    (x5 : Vec Ideal Cert.Pre_finite.S1x128x4x128x128 .f32) (x6 : Vec Ideal Cert.Pre_finite.S1x128x3x1536 .f32) (x7 : Vec Ideal Cert.Pre_finite.S1x128x30x512 .f32) (x8 : Vec Ideal Cert.Pre_finite.S1x4x1536 .f32)
    (x9 x10 : Vec Ideal Cert.Pre_finite.S1x4 .f32) (x11) (x12) (x13) (x14) (x15)
    (h : Cert.Pre_finite.fn (F := Ideal) x0 x1 x2 x3 x4 x5 x6 x7 x8 x9 x10 x11 x12 x13 x14 x15 = fun _ => 1#1) :
    (∀ i, IsFin (x1 i)) ∧ (∀ i, IsFin (x4 i)) ∧ (∀ i, IsFin (x6 i)) ∧ (∀ i, IsFin (x8 i)) ∧ (∀ i, IsFin (x9 i)) ∧ (∀ i, IsFin (x10 i)) := by
  have : Subsingleton Cert.Pre_finite.S_.Idx := ⟨fun a b => funext fun q => q.elim0⟩
  have e := congrFun h ix0
  unfold Cert.Pre_finite.fn Cert.Pre_finite.fn_part1 at e
  dsimp only at e
  obtain ⟨e, e10⟩ := IntOp.andi_eq_one.1 e
  obtain ⟨e, e9⟩ := IntOp.andi_eq_one.1 e
  obtain ⟨e, e8⟩ := IntOp.andi_eq_one.1 e
  obtain ⟨e, e6⟩ := IntOp.andi_eq_one.1 e
  obtain ⟨e1, e4⟩ := IntOp.andi_eq_one.1 e
  exact ⟨fin_of_all _ _ _ _ _ e1, fin_of_all _ _ _ _ _ e4, fin_of_all _ _ _ _ _ e6, fin_of_all _ _ _ _ _ e8, fin_of_all _ _ _ _ _ e9, fin_of_all _ _ _ _ _ e10⟩

end Cert.KernelIdeal.Val

end
-- ==== Proof.MixArrays.lean ====
module

public import proofs.«01_k».proof.Proof.MixConv

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The new window of the short convolution: the last three of the eight new rows of each sequence, step by step. -/
def newSq (x1 : Vec Ideal S17664x1536 .f32) : Vec Ideal S3x128x1536 .f32 := fun y =>
  x1 (ix2 ⟨16384 + (y 1).val * 8 + ((y 0).val + 5), by have h0 : (y 0).val < 3 := (y 0).isLt; have h1 : (y 1).val < 128 := (y 1).isLt; omega⟩ (y 2))

/-- The new window of the wide convolution: the old window moved on by eight steps, then the eight new rows of each sequence. -/
def newSc (x3 : Vec Ideal S17664x512 .f32) (x7 : Vec Ideal S1x128x30x512 .f32) : Vec Ideal S30x128x512 .f32 := fun y =>
  if h : (y 0).val < 22 then x7 (ix4 0 (y 1) ⟨(y 0).val + 8, by omega⟩ (y 2))
  else x3 (ix2 ⟨16384 + (y 1).val * 8 + ((y 0).val - 22), by have h0 : (y 0).val < 30 := (y 0).isLt; have h1 : (y 1).val < 128 := (y 1).isLt; omega⟩ (y 2))

/-- Kept rows of the window. -/
theorem newSc_old (x3 : Vec Ideal S17664x512 .f32) (x7 : Vec Ideal S1x128x30x512 .f32) (r : Fin 30) (b : Fin 128) (k : Fin 512) (h : r.val < 22) :
    newSc x3 x7 (ix3 r b k) = x7 (ix4 0 b ⟨r.val + 8, by omega⟩ k) := dif_pos h

/-- New rows of the window. -/
theorem newSc_new (x3 : Vec Ideal S17664x512 .f32) (x7 : Vec Ideal S1x128x30x512 .f32) (r : Fin 30) (b : Fin 128) (k : Fin 512) (h : ¬r.val < 22) :
    newSc x3 x7 (ix3 r b k) = x3 (ix2 ⟨16384 + b.val * 8 + (r.val - 22), by omega⟩ k) := dif_neg h

/-- A point's kept rows. -/
theorem scG_old (c : Dev nD) (t : Fin cfg0.N) (r : Fin 30) (b : Fin 16) (k : Fin 512) (h : r.val < 22) :
    scG m c t (ix3 r b k) = iblk m c 7 t (ix3 ⟨r.val + 8, by omega⟩ b k) := dif_pos h

/-- A point's new rows. -/
theorem scG_new (c : Dev nD) (t : Fin cfg0.N) (r : Fin 30) (b : Fin 16) (k : Fin 512) (h : ¬r.val < 22) :
    scG m c t (ix3 r b k) = iblk m c 3 t (ix3 b ⟨r.val - 22, by omega⟩ k) := dif_neg h

/-- Result 3 ends as the new window of the short convolution. -/
theorem array18 (c : Dev nD) : (dats m 0 c).arrAt 18 cfg0.N = newSq (m ((c.tc : Thread nD τ).loc main_arg1)) := by
  refine (dats m 0 c).arrAt_eq_of_covers 18 _ (by decide +kernel) fun t hf y => ?_
  have hN : t.val < 8 := lt_of_lt_of_eq t.isLt (show cfg0.N = 8 from N_0)
  have hi := idx18 t
  blk_simp
  rw [after0_18]
  obtain ⟨r, b, k, rfl⟩ : ∃ (r : Fin 3) (b : Fin 16) (k : Fin 1536), y = ix3 r b k := ⟨y 0, y 1, y 2, by funext a; match a with | ⟨0, _⟩ => rfl | ⟨1, _⟩ => rfl | ⟨2, _⟩ => rfl⟩
  have hr := r.isLt
  have hb := b.isLt
  have hlt : 16384 + (t.val * 16 + b.val) * 8 + (r.val + 5) < 17664 := by omega
  have hlt' : t.val * 16 + b.val < 128 := by omega
  have e : (outsAt0 m c t).2.2.1 (ix3 r b k) = newSq (m ((c.tc : Thread nD τ).loc main_arg1)) (ix3 r ⟨t.val * 16 + b.val, hlt'⟩ k) :=
    (sq_piece m c t r b k).trans (qkv_apply m c t b ⟨r.val + 5, by omega⟩ k hlt)
  refine e.trans (congrArg (newSq (m ((c.tc : Thread nD τ).loc main_arg1))) ?_)
  blk_ext [hi]

/-- Result 4 ends as the new window of the wide convolution. -/
theorem array19 (c : Dev nD) : (dats m 0 c).arrAt 19 cfg0.N = newSc (m ((c.tc : Thread nD τ).loc main_arg3)) (m ((c.tc : Thread nD τ).loc main_arg7)) := by
  refine (dats m 0 c).arrAt_eq_of_covers 19 _ (by decide +kernel) fun t hf y => ?_
  have hN : t.val < 8 := lt_of_lt_of_eq t.isLt (show cfg0.N = 8 from N_0)
  have hi := idx19 t
  blk_simp
  rw [after0_19]
  obtain ⟨r, b, k, rfl⟩ : ∃ (r : Fin 30) (b : Fin 16) (k : Fin 512), y = ix3 r b k := ⟨y 0, y 1, y 2, by funext a; match a with | ⟨0, _⟩ => rfl | ⟨1, _⟩ => rfl | ⟨2, _⟩ => rfl⟩
  have hr := r.isLt
  have hb := b.isLt
  have hlt' : t.val * 16 + b.val < 128 := by omega
  have e : (outsAt0 m c t).2.2.2 (ix3 r b k) = newSc (m ((c.tc : Thread nD τ).loc main_arg3)) (m ((c.tc : Thread nD τ).loc main_arg7)) (ix3 r ⟨t.val * 16 + b.val, hlt'⟩ k) := by
    rw [sc_piece]
    by_cases h : r.val < 22
    · exact (scG_old m c t r b k h).trans ((sc0_apply m c t ⟨r.val + 8, by omega⟩ b k hlt').trans (newSc_old _ _ r _ k h).symm)
    · exact (scG_new m c t r b k h).trans ((cin_apply m c t b ⟨r.val - 22, by omega⟩ k (by show 16384 + (t.val * 16 + b.val) * 8 + (r.val - 22) < 17664; omega)).trans (newSc_new _ _ r ⟨t.val * 16 + b.val, hlt'⟩ k h).symm)
  refine e.trans (congrArg (newSc (m ((c.tc : Thread nD τ).loc main_arg3)) (m ((c.tc : Thread nD τ).loc main_arg7))) ?_)
  blk_ext [hi]

end Cert.KernelIdeal.Val

end
-- ==== Proof.MixRefConv.lean ====
module

public import proofs.«01_k».proof.Proof.MixArrays
public import proofs.«01_k».proof.Proof.Gen.ReferenceIdeal.Read

@[expose] public section

set_option maxRecDepth 16384

noncomputable section

namespace Cert.KernelIdeal.Val

open Idealize.ShloMosaic Idealize.ShloMosaic.Tactic
open Cert.ReferenceIdeal.Read

/-- The reference's new window of the short convolution. -/
theorem ref_newSq (x1 : Vec Ideal Cert.KernelIdeal.S17664x1536 .f32) (x6 : Vec Ideal Cert.KernelIdeal.S1x128x3x1536 .f32) (r : Fin 3) (b : Fin 128) (k : Fin 1536) :
    val_main_v168 (F := Ideal) x1 x6 (ix3 r b k) = newSq x1 (ix3 r b k) := by
  have hr := r.isLt
  pointwise [val_main_v168, val_main_v167, val_main_v3, val_main_v2, val_main_v1]
  refine (dif_neg (by omega)).trans (congrArg (fun q => x1 (ix2 q k)) (Fin.ext ?_))
  show 16384 + (b.val * 8 + (8 + r.val - 3)) = 16384 + b.val * 8 + (r.val + 5)
  omega

/-- The reference's new window of the wide convolution. -/
theorem ref_newSc (x3 : Vec Ideal Cert.KernelIdeal.S17664x512 .f32) (x7 : Vec Ideal Cert.KernelIdeal.S1x128x30x512 .f32) (r : Fin 30) (b : Fin 128) (k : Fin 512) :
    val_main_v170 (F := Ideal) x3 x7 (ix3 r b k) = newSc x3 x7 (ix3 r b k) := by
  pointwise [val_main_v170, val_main_v169, val_main_v7, val_main_v4, val_main_v6, val_main_v5]
  by_cases h : r.val < 22
  · rw [newSc_old x3 x7 r b k h]
    refine (dif_pos (by omega)).trans (congrArg (fun q => x7 (ix4 0 b q k)) (Fin.ext ?_))
    show 8 + r.val = r.val + 8
    omega
  · rw [newSc_new x3 x7 r b k h]
    refine (dif_neg (by omega)).trans (congrArg (fun q => x3 (ix2 q k)) (Fin.ext ?_))
    show 16384 + (b.val * 8 + (8 + r.val - 30)) = 16384 + b.val * 8 + (r.val - 22)
    omega

end Cert.KernelIdeal.Val

end
-- ==== Proof.MixState.lean ====
module

public import proofs.«01_k».proof.Proof.MixGates
public import Idealize.ShloMosaic.Lib.Pipeline.ReadBack

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable {c : Dev nD} {a2 : Memref sig .tc .vmem S16x8x1536 .f32} {p2 : a2.IsWhole} {a5 : Memref sig .tc .vmem S16x8x128 .f32} {p5 : a5.IsWhole} {a6 : Memref sig .tc .vmem S1x16x4x128x128 .f32} {p6 : a6.IsWhole} {a7 : Memref sig .tc .vmem S3x16x1536 .f32} {p7 : a7.IsWhole} {a9 : Memref sig .tc .vmem S4x8x1536 .f32} {p9 : a9.IsWhole} {a10 : Memref sig .tc .vmem S1x128 .f32} {p10 : a10.IsWhole} {a11 : Memref sig .tc .vmem S1x128 .f32} {p11 : a11.IsWhole} {a18 : Memref sig .tc .vmem S1x16x4x128x128 .f32} {a21 : Memref sig .tc .vmem S16x8x512 .f32} {a22 : Memref sig .tc .vmem S16x8x512 .f32} {a23 : Memref sig .tc .vmem S16x8x512 .f32} {x1 : Vec Ideal S16x8x1536 .f32} {x4 : Vec Ideal S16x8x128 .f32} {x5 : Vec Ideal S1x16x4x128x128 .f32} {x6 : Vec Ideal S3x16x1536 .f32} {x8 : Vec Ideal S4x8x1536 .f32} {x9 : Vec Ideal S1x128 .f32} {x10 : Vec Ideal S1x128 .f32}

/-- A store of one sequence's head lies at that sequence and head. -/
theorem state_mem {b h : ℕ} (inb : ∀ a, (![0, b, h, 0, 0] : Fin 5 → ℕ) a + S1x1x1x128x128.size a ≤ S1x16x4x128x128.size a) (y : S1x16x4x128x128.Idx)
    (hy : y ∈ (Rect.unit (s := S1x16x4x128x128) ![0, b, h, 0, 0] S1x1x1x128x128.size inb).set) : (y 1).val = b ∧ (y 2).val = h := by
  obtain ⟨x, rfl⟩ := LoadRect.exists_idx_of_mem (Rect.unit (s := S1x16x4x128x128) ![0, b, h, 0, 0] S1x1x1x128x128.size inb).toLoadRect hy
  have h1 : (x 1).val < 1 := (x 1).isLt
  have h2 : (x 2).val < 1 := (x 2).isLt
  exact ⟨by show b + 1 * (x 1).val = b; omega, by show h + 1 * (x 2).val = h; omega⟩

/-- A store of another head leaves a later head as it was. -/
theorem state_skip {b h : ℕ} {inb : ∀ a, (![0, b, h, 0, 0] : Fin 5 → ℕ) a + S1x1x1x128x128.size a ≤ S1x16x4x128x128.size a} {w : _} {L : List _} {y : S1x16x4x128x128.Idx}
    (hy : h * 16 + b < (y 2).val * 16 + (y 1).val) :
    View.canon (Val := Elt Ideal) (s := S1x16x4x128x128) (e := .f32) (⟨Rect.unit (s := S1x16x4x128x128) ![0, b, h, 0, 0] S1x1x1x128x128.size inb, w⟩ :: L) y = View.canon L y :=
  View.canon_cons_of_not_mem _ _ fun hm => by have := state_mem inb y hm; omega

/-- Before any head's store the buffer holds the old states. -/
theorem state_1 (y : S1x16x4x128x128.Idx) : View.canon (sl.H17_1 c a6 p6 x5) y = x5 y := by
  unfold sl.H17_1
  refine (congrFun (View.canon_cons_unit_lit _ _ [] (by decide)) y).trans ?_
  rw [View.readAt_eq_ld, Memref.IsWhole.read_unread]
  unfold k0_pay3; rw [shapeCast_comp]
  refine (congrFun (shapeCast_self _ _) y).trans ?_
  refine congrArg x5 (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
  | ⟨3, _⟩ => show 0 + 1 * (y 3).val = (y 3).val; omega
  | ⟨4, _⟩ => show 0 + 1 * (y 4).val = (y 4).val; omega

/-- After 1 store the later states are still the old ones. -/
theorem state_2 (y : S1x16x4x128x128.Idx) (hy : 1 ≤ (y 2).val * 16 + (y 1).val) : View.canon (sl.H17_2 c a2 p2 a5 p5 a6 p6 a7 p7 a9 p9 a10 p10 a11 p11 a18 a21 a22 a23 x1 x4 x5 x6 x8 x9 x10) y = x5 y := by
  unfold sl.H17_2
  refine (View.canon_cons_of_not_mem _ _ fun hm => ?_).trans ?_
  · have h' := state_mem inb_S1x16x4x128x128_S1x1x1x128x128_0_0_0_0_0 y hm
    omega
  · apply state_1

/-- After 2 stores the later states are still the old ones. -/
theorem state_3 (y : S1x16x4x128x128.Idx) (hy : 2 ≤ (y 2).val * 16 + (y 1).val) : View.canon (sl.H17_3 c a2 p2 a5 p5 a6 p6 a7 p7 a9 p9 a10 p10 a11 p11 a18 a21 a22 a23 x1 x4 x5 x6 x8 x9 x10) y = x5 y := by
  unfold sl.H17_3
  exact (state_skip (by omega)).trans (state_2 y (by omega))

/-- After 3 stores the later states are still the old ones. -/
theorem state_4 (y : S1x16x4x128x128.Idx) (hy : 3 ≤ (y 2).val * 16 + (y 1).val) : View.canon (sl.H17_4 c a2 p2 a5 p5 a6 p6 a7 p7 a9 p9 a10 p10 a11 p11 a18 a21 a22 a23 x1 x4 x5 x6 x8 x9 x10) y = x5 y := by
  unfold sl.H17_4
  exact (state_skip (by omega)).trans (state_3 y (by omega))

/-- After 4 stores the later states are still the old ones. -/
theorem state_5 (y : S1x16x4x128x128.Idx) (hy : 4 ≤ (y 2).val * 16 + (y 1).val) : View.canon (sl.H17_5 c a2 p2 a5 p5 a6 p6 a7 p7 a9 p9 a10 p10 a11 p11 a18 a21 a22 a23 x1 x4 x5 x6 x8 x9 x10) y = x5 y := by
  unfold sl.H17_5
  exact (state_skip (by omega)).trans (state_4 y (by omega))

/-- After 5 stores the later states are still the old ones. -/
theorem state_6 (y : S1x16x4x128x128.Idx) (hy : 5 ≤ (y 2).val * 16 + (y 1).val) : View.canon (sl.H17_6 c a2 p2 a5 p5 a6 p6 a7 p7 a9 p9 a10 p10 a11 p11 a18 a21 a22 a23 x1 x4 x5 x6 x8 x9 x10) y = x5 y := by
  unfold sl.H17_6
  exact (state_skip (by omega)).trans (state_5 y (by omega))

/-- After 6 stores the later states are still the old ones. -/
theorem state_7 (y : S1x16x4x128x128.Idx) (hy : 6 ≤ (y 2).val * 16 + (y 1).val) : View.canon (sl.H17_7 c a2 p2 a5 p5 a6 p6 a7 p7 a9 p9 a10 p10 a11 p11 a18 a21 a22 a23 x1 x4 x5 x6 x8 x9 x10) y = x5 y := by
  unfold sl.H17_7
  exact (state_skip (by omega)).trans (state_6 y (by omega))

/-- After 7 stores the later states are still the old ones. -/
theorem state_8 (y : S1x16x4x128x128.Idx) (hy : 7 ≤ (y 2).val * 16 + (y 1).val) : View.canon (sl.H17_8 c a2 p2 a5 p5 a6 p6 a7 p7 a9 p9 a10 p10 a11 p11 a18 a21 a22 a23 x1 x4 x5 x6 x8 x9 x10) y = x5 y := by
  unfold sl.H17_8
  exact (state_skip (by omega)).trans (state_7 y (by omega))

/-- After 8 stores the later states are still the old ones. -/
theorem state_9 (y : S1x16x4x128x128.Idx) (hy : 8 ≤ (y 2).val * 16 + (y 1).val) : View.canon (sl.H17_9 c a2 p2 a5 p5 a6 p6 a7 p7 a9 p9 a10 p10 a11 p11 a18 a21 a22 a23 x1 x4 x5 x6 x8 x9 x10) y = x5 y := by
  unfold sl.H17_9
  exact (state_skip (by omega)).trans (state_8 y (by omega))

/-- After 9 stores the later states are still the old ones. -/
theorem state_10 (y : S1x16x4x128x128.Idx) (hy : 9 ≤ (y 2).val * 16 + (y 1).val) : View.canon (sl.H17_10 c a2 p2 a5 p5 a6 p6 a7 p7 a9 p9 a10 p10 a11 p11 a18 a21 a22 a23 x1 x4 x5 x6 x8 x9 x10) y = x5 y := by
  unfold sl.H17_10
  exact (state_skip (by omega)).trans (state_9 y (by omega))

/-- After 10 stores the later states are still the old ones. -/
theorem state_11 (y : S1x16x4x128x128.Idx) (hy : 10 ≤ (y 2).val * 16 + (y 1).val) : View.canon (sl.H17_11 c a2 p2 a5 p5 a6 p6 a7 p7 a9 p9 a10 p10 a11 p11 a18 a21 a22 a23 x1 x4 x5 x6 x8 x9 x10) y = x5 y := by
  unfold sl.H17_11
  exact (state_skip (by omega)).trans (state_10 y (by omega))

/-- After 11 stores the later states are still the old ones. -/
theorem state_12 (y : S1x16x4x128x128.Idx) (hy : 11 ≤ (y 2).val * 16 + (y 1).val) : View.canon (sl.H17_12 c a2 p2 a5 p5 a6 p6 a7 p7 a9 p9 a10 p10 a11 p11 a18 a21 a22 a23 x1 x4 x5 x6 x8 x9 x10) y = x5 y := by
  unfold sl.H17_12
  exact (state_skip (by omega)).trans (state_11 y (by omega))

/-- After 12 stores the later states are still the old ones. -/
theorem state_13 (y : S1x16x4x128x128.Idx) (hy : 12 ≤ (y 2).val * 16 + (y 1).val) : View.canon (sl.H17_13 c a2 p2 a5 p5 a6 p6 a7 p7 a9 p9 a10 p10 a11 p11 a18 a21 a22 a23 x1 x4 x5 x6 x8 x9 x10) y = x5 y := by
  unfold sl.H17_13
  exact (state_skip (by omega)).trans (state_12 y (by omega))

/-- After 13 stores the later states are still the old ones. -/
theorem state_14 (y : S1x16x4x128x128.Idx) (hy : 13 ≤ (y 2).val * 16 + (y 1).val) : View.canon (sl.H17_14 c a2 p2 a5 p5 a6 p6 a7 p7 a9 p9 a10 p10 a11 p11 a18 a21 a22 a23 x1 x4 x5 x6 x8 x9 x10) y = x5 y := by
  unfold sl.H17_14
  exact (state_skip (by omega)).trans (state_13 y (by omega))

/-- After 14 stores the later states are still the old ones. -/
theorem state_15 (y : S1x16x4x128x128.Idx) (hy : 14 ≤ (y 2).val * 16 + (y 1).val) : View.canon (sl.H17_15 c a2 p2 a5 p5 a6 p6 a7 p7 a9 p9 a10 p10 a11 p11 a18 a21 a22 a23 x1 x4 x5 x6 x8 x9 x10) y = x5 y := by
  unfold sl.H17_15
  exact (state_skip (by omega)).trans (state_14 y (by omega))

/-- After 15 stores the later states are still the old ones. -/
theorem state_16 (y : S1x16x4x128x128.Idx) (hy : 15 ≤ (y 2).val * 16 + (y 1).val) : View.canon (sl.H17_16 c a2 p2 a5 p5 a6 p6 a7 p7 a9 p9 a10 p10 a11 p11 a18 a21 a22 a23 x1 x4 x5 x6 x8 x9 x10) y = x5 y := by
  unfold sl.H17_16
  exact (state_skip (by omega)).trans (state_15 y (by omega))

/-- After 16 stores the later states are still the old ones. -/
theorem state_17 (y : S1x16x4x128x128.Idx) (hy : 16 ≤ (y 2).val * 16 + (y 1).val) : View.canon (sl.H17_17 c a2 p2 a5 p5 a6 p6 a7 p7 a9 p9 a10 p10 a11 p11 a18 a21 a22 a23 x1 x4 x5 x6 x8 x9 x10) y = x5 y := by
  unfold sl.H17_17
  exact (state_skip (by omega)).trans (state_16 y (by omega))

/-- After 17 stores the later states are still the old ones. -/
theorem state_18 (y : S1x16x4x128x128.Idx) (hy : 17 ≤ (y 2).val * 16 + (y 1).val) : View.canon (sl.H17_18 c a2 p2 a5 p5 a6 p6 a7 p7 a9 p9 a10 p10 a11 p11 a18 a21 a22 a23 x1 x4 x5 x6 x8 x9 x10) y = x5 y := by
  unfold sl.H17_18
  exact (state_skip (by omega)).trans (state_17 y (by omega))

/-- After 18 stores the later states are still the old ones. -/
theorem state_19 (y : S1x16x4x128x128.Idx) (hy : 18 ≤ (y 2).val * 16 + (y 1).val) : View.canon (sl.H17_19 c a2 p2 a5 p5 a6 p6 a7 p7 a9 p9 a10 p10 a11 p11 a18 a21 a22 a23 x1 x4 x5 x6 x8 x9 x10) y = x5 y := by
  unfold sl.H17_19
  exact (state_skip (by omega)).trans (state_18 y (by omega))

/-- After 19 stores the later states are still the old ones. -/
theorem state_20 (y : S1x16x4x128x128.Idx) (hy : 19 ≤ (y 2).val * 16 + (y 1).val) : View.canon (sl.H17_20 c a2 p2 a5 p5 a6 p6 a7 p7 a9 p9 a10 p10 a11 p11 a18 a21 a22 a23 x1 x4 x5 x6 x8 x9 x10) y = x5 y := by
  unfold sl.H17_20
  exact (state_skip (by omega)).trans (state_19 y (by omega))

/-- After 20 stores the later states are still the old ones. -/
theorem state_21 (y : S1x16x4x128x128.Idx) (hy : 20 ≤ (y 2).val * 16 + (y 1).val) : View.canon (sl.H17_21 c a2 p2 a5 p5 a6 p6 a7 p7 a9 p9 a10 p10 a11 p11 a18 a21 a22 a23 x1 x4 x5 x6 x8 x9 x10) y = x5 y := by
  unfold sl.H17_21
  exact (state_skip (by omega)).trans (state_20 y (by omega))

/-- After 21 stores the later states are still the old ones. -/
theorem state_22 (y : S1x16x4x128x128.Idx) (hy : 21 ≤ (y 2).val * 16 + (y 1).val) : View.canon (sl.H17_22 c a2 p2 a5 p5 a6 p6 a7 p7 a9 p9 a10 p10 a11 p11 a18 a21 a22 a23 x1 x4 x5 x6 x8 x9 x10) y = x5 y := by
  unfold sl.H17_22
  exact (state_skip (by omega)).trans (state_21 y (by omega))

/-- After 22 stores the later states are still the old ones. -/
theorem state_23 (y : S1x16x4x128x128.Idx) (hy : 22 ≤ (y 2).val * 16 + (y 1).val) : View.canon (sl.H17_23 c a2 p2 a5 p5 a6 p6 a7 p7 a9 p9 a10 p10 a11 p11 a18 a21 a22 a23 x1 x4 x5 x6 x8 x9 x10) y = x5 y := by
  unfold sl.H17_23
  exact (state_skip (by omega)).trans (state_22 y (by omega))

/-- After 23 stores the later states are still the old ones. -/
theorem state_24 (y : S1x16x4x128x128.Idx) (hy : 23 ≤ (y 2).val * 16 + (y 1).val) : View.canon (sl.H17_24 c a2 p2 a5 p5 a6 p6 a7 p7 a9 p9 a10 p10 a11 p11 a18 a21 a22 a23 x1 x4 x5 x6 x8 x9 x10) y = x5 y := by
  unfold sl.H17_24
  exact (state_skip (by omega)).trans (state_23 y (by omega))

/-- After 24 stores the later states are still the old ones. -/
theorem state_25 (y : S1x16x4x128x128.Idx) (hy : 24 ≤ (y 2).val * 16 + (y 1).val) : View.canon (sl.H17_25 c a2 p2 a5 p5 a6 p6 a7 p7 a9 p9 a10 p10 a11 p11 a18 a21 a22 a23 x1 x4 x5 x6 x8 x9 x10) y = x5 y := by
  unfold sl.H17_25
  exact (state_skip (by omega)).trans (state_24 y (by omega))

/-- After 25 stores the later states are still the old ones. -/
theorem state_26 (y : S1x16x4x128x128.Idx) (hy : 25 ≤ (y 2).val * 16 + (y 1).val) : View.canon (sl.H17_26 c a2 p2 a5 p5 a6 p6 a7 p7 a9 p9 a10 p10 a11 p11 a18 a21 a22 a23 x1 x4 x5 x6 x8 x9 x10) y = x5 y := by
  unfold sl.H17_26
  exact (state_skip (by omega)).trans (state_25 y (by omega))

/-- After 26 stores the later states are still the old ones. -/
theorem state_27 (y : S1x16x4x128x128.Idx) (hy : 26 ≤ (y 2).val * 16 + (y 1).val) : View.canon (sl.H17_27 c a2 p2 a5 p5 a6 p6 a7 p7 a9 p9 a10 p10 a11 p11 a18 a21 a22 a23 x1 x4 x5 x6 x8 x9 x10) y = x5 y := by
  unfold sl.H17_27
  exact (state_skip (by omega)).trans (state_26 y (by omega))

/-- After 27 stores the later states are still the old ones. -/
theorem state_28 (y : S1x16x4x128x128.Idx) (hy : 27 ≤ (y 2).val * 16 + (y 1).val) : View.canon (sl.H17_28 c a2 p2 a5 p5 a6 p6 a7 p7 a9 p9 a10 p10 a11 p11 a18 a21 a22 a23 x1 x4 x5 x6 x8 x9 x10) y = x5 y := by
  unfold sl.H17_28
  exact (state_skip (by omega)).trans (state_27 y (by omega))

/-- After 28 stores the later states are still the old ones. -/
theorem state_29 (y : S1x16x4x128x128.Idx) (hy : 28 ≤ (y 2).val * 16 + (y 1).val) : View.canon (sl.H17_29 c a2 p2 a5 p5 a6 p6 a7 p7 a9 p9 a10 p10 a11 p11 a18 a21 a22 a23 x1 x4 x5 x6 x8 x9 x10) y = x5 y := by
  unfold sl.H17_29
  exact (state_skip (by omega)).trans (state_28 y (by omega))

/-- After 29 stores the later states are still the old ones. -/
theorem state_30 (y : S1x16x4x128x128.Idx) (hy : 29 ≤ (y 2).val * 16 + (y 1).val) : View.canon (sl.H17_30 c a2 p2 a5 p5 a6 p6 a7 p7 a9 p9 a10 p10 a11 p11 a18 a21 a22 a23 x1 x4 x5 x6 x8 x9 x10) y = x5 y := by
  unfold sl.H17_30
  exact (state_skip (by omega)).trans (state_29 y (by omega))

/-- After 30 stores the later states are still the old ones. -/
theorem state_31 (y : S1x16x4x128x128.Idx) (hy : 30 ≤ (y 2).val * 16 + (y 1).val) : View.canon (sl.H17_31 c a2 p2 a5 p5 a6 p6 a7 p7 a9 p9 a10 p10 a11 p11 a18 a21 a22 a23 x1 x4 x5 x6 x8 x9 x10) y = x5 y := by
  unfold sl.H17_31
  exact (state_skip (by omega)).trans (state_30 y (by omega))

/-- After 31 stores the later states are still the old ones. -/
theorem state_32 (y : S1x16x4x128x128.Idx) (hy : 31 ≤ (y 2).val * 16 + (y 1).val) : View.canon (sl.H17_32 c a2 p2 a5 p5 a6 p6 a7 p7 a9 p9 a10 p10 a11 p11 a18 a21 a22 a23 x1 x4 x5 x6 x8 x9 x10) y = x5 y := by
  unfold sl.H17_32
  exact (state_skip (by omega)).trans (state_31 y (by omega))

/-- After 32 stores the later states are still the old ones. -/
theorem state_33 (y : S1x16x4x128x128.Idx) (hy : 32 ≤ (y 2).val * 16 + (y 1).val) : View.canon (sl.H17_33 c a2 p2 a5 p5 a6 p6 a7 p7 a9 p9 a10 p10 a11 p11 a18 a21 a22 a23 x1 x4 x5 x6 x8 x9 x10) y = x5 y := by
  unfold sl.H17_33
  exact (state_skip (by omega)).trans (state_32 y (by omega))

/-- After 33 stores the later states are still the old ones. -/
theorem state_34 (y : S1x16x4x128x128.Idx) (hy : 33 ≤ (y 2).val * 16 + (y 1).val) : View.canon (sl.H17_34 c a2 p2 a5 p5 a6 p6 a7 p7 a9 p9 a10 p10 a11 p11 a18 a21 a22 a23 x1 x4 x5 x6 x8 x9 x10) y = x5 y := by
  unfold sl.H17_34
  exact (state_skip (by omega)).trans (state_33 y (by omega))

/-- After 34 stores the later states are still the old ones. -/
theorem state_35 (y : S1x16x4x128x128.Idx) (hy : 34 ≤ (y 2).val * 16 + (y 1).val) : View.canon (sl.H17_35 c a2 p2 a5 p5 a6 p6 a7 p7 a9 p9 a10 p10 a11 p11 a18 a21 a22 a23 x1 x4 x5 x6 x8 x9 x10) y = x5 y := by
  unfold sl.H17_35
  exact (state_skip (by omega)).trans (state_34 y (by omega))

/-- After 35 stores the later states are still the old ones. -/
theorem state_36 (y : S1x16x4x128x128.Idx) (hy : 35 ≤ (y 2).val * 16 + (y 1).val) : View.canon (sl.H17_36 c a2 p2 a5 p5 a6 p6 a7 p7 a9 p9 a10 p10 a11 p11 a18 a21 a22 a23 x1 x4 x5 x6 x8 x9 x10) y = x5 y := by
  unfold sl.H17_36
  exact (state_skip (by omega)).trans (state_35 y (by omega))

/-- After 36 stores the later states are still the old ones. -/
theorem state_37 (y : S1x16x4x128x128.Idx) (hy : 36 ≤ (y 2).val * 16 + (y 1).val) : View.canon (sl.H17_37 c a2 p2 a5 p5 a6 p6 a7 p7 a9 p9 a10 p10 a11 p11 a18 a21 a22 a23 x1 x4 x5 x6 x8 x9 x10) y = x5 y := by
  unfold sl.H17_37
  exact (state_skip (by omega)).trans (state_36 y (by omega))

/-- After 37 stores the later states are still the old ones. -/
theorem state_38 (y : S1x16x4x128x128.Idx) (hy : 37 ≤ (y 2).val * 16 + (y 1).val) : View.canon (sl.H17_38 c a2 p2 a5 p5 a6 p6 a7 p7 a9 p9 a10 p10 a11 p11 a18 a21 a22 a23 x1 x4 x5 x6 x8 x9 x10) y = x5 y := by
  unfold sl.H17_38
  exact (state_skip (by omega)).trans (state_37 y (by omega))

/-- After 38 stores the later states are still the old ones. -/
theorem state_39 (y : S1x16x4x128x128.Idx) (hy : 38 ≤ (y 2).val * 16 + (y 1).val) : View.canon (sl.H17_39 c a2 p2 a5 p5 a6 p6 a7 p7 a9 p9 a10 p10 a11 p11 a18 a21 a22 a23 x1 x4 x5 x6 x8 x9 x10) y = x5 y := by
  unfold sl.H17_39
  exact (state_skip (by omega)).trans (state_38 y (by omega))

/-- After 39 stores the later states are still the old ones. -/
theorem state_40 (y : S1x16x4x128x128.Idx) (hy : 39 ≤ (y 2).val * 16 + (y 1).val) : View.canon (sl.H17_40 c a2 p2 a5 p5 a6 p6 a7 p7 a9 p9 a10 p10 a11 p11 a18 a21 a22 a23 x1 x4 x5 x6 x8 x9 x10) y = x5 y := by
  unfold sl.H17_40
  exact (state_skip (by omega)).trans (state_39 y (by omega))

/-- After 40 stores the later states are still the old ones. -/
theorem state_41 (y : S1x16x4x128x128.Idx) (hy : 40 ≤ (y 2).val * 16 + (y 1).val) : View.canon (sl.H17_41 c a2 p2 a5 p5 a6 p6 a7 p7 a9 p9 a10 p10 a11 p11 a18 a21 a22 a23 x1 x4 x5 x6 x8 x9 x10) y = x5 y := by
  unfold sl.H17_41
  exact (state_skip (by omega)).trans (state_40 y (by omega))

/-- After 41 stores the later states are still the old ones. -/
theorem state_42 (y : S1x16x4x128x128.Idx) (hy : 41 ≤ (y 2).val * 16 + (y 1).val) : View.canon (sl.H17_42 c a2 p2 a5 p5 a6 p6 a7 p7 a9 p9 a10 p10 a11 p11 a18 a21 a22 a23 x1 x4 x5 x6 x8 x9 x10) y = x5 y := by
  unfold sl.H17_42
  exact (state_skip (by omega)).trans (state_41 y (by omega))

/-- After 42 stores the later states are still the old ones. -/
theorem state_43 (y : S1x16x4x128x128.Idx) (hy : 42 ≤ (y 2).val * 16 + (y 1).val) : View.canon (sl.H17_43 c a2 p2 a5 p5 a6 p6 a7 p7 a9 p9 a10 p10 a11 p11 a18 a21 a22 a23 x1 x4 x5 x6 x8 x9 x10) y = x5 y := by
  unfold sl.H17_43
  exact (state_skip (by omega)).trans (state_42 y (by omega))

/-- After 43 stores the later states are still the old ones. -/
theorem state_44 (y : S1x16x4x128x128.Idx) (hy : 43 ≤ (y 2).val * 16 + (y 1).val) : View.canon (sl.H17_44 c a2 p2 a5 p5 a6 p6 a7 p7 a9 p9 a10 p10 a11 p11 a18 a21 a22 a23 x1 x4 x5 x6 x8 x9 x10) y = x5 y := by
  unfold sl.H17_44
  exact (state_skip (by omega)).trans (state_43 y (by omega))

/-- After 44 stores the later states are still the old ones. -/
theorem state_45 (y : S1x16x4x128x128.Idx) (hy : 44 ≤ (y 2).val * 16 + (y 1).val) : View.canon (sl.H17_45 c a2 p2 a5 p5 a6 p6 a7 p7 a9 p9 a10 p10 a11 p11 a18 a21 a22 a23 x1 x4 x5 x6 x8 x9 x10) y = x5 y := by
  unfold sl.H17_45
  exact (state_skip (by omega)).trans (state_44 y (by omega))

/-- After 45 stores the later states are still the old ones. -/
theorem state_46 (y : S1x16x4x128x128.Idx) (hy : 45 ≤ (y 2).val * 16 + (y 1).val) : View.canon (sl.H17_46 c a2 p2 a5 p5 a6 p6 a7 p7 a9 p9 a10 p10 a11 p11 a18 a21 a22 a23 x1 x4 x5 x6 x8 x9 x10) y = x5 y := by
  unfold sl.H17_46
  exact (state_skip (by omega)).trans (state_45 y (by omega))

/-- After 46 stores the later states are still the old ones. -/
theorem state_47 (y : S1x16x4x128x128.Idx) (hy : 46 ≤ (y 2).val * 16 + (y 1).val) : View.canon (sl.H17_47 c a2 p2 a5 p5 a6 p6 a7 p7 a9 p9 a10 p10 a11 p11 a18 a21 a22 a23 x1 x4 x5 x6 x8 x9 x10) y = x5 y := by
  unfold sl.H17_47
  exact (state_skip (by omega)).trans (state_46 y (by omega))

/-- After 47 stores the later states are still the old ones. -/
theorem state_48 (y : S1x16x4x128x128.Idx) (hy : 47 ≤ (y 2).val * 16 + (y 1).val) : View.canon (sl.H17_48 c a2 p2 a5 p5 a6 p6 a7 p7 a9 p9 a10 p10 a11 p11 a18 a21 a22 a23 x1 x4 x5 x6 x8 x9 x10) y = x5 y := by
  unfold sl.H17_48
  exact (state_skip (by omega)).trans (state_47 y (by omega))

/-- After 48 stores the later states are still the old ones. -/
theorem state_49 (y : S1x16x4x128x128.Idx) (hy : 48 ≤ (y 2).val * 16 + (y 1).val) : View.canon (sl.H17_49 c a2 p2 a5 p5 a6 p6 a7 p7 a9 p9 a10 p10 a11 p11 a18 a21 a22 a23 x1 x4 x5 x6 x8 x9 x10) y = x5 y := by
  unfold sl.H17_49
  exact (state_skip (by omega)).trans (state_48 y (by omega))

/-- After 49 stores the later states are still the old ones. -/
theorem state_50 (y : S1x16x4x128x128.Idx) (hy : 49 ≤ (y 2).val * 16 + (y 1).val) : View.canon (sl.H17_50 c a2 p2 a5 p5 a6 p6 a7 p7 a9 p9 a10 p10 a11 p11 a18 a21 a22 a23 x1 x4 x5 x6 x8 x9 x10) y = x5 y := by
  unfold sl.H17_50
  exact (state_skip (by omega)).trans (state_49 y (by omega))

/-- After 50 stores the later states are still the old ones. -/
theorem state_51 (y : S1x16x4x128x128.Idx) (hy : 50 ≤ (y 2).val * 16 + (y 1).val) : View.canon (sl.H17_51 c a2 p2 a5 p5 a6 p6 a7 p7 a9 p9 a10 p10 a11 p11 a18 a21 a22 a23 x1 x4 x5 x6 x8 x9 x10) y = x5 y := by
  unfold sl.H17_51
  exact (state_skip (by omega)).trans (state_50 y (by omega))

/-- After 51 stores the later states are still the old ones. -/
theorem state_52 (y : S1x16x4x128x128.Idx) (hy : 51 ≤ (y 2).val * 16 + (y 1).val) : View.canon (sl.H17_52 c a2 p2 a5 p5 a6 p6 a7 p7 a9 p9 a10 p10 a11 p11 a18 a21 a22 a23 x1 x4 x5 x6 x8 x9 x10) y = x5 y := by
  unfold sl.H17_52
  exact (state_skip (by omega)).trans (state_51 y (by omega))

/-- After 52 stores the later states are still the old ones. -/
theorem state_53 (y : S1x16x4x128x128.Idx) (hy : 52 ≤ (y 2).val * 16 + (y 1).val) : View.canon (sl.H17_53 c a2 p2 a5 p5 a6 p6 a7 p7 a9 p9 a10 p10 a11 p11 a18 a21 a22 a23 x1 x4 x5 x6 x8 x9 x10) y = x5 y := by
  unfold sl.H17_53
  exact (state_skip (by omega)).trans (state_52 y (by omega))

/-- After 53 stores the later states are still the old ones. -/
theorem state_54 (y : S1x16x4x128x128.Idx) (hy : 53 ≤ (y 2).val * 16 + (y 1).val) : View.canon (sl.H17_54 c a2 p2 a5 p5 a6 p6 a7 p7 a9 p9 a10 p10 a11 p11 a18 a21 a22 a23 x1 x4 x5 x6 x8 x9 x10) y = x5 y := by
  unfold sl.H17_54
  exact (state_skip (by omega)).trans (state_53 y (by omega))

/-- After 54 stores the later states are still the old ones. -/
theorem state_55 (y : S1x16x4x128x128.Idx) (hy : 54 ≤ (y 2).val * 16 + (y 1).val) : View.canon (sl.H17_55 c a2 p2 a5 p5 a6 p6 a7 p7 a9 p9 a10 p10 a11 p11 a18 a21 a22 a23 x1 x4 x5 x6 x8 x9 x10) y = x5 y := by
  unfold sl.H17_55
  exact (state_skip (by omega)).trans (state_54 y (by omega))

/-- After 55 stores the later states are still the old ones. -/
theorem state_56 (y : S1x16x4x128x128.Idx) (hy : 55 ≤ (y 2).val * 16 + (y 1).val) : View.canon (sl.H17_56 c a2 p2 a5 p5 a6 p6 a7 p7 a9 p9 a10 p10 a11 p11 a18 a21 a22 a23 x1 x4 x5 x6 x8 x9 x10) y = x5 y := by
  unfold sl.H17_56
  exact (state_skip (by omega)).trans (state_55 y (by omega))

/-- After 56 stores the later states are still the old ones. -/
theorem state_57 (y : S1x16x4x128x128.Idx) (hy : 56 ≤ (y 2).val * 16 + (y 1).val) : View.canon (sl.H17_57 c a2 p2 a5 p5 a6 p6 a7 p7 a9 p9 a10 p10 a11 p11 a18 a21 a22 a23 x1 x4 x5 x6 x8 x9 x10) y = x5 y := by
  unfold sl.H17_57
  exact (state_skip (by omega)).trans (state_56 y (by omega))

/-- After 57 stores the later states are still the old ones. -/
theorem state_58 (y : S1x16x4x128x128.Idx) (hy : 57 ≤ (y 2).val * 16 + (y 1).val) : View.canon (sl.H17_58 c a2 p2 a5 p5 a6 p6 a7 p7 a9 p9 a10 p10 a11 p11 a18 a21 a22 a23 x1 x4 x5 x6 x8 x9 x10) y = x5 y := by
  unfold sl.H17_58
  exact (state_skip (by omega)).trans (state_57 y (by omega))

/-- After 58 stores the later states are still the old ones. -/
theorem state_59 (y : S1x16x4x128x128.Idx) (hy : 58 ≤ (y 2).val * 16 + (y 1).val) : View.canon (sl.H17_59 c a2 p2 a5 p5 a6 p6 a7 p7 a9 p9 a10 p10 a11 p11 a18 a21 a22 a23 x1 x4 x5 x6 x8 x9 x10) y = x5 y := by
  unfold sl.H17_59
  exact (state_skip (by omega)).trans (state_58 y (by omega))

/-- After 59 stores the later states are still the old ones. -/
theorem state_60 (y : S1x16x4x128x128.Idx) (hy : 59 ≤ (y 2).val * 16 + (y 1).val) : View.canon (sl.H17_60 c a2 p2 a5 p5 a6 p6 a7 p7 a9 p9 a10 p10 a11 p11 a18 a21 a22 a23 x1 x4 x5 x6 x8 x9 x10) y = x5 y := by
  unfold sl.H17_60
  exact (state_skip (by omega)).trans (state_59 y (by omega))

/-- After 60 stores the later states are still the old ones. -/
theorem state_61 (y : S1x16x4x128x128.Idx) (hy : 60 ≤ (y 2).val * 16 + (y 1).val) : View.canon (sl.H17_61 c a2 p2 a5 p5 a6 p6 a7 p7 a9 p9 a10 p10 a11 p11 a18 a21 a22 a23 x1 x4 x5 x6 x8 x9 x10) y = x5 y := by
  unfold sl.H17_61
  exact (state_skip (by omega)).trans (state_60 y (by omega))

/-- After 61 stores the later states are still the old ones. -/
theorem state_62 (y : S1x16x4x128x128.Idx) (hy : 61 ≤ (y 2).val * 16 + (y 1).val) : View.canon (sl.H17_62 c a2 p2 a5 p5 a6 p6 a7 p7 a9 p9 a10 p10 a11 p11 a18 a21 a22 a23 x1 x4 x5 x6 x8 x9 x10) y = x5 y := by
  unfold sl.H17_62
  exact (state_skip (by omega)).trans (state_61 y (by omega))

/-- After 62 stores the later states are still the old ones. -/
theorem state_63 (y : S1x16x4x128x128.Idx) (hy : 62 ≤ (y 2).val * 16 + (y 1).val) : View.canon (sl.H17_63 c a2 p2 a5 p5 a6 p6 a7 p7 a9 p9 a10 p10 a11 p11 a18 a21 a22 a23 x1 x4 x5 x6 x8 x9 x10) y = x5 y := by
  unfold sl.H17_63
  exact (state_skip (by omega)).trans (state_62 y (by omega))

/-- After 63 stores the later states are still the old ones. -/
theorem state_64 (y : S1x16x4x128x128.Idx) (hy : 63 ≤ (y 2).val * 16 + (y 1).val) : View.canon (sl.H17_64 c a2 p2 a5 p5 a6 p6 a7 p7 a9 p9 a10 p10 a11 p11 a18 a21 a22 a23 x1 x4 x5 x6 x8 x9 x10) y = x5 y := by
  unfold sl.H17_64
  exact (state_skip (by omega)).trans (state_63 y (by omega))

variable (c) (a2) (p2) (a5) (p5) (a6) (p6) (a7) (p7) (a9) (p9) (a10) (p10) (a11) (p11) (a18) (a21) (a22) (a23) (x1) (x4) (x5) (x6) (x8) (x9) (x10)

/-- Where a word of one sequence's head lies. -/
theorem state_idx {b h : ℕ} (inb : ∀ a, (![0, b, h, 0, 0] : Fin 5 → ℕ) a + S1x1x1x128x128.size a ≤ S1x16x4x128x128.size a) (hb : b < 16) (hh : h < 4)
    (j : S1x1x1x128x128.Idx) : (Rect.unit (s := S1x16x4x128x128) ![0, b, h, 0, 0] S1x1x1x128x128.size inb).idx j = ix5 0 ⟨b, hb⟩ ⟨h, hh⟩ (j 3) (j 4) := by
  funext a
  have h0 : (j 0).val < 1 := (j 0).isLt
  have h1 : (j 1).val < 1 := (j 1).isLt
  have h2 : (j 2).val < 1 := (j 2).isLt
  match a with
  | ⟨0, _⟩ => exact Fin.ext (by show 0 + 1 * (j 0).val = 0; omega)
  | ⟨1, _⟩ => exact Fin.ext (by show b + 1 * (j 1).val = b; omega)
  | ⟨2, _⟩ => exact Fin.ext (by show h + 1 * (j 2).val = h; omega)
  | ⟨3, _⟩ => exact Fin.ext (by show 0 + 1 * (j 3).val = (j 3).val; omega)
  | ⟨4, _⟩ => exact Fin.ext (by show 0 + 1 * (j 4).val = (j 4).val; omega)

/-- One sequence's head of the old states. -/
def headOf (x5 : Vec Ideal S1x16x4x128x128 .f32) (b : Fin 16) (h : Fin 4) : Vec Ideal S1x1x1x128x128 .f32 := fun j => x5 (ix5 0 b h (j 3) (j 4))

/-- A family over the states, at a place of one head's block and at that block's place. -/
theorem state_at {f : S1x16x4x128x128.Idx → EReal} {b h : ℕ} {inb : ∀ a, (![0, b, h, 0, 0] : Fin 5 → ℕ) a + S1x1x1x128x128.size a ≤ S1x16x4x128x128.size a}
    (j : S1x1x1x128x128.Idx) (hb : b < 16 := by decide) (hh : h < 4 := by decide) :
    f (ix5 0 ⟨b, hb⟩ ⟨h, hh⟩ (j 3) (j 4)) = f ((Rect.unit (s := S1x16x4x128x128) ![0, b, h, 0, 0] S1x1x1x128x128.size inb).idx j) :=
  congrArg f (state_idx inb hb hh j).symm

/-- A read of a head that the first `n` stores do not reach is of the old states. -/
theorem read_old {x5 : Vec Ideal S1x16x4x128x128 .f32} {f : S1x16x4x128x128.Idx → EReal} {b h : ℕ} {inb : ∀ a, (![0, b, h, 0, 0] : Fin 5 → ℕ) a + S1x1x1x128x128.size a ≤ S1x16x4x128x128.size a}
    (n : ℕ) (H : ∀ y : S1x16x4x128x128.Idx, n ≤ (y 2).val * 16 + (y 1).val → f y = x5 y) (hb : b < 16 := by decide) (hh : h < 4 := by decide) (hn : n ≤ h * 16 + b := by decide) :
    (fun j => f ((Rect.unit (s := S1x16x4x128x128) ![0, b, h, 0, 0] S1x1x1x128x128.size inb).idx j)) = headOf x5 ⟨b, hb⟩ ⟨h, hh⟩ :=
  funext fun j => (congrArg f (state_idx inb hb hh j)).trans (H _ hn)

/-- A read of sequence 0's head 0: the old states. -/
theorem read_v5055 : sl.v5055 c a6 p6 a18 x5 = headOf x5 0 0 := by
  unfold sl.v5055
  rw [View.readCov_eq_canon']
  exact read_old 0 fun y _ => state_1 y

/-- A read of sequence 1's head 0: the old states. -/
theorem read_v5063 : sl.v5063 c a6 p6 a18 x5 = headOf x5 1 0 := by
  unfold sl.v5063
  rw [View.readCov_eq_canon']
  exact read_old 0 fun y _ => state_1 y

/-- A read of sequence 2's head 0: the old states. -/
theorem read_v5071 : sl.v5071 c a6 p6 a18 x5 = headOf x5 2 0 := by
  unfold sl.v5071
  rw [View.readCov_eq_canon']
  exact read_old 0 fun y _ => state_1 y

/-- A read of sequence 3's head 0: the old states. -/
theorem read_v5079 : sl.v5079 c a6 p6 a18 x5 = headOf x5 3 0 := by
  unfold sl.v5079
  rw [View.readCov_eq_canon']
  exact read_old 0 fun y _ => state_1 y

/-- A read of sequence 4's head 0: the old states. -/
theorem read_v5087 : sl.v5087 c a6 p6 a18 x5 = headOf x5 4 0 := by
  unfold sl.v5087
  rw [View.readCov_eq_canon']
  exact read_old 0 fun y _ => state_1 y

/-- A read of sequence 5's head 0: the old states. -/
theorem read_v5095 : sl.v5095 c a6 p6 a18 x5 = headOf x5 5 0 := by
  unfold sl.v5095
  rw [View.readCov_eq_canon']
  exact read_old 0 fun y _ => state_1 y

/-- A read of sequence 6's head 0: the old states. -/
theorem read_v5103 : sl.v5103 c a6 p6 a18 x5 = headOf x5 6 0 := by
  unfold sl.v5103
  rw [View.readCov_eq_canon']
  exact read_old 0 fun y _ => state_1 y

/-- A read of sequence 7's head 0: the old states. -/
theorem read_v5111 : sl.v5111 c a6 p6 a18 x5 = headOf x5 7 0 := by
  unfold sl.v5111
  rw [View.readCov_eq_canon']
  exact read_old 0 fun y _ => state_1 y

/-- A read of sequence 8's head 0: the old states. -/
theorem read_v5119 : sl.v5119 c a6 p6 a18 x5 = headOf x5 8 0 := by
  unfold sl.v5119
  rw [View.readCov_eq_canon']
  exact read_old 0 fun y _ => state_1 y

/-- A read of sequence 9's head 0: the old states. -/
theorem read_v5127 : sl.v5127 c a6 p6 a18 x5 = headOf x5 9 0 := by
  unfold sl.v5127
  rw [View.readCov_eq_canon']
  exact read_old 0 fun y _ => state_1 y

/-- A read of sequence 10's head 0: the old states. -/
theorem read_v5135 : sl.v5135 c a6 p6 a18 x5 = headOf x5 10 0 := by
  unfold sl.v5135
  rw [View.readCov_eq_canon']
  exact read_old 0 fun y _ => state_1 y

/-- A read of sequence 11's head 0: the old states. -/
theorem read_v5143 : sl.v5143 c a6 p6 a18 x5 = headOf x5 11 0 := by
  unfold sl.v5143
  rw [View.readCov_eq_canon']
  exact read_old 0 fun y _ => state_1 y

/-- A read of sequence 12's head 0: the old states. -/
theorem read_v5151 : sl.v5151 c a6 p6 a18 x5 = headOf x5 12 0 := by
  unfold sl.v5151
  rw [View.readCov_eq_canon']
  exact read_old 0 fun y _ => state_1 y

/-- A read of sequence 13's head 0: the old states. -/
theorem read_v5159 : sl.v5159 c a6 p6 a18 x5 = headOf x5 13 0 := by
  unfold sl.v5159
  rw [View.readCov_eq_canon']
  exact read_old 0 fun y _ => state_1 y

/-- A read of sequence 14's head 0: the old states. -/
theorem read_v5167 : sl.v5167 c a6 p6 a18 x5 = headOf x5 14 0 := by
  unfold sl.v5167
  rw [View.readCov_eq_canon']
  exact read_old 0 fun y _ => state_1 y

/-- A read of sequence 15's head 0: the old states. -/
theorem read_v5175 : sl.v5175 c a6 p6 a18 x5 = headOf x5 15 0 := by
  unfold sl.v5175
  rw [View.readCov_eq_canon']
  exact read_old 0 fun y _ => state_1 y

/-- A read of sequence 1's head 0: the old states. -/
theorem read_v5200 : sl.v5200 c a2 p2 a5 p5 a6 p6 a7 p7 a9 p9 a10 p10 a11 p11 a18 a21 a22 a23 x1 x4 x5 x6 x8 x9 x10 = headOf x5 1 0 := by
  unfold sl.v5200
  rw [View.readCov_eq_canon']
  exact read_old 1 state_2

/-- A read of sequence 2's head 0: the old states. -/
theorem read_v5213 : sl.v5213 c a2 p2 a5 p5 a6 p6 a7 p7 a9 p9 a10 p10 a11 p11 a18 a21 a22 a23 x1 x4 x5 x6 x8 x9 x10 = headOf x5 2 0 := by
  unfold sl.v5213
  rw [View.readCov_eq_canon']
  exact read_old 2 state_3

/-- A read of sequence 3's head 0: the old states. -/
theorem read_v5226 : sl.v5226 c a2 p2 a5 p5 a6 p6 a7 p7 a9 p9 a10 p10 a11 p11 a18 a21 a22 a23 x1 x4 x5 x6 x8 x9 x10 = headOf x5 3 0 := by
  unfold sl.v5226
  rw [View.readCov_eq_canon']
  exact read_old 3 state_4

/-- A read of sequence 4's head 0: the old states. -/
theorem read_v5239 : sl.v5239 c a2 p2 a5 p5 a6 p6 a7 p7 a9 p9 a10 p10 a11 p11 a18 a21 a22 a23 x1 x4 x5 x6 x8 x9 x10 = headOf x5 4 0 := by
  unfold sl.v5239
  rw [View.readCov_eq_canon']
  exact read_old 4 state_5

/-- A read of sequence 5's head 0: the old states. -/
theorem read_v5252 : sl.v5252 c a2 p2 a5 p5 a6 p6 a7 p7 a9 p9 a10 p10 a11 p11 a18 a21 a22 a23 x1 x4 x5 x6 x8 x9 x10 = headOf x5 5 0 := by
  unfold sl.v5252
  rw [View.readCov_eq_canon']
  exact read_old 5 state_6

/-- A read of sequence 6's head 0: the old states. -/
theorem read_v5265 : sl.v5265 c a2 p2 a5 p5 a6 p6 a7 p7 a9 p9 a10 p10 a11 p11 a18 a21 a22 a23 x1 x4 x5 x6 x8 x9 x10 = headOf x5 6 0 := by
  unfold sl.v5265
  rw [View.readCov_eq_canon']
  exact read_old 6 state_7

/-- A read of sequence 7's head 0: the old states. -/
theorem read_v5278 : sl.v5278 c a2 p2 a5 p5 a6 p6 a7 p7 a9 p9 a10 p10 a11 p11 a18 a21 a22 a23 x1 x4 x5 x6 x8 x9 x10 = headOf x5 7 0 := by
  unfold sl.v5278
  rw [View.readCov_eq_canon']
  exact read_old 7 state_8

/-- A read of sequence 8's head 0: the old states. -/
theorem read_v5291 : sl.v5291 c a2 p2 a5 p5 a6 p6 a7 p7 a9 p9 a10 p10 a11 p11 a18 a21 a22 a23 x1 x4 x5 x6 x8 x9 x10 = headOf x5 8 0 := by
  unfold sl.v5291
  rw [View.readCov_eq_canon']
  exact read_old 8 state_9

/-- A read of sequence 9's head 0: the old states. -/
theorem read_v5304 : sl.v5304 c a2 p2 a5 p5 a6 p6 a7 p7 a9 p9 a10 p10 a11 p11 a18 a21 a22 a23 x1 x4 x5 x6 x8 x9 x10 = headOf x5 9 0 := by
  unfold sl.v5304
  rw [View.readCov_eq_canon']
  exact read_old 9 state_10

/-- A read of sequence 10's head 0: the old states. -/
theorem read_v5317 : sl.v5317 c a2 p2 a5 p5 a6 p6 a7 p7 a9 p9 a10 p10 a11 p11 a18 a21 a22 a23 x1 x4 x5 x6 x8 x9 x10 = headOf x5 10 0 := by
  unfold sl.v5317
  rw [View.readCov_eq_canon']
  exact read_old 10 state_11

/-- A read of sequence 11's head 0: the old states. -/
theorem read_v5330 : sl.v5330 c a2 p2 a5 p5 a6 p6 a7 p7 a9 p9 a10 p10 a11 p11 a18 a21 a22 a23 x1 x4 x5 x6 x8 x9 x10 = headOf x5 11 0 := by
  unfold sl.v5330
  rw [View.readCov_eq_canon']
  exact read_old 11 state_12

/-- A read of sequence 12's head 0: the old states. -/
theorem read_v5343 : sl.v5343 c a2 p2 a5 p5 a6 p6 a7 p7 a9 p9 a10 p10 a11 p11 a18 a21 a22 a23 x1 x4 x5 x6 x8 x9 x10 = headOf x5 12 0 := by
  unfold sl.v5343
  rw [View.readCov_eq_canon']
  exact read_old 12 state_13

/-- A read of sequence 13's head 0: the old states. -/
theorem read_v5356 : sl.v5356 c a2 p2 a5 p5 a6 p6 a7 p7 a9 p9 a10 p10 a11 p11 a18 a21 a22 a23 x1 x4 x5 x6 x8 x9 x10 = headOf x5 13 0 := by
  unfold sl.v5356
  rw [View.readCov_eq_canon']
  exact read_old 13 state_14

/-- A read of sequence 14's head 0: the old states. -/
theorem read_v5369 : sl.v5369 c a2 p2 a5 p5 a6 p6 a7 p7 a9 p9 a10 p10 a11 p11 a18 a21 a22 a23 x1 x4 x5 x6 x8 x9 x10 = headOf x5 14 0 := by
  unfold sl.v5369
  rw [View.readCov_eq_canon']
  exact read_old 14 state_15

/-- A read of sequence 15's head 0: the old states. -/
theorem read_v5382 : sl.v5382 c a2 p2 a5 p5 a6 p6 a7 p7 a9 p9 a10 p10 a11 p11 a18 a21 a22 a23 x1 x4 x5 x6 x8 x9 x10 = headOf x5 15 0 := by
  unfold sl.v5382
  rw [View.readCov_eq_canon']
  exact read_old 15 state_16

/-- A read of sequence 0's head 1: the old states. -/
theorem read_v5439 : sl.v5439 c a2 p2 a5 p5 a6 p6 a7 p7 a9 p9 a10 p10 a11 p11 a18 a21 a22 a23 x1 x4 x5 x6 x8 x9 x10 = headOf x5 0 1 := by
  unfold sl.v5439
  rw [View.readCov_eq_canon']
  exact read_old 16 state_17

/-- A read of sequence 1's head 1: the old states. -/
theorem read_v5447 : sl.v5447 c a2 p2 a5 p5 a6 p6 a7 p7 a9 p9 a10 p10 a11 p11 a18 a21 a22 a23 x1 x4 x5 x6 x8 x9 x10 = headOf x5 1 1 := by
  unfold sl.v5447
  rw [View.readCov_eq_canon']
  exact read_old 16 state_17

/-- A read of sequence 2's head 1: the old states. -/
theorem read_v5455 : sl.v5455 c a2 p2 a5 p5 a6 p6 a7 p7 a9 p9 a10 p10 a11 p11 a18 a21 a22 a23 x1 x4 x5 x6 x8 x9 x10 = headOf x5 2 1 := by
  unfold sl.v5455
  rw [View.readCov_eq_canon']
  exact read_old 16 state_17

/-- A read of sequence 3's head 1: the old states. -/
theorem read_v5463 : sl.v5463 c a2 p2 a5 p5 a6 p6 a7 p7 a9 p9 a10 p10 a11 p11 a18 a21 a22 a23 x1 x4 x5 x6 x8 x9 x10 = headOf x5 3 1 := by
  unfold sl.v5463
  rw [View.readCov_eq_canon']
  exact read_old 16 state_17

/-- A read of sequence 4's head 1: the old states. -/
theorem read_v5471 : sl.v5471 c a2 p2 a5 p5 a6 p6 a7 p7 a9 p9 a10 p10 a11 p11 a18 a21 a22 a23 x1 x4 x5 x6 x8 x9 x10 = headOf x5 4 1 := by
  unfold sl.v5471
  rw [View.readCov_eq_canon']
  exact read_old 16 state_17

/-- A read of sequence 5's head 1: the old states. -/
theorem read_v5479 : sl.v5479 c a2 p2 a5 p5 a6 p6 a7 p7 a9 p9 a10 p10 a11 p11 a18 a21 a22 a23 x1 x4 x5 x6 x8 x9 x10 = headOf x5 5 1 := by
  unfold sl.v5479
  rw [View.readCov_eq_canon']
  exact read_old 16 state_17

/-- A read of sequence 6's head 1: the old states. -/
theorem read_v5487 : sl.v5487 c a2 p2 a5 p5 a6 p6 a7 p7 a9 p9 a10 p10 a11 p11 a18 a21 a22 a23 x1 x4 x5 x6 x8 x9 x10 = headOf x5 6 1 := by
  unfold sl.v5487
  rw [View.readCov_eq_canon']
  exact read_old 16 state_17

/-- A read of sequence 7's head 1: the old states. -/
theorem read_v5495 : sl.v5495 c a2 p2 a5 p5 a6 p6 a7 p7 a9 p9 a10 p10 a11 p11 a18 a21 a22 a23 x1 x4 x5 x6 x8 x9 x10 = headOf x5 7 1 := by
  unfold sl.v5495
  rw [View.readCov_eq_canon']
  exact read_old 16 state_17

/-- A read of sequence 8's head 1: the old states. -/
theorem read_v5503 : sl.v5503 c a2 p2 a5 p5 a6 p6 a7 p7 a9 p9 a10 p10 a11 p11 a18 a21 a22 a23 x1 x4 x5 x6 x8 x9 x10 = headOf x5 8 1 := by
  unfold sl.v5503
  rw [View.readCov_eq_canon']
  exact read_old 16 state_17

/-- A read of sequence 9's head 1: the old states. -/
theorem read_v5511 : sl.v5511 c a2 p2 a5 p5 a6 p6 a7 p7 a9 p9 a10 p10 a11 p11 a18 a21 a22 a23 x1 x4 x5 x6 x8 x9 x10 = headOf x5 9 1 := by
  unfold sl.v5511
  rw [View.readCov_eq_canon']
  exact read_old 16 state_17

/-- A read of sequence 10's head 1: the old states. -/
theorem read_v5519 : sl.v5519 c a2 p2 a5 p5 a6 p6 a7 p7 a9 p9 a10 p10 a11 p11 a18 a21 a22 a23 x1 x4 x5 x6 x8 x9 x10 = headOf x5 10 1 := by
  unfold sl.v5519
  rw [View.readCov_eq_canon']
  exact read_old 16 state_17

/-- A read of sequence 11's head 1: the old states. -/
theorem read_v5527 : sl.v5527 c a2 p2 a5 p5 a6 p6 a7 p7 a9 p9 a10 p10 a11 p11 a18 a21 a22 a23 x1 x4 x5 x6 x8 x9 x10 = headOf x5 11 1 := by
  unfold sl.v5527
  rw [View.readCov_eq_canon']
  exact read_old 16 state_17

/-- A read of sequence 12's head 1: the old states. -/
theorem read_v5535 : sl.v5535 c a2 p2 a5 p5 a6 p6 a7 p7 a9 p9 a10 p10 a11 p11 a18 a21 a22 a23 x1 x4 x5 x6 x8 x9 x10 = headOf x5 12 1 := by
  unfold sl.v5535
  rw [View.readCov_eq_canon']
  exact read_old 16 state_17

/-- A read of sequence 13's head 1: the old states. -/
theorem read_v5543 : sl.v5543 c a2 p2 a5 p5 a6 p6 a7 p7 a9 p9 a10 p10 a11 p11 a18 a21 a22 a23 x1 x4 x5 x6 x8 x9 x10 = headOf x5 13 1 := by
  unfold sl.v5543
  rw [View.readCov_eq_canon']
  exact read_old 16 state_17

/-- A read of sequence 14's head 1: the old states. -/
theorem read_v5551 : sl.v5551 c a2 p2 a5 p5 a6 p6 a7 p7 a9 p9 a10 p10 a11 p11 a18 a21 a22 a23 x1 x4 x5 x6 x8 x9 x10 = headOf x5 14 1 := by
  unfold sl.v5551
  rw [View.readCov_eq_canon']
  exact read_old 16 state_17

/-- A read of sequence 15's head 1: the old states. -/
theorem read_v5559 : sl.v5559 c a2 p2 a5 p5 a6 p6 a7 p7 a9 p9 a10 p10 a11 p11 a18 a21 a22 a23 x1 x4 x5 x6 x8 x9 x10 = headOf x5 15 1 := by
  unfold sl.v5559
  rw [View.readCov_eq_canon']
  exact read_old 16 state_17

/-- A read of sequence 1's head 1: the old states. -/
theorem read_v5584 : sl.v5584 c a2 p2 a5 p5 a6 p6 a7 p7 a9 p9 a10 p10 a11 p11 a18 a21 a22 a23 x1 x4 x5 x6 x8 x9 x10 = headOf x5 1 1 := by
  unfold sl.v5584
  rw [View.readCov_eq_canon']
  exact read_old 17 state_18

/-- A read of sequence 2's head 1: the old states. -/
theorem read_v5597 : sl.v5597 c a2 p2 a5 p5 a6 p6 a7 p7 a9 p9 a10 p10 a11 p11 a18 a21 a22 a23 x1 x4 x5 x6 x8 x9 x10 = headOf x5 2 1 := by
  unfold sl.v5597
  rw [View.readCov_eq_canon']
  exact read_old 18 state_19

/-- A read of sequence 3's head 1: the old states. -/
theorem read_v5610 : sl.v5610 c a2 p2 a5 p5 a6 p6 a7 p7 a9 p9 a10 p10 a11 p11 a18 a21 a22 a23 x1 x4 x5 x6 x8 x9 x10 = headOf x5 3 1 := by
  unfold sl.v5610
  rw [View.readCov_eq_canon']
  exact read_old 19 state_20

/-- A read of sequence 4's head 1: the old states. -/
theorem read_v5623 : sl.v5623 c a2 p2 a5 p5 a6 p6 a7 p7 a9 p9 a10 p10 a11 p11 a18 a21 a22 a23 x1 x4 x5 x6 x8 x9 x10 = headOf x5 4 1 := by
  unfold sl.v5623
  rw [View.readCov_eq_canon']
  exact read_old 20 state_21

/-- A read of sequence 5's head 1: the old states. -/
theorem read_v5636 : sl.v5636 c a2 p2 a5 p5 a6 p6 a7 p7 a9 p9 a10 p10 a11 p11 a18 a21 a22 a23 x1 x4 x5 x6 x8 x9 x10 = headOf x5 5 1 := by
  unfold sl.v5636
  rw [View.readCov_eq_canon']
  exact read_old 21 state_22

/-- A read of sequence 6's head 1: the old states. -/
theorem read_v5649 : sl.v5649 c a2 p2 a5 p5 a6 p6 a7 p7 a9 p9 a10 p10 a11 p11 a18 a21 a22 a23 x1 x4 x5 x6 x8 x9 x10 = headOf x5 6 1 := by
  unfold sl.v5649
  rw [View.readCov_eq_canon']
  exact read_old 22 state_23

/-- A read of sequence 7's head 1: the old states. -/
theorem read_v5662 : sl.v5662 c a2 p2 a5 p5 a6 p6 a7 p7 a9 p9 a10 p10 a11 p11 a18 a21 a22 a23 x1 x4 x5 x6 x8 x9 x10 = headOf x5 7 1 := by
  unfold sl.v5662
  rw [View.readCov_eq_canon']
  exact read_old 23 state_24

/-- A read of sequence 8's head 1: the old states. -/
theorem read_v5675 : sl.v5675 c a2 p2 a5 p5 a6 p6 a7 p7 a9 p9 a10 p10 a11 p11 a18 a21 a22 a23 x1 x4 x5 x6 x8 x9 x10 = headOf x5 8 1 := by
  unfold sl.v5675
  rw [View.readCov_eq_canon']
  exact read_old 24 state_25

/-- A read of sequence 9's head 1: the old states. -/
theorem read_v5688 : sl.v5688 c a2 p2 a5 p5 a6 p6 a7 p7 a9 p9 a10 p10 a11 p11 a18 a21 a22 a23 x1 x4 x5 x6 x8 x9 x10 = headOf x5 9 1 := by
  unfold sl.v5688
  rw [View.readCov_eq_canon']
  exact read_old 25 state_26

/-- A read of sequence 10's head 1: the old states. -/
theorem read_v5701 : sl.v5701 c a2 p2 a5 p5 a6 p6 a7 p7 a9 p9 a10 p10 a11 p11 a18 a21 a22 a23 x1 x4 x5 x6 x8 x9 x10 = headOf x5 10 1 := by
  unfold sl.v5701
  rw [View.readCov_eq_canon']
  exact read_old 26 state_27

/-- A read of sequence 11's head 1: the old states. -/
theorem read_v5714 : sl.v5714 c a2 p2 a5 p5 a6 p6 a7 p7 a9 p9 a10 p10 a11 p11 a18 a21 a22 a23 x1 x4 x5 x6 x8 x9 x10 = headOf x5 11 1 := by
  unfold sl.v5714
  rw [View.readCov_eq_canon']
  exact read_old 27 state_28

/-- A read of sequence 12's head 1: the old states. -/
theorem read_v5727 : sl.v5727 c a2 p2 a5 p5 a6 p6 a7 p7 a9 p9 a10 p10 a11 p11 a18 a21 a22 a23 x1 x4 x5 x6 x8 x9 x10 = headOf x5 12 1 := by
  unfold sl.v5727
  rw [View.readCov_eq_canon']
  exact read_old 28 state_29

/-- A read of sequence 13's head 1: the old states. -/
theorem read_v5740 : sl.v5740 c a2 p2 a5 p5 a6 p6 a7 p7 a9 p9 a10 p10 a11 p11 a18 a21 a22 a23 x1 x4 x5 x6 x8 x9 x10 = headOf x5 13 1 := by
  unfold sl.v5740
  rw [View.readCov_eq_canon']
  exact read_old 29 state_30

/-- A read of sequence 14's head 1: the old states. -/
theorem read_v5753 : sl.v5753 c a2 p2 a5 p5 a6 p6 a7 p7 a9 p9 a10 p10 a11 p11 a18 a21 a22 a23 x1 x4 x5 x6 x8 x9 x10 = headOf x5 14 1 := by
  unfold sl.v5753
  rw [View.readCov_eq_canon']
  exact read_old 30 state_31

/-- A read of sequence 15's head 1: the old states. -/
theorem read_v5766 : sl.v5766 c a2 p2 a5 p5 a6 p6 a7 p7 a9 p9 a10 p10 a11 p11 a18 a21 a22 a23 x1 x4 x5 x6 x8 x9 x10 = headOf x5 15 1 := by
  unfold sl.v5766
  rw [View.readCov_eq_canon']
  exact read_old 31 state_32

/-- A read of sequence 0's head 2: the old states. -/
theorem read_v5823 : sl.v5823 c a2 p2 a5 p5 a6 p6 a7 p7 a9 p9 a10 p10 a11 p11 a18 a21 a22 a23 x1 x4 x5 x6 x8 x9 x10 = headOf x5 0 2 := by
  unfold sl.v5823
  rw [View.readCov_eq_canon']
  exact read_old 32 state_33

/-- A read of sequence 1's head 2: the old states. -/
theorem read_v5831 : sl.v5831 c a2 p2 a5 p5 a6 p6 a7 p7 a9 p9 a10 p10 a11 p11 a18 a21 a22 a23 x1 x4 x5 x6 x8 x9 x10 = headOf x5 1 2 := by
  unfold sl.v5831
  rw [View.readCov_eq_canon']
  exact read_old 32 state_33

/-- A read of sequence 2's head 2: the old states. -/
theorem read_v5839 : sl.v5839 c a2 p2 a5 p5 a6 p6 a7 p7 a9 p9 a10 p10 a11 p11 a18 a21 a22 a23 x1 x4 x5 x6 x8 x9 x10 = headOf x5 2 2 := by
  unfold sl.v5839
  rw [View.readCov_eq_canon']
  exact read_old 32 state_33

/-- A read of sequence 3's head 2: the old states. -/
theorem read_v5847 : sl.v5847 c a2 p2 a5 p5 a6 p6 a7 p7 a9 p9 a10 p10 a11 p11 a18 a21 a22 a23 x1 x4 x5 x6 x8 x9 x10 = headOf x5 3 2 := by
  unfold sl.v5847
  rw [View.readCov_eq_canon']
  exact read_old 32 state_33

/-- A read of sequence 4's head 2: the old states. -/
theorem read_v5855 : sl.v5855 c a2 p2 a5 p5 a6 p6 a7 p7 a9 p9 a10 p10 a11 p11 a18 a21 a22 a23 x1 x4 x5 x6 x8 x9 x10 = headOf x5 4 2 := by
  unfold sl.v5855
  rw [View.readCov_eq_canon']
  exact read_old 32 state_33

/-- A read of sequence 5's head 2: the old states. -/
theorem read_v5863 : sl.v5863 c a2 p2 a5 p5 a6 p6 a7 p7 a9 p9 a10 p10 a11 p11 a18 a21 a22 a23 x1 x4 x5 x6 x8 x9 x10 = headOf x5 5 2 := by
  unfold sl.v5863
  rw [View.readCov_eq_canon']
  exact read_old 32 state_33

/-- A read of sequence 6's head 2: the old states. -/
theorem read_v5871 : sl.v5871 c a2 p2 a5 p5 a6 p6 a7 p7 a9 p9 a10 p10 a11 p11 a18 a21 a22 a23 x1 x4 x5 x6 x8 x9 x10 = headOf x5 6 2 := by
  unfold sl.v5871
  rw [View.readCov_eq_canon']
  exact read_old 32 state_33

/-- A read of sequence 7's head 2: the old states. -/
theorem read_v5879 : sl.v5879 c a2 p2 a5 p5 a6 p6 a7 p7 a9 p9 a10 p10 a11 p11 a18 a21 a22 a23 x1 x4 x5 x6 x8 x9 x10 = headOf x5 7 2 := by
  unfold sl.v5879
  rw [View.readCov_eq_canon']
  exact read_old 32 state_33

/-- A read of sequence 8's head 2: the old states. -/
theorem read_v5887 : sl.v5887 c a2 p2 a5 p5 a6 p6 a7 p7 a9 p9 a10 p10 a11 p11 a18 a21 a22 a23 x1 x4 x5 x6 x8 x9 x10 = headOf x5 8 2 := by
  unfold sl.v5887
  rw [View.readCov_eq_canon']
  exact read_old 32 state_33

/-- A read of sequence 9's head 2: the old states. -/
theorem read_v5895 : sl.v5895 c a2 p2 a5 p5 a6 p6 a7 p7 a9 p9 a10 p10 a11 p11 a18 a21 a22 a23 x1 x4 x5 x6 x8 x9 x10 = headOf x5 9 2 := by
  unfold sl.v5895
  rw [View.readCov_eq_canon']
  exact read_old 32 state_33

/-- A read of sequence 10's head 2: the old states. -/
theorem read_v5903 : sl.v5903 c a2 p2 a5 p5 a6 p6 a7 p7 a9 p9 a10 p10 a11 p11 a18 a21 a22 a23 x1 x4 x5 x6 x8 x9 x10 = headOf x5 10 2 := by
  unfold sl.v5903
  rw [View.readCov_eq_canon']
  exact read_old 32 state_33

/-- A read of sequence 11's head 2: the old states. -/
theorem read_v5911 : sl.v5911 c a2 p2 a5 p5 a6 p6 a7 p7 a9 p9 a10 p10 a11 p11 a18 a21 a22 a23 x1 x4 x5 x6 x8 x9 x10 = headOf x5 11 2 := by
  unfold sl.v5911
  rw [View.readCov_eq_canon']
  exact read_old 32 state_33

/-- A read of sequence 12's head 2: the old states. -/
theorem read_v5919 : sl.v5919 c a2 p2 a5 p5 a6 p6 a7 p7 a9 p9 a10 p10 a11 p11 a18 a21 a22 a23 x1 x4 x5 x6 x8 x9 x10 = headOf x5 12 2 := by
  unfold sl.v5919
  rw [View.readCov_eq_canon']
  exact read_old 32 state_33

/-- A read of sequence 13's head 2: the old states. -/
theorem read_v5927 : sl.v5927 c a2 p2 a5 p5 a6 p6 a7 p7 a9 p9 a10 p10 a11 p11 a18 a21 a22 a23 x1 x4 x5 x6 x8 x9 x10 = headOf x5 13 2 := by
  unfold sl.v5927
  rw [View.readCov_eq_canon']
  exact read_old 32 state_33

/-- A read of sequence 14's head 2: the old states. -/
theorem read_v5935 : sl.v5935 c a2 p2 a5 p5 a6 p6 a7 p7 a9 p9 a10 p10 a11 p11 a18 a21 a22 a23 x1 x4 x5 x6 x8 x9 x10 = headOf x5 14 2 := by
  unfold sl.v5935
  rw [View.readCov_eq_canon']
  exact read_old 32 state_33

/-- A read of sequence 15's head 2: the old states. -/
theorem read_v5943 : sl.v5943 c a2 p2 a5 p5 a6 p6 a7 p7 a9 p9 a10 p10 a11 p11 a18 a21 a22 a23 x1 x4 x5 x6 x8 x9 x10 = headOf x5 15 2 := by
  unfold sl.v5943
  rw [View.readCov_eq_canon']
  exact read_old 32 state_33

/-- A read of sequence 1's head 2: the old states. -/
theorem read_v5968 : sl.v5968 c a2 p2 a5 p5 a6 p6 a7 p7 a9 p9 a10 p10 a11 p11 a18 a21 a22 a23 x1 x4 x5 x6 x8 x9 x10 = headOf x5 1 2 := by
  unfold sl.v5968
  rw [View.readCov_eq_canon']
  exact read_old 33 state_34

/-- A read of sequence 2's head 2: the old states. -/
theorem read_v5981 : sl.v5981 c a2 p2 a5 p5 a6 p6 a7 p7 a9 p9 a10 p10 a11 p11 a18 a21 a22 a23 x1 x4 x5 x6 x8 x9 x10 = headOf x5 2 2 := by
  unfold sl.v5981
  rw [View.readCov_eq_canon']
  exact read_old 34 state_35

/-- A read of sequence 3's head 2: the old states. -/
theorem read_v5994 : sl.v5994 c a2 p2 a5 p5 a6 p6 a7 p7 a9 p9 a10 p10 a11 p11 a18 a21 a22 a23 x1 x4 x5 x6 x8 x9 x10 = headOf x5 3 2 := by
  unfold sl.v5994
  rw [View.readCov_eq_canon']
  exact read_old 35 state_36

/-- A read of sequence 4's head 2: the old states. -/
theorem read_v6007 : sl.v6007 c a2 p2 a5 p5 a6 p6 a7 p7 a9 p9 a10 p10 a11 p11 a18 a21 a22 a23 x1 x4 x5 x6 x8 x9 x10 = headOf x5 4 2 := by
  unfold sl.v6007
  rw [View.readCov_eq_canon']
  exact read_old 36 state_37

/-- A read of sequence 5's head 2: the old states. -/
theorem read_v6020 : sl.v6020 c a2 p2 a5 p5 a6 p6 a7 p7 a9 p9 a10 p10 a11 p11 a18 a21 a22 a23 x1 x4 x5 x6 x8 x9 x10 = headOf x5 5 2 := by
  unfold sl.v6020
  rw [View.readCov_eq_canon']
  exact read_old 37 state_38

/-- A read of sequence 6's head 2: the old states. -/
theorem read_v6033 : sl.v6033 c a2 p2 a5 p5 a6 p6 a7 p7 a9 p9 a10 p10 a11 p11 a18 a21 a22 a23 x1 x4 x5 x6 x8 x9 x10 = headOf x5 6 2 := by
  unfold sl.v6033
  rw [View.readCov_eq_canon']
  exact read_old 38 state_39

/-- A read of sequence 7's head 2: the old states. -/
theorem read_v6046 : sl.v6046 c a2 p2 a5 p5 a6 p6 a7 p7 a9 p9 a10 p10 a11 p11 a18 a21 a22 a23 x1 x4 x5 x6 x8 x9 x10 = headOf x5 7 2 := by
  unfold sl.v6046
  rw [View.readCov_eq_canon']
  exact read_old 39 state_40

/-- A read of sequence 8's head 2: the old states. -/
theorem read_v6059 : sl.v6059 c a2 p2 a5 p5 a6 p6 a7 p7 a9 p9 a10 p10 a11 p11 a18 a21 a22 a23 x1 x4 x5 x6 x8 x9 x10 = headOf x5 8 2 := by
  unfold sl.v6059
  rw [View.readCov_eq_canon']
  exact read_old 40 state_41

/-- A read of sequence 9's head 2: the old states. -/
theorem read_v6072 : sl.v6072 c a2 p2 a5 p5 a6 p6 a7 p7 a9 p9 a10 p10 a11 p11 a18 a21 a22 a23 x1 x4 x5 x6 x8 x9 x10 = headOf x5 9 2 := by
  unfold sl.v6072
  rw [View.readCov_eq_canon']
  exact read_old 41 state_42

/-- A read of sequence 10's head 2: the old states. -/
theorem read_v6085 : sl.v6085 c a2 p2 a5 p5 a6 p6 a7 p7 a9 p9 a10 p10 a11 p11 a18 a21 a22 a23 x1 x4 x5 x6 x8 x9 x10 = headOf x5 10 2 := by
  unfold sl.v6085
  rw [View.readCov_eq_canon']
  exact read_old 42 state_43

/-- A read of sequence 11's head 2: the old states. -/
theorem read_v6098 : sl.v6098 c a2 p2 a5 p5 a6 p6 a7 p7 a9 p9 a10 p10 a11 p11 a18 a21 a22 a23 x1 x4 x5 x6 x8 x9 x10 = headOf x5 11 2 := by
  unfold sl.v6098
  rw [View.readCov_eq_canon']
  exact read_old 43 state_44

/-- A read of sequence 12's head 2: the old states. -/
theorem read_v6111 : sl.v6111 c a2 p2 a5 p5 a6 p6 a7 p7 a9 p9 a10 p10 a11 p11 a18 a21 a22 a23 x1 x4 x5 x6 x8 x9 x10 = headOf x5 12 2 := by
  unfold sl.v6111
  rw [View.readCov_eq_canon']
  exact read_old 44 state_45

/-- A read of sequence 13's head 2: the old states. -/
theorem read_v6124 : sl.v6124 c a2 p2 a5 p5 a6 p6 a7 p7 a9 p9 a10 p10 a11 p11 a18 a21 a22 a23 x1 x4 x5 x6 x8 x9 x10 = headOf x5 13 2 := by
  unfold sl.v6124
  rw [View.readCov_eq_canon']
  exact read_old 45 state_46

/-- A read of sequence 14's head 2: the old states. -/
theorem read_v6137 : sl.v6137 c a2 p2 a5 p5 a6 p6 a7 p7 a9 p9 a10 p10 a11 p11 a18 a21 a22 a23 x1 x4 x5 x6 x8 x9 x10 = headOf x5 14 2 := by
  unfold sl.v6137
  rw [View.readCov_eq_canon']
  exact read_old 46 state_47

/-- A read of sequence 15's head 2: the old states. -/
theorem read_v6150 : sl.v6150 c a2 p2 a5 p5 a6 p6 a7 p7 a9 p9 a10 p10 a11 p11 a18 a21 a22 a23 x1 x4 x5 x6 x8 x9 x10 = headOf x5 15 2 := by
  unfold sl.v6150
  rw [View.readCov_eq_canon']
  exact read_old 47 state_48

/-- A read of sequence 0's head 3: the old states. -/
theorem read_v6207 : sl.v6207 c a2 p2 a5 p5 a6 p6 a7 p7 a9 p9 a10 p10 a11 p11 a18 a21 a22 a23 x1 x4 x5 x6 x8 x9 x10 = headOf x5 0 3 := by
  unfold sl.v6207
  rw [View.readCov_eq_canon']
  exact read_old 48 state_49

/-- A read of sequence 1's head 3: the old states. -/
theorem read_v6215 : sl.v6215 c a2 p2 a5 p5 a6 p6 a7 p7 a9 p9 a10 p10 a11 p11 a18 a21 a22 a23 x1 x4 x5 x6 x8 x9 x10 = headOf x5 1 3 := by
  unfold sl.v6215
  rw [View.readCov_eq_canon']
  exact read_old 48 state_49

/-- A read of sequence 2's head 3: the old states. -/
theorem read_v6223 : sl.v6223 c a2 p2 a5 p5 a6 p6 a7 p7 a9 p9 a10 p10 a11 p11 a18 a21 a22 a23 x1 x4 x5 x6 x8 x9 x10 = headOf x5 2 3 := by
  unfold sl.v6223
  rw [View.readCov_eq_canon']
  exact read_old 48 state_49

/-- A read of sequence 3's head 3: the old states. -/
theorem read_v6231 : sl.v6231 c a2 p2 a5 p5 a6 p6 a7 p7 a9 p9 a10 p10 a11 p11 a18 a21 a22 a23 x1 x4 x5 x6 x8 x9 x10 = headOf x5 3 3 := by
  unfold sl.v6231
  rw [View.readCov_eq_canon']
  exact read_old 48 state_49

/-- A read of sequence 4's head 3: the old states. -/
theorem read_v6239 : sl.v6239 c a2 p2 a5 p5 a6 p6 a7 p7 a9 p9 a10 p10 a11 p11 a18 a21 a22 a23 x1 x4 x5 x6 x8 x9 x10 = headOf x5 4 3 := by
  unfold sl.v6239
  rw [View.readCov_eq_canon']
  exact read_old 48 state_49

/-- A read of sequence 5's head 3: the old states. -/
theorem read_v6247 : sl.v6247 c a2 p2 a5 p5 a6 p6 a7 p7 a9 p9 a10 p10 a11 p11 a18 a21 a22 a23 x1 x4 x5 x6 x8 x9 x10 = headOf x5 5 3 := by
  unfold sl.v6247
  rw [View.readCov_eq_canon']
  exact read_old 48 state_49

/-- A read of sequence 6's head 3: the old states. -/
theorem read_v6255 : sl.v6255 c a2 p2 a5 p5 a6 p6 a7 p7 a9 p9 a10 p10 a11 p11 a18 a21 a22 a23 x1 x4 x5 x6 x8 x9 x10 = headOf x5 6 3 := by
  unfold sl.v6255
  rw [View.readCov_eq_canon']
  exact read_old 48 state_49

/-- A read of sequence 7's head 3: the old states. -/
theorem read_v6263 : sl.v6263 c a2 p2 a5 p5 a6 p6 a7 p7 a9 p9 a10 p10 a11 p11 a18 a21 a22 a23 x1 x4 x5 x6 x8 x9 x10 = headOf x5 7 3 := by
  unfold sl.v6263
  rw [View.readCov_eq_canon']
  exact read_old 48 state_49

/-- A read of sequence 8's head 3: the old states. -/
theorem read_v6271 : sl.v6271 c a2 p2 a5 p5 a6 p6 a7 p7 a9 p9 a10 p10 a11 p11 a18 a21 a22 a23 x1 x4 x5 x6 x8 x9 x10 = headOf x5 8 3 := by
  unfold sl.v6271
  rw [View.readCov_eq_canon']
  exact read_old 48 state_49

/-- A read of sequence 9's head 3: the old states. -/
theorem read_v6279 : sl.v6279 c a2 p2 a5 p5 a6 p6 a7 p7 a9 p9 a10 p10 a11 p11 a18 a21 a22 a23 x1 x4 x5 x6 x8 x9 x10 = headOf x5 9 3 := by
  unfold sl.v6279
  rw [View.readCov_eq_canon']
  exact read_old 48 state_49

/-- A read of sequence 10's head 3: the old states. -/
theorem read_v6287 : sl.v6287 c a2 p2 a5 p5 a6 p6 a7 p7 a9 p9 a10 p10 a11 p11 a18 a21 a22 a23 x1 x4 x5 x6 x8 x9 x10 = headOf x5 10 3 := by
  unfold sl.v6287
  rw [View.readCov_eq_canon']
  exact read_old 48 state_49

/-- A read of sequence 11's head 3: the old states. -/
theorem read_v6295 : sl.v6295 c a2 p2 a5 p5 a6 p6 a7 p7 a9 p9 a10 p10 a11 p11 a18 a21 a22 a23 x1 x4 x5 x6 x8 x9 x10 = headOf x5 11 3 := by
  unfold sl.v6295
  rw [View.readCov_eq_canon']
  exact read_old 48 state_49

/-- A read of sequence 12's head 3: the old states. -/
theorem read_v6303 : sl.v6303 c a2 p2 a5 p5 a6 p6 a7 p7 a9 p9 a10 p10 a11 p11 a18 a21 a22 a23 x1 x4 x5 x6 x8 x9 x10 = headOf x5 12 3 := by
  unfold sl.v6303
  rw [View.readCov_eq_canon']
  exact read_old 48 state_49

/-- A read of sequence 13's head 3: the old states. -/
theorem read_v6311 : sl.v6311 c a2 p2 a5 p5 a6 p6 a7 p7 a9 p9 a10 p10 a11 p11 a18 a21 a22 a23 x1 x4 x5 x6 x8 x9 x10 = headOf x5 13 3 := by
  unfold sl.v6311
  rw [View.readCov_eq_canon']
  exact read_old 48 state_49

/-- A read of sequence 14's head 3: the old states. -/
theorem read_v6319 : sl.v6319 c a2 p2 a5 p5 a6 p6 a7 p7 a9 p9 a10 p10 a11 p11 a18 a21 a22 a23 x1 x4 x5 x6 x8 x9 x10 = headOf x5 14 3 := by
  unfold sl.v6319
  rw [View.readCov_eq_canon']
  exact read_old 48 state_49

/-- A read of sequence 15's head 3: the old states. -/
theorem read_v6327 : sl.v6327 c a2 p2 a5 p5 a6 p6 a7 p7 a9 p9 a10 p10 a11 p11 a18 a21 a22 a23 x1 x4 x5 x6 x8 x9 x10 = headOf x5 15 3 := by
  unfold sl.v6327
  rw [View.readCov_eq_canon']
  exact read_old 48 state_49

/-- A read of sequence 1's head 3: the old states. -/
theorem read_v6352 : sl.v6352 c a2 p2 a5 p5 a6 p6 a7 p7 a9 p9 a10 p10 a11 p11 a18 a21 a22 a23 x1 x4 x5 x6 x8 x9 x10 = headOf x5 1 3 := by
  unfold sl.v6352
  rw [View.readCov_eq_canon']
  exact read_old 49 state_50

/-- A read of sequence 2's head 3: the old states. -/
theorem read_v6365 : sl.v6365 c a2 p2 a5 p5 a6 p6 a7 p7 a9 p9 a10 p10 a11 p11 a18 a21 a22 a23 x1 x4 x5 x6 x8 x9 x10 = headOf x5 2 3 := by
  unfold sl.v6365
  rw [View.readCov_eq_canon']
  exact read_old 50 state_51

/-- A read of sequence 3's head 3: the old states. -/
theorem read_v6378 : sl.v6378 c a2 p2 a5 p5 a6 p6 a7 p7 a9 p9 a10 p10 a11 p11 a18 a21 a22 a23 x1 x4 x5 x6 x8 x9 x10 = headOf x5 3 3 := by
  unfold sl.v6378
  rw [View.readCov_eq_canon']
  exact read_old 51 state_52

/-- A read of sequence 4's head 3: the old states. -/
theorem read_v6391 : sl.v6391 c a2 p2 a5 p5 a6 p6 a7 p7 a9 p9 a10 p10 a11 p11 a18 a21 a22 a23 x1 x4 x5 x6 x8 x9 x10 = headOf x5 4 3 := by
  unfold sl.v6391
  rw [View.readCov_eq_canon']
  exact read_old 52 state_53

/-- A read of sequence 5's head 3: the old states. -/
theorem read_v6404 : sl.v6404 c a2 p2 a5 p5 a6 p6 a7 p7 a9 p9 a10 p10 a11 p11 a18 a21 a22 a23 x1 x4 x5 x6 x8 x9 x10 = headOf x5 5 3 := by
  unfold sl.v6404
  rw [View.readCov_eq_canon']
  exact read_old 53 state_54

/-- A read of sequence 6's head 3: the old states. -/
theorem read_v6417 : sl.v6417 c a2 p2 a5 p5 a6 p6 a7 p7 a9 p9 a10 p10 a11 p11 a18 a21 a22 a23 x1 x4 x5 x6 x8 x9 x10 = headOf x5 6 3 := by
  unfold sl.v6417
  rw [View.readCov_eq_canon']
  exact read_old 54 state_55

/-- A read of sequence 7's head 3: the old states. -/
theorem read_v6430 : sl.v6430 c a2 p2 a5 p5 a6 p6 a7 p7 a9 p9 a10 p10 a11 p11 a18 a21 a22 a23 x1 x4 x5 x6 x8 x9 x10 = headOf x5 7 3 := by
  unfold sl.v6430
  rw [View.readCov_eq_canon']
  exact read_old 55 state_56

/-- A read of sequence 8's head 3: the old states. -/
theorem read_v6443 : sl.v6443 c a2 p2 a5 p5 a6 p6 a7 p7 a9 p9 a10 p10 a11 p11 a18 a21 a22 a23 x1 x4 x5 x6 x8 x9 x10 = headOf x5 8 3 := by
  unfold sl.v6443
  rw [View.readCov_eq_canon']
  exact read_old 56 state_57

/-- A read of sequence 9's head 3: the old states. -/
theorem read_v6456 : sl.v6456 c a2 p2 a5 p5 a6 p6 a7 p7 a9 p9 a10 p10 a11 p11 a18 a21 a22 a23 x1 x4 x5 x6 x8 x9 x10 = headOf x5 9 3 := by
  unfold sl.v6456
  rw [View.readCov_eq_canon']
  exact read_old 57 state_58

/-- A read of sequence 10's head 3: the old states. -/
theorem read_v6469 : sl.v6469 c a2 p2 a5 p5 a6 p6 a7 p7 a9 p9 a10 p10 a11 p11 a18 a21 a22 a23 x1 x4 x5 x6 x8 x9 x10 = headOf x5 10 3 := by
  unfold sl.v6469
  rw [View.readCov_eq_canon']
  exact read_old 58 state_59

/-- A read of sequence 11's head 3: the old states. -/
theorem read_v6482 : sl.v6482 c a2 p2 a5 p5 a6 p6 a7 p7 a9 p9 a10 p10 a11 p11 a18 a21 a22 a23 x1 x4 x5 x6 x8 x9 x10 = headOf x5 11 3 := by
  unfold sl.v6482
  rw [View.readCov_eq_canon']
  exact read_old 59 state_60

/-- A read of sequence 12's head 3: the old states. -/
theorem read_v6495 : sl.v6495 c a2 p2 a5 p5 a6 p6 a7 p7 a9 p9 a10 p10 a11 p11 a18 a21 a22 a23 x1 x4 x5 x6 x8 x9 x10 = headOf x5 12 3 := by
  unfold sl.v6495
  rw [View.readCov_eq_canon']
  exact read_old 60 state_61

/-- A read of sequence 13's head 3: the old states. -/
theorem read_v6508 : sl.v6508 c a2 p2 a5 p5 a6 p6 a7 p7 a9 p9 a10 p10 a11 p11 a18 a21 a22 a23 x1 x4 x5 x6 x8 x9 x10 = headOf x5 13 3 := by
  unfold sl.v6508
  rw [View.readCov_eq_canon']
  exact read_old 61 state_62

/-- A read of sequence 14's head 3: the old states. -/
theorem read_v6521 : sl.v6521 c a2 p2 a5 p5 a6 p6 a7 p7 a9 p9 a10 p10 a11 p11 a18 a21 a22 a23 x1 x4 x5 x6 x8 x9 x10 = headOf x5 14 3 := by
  unfold sl.v6521
  rw [View.readCov_eq_canon']
  exact read_old 62 state_63

/-- A read of sequence 15's head 3: the old states. -/
theorem read_v6534 : sl.v6534 c a2 p2 a5 p5 a6 p6 a7 p7 a9 p9 a10 p10 a11 p11 a18 a21 a22 a23 x1 x4 x5 x6 x8 x9 x10 = headOf x5 15 3 := by
  unfold sl.v6534
  rw [View.readCov_eq_canon']
  exact read_old 63 state_64

/-- The new states: the old ones decayed to the chunk's end, plus the outer products of the decayed keys and the solved rows. -/
def newS (x5 : Vec Ideal S1x16x4x128x128 .f32) (G : Fin 4 → FVec Ideal S128x1 .f32) (K W : Fin 4 → FVec Ideal S128x128 .f32) : S1x16x4x128x128.Idx → EReal := fun y =>
  x5 y * Ideal.exp (G (y 2) (ix2 ⟨8 * (y 1).val + 7, by have := (y 1).isLt; change (y 1).val < 16 at this; omega⟩ 0))
    + ∑ i : Fin 8, K (y 2) (ix2 (y 3) ⟨8 * (y 1).val + i.val, by have := (y 1).isLt; change (y 1).val < 16 at this; omega⟩)
      * W (y 2) (ix2 ⟨8 * (y 1).val + i.val, by have := (y 1).isLt; change (y 1).val < 16 at this; omega⟩ (y 4))

/-- A word of the new states. -/
theorem newS_at (x5 : Vec Ideal S1x16x4x128x128 .f32) (G : Fin 4 → FVec Ideal S128x1 .f32) (K W : Fin 4 → FVec Ideal S128x128 .f32) (b : Fin 16) (h : Fin 4)
    (d v : Fin 128) (s : ℕ) (hs : s = 8 * b.val := by rfl) (hl : s < 121 := by decide) :
    newS x5 G K W (ix5 0 b h d v) = x5 (ix5 0 b h d v) * Ideal.exp (G h (ix2 ⟨s + 7, by omega⟩ 0))
      + ∑ i : Fin 8, K h (ix2 d ⟨s + i.val, by omega⟩) * W h (ix2 ⟨s + i.val, by omega⟩ v) := by
  subst hs
  rfl

/-- A word of the first sequence's new states. -/
theorem newS_at0 (x5 : Vec Ideal S1x16x4x128x128 .f32) (G : Fin 4 → FVec Ideal S128x1 .f32) (K W : Fin 4 → FVec Ideal S128x128 .f32) (h : Fin 4) (d v : Fin 128) :
    newS x5 G K W (ix5 0 0 h d v) = x5 (ix5 0 0 h d v) * Ideal.exp (G h (ix2 ⟨7, by omega⟩ 0))
      + ∑ i : Fin 8, K h (ix2 d ⟨i.val, by omega⟩) * W h (ix2 ⟨i.val, by omega⟩ v) :=
  (newS_at x5 G K W 0 h d v 0 rfl (by decide)).trans (by simp only [Nat.zero_add])

/-- The words of one sequence's head by row and column. -/
theorem idx5 (x : S1x1x1x128x128.Idx) : ∃ (d v : Fin 128), x = ix5 0 0 0 d v := by
  refine ⟨x 3, x 4, funext fun a => ?_⟩
  have h0 : (x 0).val < 1 := (x 0).isLt
  have h1 : (x 1).val < 1 := (x 1).isLt
  have h2 : (x 2).val < 1 := (x 2).isLt
  match a with
  | ⟨0, _⟩ => exact Fin.ext (by show (x 0).val = 0; omega)
  | ⟨1, _⟩ => exact Fin.ext (by show (x 1).val = 0; omega)
  | ⟨2, _⟩ => exact Fin.ext (by show (x 2).val = 0; omega)
  | ⟨3, _⟩ => rfl
  | ⟨4, _⟩ => rfl

/-- The new states of one grid point, of the kernel's running sums, decayed keys and solved rows. -/
@[reducible] def blkS : S1x16x4x128x128.Idx → EReal :=
  newS x5 ![sl.r_689 c a5 p5 a10 p10 a11 p11 x4 x9 x10, sl.r_695 c a5 p5 a10 p10 a11 p11 x4 x9 x10, sl.r_701 c a5 p5 a10 p10 a11 p11 x4 x9 x10, sl.r_707 c a5 p5 a10 p10 a11 p11 x4 x9 x10] ![sl.r_730 c a2 p2 a5 p5 a7 p7 a9 p9 a10 p10 a11 p11 a22 x1 x4 x6 x8 x9 x10, sl.r_777 c a2 p2 a5 p5 a7 p7 a9 p9 a10 p10 a11 p11 a22 x1 x4 x6 x8 x9 x10, sl.r_828 c a2 p2 a5 p5 a7 p7 a9 p9 a10 p10 a11 p11 a22 x1 x4 x6 x8 x9 x10, sl.r_876 c a2 p2 a5 p5 a7 p7 a9 p9 a10 p10 a11 p11 a22 x1 x4 x6 x8 x9 x10] ![sl.r_762 c a2 p2 a5 p5 a6 p6 a7 p7 a9 p9 a10 p10 a11 p11 a18 a21 a22 a23 x1 x4 x5 x6 x8 x9 x10, sl.r_812 c a2 p2 a5 p5 a6 p6 a7 p7 a9 p9 a10 p10 a11 p11 a18 a21 a22 a23 x1 x4 x5 x6 x8 x9 x10, sl.r_859 c a2 p2 a5 p5 a6 p6 a7 p7 a9 p9 a10 p10 a11 p11 a18 a21 a22 a23 x1 x4 x5 x6 x8 x9 x10, sl.r_913 c a2 p2 a5 p5 a6 p6 a7 p7 a9 p9 a10 p10 a11 p11 a18 a21 a22 a23 x1 x4 x5 x6 x8 x9 x10]

end Cert.KernelIdeal.Val

end
-- ==== Proof.MixState1.lean ====
module

public import proofs.«01_k».proof.Proof.MixState

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- The store of sequence 0's head 0. -/
theorem state_0_0 (x : S1x1x1x128x128.Idx) :
    (k0_pay996 (sl.r_764 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 0, 0, 0, 0] S1x1x1x128x128.size inb_S1x16x4x128x128_S1x1x1x128x128_0_0_0_0_0).emb x) := by
  refine Eq.trans ?_ (state_at x)
  obtain ⟨d, v, rfl⟩ := idx5 x
  simp only [sl.r_764, read_v5055]
  refine Eq.trans ?_ (newS_at0 x5 _ _ _ 0 d v).symm
  pointwise [k0_pay990, k0_pay991, k0_pay992, k0_pay995, k0_pay996]
  rfl

/-- The store of sequence 1's head 0. -/
theorem state_1_0 (x : S1x1x1x128x128.Idx) :
    (k0_pay997 (sl.r_689 c a5 p5 a10 p10 a11 p11 x4 x9 x10) (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.v5200 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 1, 0, 0, 0] S1x1x1x128x128.size inb_S1x16x4x128x128_S1x1x1x128x128_0_1_0_0_0).emb x) := by
  refine Eq.trans ?_ (state_at x)
  obtain ⟨d, v, rfl⟩ := idx5 x
  simp only [read_v5200]
  refine Eq.trans ?_ (newS_at x5 _ _ _ 1 0 d v 8).symm
  pointwise [k0_pay997]
  rfl

/-- The store of sequence 2's head 0. -/
theorem state_2_0 (x : S1x1x1x128x128.Idx) :
    (k0_pay998 (sl.r_689 c a5 p5 a10 p10 a11 p11 x4 x9 x10) (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.v5213 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 2, 0, 0, 0] S1x1x1x128x128.size inb_S1x16x4x128x128_S1x1x1x128x128_0_2_0_0_0).emb x) := by
  refine Eq.trans ?_ (state_at x)
  obtain ⟨d, v, rfl⟩ := idx5 x
  simp only [read_v5213]
  refine Eq.trans ?_ (newS_at x5 _ _ _ 2 0 d v 16).symm
  pointwise [k0_pay998]
  rfl

/-- The store of sequence 3's head 0. -/
theorem state_3_0 (x : S1x1x1x128x128.Idx) :
    (k0_pay1000 (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.r_765 c a5 p5 a10 p10 a11 p11 x4 x9 x10) (sl.v5226 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 3, 0, 0, 0] S1x1x1x128x128.size inb_S1x16x4x128x128_S1x1x1x128x128_0_3_0_0_0).emb x) := by
  refine Eq.trans ?_ (state_at x)
  obtain ⟨d, v, rfl⟩ := idx5 x
  simp only [sl.r_765, read_v5226]
  refine Eq.trans ?_ (newS_at x5 _ _ _ 3 0 d v 24).symm
  pointwise [k0_pay1000, k0_pay999]
  rfl

/-- The store of sequence 4's head 0. -/
theorem state_4_0 (x : S1x1x1x128x128.Idx) :
    (k0_pay1001 (sl.r_689 c a5 p5 a10 p10 a11 p11 x4 x9 x10) (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.v5239 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 4, 0, 0, 0] S1x1x1x128x128.size inb_S1x16x4x128x128_S1x1x1x128x128_0_4_0_0_0).emb x) := by
  refine Eq.trans ?_ (state_at x)
  obtain ⟨d, v, rfl⟩ := idx5 x
  simp only [read_v5239]
  refine Eq.trans ?_ (newS_at x5 _ _ _ 4 0 d v 32).symm
  pointwise [k0_pay1001]
  rfl

/-- The store of sequence 5's head 0. -/
theorem state_5_0 (x : S1x1x1x128x128.Idx) :
    (k0_pay1004 (sl.r_762 c a2 p2 a5 p5 a6 p6 a7 p7 a9 p9 a10 p10 a11 p11 a18 a21 a22 a23 x1 x4 x5 x6 x8 x9 x10) (sl.r_766 c a2 p2 a5 p5 a6 p6 a7 p7 a9 p9 a10 p10 a11 p11 a18 a21 a22 a23 x1 x4 x5 x6 x8 x9 x10) (sl.r_767 c a2 p2 a5 p5 a7 p7 a9 p9 a10 p10 a11 p11 a22 x1 x4 x6 x8 x9 x10)) x = blkS c a2 p2 a5 p5 a6 p6 a7 p7 a9 p9 a10 p10 a11 p11 a18 a21 a22 a23 x1 x4 x5 x6 x8 x9 x10 ((Rect.unit (s := S1x16x4x128x128) ![0, 5, 0, 0, 0] S1x1x1x128x128.size inb_S1x16x4x128x128_S1x1x1x128x128_0_5_0_0_0).emb x) := by
  refine Eq.trans ?_ (state_at x)
  obtain ⟨d, v, rfl⟩ := idx5 x
  simp only [sl.r_766, sl.r_767, read_v5252]
  refine Eq.trans ?_ (newS_at x5 _ _ _ 5 0 d v 40).symm
  pointwise [k0_pay1002, k0_pay1003, k0_pay1004]
  rfl

/-- The store of sequence 6's head 0. -/
theorem state_6_0 (x : S1x1x1x128x128.Idx) :
    (k0_pay1005 (sl.r_689 c a5 p5 a10 p10 a11 p11 x4 x9 x10) (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.v5265 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 6, 0, 0, 0] S1x1x1x128x128.size inb_S1x16x4x128x128_S1x1x1x128x128_0_6_0_0_0).emb x) := by
  refine Eq.trans ?_ (state_at x)
  obtain ⟨d, v, rfl⟩ := idx5 x
  simp only [read_v5265]
  refine Eq.trans ?_ (newS_at x5 _ _ _ 6 0 d v 48).symm
  pointwise [k0_pay1005]
  rfl

/-- The store of sequence 7's head 0. -/
theorem state_7_0 (x : S1x1x1x128x128.Idx) :
    (k0_pay1007 (sl.r_768 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 7, 0, 0, 0] S1x1x1x128x128.size inb_S1x16x4x128x128_S1x1x1x128x128_0_7_0_0_0).emb x) := by
  refine Eq.trans ?_ (state_at x)
  obtain ⟨d, v, rfl⟩ := idx5 x
  simp only [sl.r_768, read_v5278]
  refine Eq.trans ?_ (newS_at x5 _ _ _ 7 0 d v 56).symm
  pointwise [k0_pay1006, k0_pay1007]
  rfl

/-- The store of sequence 8's head 0. -/
theorem state_8_0 (x : S1x1x1x128x128.Idx) :
    (k0_pay1008 (sl.r_689 c a5 p5 a10 p10 a11 p11 x4 x9 x10) (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.v5291 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 8, 0, 0, 0] S1x1x1x128x128.size inb_S1x16x4x128x128_S1x1x1x128x128_0_8_0_0_0).emb x) := by
  refine Eq.trans ?_ (state_at x)
  obtain ⟨d, v, rfl⟩ := idx5 x
  simp only [read_v5291]
  refine Eq.trans ?_ (newS_at x5 _ _ _ 8 0 d v 64).symm
  pointwise [k0_pay1008]
  rfl

/-- The store of sequence 9's head 0. -/
theorem state_9_0 (x : S1x1x1x128x128.Idx) :
    (k0_pay1009 (sl.r_689 c a5 p5 a10 p10 a11 p11 x4 x9 x10) (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.v5304 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 9, 0, 0, 0] S1x1x1x128x128.size inb_S1x16x4x128x128_S1x1x1x128x128_0_9_0_0_0).emb x) := by
  refine Eq.trans ?_ (state_at x)
  obtain ⟨d, v, rfl⟩ := idx5 x
  simp only [read_v5304]
  refine Eq.trans ?_ (newS_at x5 _ _ _ 9 0 d v 72).symm
  pointwise [k0_pay1009]
  rfl

/-- The store of sequence 10's head 0. -/
theorem state_10_0 (x : S1x1x1x128x128.Idx) :
    (k0_pay1011 (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.r_769 c a5 p5 a10 p10 a11 p11 x4 x9 x10) (sl.v5317 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 10, 0, 0, 0] S1x1x1x128x128.size inb_S1x16x4x128x128_S1x1x1x128x128_0_10_0_0_0).emb x) := by
  refine Eq.trans ?_ (state_at x)
  obtain ⟨d, v, rfl⟩ := idx5 x
  simp only [sl.r_769, read_v5317]
  refine Eq.trans ?_ (newS_at x5 _ _ _ 10 0 d v 80).symm
  pointwise [k0_pay1010, k0_pay1011]
  rfl

/-- The store of sequence 11's head 0. -/
theorem state_11_0 (x : S1x1x1x128x128.Idx) :
    (k0_pay1012 (sl.r_689 c a5 p5 a10 p10 a11 p11 x4 x9 x10) (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.v5330 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 11, 0, 0, 0] S1x1x1x128x128.size inb_S1x16x4x128x128_S1x1x1x128x128_0_11_0_0_0).emb x) := by
  refine Eq.trans ?_ (state_at x)
  obtain ⟨d, v, rfl⟩ := idx5 x
  simp only [read_v5330]
  refine Eq.trans ?_ (newS_at x5 _ _ _ 11 0 d v 88).symm
  pointwise [k0_pay1012]
  rfl

/-- The store of sequence 12's head 0. -/
theorem state_12_0 (x : S1x1x1x128x128.Idx) :
    (k0_pay1014 (sl.r_770 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 12, 0, 0, 0] S1x1x1x128x128.size inb_S1x16x4x128x128_S1x1x1x128x128_0_12_0_0_0).emb x) := by
  refine Eq.trans ?_ (state_at x)
  obtain ⟨d, v, rfl⟩ := idx5 x
  simp only [sl.r_770, read_v5343]
  refine Eq.trans ?_ (newS_at x5 _ _ _ 12 0 d v 96).symm
  pointwise [k0_pay1013, k0_pay1014]
  rfl

/-- The store of sequence 13's head 0. -/
theorem state_13_0 (x : S1x1x1x128x128.Idx) :
    (k0_pay1015 (sl.r_689 c a5 p5 a10 p10 a11 p11 x4 x9 x10) (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.v5356 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 13, 0, 0, 0] S1x1x1x128x128.size inb_S1x16x4x128x128_S1x1x1x128x128_0_13_0_0_0).emb x) := by
  refine Eq.trans ?_ (state_at x)
  obtain ⟨d, v, rfl⟩ := idx5 x
  simp only [read_v5356]
  refine Eq.trans ?_ (newS_at x5 _ _ _ 13 0 d v 104).symm
  pointwise [k0_pay1015]
  rfl

/-- The store of sequence 14's head 0. -/
theorem state_14_0 (x : S1x1x1x128x128.Idx) :
    (k0_pay1016 (sl.r_689 c a5 p5 a10 p10 a11 p11 x4 x9 x10) (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.v5369 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 14, 0, 0, 0] S1x1x1x128x128.size inb_S1x16x4x128x128_S1x1x1x128x128_0_14_0_0_0).emb x) := by
  refine Eq.trans ?_ (state_at x)
  obtain ⟨d, v, rfl⟩ := idx5 x
  simp only [read_v5369]
  refine Eq.trans ?_ (newS_at x5 _ _ _ 14 0 d v 112).symm
  pointwise [k0_pay1016]
  rfl

/-- The store of sequence 15's head 0. -/
theorem state_15_0 (x : S1x1x1x128x128.Idx) :
    (k0_pay1018 (sl.r_730 c a2 p2 a5 p5 a7 p7 a9 p9 a10 p10 a11 p11 a22 x1 x4 x6 x8 x9 x10) (sl.r_762 c a2 p2 a5 p5 a6 p6 a7 p7 a9 p9 a10 p10 a11 p11 a18 a21 a22 a23 x1 x4 x5 x6 x8 x9 x10) (sl.r_771 c a5 p5 a10 p10 a11 p11 x4 x9 x10) (sl.v5382 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 15, 0, 0, 0] S1x1x1x128x128.size inb_S1x16x4x128x128_S1x1x1x128x128_0_15_0_0_0).emb x) := by
  refine Eq.trans ?_ (state_at x)
  obtain ⟨d, v, rfl⟩ := idx5 x
  simp only [sl.r_771, read_v5382]
  refine Eq.trans ?_ (newS_at x5 _ _ _ 15 0 d v 120).symm
  pointwise [k0_pay1017, k0_pay1018]
  rfl

end Cert.KernelIdeal.Val

end
-- ==== Proof.MixState2.lean ====
module

public import proofs.«01_k».proof.Proof.MixState

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- The store of sequence 0's head 1. -/
theorem state_0_1 (x : S1x1x1x128x128.Idx) :
    (k0_pay1079 (sl.r_695 c a5 p5 a10 p10 a11 p11 x4 x9 x10) (sl.r_773 c a2 p2 a5 p5 a7 p7 a9 p9 a10 p10 a11 p11 a21 a22 a23 x1 x4 x6 x8 x9 x10) (sl.r_777 c a2 p2 a5 p5 a7 p7 a9 p9 a10 p10 a11 p11 a22 x1 x4 x6 x8 x9 x10) (sl.r_778 c a2 p2 a5 p5 a6 p6 a7 p7 a9 p9 a10 p10 a11 p11 a18 a21 a22 a23 x1 x4 x5 x6 x8 x9 x10) (sl.r_780 c a2 p2 a5 p5 a6 p6 a7 p7 a9 p9 a10 p10 a11 p11 a18 a21 a22 a23 x1 x4 x5 x6 x8 x9 x10) (sl.r_784 c a2 p2 a5 p5 a6 p6 a7 p7 a9 p9 a10 p10 a11 p11 a18 a21 a22 a23 x1 x4 x5 x6 x8 x9 x10) (sl.r_786 c a2 p2 a5 p5 a6 p6 a7 p7 a9 p9 a10 p10 a11 p11 a18 a21 a22 a23 x1 x4 x5 x6 x8 x9 x10) (sl.r_788 c a2 p2 a5 p5 a6 p6 a7 p7 a9 p9 a10 p10 a11 p11 a18 a21 a22 a23 x1 x4 x5 x6 x8 x9 x10) (sl.r_790 c a2 p2 a5 p5 a6 p6 a7 p7 a9 p9 a10 p10 a11 p11 a18 a21 a22 a23 x1 x4 x5 x6 x8 x9 x10) (sl.r_792 c a2 p2 a5 p5 a6 p6 a7 p7 a9 p9 a10 p10 a11 p11 a18 a21 a22 a23 x1 x4 x5 x6 x8 x9 x10) (sl.r_794 c a2 p2 a5 p5 a6 p6 a7 p7 a9 p9 a10 p10 a11 p11 a18 a21 a22 a23 x1 x4 x5 x6 x8 x9 x10) (sl.r_796 c a2 p2 a5 p5 a6 p6 a7 p7 a9 p9 a10 p10 a11 p11 a18 a21 a22 a23 x1 x4 x5 x6 x8 x9 x10) (sl.r_798 c a2 p2 a5 p5 a6 p6 a7 p7 a9 p9 a10 p10 a11 p11 a18 a21 a22 a23 x1 x4 x5 x6 x8 x9 x10) (sl.r_800 c a2 p2 a5 p5 a6 p6 a7 p7 a9 p9 a10 p10 a11 p11 a18 a21 a22 a23 x1 x4 x5 x6 x8 x9 x10) (sl.r_803 c a2 p2 a5 p5 a6 p6 a7 p7 a9 p9 a10 p10 a11 p11 a18 a21 a22 a23 x1 x4 x5 x6 x8 x9 x10) (sl.r_805 c a2 p2 a5 p5 a6 p6 a7 p7 a9 p9 a10 p10 a11 p11 a18 a21 a22 a23 x1 x4 x5 x6 x8 x9 x10) (sl.r_807 c a2 p2 a5 p5 a6 p6 a7 p7 a9 p9 a10 p10 a11 p11 a18 a21 a22 a23 x1 x4 x5 x6 x8 x9 x10) (sl.r_809 c a2 p2 a5 p5 a6 p6 a7 p7 a9 p9 a10 p10 a11 p11 a18 a21 a22 a23 x1 x4 x5 x6 x8 x9 x10) (sl.r_811 c a2 p2 a5 p5 a7 p7 a9 p9 a10 p10 a11 p11 a21 a22 a23 x1 x4 x6 x8 x9 x10) (sl.v5559 c a2 p2 a5 p5 a6 p6 a7 p7 a9 p9 a10 p10 a11 p11 a18 a21 a22 a23 x1 x4 x5 x6 x8 x9 x10) (sl.v5439 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 0, 1, 0, 0] S1x1x1x128x128.size inb_S1x16x4x128x128_S1x1x1x128x128_0_0_1_0_0).emb x) := by
  refine Eq.trans ?_ (state_at x)
  obtain ⟨d, v, rfl⟩ := idx5 x
  simp only [read_v5439]
  refine Eq.trans ?_ (newS_at0 x5 _ _ _ 1 d v).symm
  pointwise [k0_pay1076, k0_pay1079]
  rfl

/-- The store of sequence 1's head 1. -/
theorem state_1_1 (x : S1x1x1x128x128.Idx) :
    (k0_pay1081 (sl.r_814 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 1, 1, 0, 0] S1x1x1x128x128.size inb_S1x16x4x128x128_S1x1x1x128x128_0_1_1_0_0).emb x) := by
  refine Eq.trans ?_ (state_at x)
  obtain ⟨d, v, rfl⟩ := idx5 x
  simp only [sl.r_814, read_v5584]
  refine Eq.trans ?_ (newS_at x5 _ _ _ 1 1 d v 8).symm
  pointwise [k0_pay1076, k0_pay1080, k0_pay1081]
  rfl

/-- The store of sequence 2's head 1. -/
theorem state_2_1 (x : S1x1x1x128x128.Idx) :
    (k0_pay1082 (sl.r_695 c a5 p5 a10 p10 a11 p11 x4 x9 x10) (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.v5597 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 2, 1, 0, 0] S1x1x1x128x128.size inb_S1x16x4x128x128_S1x1x1x128x128_0_2_1_0_0).emb x) := by
  refine Eq.trans ?_ (state_at x)
  obtain ⟨d, v, rfl⟩ := idx5 x
  simp only [read_v5597]
  refine Eq.trans ?_ (newS_at x5 _ _ _ 2 1 d v 16).symm
  pointwise [k0_pay1082]
  rfl

/-- The store of sequence 3's head 1. -/
theorem state_3_1 (x : S1x1x1x128x128.Idx) :
    (k0_pay1083 (sl.r_695 c a5 p5 a10 p10 a11 p11 x4 x9 x10) (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.v5610 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 3, 1, 0, 0] S1x1x1x128x128.size inb_S1x16x4x128x128_S1x1x1x128x128_0_3_1_0_0).emb x) := by
  refine Eq.trans ?_ (state_at x)
  obtain ⟨d, v, rfl⟩ := idx5 x
  simp only [read_v5610]
  refine Eq.trans ?_ (newS_at x5 _ _ _ 3 1 d v 24).symm
  pointwise [k0_pay1083]
  rfl

/-- The store of sequence 4's head 1. -/
theorem state_4_1 (x : S1x1x1x128x128.Idx) :
    (k0_pay1085 (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.r_815 c a5 p5 a10 p10 a11 p11 x4 x9 x10) (sl.v5623 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 4, 1, 0, 0] S1x1x1x128x128.size inb_S1x16x4x128x128_S1x1x1x128x128_0_4_1_0_0).emb x) := by
  refine Eq.trans ?_ (state_at x)
  obtain ⟨d, v, rfl⟩ := idx5 x
  simp only [sl.r_815, read_v5623]
  refine Eq.trans ?_ (newS_at x5 _ _ _ 4 1 d v 32).symm
  pointwise [k0_pay1084, k0_pay1085]
  rfl

/-- The store of sequence 5's head 1. -/
theorem state_5_1 (x : S1x1x1x128x128.Idx) :
    (k0_pay1086 (sl.r_695 c a5 p5 a10 p10 a11 p11 x4 x9 x10) (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.v5636 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 5, 1, 0, 0] S1x1x1x128x128.size inb_S1x16x4x128x128_S1x1x1x128x128_0_5_1_0_0).emb x) := by
  refine Eq.trans ?_ (state_at x)
  obtain ⟨d, v, rfl⟩ := idx5 x
  simp only [read_v5636]
  refine Eq.trans ?_ (newS_at x5 _ _ _ 5 1 d v 40).symm
  pointwise [k0_pay1086]
  rfl

/-- The store of sequence 6's head 1. -/
theorem state_6_1 (x : S1x1x1x128x128.Idx) :
    (k0_pay1088 (sl.r_816 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 6, 1, 0, 0] S1x1x1x128x128.size inb_S1x16x4x128x128_S1x1x1x128x128_0_6_1_0_0).emb x) := by
  refine Eq.trans ?_ (state_at x)
  obtain ⟨d, v, rfl⟩ := idx5 x
  simp only [sl.r_816, read_v5649]
  refine Eq.trans ?_ (newS_at x5 _ _ _ 6 1 d v 48).symm
  pointwise [k0_pay1087, k0_pay1088]
  rfl

/-- The store of sequence 7's head 1. -/
theorem state_7_1 (x : S1x1x1x128x128.Idx) :
    (k0_pay1089 (sl.r_695 c a5 p5 a10 p10 a11 p11 x4 x9 x10) (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.v5662 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 7, 1, 0, 0] S1x1x1x128x128.size inb_S1x16x4x128x128_S1x1x1x128x128_0_7_1_0_0).emb x) := by
  refine Eq.trans ?_ (state_at x)
  obtain ⟨d, v, rfl⟩ := idx5 x
  simp only [read_v5662]
  refine Eq.trans ?_ (newS_at x5 _ _ _ 7 1 d v 56).symm
  pointwise [k0_pay1089]
  rfl

/-- The store of sequence 8's head 1. -/
theorem state_8_1 (x : S1x1x1x128x128.Idx) :
    (k0_pay1090 (sl.r_695 c a5 p5 a10 p10 a11 p11 x4 x9 x10) (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.v5675 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 8, 1, 0, 0] S1x1x1x128x128.size inb_S1x16x4x128x128_S1x1x1x128x128_0_8_1_0_0).emb x) := by
  refine Eq.trans ?_ (state_at x)
  obtain ⟨d, v, rfl⟩ := idx5 x
  simp only [read_v5675]
  refine Eq.trans ?_ (newS_at x5 _ _ _ 8 1 d v 64).symm
  pointwise [k0_pay1090]
  rfl

/-- The store of sequence 9's head 1. -/
theorem state_9_1 (x : S1x1x1x128x128.Idx) :
    (k0_pay1092 (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.r_817 c a5 p5 a10 p10 a11 p11 x4 x9 x10) (sl.v5688 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 9, 1, 0, 0] S1x1x1x128x128.size inb_S1x16x4x128x128_S1x1x1x128x128_0_9_1_0_0).emb x) := by
  refine Eq.trans ?_ (state_at x)
  obtain ⟨d, v, rfl⟩ := idx5 x
  simp only [sl.r_817, read_v5688]
  refine Eq.trans ?_ (newS_at x5 _ _ _ 9 1 d v 72).symm
  pointwise [k0_pay1091, k0_pay1092]
  rfl

/-- The store of sequence 10's head 1. -/
theorem state_10_1 (x : S1x1x1x128x128.Idx) :
    (k0_pay1093 (sl.r_695 c a5 p5 a10 p10 a11 p11 x4 x9 x10) (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.v5701 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 10, 1, 0, 0] S1x1x1x128x128.size inb_S1x16x4x128x128_S1x1x1x128x128_0_10_1_0_0).emb x) := by
  refine Eq.trans ?_ (state_at x)
  obtain ⟨d, v, rfl⟩ := idx5 x
  simp only [read_v5701]
  refine Eq.trans ?_ (newS_at x5 _ _ _ 10 1 d v 80).symm
  pointwise [k0_pay1093]
  rfl

/-- The store of sequence 11's head 1. -/
theorem state_11_1 (x : S1x1x1x128x128.Idx) :
    (k0_pay1097 (sl.r_818 c a2 p2 a5 p5 a6 p6 a7 p7 a9 p9 a10 p10 a11 p11 a18 a21 a22 a23 x1 x4 x5 x6 x8 x9 x10) (sl.r_819 c a2 p2 a5 p5 a7 p7 a9 p9 a10 p10 a11 p11 a22 x1 x4 x6 x8 x9 x10) (sl.r_820 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 11, 1, 0, 0] S1x1x1x128x128.size inb_S1x16x4x128x128_S1x1x1x128x128_0_11_1_0_0).emb x) := by
  refine Eq.trans ?_ (state_at x)
  obtain ⟨d, v, rfl⟩ := idx5 x
  simp only [sl.r_818, sl.r_819, sl.r_820, read_v5714]
  refine Eq.trans ?_ (newS_at x5 _ _ _ 11 1 d v 88).symm
  pointwise [k0_pay1094, k0_pay1095, k0_pay1096, k0_pay1097]
  rfl

/-- The store of sequence 12's head 1. -/
theorem state_12_1 (x : S1x1x1x128x128.Idx) :
    (k0_pay1098 (sl.r_695 c a5 p5 a10 p10 a11 p11 x4 x9 x10) (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.v5727 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 12, 1, 0, 0] S1x1x1x128x128.size inb_S1x16x4x128x128_S1x1x1x128x128_0_12_1_0_0).emb x) := by
  refine Eq.trans ?_ (state_at x)
  obtain ⟨d, v, rfl⟩ := idx5 x
  simp only [read_v5727]
  refine Eq.trans ?_ (newS_at x5 _ _ _ 12 1 d v 96).symm
  pointwise [k0_pay1098]
  rfl

/-- The store of sequence 13's head 1. -/
theorem state_13_1 (x : S1x1x1x128x128.Idx) :
    (k0_pay1100 (sl.r_821 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 13, 1, 0, 0] S1x1x1x128x128.size inb_S1x16x4x128x128_S1x1x1x128x128_0_13_1_0_0).emb x) := by
  refine Eq.trans ?_ (state_at x)
  obtain ⟨d, v, rfl⟩ := idx5 x
  simp only [sl.r_821, read_v5740]
  refine Eq.trans ?_ (newS_at x5 _ _ _ 13 1 d v 104).symm
  pointwise [k0_pay1099, k0_pay1100]
  rfl

/-- The store of sequence 14's head 1. -/
theorem state_14_1 (x : S1x1x1x128x128.Idx) :
    (k0_pay1101 (sl.r_695 c a5 p5 a10 p10 a11 p11 x4 x9 x10) (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.v5753 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 14, 1, 0, 0] S1x1x1x128x128.size inb_S1x16x4x128x128_S1x1x1x128x128_0_14_1_0_0).emb x) := by
  refine Eq.trans ?_ (state_at x)
  obtain ⟨d, v, rfl⟩ := idx5 x
  simp only [read_v5753]
  refine Eq.trans ?_ (newS_at x5 _ _ _ 14 1 d v 112).symm
  pointwise [k0_pay1101]
  rfl

/-- The store of sequence 15's head 1. -/
theorem state_15_1 (x : S1x1x1x128x128.Idx) :
    (k0_pay1102 (sl.r_695 c a5 p5 a10 p10 a11 p11 x4 x9 x10) (sl.r_777 c a2 p2 a5 p5 a7 p7 a9 p9 a10 p10 a11 p11 a22 x1 x4 x6 x8 x9 x10) (sl.r_812 c a2 p2 a5 p5 a6 p6 a7 p7 a9 p9 a10 p10 a11 p11 a18 a21 a22 a23 x1 x4 x5 x6 x8 x9 x10) (sl.v5766 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 15, 1, 0, 0] S1x1x1x128x128.size inb_S1x16x4x128x128_S1x1x1x128x128_0_15_1_0_0).emb x) := by
  refine Eq.trans ?_ (state_at x)
  obtain ⟨d, v, rfl⟩ := idx5 x
  simp only [read_v5766]
  refine Eq.trans ?_ (newS_at x5 _ _ _ 15 1 d v 120).symm
  pointwise [k0_pay1102]
  rfl

end Cert.KernelIdeal.Val

end
-- ==== Proof.MixState3.lean ====
module

public import proofs.«01_k».proof.Proof.MixState

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- The store of sequence 0's head 2. -/
theorem state_0_2 (x : S1x1x1x128x128.Idx) :
    (k0_pay1160 (sl.r_861 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 0, 2, 0, 0] S1x1x1x128x128.size inb_S1x16x4x128x128_S1x1x1x128x128_0_0_2_0_0).emb x) := by
  refine Eq.trans ?_ (state_at x)
  obtain ⟨d, v, rfl⟩ := idx5 x
  simp only [sl.r_861, read_v5823]
  refine Eq.trans ?_ (newS_at0 x5 _ _ _ 2 d v).symm
  pointwise [k0_pay1154, k0_pay1155, k0_pay1156, k0_pay1159, k0_pay1160]
  rfl

/-- The store of sequence 1's head 2. -/
theorem state_1_2 (x : S1x1x1x128x128.Idx) :
    (k0_pay1161 (sl.r_701 c a5 p5 a10 p10 a11 p11 x4 x9 x10) (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.v5968 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 1, 2, 0, 0] S1x1x1x128x128.size inb_S1x16x4x128x128_S1x1x1x128x128_0_1_2_0_0).emb x) := by
  refine Eq.trans ?_ (state_at x)
  obtain ⟨d, v, rfl⟩ := idx5 x
  simp only [read_v5968]
  refine Eq.trans ?_ (newS_at x5 _ _ _ 1 2 d v 8).symm
  pointwise [k0_pay1161]
  rfl

/-- The store of sequence 2's head 2. -/
theorem state_2_2 (x : S1x1x1x128x128.Idx) :
    (k0_pay1162 (sl.r_701 c a5 p5 a10 p10 a11 p11 x4 x9 x10) (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.v5981 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 2, 2, 0, 0] S1x1x1x128x128.size inb_S1x16x4x128x128_S1x1x1x128x128_0_2_2_0_0).emb x) := by
  refine Eq.trans ?_ (state_at x)
  obtain ⟨d, v, rfl⟩ := idx5 x
  simp only [read_v5981]
  refine Eq.trans ?_ (newS_at x5 _ _ _ 2 2 d v 16).symm
  pointwise [k0_pay1162]
  rfl

/-- The store of sequence 3's head 2. -/
theorem state_3_2 (x : S1x1x1x128x128.Idx) :
    (k0_pay1164 (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.r_862 c a5 p5 a10 p10 a11 p11 x4 x9 x10) (sl.v5994 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 3, 2, 0, 0] S1x1x1x128x128.size inb_S1x16x4x128x128_S1x1x1x128x128_0_3_2_0_0).emb x) := by
  refine Eq.trans ?_ (state_at x)
  obtain ⟨d, v, rfl⟩ := idx5 x
  simp only [sl.r_862, read_v5994]
  refine Eq.trans ?_ (newS_at x5 _ _ _ 3 2 d v 24).symm
  pointwise [k0_pay1163, k0_pay1164]
  rfl

/-- The store of sequence 4's head 2. -/
theorem state_4_2 (x : S1x1x1x128x128.Idx) :
    (k0_pay1165 (sl.r_701 c a5 p5 a10 p10 a11 p11 x4 x9 x10) (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.v6007 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 4, 2, 0, 0] S1x1x1x128x128.size inb_S1x16x4x128x128_S1x1x1x128x128_0_4_2_0_0).emb x) := by
  refine Eq.trans ?_ (state_at x)
  obtain ⟨d, v, rfl⟩ := idx5 x
  simp only [read_v6007]
  refine Eq.trans ?_ (newS_at x5 _ _ _ 4 2 d v 32).symm
  pointwise [k0_pay1165]
  rfl

/-- The store of sequence 5's head 2. -/
theorem state_5_2 (x : S1x1x1x128x128.Idx) :
    (k0_pay1169 (sl.r_863 c a2 p2 a5 p5 a6 p6 a7 p7 a9 p9 a10 p10 a11 p11 a18 a21 a22 a23 x1 x4 x5 x6 x8 x9 x10) (sl.r_864 c a2 p2 a5 p5 a7 p7 a9 p9 a10 p10 a11 p11 a22 x1 x4 x6 x8 x9 x10) (sl.r_865 c a2 p2 a5 p5 a6 p6 a7 p7 a9 p9 a10 p10 a11 p11 a18 a21 a22 a23 x1 x4 x5 x6 x8 x9 x10) sl.cst_4013) x = blkS c a2 p2 a5 p5 a6 p6 a7 p7 a9 p9 a10 p10 a11 p11 a18 a21 a22 a23 x1 x4 x5 x6 x8 x9 x10 ((Rect.unit (s := S1x16x4x128x128) ![0, 5, 2, 0, 0] S1x1x1x128x128.size inb_S1x16x4x128x128_S1x1x1x128x128_0_5_2_0_0).emb x) := by
  refine Eq.trans ?_ (state_at x)
  obtain ⟨d, v, rfl⟩ := idx5 x
  simp only [sl.cst_4013, sl.r_863, sl.r_864, sl.r_865, read_v6020]
  refine Eq.trans ?_ (newS_at x5 _ _ _ 5 2 d v 40).symm
  pointwise [k0_pay1166, k0_pay1167, k0_pay1168, k0_pay1169]
  rfl

/-- The store of sequence 6's head 2. -/
theorem state_6_2 (x : S1x1x1x128x128.Idx) :
    (k0_pay1170 (sl.r_701 c a5 p5 a10 p10 a11 p11 x4 x9 x10) (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.v6033 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 6, 2, 0, 0] S1x1x1x128x128.size inb_S1x16x4x128x128_S1x1x1x128x128_0_6_2_0_0).emb x) := by
  refine Eq.trans ?_ (state_at x)
  obtain ⟨d, v, rfl⟩ := idx5 x
  simp only [read_v6033]
  refine Eq.trans ?_ (newS_at x5 _ _ _ 6 2 d v 48).symm
  pointwise [k0_pay1170]
  rfl

/-- The store of sequence 7's head 2. -/
theorem state_7_2 (x : S1x1x1x128x128.Idx) :
    (sl.r_866 c a2 p2 a5 p5 a6 p6 a7 p7 a9 p9 a10 p10 a11 p11 a18 a21 a22 a23 x1 x4 x5 x6 x8 x9 x10) x = blkS c a2 p2 a5 p5 a6 p6 a7 p7 a9 p9 a10 p10 a11 p11 a18 a21 a22 a23 x1 x4 x5 x6 x8 x9 x10 ((Rect.unit (s := S1x16x4x128x128) ![0, 7, 2, 0, 0] S1x1x1x128x128.size inb_S1x16x4x128x128_S1x1x1x128x128_0_7_2_0_0).emb x) := by
  refine Eq.trans ?_ (state_at x)
  obtain ⟨d, v, rfl⟩ := idx5 x
  simp only [sl.r_866, read_v6046]
  refine Eq.trans ?_ (newS_at x5 _ _ _ 7 2 d v 56).symm
  pointwise [k0_pay1171]
  rfl

/-- The store of sequence 8's head 2. -/
theorem state_8_2 (x : S1x1x1x128x128.Idx) :
    (k0_pay1172 (sl.r_701 c a5 p5 a10 p10 a11 p11 x4 x9 x10) (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.v6059 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 8, 2, 0, 0] S1x1x1x128x128.size inb_S1x16x4x128x128_S1x1x1x128x128_0_8_2_0_0).emb x) := by
  refine Eq.trans ?_ (state_at x)
  obtain ⟨d, v, rfl⟩ := idx5 x
  simp only [read_v6059]
  refine Eq.trans ?_ (newS_at x5 _ _ _ 8 2 d v 64).symm
  pointwise [k0_pay1172]
  rfl

/-- The store of sequence 9's head 2. -/
theorem state_9_2 (x : S1x1x1x128x128.Idx) :
    (k0_pay1173 (sl.r_701 c a5 p5 a10 p10 a11 p11 x4 x9 x10) (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.v6072 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 9, 2, 0, 0] S1x1x1x128x128.size inb_S1x16x4x128x128_S1x1x1x128x128_0_9_2_0_0).emb x) := by
  refine Eq.trans ?_ (state_at x)
  obtain ⟨d, v, rfl⟩ := idx5 x
  simp only [read_v6072]
  refine Eq.trans ?_ (newS_at x5 _ _ _ 9 2 d v 72).symm
  pointwise [k0_pay1173]
  rfl

/-- The store of sequence 10's head 2. -/
theorem state_10_2 (x : S1x1x1x128x128.Idx) :
    (k0_pay1176 (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.r_867 c a5 p5 a10 p10 a11 p11 x4 x9 x10) (sl.r_868 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 10, 2, 0, 0] S1x1x1x128x128.size inb_S1x16x4x128x128_S1x1x1x128x128_0_10_2_0_0).emb x) := by
  refine Eq.trans ?_ (state_at x)
  obtain ⟨d, v, rfl⟩ := idx5 x
  simp only [sl.r_867, sl.r_868, read_v6085]
  refine Eq.trans ?_ (newS_at x5 _ _ _ 10 2 d v 80).symm
  pointwise [k0_pay1174, k0_pay1175, k0_pay1176]
  rfl

/-- The store of sequence 11's head 2. -/
theorem state_11_2 (x : S1x1x1x128x128.Idx) :
    (k0_pay1177 (sl.r_701 c a5 p5 a10 p10 a11 p11 x4 x9 x10) (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.v6098 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 11, 2, 0, 0] S1x1x1x128x128.size inb_S1x16x4x128x128_S1x1x1x128x128_0_11_2_0_0).emb x) := by
  refine Eq.trans ?_ (state_at x)
  obtain ⟨d, v, rfl⟩ := idx5 x
  simp only [read_v6098]
  refine Eq.trans ?_ (newS_at x5 _ _ _ 11 2 d v 88).symm
  pointwise [k0_pay1177]
  rfl

/-- The store of sequence 12's head 2. -/
theorem state_12_2 (x : S1x1x1x128x128.Idx) :
    (k0_pay1179 (sl.r_869 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 12, 2, 0, 0] S1x1x1x128x128.size inb_S1x16x4x128x128_S1x1x1x128x128_0_12_2_0_0).emb x) := by
  refine Eq.trans ?_ (state_at x)
  obtain ⟨d, v, rfl⟩ := idx5 x
  simp only [sl.r_869, read_v6111]
  refine Eq.trans ?_ (newS_at x5 _ _ _ 12 2 d v 96).symm
  pointwise [k0_pay1178, k0_pay1179]
  rfl

/-- The store of sequence 13's head 2. -/
theorem state_13_2 (x : S1x1x1x128x128.Idx) :
    (k0_pay1180 (sl.r_701 c a5 p5 a10 p10 a11 p11 x4 x9 x10) (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.v6124 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 13, 2, 0, 0] S1x1x1x128x128.size inb_S1x16x4x128x128_S1x1x1x128x128_0_13_2_0_0).emb x) := by
  refine Eq.trans ?_ (state_at x)
  obtain ⟨d, v, rfl⟩ := idx5 x
  simp only [read_v6124]
  refine Eq.trans ?_ (newS_at x5 _ _ _ 13 2 d v 104).symm
  pointwise [k0_pay1180]
  rfl

/-- The store of sequence 14's head 2. -/
theorem state_14_2 (x : S1x1x1x128x128.Idx) :
    (k0_pay1181 (sl.r_701 c a5 p5 a10 p10 a11 p11 x4 x9 x10) (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.v6137 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 14, 2, 0, 0] S1x1x1x128x128.size inb_S1x16x4x128x128_S1x1x1x128x128_0_14_2_0_0).emb x) := by
  refine Eq.trans ?_ (state_at x)
  obtain ⟨d, v, rfl⟩ := idx5 x
  simp only [read_v6137]
  refine Eq.trans ?_ (newS_at x5 _ _ _ 14 2 d v 112).symm
  pointwise [k0_pay1181]
  rfl

/-- The store of sequence 15's head 2. -/
theorem state_15_2 (x : S1x1x1x128x128.Idx) :
    (k0_pay1183 (sl.r_828 c a2 p2 a5 p5 a7 p7 a9 p9 a10 p10 a11 p11 a22 x1 x4 x6 x8 x9 x10) (sl.r_859 c a2 p2 a5 p5 a6 p6 a7 p7 a9 p9 a10 p10 a11 p11 a18 a21 a22 a23 x1 x4 x5 x6 x8 x9 x10) (sl.r_870 c a5 p5 a10 p10 a11 p11 x4 x9 x10) (sl.v6150 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 15, 2, 0, 0] S1x1x1x128x128.size inb_S1x16x4x128x128_S1x1x1x128x128_0_15_2_0_0).emb x) := by
  refine Eq.trans ?_ (state_at x)
  obtain ⟨d, v, rfl⟩ := idx5 x
  simp only [sl.r_870, read_v6150]
  refine Eq.trans ?_ (newS_at x5 _ _ _ 15 2 d v 120).symm
  pointwise [k0_pay1182, k0_pay1183]
  rfl

end Cert.KernelIdeal.Val

end
-- ==== Proof.MixState4.lean ====
module

public import proofs.«01_k».proof.Proof.MixState

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- The store of sequence 0's head 3. -/
theorem state_0_3 (x : S1x1x1x128x128.Idx) :
    (k0_pay1245 (sl.r_707 c a5 p5 a10 p10 a11 p11 x4 x9 x10) (sl.r_872 c a2 p2 a5 p5 a7 p7 a9 p9 a10 p10 a11 p11 a21 a22 a23 x1 x4 x6 x8 x9 x10) (sl.r_876 c a2 p2 a5 p5 a7 p7 a9 p9 a10 p10 a11 p11 a22 x1 x4 x6 x8 x9 x10) (sl.r_877 c a2 p2 a5 p5 a6 p6 a7 p7 a9 p9 a10 p10 a11 p11 a18 a21 a22 a23 x1 x4 x5 x6 x8 x9 x10) (sl.r_879 c a2 p2 a5 p5 a6 p6 a7 p7 a9 p9 a10 p10 a11 p11 a18 a21 a22 a23 x1 x4 x5 x6 x8 x9 x10) (sl.r_882 c a2 p2 a5 p5 a6 p6 a7 p7 a9 p9 a10 p10 a11 p11 a18 a21 a22 a23 x1 x4 x5 x6 x8 x9 x10) (sl.r_884 c a2 p2 a5 p5 a6 p6 a7 p7 a9 p9 a10 p10 a11 p11 a18 a21 a22 a23 x1 x4 x5 x6 x8 x9 x10) (sl.r_886 c a2 p2 a5 p5 a6 p6 a7 p7 a9 p9 a10 p10 a11 p11 a18 a21 a22 a23 x1 x4 x5 x6 x8 x9 x10) (sl.r_888 c a2 p2 a5 p5 a6 p6 a7 p7 a9 p9 a10 p10 a11 p11 a18 a21 a22 a23 x1 x4 x5 x6 x8 x9 x10) (sl.r_890 c a2 p2 a5 p5 a6 p6 a7 p7 a9 p9 a10 p10 a11 p11 a18 a21 a22 a23 x1 x4 x5 x6 x8 x9 x10) (sl.r_894 c a2 p2 a5 p5 a6 p6 a7 p7 a9 p9 a10 p10 a11 p11 a18 a21 a22 a23 x1 x4 x5 x6 x8 x9 x10) (sl.r_896 c a2 p2 a5 p5 a6 p6 a7 p7 a9 p9 a10 p10 a11 p11 a18 a21 a22 a23 x1 x4 x5 x6 x8 x9 x10) (sl.r_898 c a2 p2 a5 p5 a6 p6 a7 p7 a9 p9 a10 p10 a11 p11 a18 a21 a22 a23 x1 x4 x5 x6 x8 x9 x10) (sl.r_900 c a2 p2 a5 p5 a6 p6 a7 p7 a9 p9 a10 p10 a11 p11 a18 a21 a22 a23 x1 x4 x5 x6 x8 x9 x10) (sl.r_903 c a2 p2 a5 p5 a6 p6 a7 p7 a9 p9 a10 p10 a11 p11 a18 a21 a22 a23 x1 x4 x5 x6 x8 x9 x10) (sl.r_905 c a2 p2 a5 p5 a6 p6 a7 p7 a9 p9 a10 p10 a11 p11 a18 a21 a22 a23 x1 x4 x5 x6 x8 x9 x10) (sl.r_907 c a2 p2 a5 p5 a6 p6 a7 p7 a9 p9 a10 p10 a11 p11 a18 a21 a22 a23 x1 x4 x5 x6 x8 x9 x10) (sl.r_909 c a2 p2 a5 p5 a6 p6 a7 p7 a9 p9 a10 p10 a11 p11 a18 a21 a22 a23 x1 x4 x5 x6 x8 x9 x10) (sl.r_911 c a2 p2 a5 p5 a7 p7 a9 p9 a10 p10 a11 p11 a21 a22 a23 x1 x4 x6 x8 x9 x10) (sl.r_912 c a2 p2 a5 p5 a6 p6 a7 p7 a9 p9 a10 p10 a11 p11 a18 a21 a22 a23 x1 x4 x5 x6 x8 x9 x10) (sl.v6207 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 0, 3, 0, 0] S1x1x1x128x128.size inb_S1x16x4x128x128_S1x1x1x128x128_0_0_3_0_0).emb x) := by
  refine Eq.trans ?_ (state_at x)
  obtain ⟨d, v, rfl⟩ := idx5 x
  simp only [read_v6207]
  refine Eq.trans ?_ (newS_at0 x5 _ _ _ 3 d v).symm
  pointwise [k0_pay1242, k0_pay1245]
  rfl

/-- The store of sequence 1's head 3. -/
theorem state_1_3 (x : S1x1x1x128x128.Idx) :
    (k0_pay1246 (sl.r_707 c a5 p5 a10 p10 a11 p11 x4 x9 x10) (sl.r_872 c a2 p2 a5 p5 a7 p7 a9 p9 a10 p10 a11 p11 a21 a22 a23 x1 x4 x6 x8 x9 x10) (sl.r_876 c a2 p2 a5 p5 a7 p7 a9 p9 a10 p10 a11 p11 a22 x1 x4 x6 x8 x9 x10) (sl.r_877 c a2 p2 a5 p5 a6 p6 a7 p7 a9 p9 a10 p10 a11 p11 a18 a21 a22 a23 x1 x4 x5 x6 x8 x9 x10) (sl.r_879 c a2 p2 a5 p5 a6 p6 a7 p7 a9 p9 a10 p10 a11 p11 a18 a21 a22 a23 x1 x4 x5 x6 x8 x9 x10) (sl.r_882 c a2 p2 a5 p5 a6 p6 a7 p7 a9 p9 a10 p10 a11 p11 a18 a21 a22 a23 x1 x4 x5 x6 x8 x9 x10) (sl.r_884 c a2 p2 a5 p5 a6 p6 a7 p7 a9 p9 a10 p10 a11 p11 a18 a21 a22 a23 x1 x4 x5 x6 x8 x9 x10) (sl.r_886 c a2 p2 a5 p5 a6 p6 a7 p7 a9 p9 a10 p10 a11 p11 a18 a21 a22 a23 x1 x4 x5 x6 x8 x9 x10) (sl.r_888 c a2 p2 a5 p5 a6 p6 a7 p7 a9 p9 a10 p10 a11 p11 a18 a21 a22 a23 x1 x4 x5 x6 x8 x9 x10) (sl.r_890 c a2 p2 a5 p5 a6 p6 a7 p7 a9 p9 a10 p10 a11 p11 a18 a21 a22 a23 x1 x4 x5 x6 x8 x9 x10) (sl.r_894 c a2 p2 a5 p5 a6 p6 a7 p7 a9 p9 a10 p10 a11 p11 a18 a21 a22 a23 x1 x4 x5 x6 x8 x9 x10) (sl.r_896 c a2 p2 a5 p5 a6 p6 a7 p7 a9 p9 a10 p10 a11 p11 a18 a21 a22 a23 x1 x4 x5 x6 x8 x9 x10) (sl.r_898 c a2 p2 a5 p5 a6 p6 a7 p7 a9 p9 a10 p10 a11 p11 a18 a21 a22 a23 x1 x4 x5 x6 x8 x9 x10) (sl.r_900 c a2 p2 a5 p5 a6 p6 a7 p7 a9 p9 a10 p10 a11 p11 a18 a21 a22 a23 x1 x4 x5 x6 x8 x9 x10) (sl.r_903 c a2 p2 a5 p5 a6 p6 a7 p7 a9 p9 a10 p10 a11 p11 a18 a21 a22 a23 x1 x4 x5 x6 x8 x9 x10) (sl.r_905 c a2 p2 a5 p5 a6 p6 a7 p7 a9 p9 a10 p10 a11 p11 a18 a21 a22 a23 x1 x4 x5 x6 x8 x9 x10) (sl.r_907 c a2 p2 a5 p5 a6 p6 a7 p7 a9 p9 a10 p10 a11 p11 a18 a21 a22 a23 x1 x4 x5 x6 x8 x9 x10) (sl.r_909 c a2 p2 a5 p5 a6 p6 a7 p7 a9 p9 a10 p10 a11 p11 a18 a21 a22 a23 x1 x4 x5 x6 x8 x9 x10) (sl.r_911 c a2 p2 a5 p5 a7 p7 a9 p9 a10 p10 a11 p11 a21 a22 a23 x1 x4 x6 x8 x9 x10) (sl.r_912 c a2 p2 a5 p5 a6 p6 a7 p7 a9 p9 a10 p10 a11 p11 a18 a21 a22 a23 x1 x4 x5 x6 x8 x9 x10) (sl.v6352 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 1, 3, 0, 0] S1x1x1x128x128.size inb_S1x16x4x128x128_S1x1x1x128x128_0_1_3_0_0).emb x) := by
  refine Eq.trans ?_ (state_at x)
  obtain ⟨d, v, rfl⟩ := idx5 x
  simp only [read_v6352]
  refine Eq.trans ?_ (newS_at x5 _ _ _ 1 3 d v 8).symm
  pointwise [k0_pay1242, k0_pay1246]
  rfl

/-- The store of sequence 2's head 3. -/
theorem state_2_3 (x : S1x1x1x128x128.Idx) :
    (k0_pay1247 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6365 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 2, 3, 0, 0] S1x1x1x128x128.size inb_S1x16x4x128x128_S1x1x1x128x128_0_2_3_0_0).emb x) := by
  refine Eq.trans ?_ (state_at x)
  obtain ⟨d, v, rfl⟩ := idx5 x
  simp only [read_v6365]
  refine Eq.trans ?_ (newS_at x5 _ _ _ 2 3 d v 16).symm
  pointwise [k0_pay1247]
  rfl

/-- The store of sequence 3's head 3. -/
theorem state_3_3 (x : S1x1x1x128x128.Idx) :
    (k0_pay1248 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6378 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 3, 3, 0, 0] S1x1x1x128x128.size inb_S1x16x4x128x128_S1x1x1x128x128_0_3_3_0_0).emb x) := by
  refine Eq.trans ?_ (state_at x)
  obtain ⟨d, v, rfl⟩ := idx5 x
  simp only [read_v6378]
  refine Eq.trans ?_ (newS_at x5 _ _ _ 3 3 d v 24).symm
  pointwise [k0_pay1248]
  rfl

/-- The store of sequence 4's head 3. -/
theorem state_4_3 (x : S1x1x1x128x128.Idx) :
    (k0_pay1251 (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.r_915 c a2 p2 a5 p5 a6 p6 a7 p7 a9 p9 a10 p10 a11 p11 a18 a21 a22 a23 x1 x4 x5 x6 x8 x9 x10) (sl.r_916 c a5 p5 a10 p10 a11 p11 x4 x9 x10)) x = blkS c a2 p2 a5 p5 a6 p6 a7 p7 a9 p9 a10 p10 a11 p11 a18 a21 a22 a23 x1 x4 x5 x6 x8 x9 x10 ((Rect.unit (s := S1x16x4x128x128) ![0, 4, 3, 0, 0] S1x1x1x128x128.size inb_S1x16x4x128x128_S1x1x1x128x128_0_4_3_0_0).emb x) := by
  refine Eq.trans ?_ (state_at x)
  obtain ⟨d, v, rfl⟩ := idx5 x
  simp only [sl.r_915, sl.r_916, read_v6391]
  refine Eq.trans ?_ (newS_at x5 _ _ _ 4 3 d v 32).symm
  pointwise [k0_pay1249, k0_pay1250, k0_pay1251]
  rfl

/-- The store of sequence 5's head 3. -/
theorem state_5_3 (x : S1x1x1x128x128.Idx) :
    (k0_pay1252 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6404 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 5, 3, 0, 0] S1x1x1x128x128.size inb_S1x16x4x128x128_S1x1x1x128x128_0_5_3_0_0).emb x) := by
  refine Eq.trans ?_ (state_at x)
  obtain ⟨d, v, rfl⟩ := idx5 x
  simp only [read_v6404]
  refine Eq.trans ?_ (newS_at x5 _ _ _ 5 3 d v 40).symm
  pointwise [k0_pay1252]
  rfl

/-- The store of sequence 6's head 3. -/
theorem state_6_3 (x : S1x1x1x128x128.Idx) :
    (k0_pay1254 (sl.r_917 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 6, 3, 0, 0] S1x1x1x128x128.size inb_S1x16x4x128x128_S1x1x1x128x128_0_6_3_0_0).emb x) := by
  refine Eq.trans ?_ (state_at x)
  obtain ⟨d, v, rfl⟩ := idx5 x
  simp only [sl.r_917, read_v6417]
  refine Eq.trans ?_ (newS_at x5 _ _ _ 6 3 d v 48).symm
  pointwise [k0_pay1253, k0_pay1254]
  rfl

/-- The store of sequence 7's head 3. -/
theorem state_7_3 (x : S1x1x1x128x128.Idx) :
    (k0_pay1255 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6430 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 7, 3, 0, 0] S1x1x1x128x128.size inb_S1x16x4x128x128_S1x1x1x128x128_0_7_3_0_0).emb x) := by
  refine Eq.trans ?_ (state_at x)
  obtain ⟨d, v, rfl⟩ := idx5 x
  simp only [read_v6430]
  refine Eq.trans ?_ (newS_at x5 _ _ _ 7 3 d v 56).symm
  pointwise [k0_pay1255]
  rfl

/-- The store of sequence 8's head 3. -/
theorem state_8_3 (x : S1x1x1x128x128.Idx) :
    (k0_pay1256 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6443 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 8, 3, 0, 0] S1x1x1x128x128.size inb_S1x16x4x128x128_S1x1x1x128x128_0_8_3_0_0).emb x) := by
  refine Eq.trans ?_ (state_at x)
  obtain ⟨d, v, rfl⟩ := idx5 x
  simp only [read_v6443]
  refine Eq.trans ?_ (newS_at x5 _ _ _ 8 3 d v 64).symm
  pointwise [k0_pay1256]
  rfl

/-- The store of sequence 9's head 3. -/
theorem state_9_3 (x : S1x1x1x128x128.Idx) :
    (k0_pay1258 (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.r_918 c a5 p5 a10 p10 a11 p11 x4 x9 x10) (sl.v6456 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 9, 3, 0, 0] S1x1x1x128x128.size inb_S1x16x4x128x128_S1x1x1x128x128_0_9_3_0_0).emb x) := by
  refine Eq.trans ?_ (state_at x)
  obtain ⟨d, v, rfl⟩ := idx5 x
  simp only [sl.r_918, read_v6456]
  refine Eq.trans ?_ (newS_at x5 _ _ _ 9 3 d v 72).symm
  pointwise [k0_pay1257, k0_pay1258]
  rfl

/-- The store of sequence 10's head 3. -/
theorem state_10_3 (x : S1x1x1x128x128.Idx) :
    (k0_pay1259 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6469 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 10, 3, 0, 0] S1x1x1x128x128.size inb_S1x16x4x128x128_S1x1x1x128x128_0_10_3_0_0).emb x) := by
  refine Eq.trans ?_ (state_at x)
  obtain ⟨d, v, rfl⟩ := idx5 x
  simp only [read_v6469]
  refine Eq.trans ?_ (newS_at x5 _ _ _ 10 3 d v 80).symm
  pointwise [k0_pay1259]
  rfl

/-- The store of sequence 11's head 3. -/
theorem state_11_3 (x : S1x1x1x128x128.Idx) :
    (k0_pay1262 (sl.r_919 c a2 p2 a5 p5 a6 p6 a7 p7 a9 p9 a10 p10 a11 p11 a18 a21 a22 a23 x1 x4 x5 x6 x8 x9 x10) (sl.r_920 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 11, 3, 0, 0] S1x1x1x128x128.size inb_S1x16x4x128x128_S1x1x1x128x128_0_11_3_0_0).emb x) := by
  refine Eq.trans ?_ (state_at x)
  obtain ⟨d, v, rfl⟩ := idx5 x
  simp only [sl.r_919, sl.r_920, read_v6482]
  refine Eq.trans ?_ (newS_at x5 _ _ _ 11 3 d v 88).symm
  pointwise [k0_pay1260, k0_pay1261, k0_pay1262]
  rfl

/-- The store of sequence 12's head 3. -/
theorem state_12_3 (x : S1x1x1x128x128.Idx) :
    (k0_pay1263 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6495 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 12, 3, 0, 0] S1x1x1x128x128.size inb_S1x16x4x128x128_S1x1x1x128x128_0_12_3_0_0).emb x) := by
  refine Eq.trans ?_ (state_at x)
  obtain ⟨d, v, rfl⟩ := idx5 x
  simp only [read_v6495]
  refine Eq.trans ?_ (newS_at x5 _ _ _ 12 3 d v 96).symm
  pointwise [k0_pay1263]
  rfl

/-- The store of sequence 13's head 3. -/
theorem state_13_3 (x : S1x1x1x128x128.Idx) :
    (k0_pay1264 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6508 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 13, 3, 0, 0] S1x1x1x128x128.size inb_S1x16x4x128x128_S1x1x1x128x128_0_13_3_0_0).emb x) := by
  refine Eq.trans ?_ (state_at x)
  obtain ⟨d, v, rfl⟩ := idx5 x
  simp only [read_v6508]
  refine Eq.trans ?_ (newS_at x5 _ _ _ 13 3 d v 104).symm
  pointwise [k0_pay1264]
  rfl

/-- The store of sequence 14's head 3. -/
theorem state_14_3 (x : S1x1x1x128x128.Idx) :
    (k0_pay1265 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6521 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 14, 3, 0, 0] S1x1x1x128x128.size inb_S1x16x4x128x128_S1x1x1x128x128_0_14_3_0_0).emb x) := by
  refine Eq.trans ?_ (state_at x)
  obtain ⟨d, v, rfl⟩ := idx5 x
  simp only [read_v6521]
  refine Eq.trans ?_ (newS_at x5 _ _ _ 14 3 d v 112).symm
  pointwise [k0_pay1265]
  rfl

/-- The store of sequence 15's head 3. -/
theorem state_15_3 (x : S1x1x1x128x128.Idx) :
    (k0_pay1266 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6534 c a2 p2 a5 p5 a6 p6 a7 p7 a9 p9 a10 p10 a11 p11 a18 a21 a22 a23 x1 x4 x5 x6 x8 x9 x10)) x = blkS c a2 p2 a5 p5 a6 p6 a7 p7 a9 p9 a10 p10 a11 p11 a18 a21 a22 a23 x1 x4 x5 x6 x8 x9 x10 ((Rect.unit (s := S1x16x4x128x128) ![0, 15, 3, 0, 0] S1x1x1x128x128.size inb_S1x16x4x128x128_S1x1x1x128x128_0_15_3_0_0).emb x) := by
  refine Eq.trans ?_ (state_at x)
  obtain ⟨d, v, rfl⟩ := idx5 x
  simp only [read_v6534]
  refine Eq.trans ?_ (newS_at x5 _ _ _ 15 3 d v 120).symm
  pointwise [k0_pay1266]
  rfl

end Cert.KernelIdeal.Val

end
-- ==== Proof.MixAsm.lean ====
module

public import proofs.«01_k».proof.Proof.MixState1
public import proofs.«01_k».proof.Proof.MixState2
public import proofs.«01_k».proof.Proof.MixState3
public import proofs.«01_k».proof.Proof.MixState4

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

/-- One more store of one head's new state: every head stored so far holds its new state. -/
theorem done_step (G : S1x16x4x128x128.Idx → EReal) {L : List (View.Piece (Elt Ideal) S1x16x4x128x128 .f32)} {b h : ℕ} (inb : ∀ a, (![0, b, h, 0, 0] : Fin 5 → ℕ) a + S1x1x1x128x128.size a ≤ S1x16x4x128x128.size a)
    (p : Vec Ideal S1x1x1x128x128 .f32) (hp : ∀ x : S1x1x1x128x128.Idx, p x = G ((Rect.unit (s := S1x16x4x128x128) ![0, b, h, 0, 0] S1x1x1x128x128.size inb).emb x)) (n : ℕ) (hn : h * 16 + b = n)
    (hb : b < 16) (hL : ∀ y : S1x16x4x128x128.Idx, (y 2).val * 16 + (y 1).val < n → View.canon L y = G y) :
    ∀ y : S1x16x4x128x128.Idx, (y 2).val * 16 + (y 1).val < n + 1 → View.canon (⟨Rect.unit (s := S1x16x4x128x128) ![0, b, h, 0, 0] S1x1x1x128x128.size inb, p⟩ :: L) y = G y := by
  intro y hy
  by_cases hm : y ∈ (Rect.unit (s := S1x16x4x128x128) ![0, b, h, 0, 0] S1x1x1x128x128.size inb).set
  · obtain ⟨x, rfl⟩ := LoadRect.exists_idx_of_mem (Rect.unit (s := S1x16x4x128x128) ![0, b, h, 0, 0] S1x1x1x128x128.size inb).toLoadRect hm
    exact (View.canon_cons_emb (Rect.unit (s := S1x16x4x128x128) ![0, b, h, 0, 0] S1x1x1x128x128.size inb) p L x).trans (hp x)
  · refine (View.canon_cons_of_not_mem _ _ hm).trans (hL y ?_)
    have h1 : (y 1).val < 16 := (y 1).isLt
    by_contra hlt
    have e1 : (y 1).val = b := by omega
    have e2 : (y 2).val = h := by omega
    refine hm (Rect.mem_set_unit.2 fun a => ?_)
    have l0 := (y 0).isLt
    have l3 := (y 3).isLt
    have l4 := (y 4).isLt
    match a with
    | 0 => exact ⟨Nat.zero_le _, by simpa using l0⟩
    | 1 => exact ⟨le_of_eq e1.symm, lt_of_eq_of_lt e1 (Nat.lt_succ_self b)⟩
    | 2 => exact ⟨le_of_eq e2.symm, lt_of_eq_of_lt e2 (Nat.lt_succ_self h)⟩
    | 3 => exact ⟨Nat.zero_le _, by simpa using l3⟩
    | 4 => exact ⟨Nat.zero_le _, by simpa using l4⟩

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- After all stores the buffer holds the new states. -/
theorem state_done (y : S1x16x4x128x128.Idx) : View.canon (⟨Rect.unit (s := S1x16x4x128x128) ![0, 15, 3, 0, 0] S1x1x1x128x128.size inb_S1x16x4x128x128_S1x1x1x128x128_0_15_3_0_0, k0_pay1266 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6534 c a2 p2 a5 p5 a6 p6 a7 p7 a9 p9 a10 p10 a11 p11 a18 a21 a22 a23 x1 x4 x5 x6 x8 x9 x10)⟩ :: sl.H17_64 c a2 p2 a5 p5 a6 p6 a7 p7 a9 p9 a10 p10 a11 p11 a18 a21 a22 a23 x1 x4 x5 x6 x8 x9 x10) y = blkS c a2 p2 a5 p5 a6 p6 a7 p7 a9 p9 a10 p10 a11 p11 a18 a21 a22 a23 x1 x4 x5 x6 x8 x9 x10 y := by
  have h1 : (y 1).val < 16 := (y 1).isLt
  have h2 : (y 2).val < 4 := (y 2).isLt
  have key : ∀ y : S1x16x4x128x128.Idx, (y 2).val * 16 + (y 1).val < 63 + 1 → View.canon (⟨Rect.unit (s := S1x16x4x128x128) ![0, 15, 3, 0, 0] S1x1x1x128x128.size inb_S1x16x4x128x128_S1x1x1x128x128_0_15_3_0_0, k0_pay1266 (sl.r_707 c a5 p5 a10 p10 a11 p11 x4 x9 x10) (sl.r_876 c a2 p2 a5 p5 a7 p7 a9 p9 a10 p10 a11 p11 a22 x1 x4 x6 x8 x9 x10) (sl.r_913 c a2 p2 a5 p5 a6 p6 a7 p7 a9 p9 a10 p10 a11 p11 a18 a21 a22 a23 x1 x4 x5 x6 x8 x9 x10) (sl.v6534 c a2 p2 a5 p5 a6 p6 a7 p7 a9 p9 a10 p10 a11 p11 a18 a21 a22 a23 x1 x4 x5 x6 x8 x9 x10)⟩ :: sl.H17_64 c a2 p2 a5 p5 a6 p6 a7 p7 a9 p9 a10 p10 a11 p11 a18 a21 a22 a23 x1 x4 x5 x6 x8 x9 x10) y = blkS c a2 p2 a5 p5 a6 p6 a7 p7 a9 p9 a10 p10 a11 p11 a18 a21 a22 a23 x1 x4 x5 x6 x8 x9 x10 y := by
    refine done_step _ _ _ (fun x => by apply state_15_3) 63 rfl (by decide) ?_
    refine done_step _ _ _ (fun x => by apply state_14_3) 62 rfl (by decide) ?_
    refine done_step _ _ _ (fun x => by apply state_13_3) 61 rfl (by decide) ?_
    refine done_step _ _ _ (fun x => by apply state_12_3) 60 rfl (by decide) ?_
    refine done_step _ _ _ (fun x => by apply state_11_3) 59 rfl (by decide) ?_
    refine done_step _ _ _ (fun x => by apply state_10_3) 58 rfl (by decide) ?_
    refine done_step _ _ _ (fun x => by apply state_9_3) 57 rfl (by decide) ?_
    refine done_step _ _ _ (fun x => by apply state_8_3) 56 rfl (by decide) ?_
    refine done_step _ _ _ (fun x => by apply state_7_3) 55 rfl (by decide) ?_
    refine done_step _ _ _ (fun x => by apply state_6_3) 54 rfl (by decide) ?_
    refine done_step _ _ _ (fun x => by apply state_5_3) 53 rfl (by decide) ?_
    refine done_step _ _ _ (fun x => by apply state_4_3) 52 rfl (by decide) ?_
    refine done_step _ _ _ (fun x => by apply state_3_3) 51 rfl (by decide) ?_
    refine done_step _ _ _ (fun x => by apply state_2_3) 50 rfl (by decide) ?_
    refine done_step _ _ _ (fun x => by apply state_1_3) 49 rfl (by decide) ?_
    refine done_step _ _ _ (fun x => by apply state_0_3) 48 rfl (by decide) ?_
    refine done_step _ _ _ (fun x => by apply state_15_2) 47 rfl (by decide) ?_
    refine done_step _ _ _ (fun x => by apply state_14_2) 46 rfl (by decide) ?_
    refine done_step _ _ _ (fun x => by apply state_13_2) 45 rfl (by decide) ?_
    refine done_step _ _ _ (fun x => by apply state_12_2) 44 rfl (by decide) ?_
    refine done_step _ _ _ (fun x => by apply state_11_2) 43 rfl (by decide) ?_
    refine done_step _ _ _ (fun x => by apply state_10_2) 42 rfl (by decide) ?_
    refine done_step _ _ _ (fun x => by apply state_9_2) 41 rfl (by decide) ?_
    refine done_step _ _ _ (fun x => by apply state_8_2) 40 rfl (by decide) ?_
    refine done_step _ _ _ (fun x => by apply state_7_2) 39 rfl (by decide) ?_
    refine done_step _ _ _ (fun x => by apply state_6_2) 38 rfl (by decide) ?_
    refine done_step _ _ _ (fun x => by apply state_5_2) 37 rfl (by decide) ?_
    refine done_step _ _ _ (fun x => by apply state_4_2) 36 rfl (by decide) ?_
    refine done_step _ _ _ (fun x => by apply state_3_2) 35 rfl (by decide) ?_
    refine done_step _ _ _ (fun x => by apply state_2_2) 34 rfl (by decide) ?_
    refine done_step _ _ _ (fun x => by apply state_1_2) 33 rfl (by decide) ?_
    refine done_step _ _ _ (fun x => by apply state_0_2) 32 rfl (by decide) ?_
    refine done_step _ _ _ (fun x => by apply state_15_1) 31 rfl (by decide) ?_
    refine done_step _ _ _ (fun x => by apply state_14_1) 30 rfl (by decide) ?_
    refine done_step _ _ _ (fun x => by apply state_13_1) 29 rfl (by decide) ?_
    refine done_step _ _ _ (fun x => by apply state_12_1) 28 rfl (by decide) ?_
    refine done_step _ _ _ (fun x => by apply state_11_1) 27 rfl (by decide) ?_
    refine done_step _ _ _ (fun x => by apply state_10_1) 26 rfl (by decide) ?_
    refine done_step _ _ _ (fun x => by apply state_9_1) 25 rfl (by decide) ?_
    refine done_step _ _ _ (fun x => by apply state_8_1) 24 rfl (by decide) ?_
    refine done_step _ _ _ (fun x => by apply state_7_1) 23 rfl (by decide) ?_
    refine done_step _ _ _ (fun x => by apply state_6_1) 22 rfl (by decide) ?_
    refine done_step _ _ _ (fun x => by apply state_5_1) 21 rfl (by decide) ?_
    refine done_step _ _ _ (fun x => by apply state_4_1) 20 rfl (by decide) ?_
    refine done_step _ _ _ (fun x => by apply state_3_1) 19 rfl (by decide) ?_
    refine done_step _ _ _ (fun x => by apply state_2_1) 18 rfl (by decide) ?_
    refine done_step _ _ _ (fun x => by apply state_1_1) 17 rfl (by decide) ?_
    refine done_step _ _ _ (fun x => by apply state_0_1) 16 rfl (by decide) ?_
    refine done_step _ _ _ (fun x => by apply state_15_0) 15 rfl (by decide) ?_
    refine done_step _ _ _ (fun x => by apply state_14_0) 14 rfl (by decide) ?_
    refine done_step _ _ _ (fun x => by apply state_13_0) 13 rfl (by decide) ?_
    refine done_step _ _ _ (fun x => by apply state_12_0) 12 rfl (by decide) ?_
    refine done_step _ _ _ (fun x => by apply state_11_0) 11 rfl (by decide) ?_
    refine done_step _ _ _ (fun x => by apply state_10_0) 10 rfl (by decide) ?_
    refine done_step _ _ _ (fun x => by apply state_9_0) 9 rfl (by decide) ?_
    refine done_step _ _ _ (fun x => by apply state_8_0) 8 rfl (by decide) ?_
    refine done_step _ _ _ (fun x => by apply state_7_0) 7 rfl (by decide) ?_
    refine done_step _ _ _ (fun x => by apply state_6_0) 6 rfl (by decide) ?_
    refine done_step _ _ _ (fun x => by apply state_5_0) 5 rfl (by decide) ?_
    refine done_step _ _ _ (fun x => by apply state_4_0) 4 rfl (by decide) ?_
    refine done_step _ _ _ (fun x => by apply state_3_0) 3 rfl (by decide) ?_
    refine done_step _ _ _ (fun x => by apply state_2_0) 2 rfl (by decide) ?_
    refine done_step _ _ _ (fun x => by apply state_1_0) 1 rfl (by decide) ?_
    refine done_step _ _ _ (fun x => by apply state_0_0) 0 rfl (by decide) ?_
    intro y hy
    exact absurd hy (Nat.not_lt_zero _)
  exact key y (by omega)

end Cert.KernelIdeal.Val

end
-- ==== Proof.MixBlock.lean ====
module

public import proofs.«01_k».proof.Proof.MixArrays
public import proofs.«01_k».proof.Proof.MixAsm

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

set_option maxHeartbeats 2000000 in
/-- What the new states' block holds after a grid point's body. -/
theorem sd_piece (c : Dev nD) (t : Fin cfg0.N) (y : S1x16x4x128x128.Idx) :
    (outsAt0 m c t).2.1 y = blkS c (ms0_1 t) (hs0_1 t) (ms0_4 t) (hs0_4 t) (ms0_5 t) (hs0_5 t) (ms0_6 t) (hs0_6 t) (ms0_8 t) (hs0_8 t) (ms0_9 t) (hs0_9 t) (ms0_10 t) (hs0_10 t)
      (ms0_17 t) scM0_0 scM0_1 scM0_2 (iblk m c 1 t) (iblk m c 4 t) (iblk m c 5 t) (iblk m c 6 t) (iblk m c 8 t) (iblk m c 9 t) (iblk m c 10 t) y := by
  simp only [outsAt0]
  unfold out0_A_17
  refine (View.read_writes_junk_apply_eq_canon ..).trans ?_
  exact state_done ..

end Cert.KernelIdeal.Val

end
-- ==== Proof.MixIn.lean ====
module

public import proofs.«01_k».proof.Proof.MixArrays
public import Idealize.ShloMosaic.Lib.Routing.OpsSet

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The block of the gate inputs moves with the grid point. -/
theorem idx4 : ∀ t : Fin cfg0.N, win0_4.index t = ![128 + t.val, 0, 0] :=
  (by decide +kernel : ∀ t : Fin grid0.N, win0_4.index t = ![128 + t.val, 0, 0])
/-- The block of the old states moves with the grid point. -/
theorem idxS : ∀ t : Fin cfg0.N, win0_5.index t = ![0, t.val, 0, 0, 0] :=
  (by decide +kernel : ∀ t : Fin grid0.N, win0_5.index t = ![0, t.val, 0, 0, 0])
/-- The block of the kept rows moves with the grid point. -/
theorem idx6 : ∀ t : Fin cfg0.N, win0_6.index t = ![0, t.val, 0] :=
  (by decide +kernel : ∀ t : Fin grid0.N, win0_6.index t = ![0, t.val, 0])
/-- The taps' block is the same at every grid point. -/
theorem idx8 : ∀ t : Fin cfg0.N, win0_8.index t = ![0, 0, 0] :=
  (by decide +kernel : ∀ t : Fin grid0.N, win0_8.index t = ![0, 0, 0])
/-- The decays' block is the same at every grid point. -/
theorem idx9 : ∀ t : Fin cfg0.N, win0_9.index t = ![0, 0] :=
  (by decide +kernel : ∀ t : Fin grid0.N, win0_9.index t = ![0, 0])
/-- The offsets' block is the same at every grid point. -/
theorem idx10 : ∀ t : Fin cfg0.N, win0_10.index t = ![0, 0] :=
  (by decide +kernel : ∀ t : Fin grid0.N, win0_10.index t = ![0, 0])
/-- The block of the new states moves with the grid point. -/
theorem idx17 : ∀ t : Fin cfg0.N, win0_17.index t = ![0, t.val, 0, 0, 0] :=
  (by decide +kernel : ∀ t : Fin grid0.N, win0_17.index t = ![0, t.val, 0, 0, 0])

/-- The rows of the fifth argument, eight to a sequence. -/
theorem V_main_v26_apply (c : Dev nD) (a : Fin 2208) (s : Fin 8) (k : Fin 128) :
    V m c main_v26 (ix3 a s k) = m ((c.tc : Thread nD τ).loc main_arg4) (ix2 ⟨a.val * 8 + s.val, by omega⟩ k) := by
  entry_read
  pointwise

/-- The kept rows of the seventh argument, step by step. -/
theorem V_main_v19_apply (c : Dev nD) (r : Fin 3) (b : Fin 128) (k : Fin 1536) :
    V m c main_v19 (ix3 r b k) = m ((c.tc : Thread nD τ).loc main_arg6) (ix4 0 b r k) := by
  entry_read
  pointwise

/-- The taps, each repeated for the eight rows. -/
theorem V_main_v1_apply (c : Dev nD) (e : Fin 4) (s : Fin 8) (k : Fin 1536) :
    V m c main_v1 (ix3 e s k) = m ((c.tc : Thread nD τ).loc main_arg8) (ix3 0 e k) := by
  entry_read
  pointwise

/-- A word of the gate inputs' block. -/
theorem ba_apply (c : Dev nD) (t : Fin cfg0.N) (b : Fin 16) (s : Fin 8) (k : Fin 128) (h : 16384 + (t.val * 16 + b.val) * 8 + s.val < 17664) :
    iblk m c 4 t (ix3 b s k) = m ((c.tc : Thread nD τ).loc main_arg4) (ix2 ⟨16384 + (t.val * 16 + b.val) * 8 + s.val, h⟩ k) := by
  have hN : t.val < 8 := lt_of_lt_of_eq t.isLt (show cfg0.N = 8 from N_0)
  refine Eq.trans ?_ ((V_main_v26_apply m c ⟨(128 + t.val) * 16 + b.val, by omega⟩ s k).trans ?_)
  · blk_ext [iblk, idx4 t]
  · exact congrArg (fun q => m ((c.tc : Thread nD τ).loc main_arg4) (ix2 q k)) (Fin.ext (by show ((128 + t.val) * 16 + b.val) * 8 + s.val = 16384 + (t.val * 16 + b.val) * 8 + s.val; omega))

/-- A word of the kept rows' block. -/
theorem kept_apply (c : Dev nD) (t : Fin cfg0.N) (r : Fin 3) (b : Fin 16) (k : Fin 1536) (h : t.val * 16 + b.val < 128) :
    iblk m c 6 t (ix3 r b k) = m ((c.tc : Thread nD τ).loc main_arg6) (ix4 0 ⟨t.val * 16 + b.val, h⟩ r k) := by
  refine Eq.trans ?_ (V_main_v19_apply m c r ⟨t.val * 16 + b.val, h⟩ k)
  · blk_ext [iblk, idx6 t]

/-- A word of the taps' block. -/
theorem tap_apply (c : Dev nD) (t : Fin cfg0.N) (e : Fin 4) (s : Fin 8) (k : Fin 1536) :
    iblk m c 8 t (ix3 e s k) = m ((c.tc : Thread nD τ).loc main_arg8) (ix3 0 e k) := by
  refine Eq.trans ?_ (V_main_v1_apply m c e s k)
  · blk_ext [iblk, idx8 t]

/-- A word of the old states' block. -/
theorem old_apply (c : Dev nD) (t : Fin cfg0.N) (b : Fin 16) (h : Fin 4) (d v : Fin 128) (hb : t.val * 16 + b.val < 128) :
    iblk m c 5 t (ix5 0 b h d v) = m ((c.tc : Thread nD τ).loc main_arg5) (ix5 0 ⟨t.val * 16 + b.val, hb⟩ h d v) := by
  refine Eq.trans (b := V m c main_arg5 (ix5 0 ⟨t.val * 16 + b.val, hb⟩ h d v)) ?_ ?_
  · blk_ext [iblk, idxS t]
  · entry_read
    rfl

set_option maxRecDepth 65536 in
/-- Where the four words of a placed row land: in the lanes from the fifth on. -/
theorem lands : ∀ h n : Fin 4, scatter_S1x128_S2_S4_0_0_01_0.resultIdx? (ix1 n : S4.Idx)
    (concatenate S2 0 [⟨S1, broadcastInDim S1 ![] bcast_S_S1 (constantI S_ 32 0#32)⟩, ⟨S1, broadcastInDim S1 ![] bcast_S_S1 (constantI S_ 32 4#32)⟩] concatenates_S1_S1_S2_d0)
    = some (ix2 0 ⟨4 + h.val, by omega⟩ : S1x128.Idx) ↔ n = h := by
  decide +kernel

/-- A row of four words placed from the fifth lane on, read in one of these lanes. -/
theorem placed_apply (x0 : S1x128.Idx → EReal) (u : S4.Idx → EReal) (h : Fin 4) :
    Host.scatter scatter_S1x128_S2_S4_0_0_01_0 (fun _ b => b) x0
      (concatenate S2 0 [⟨S1, broadcastInDim S1 ![] bcast_S_S1 (constantI S_ 32 0#32)⟩, ⟨S1, broadcastInDim S1 ![] bcast_S_S1 (constantI S_ 32 4#32)⟩] concatenates_S1_S1_S2_d0)
      u (ix2 0 ⟨4 + h.val, by omega⟩) = u (ix1 h) := by
  refine Routing.scatter_set_hit _ x0 _ u _ _ (fun k hk => ?_) (ix1 h) ((lands h h).2 rfl)
  have e : k = ix1 (k 0) := by funext a; match a with | ⟨0, _⟩ => rfl
  have h2 := (lands h (k 0)).1 ((congrArg (fun q => scatter_S1x128_S2_S4_0_0_01_0.resultIdx? q _) e.symm).trans hk)
  exact congrArg u (e.trans (congrArg ix1 h2))

/-- The decays stand in the lanes from the fifth on. -/
theorem V_main_v7_apply (c : Dev nD) (h : Fin 4) :
    V m c main_v7 (ix2 0 ⟨4 + h.val, by omega⟩) = m ((c.tc : Thread nD τ).loc main_arg9) (ix2 0 h) := by
  entry_read
  refine (placed_apply _ _ h).trans ?_
  pointwise

/-- The offsets stand in the lanes from the fifth on. -/
theorem V_main_v13_apply (c : Dev nD) (h : Fin 4) :
    V m c main_v13 (ix2 0 ⟨4 + h.val, by omega⟩) = m ((c.tc : Thread nD τ).loc main_arg10) (ix2 0 h) := by
  entry_read
  refine (placed_apply _ _ h).trans ?_
  pointwise

/-- A word of the decays' block. -/
theorem decay_apply (c : Dev nD) (t : Fin cfg0.N) (h : Fin 4) :
    iblk m c 9 t (ix2 0 ⟨4 + h.val, by omega⟩) = m ((c.tc : Thread nD τ).loc main_arg9) (ix2 0 h) := by
  refine Eq.trans ?_ (V_main_v7_apply m c h)
  · blk_ext [iblk, idx9 t]

/-- A word of the offsets' block. -/
theorem offset_apply (c : Dev nD) (t : Fin cfg0.N) (h : Fin 4) :
    iblk m c 10 t (ix2 0 ⟨4 + h.val, by omega⟩) = m ((c.tc : Thread nD τ).loc main_arg10) (ix2 0 h) := by
  refine Eq.trans ?_ (V_main_v13_apply m c h)
  · blk_ext [iblk, idx10 t]

end Cert.KernelIdeal.Val

end
-- ==== Proof.DeltaChunk.lean ====
module

public import proofs.«01_k».proof.Proof.Gen.ReferenceIdeal.Read

@[expose] public section

set_option maxRecDepth 16384

noncomputable section

namespace Cert.KernelIdeal.Val

open Idealize.ShloMosaic

/-- The running sum of a chunk's gates. -/
def gsum (g : Fin 8 → EReal) (i : Fin 8) : EReal := ∑ j : Fin 8, if j.val ≤ i.val then g j else 0

/-- A chunk's strictly lower triangular matrix. -/
def amat (k : Fin 8 → Fin 128 → EReal) (be g : Fin 8 → EReal) (i j : Fin 8) : EReal :=
  if j.val < i.val then (∑ d, k i d * be i * k j d) * Ideal.exp (if j.val ≤ i.val then gsum g i - gsum g j else ⊥) else 0

/-- A column of the triangular system after its first rows are solved. -/
def sweep (a : Fin 8 → Fin 8 → EReal) (f : Fin 8 → EReal) : ℕ → Fin 8 → EReal
  | 0 => fun _ => 0
  | n + 1 => fun i => if i.val = n then f i - ∑ j, a i j * sweep a f n j else sweep a f n i

/-- The state of one head after a chunk of the gated delta rule. -/
def chunk (k v : Fin 8 → Fin 128 → EReal) (be g : Fin 8 → EReal) (s : Fin 128 → Fin 128 → EReal) (d c : Fin 128) : EReal :=
  s d c * Ideal.exp (gsum g 7)
    + ∑ i, (k i d * Ideal.exp (gsum g 7 - gsum g i)) * (sweep (amat k be g) (fun i => v i c * be i) 8 i
      - ∑ x, sweep (amat k be g) (fun i => k i x * be i * Ideal.exp (gsum g i)) 8 i * s x c)

/-- A solution of the triangular system is what the sweep finds, row after row. -/
theorem sweep_eq (a : Fin 8 → Fin 8 → EReal) (f U : Fin 8 → EReal) (ha : ∀ i j : Fin 8, ¬ j.val < i.val → a i j = 0)
    (hU : ∀ i, U i = f i - ∑ j, a i j * U j) (n : ℕ) (i : Fin 8) (hi : i.val < n) : sweep a f n i = U i := by
  induction n generalizing i with
  | zero => omega
  | succ n ih =>
    show (if i.val = n then f i - ∑ j, a i j * sweep a f n j else sweep a f n i) = U i
    split_ifs with h
    · rw [hU]
      refine congrArg (fun q : EReal => f i - q) (Finset.sum_congr rfl fun j _ => ?_)
      by_cases hj : j.val < i.val
      · rw [ih j (by omega)]
      · rw [ha i j hj, zero_mul, zero_mul]
    · exact ih i (by omega)

end Cert.KernelIdeal.Val

end
-- ==== Proof.MixRef.lean ====
module

public import proofs.«01_k».proof.Proof.DeltaChunk
public import Idealize.ShloMosaic.PureOps.Ideal
public import Idealize.ShloMosaic.Lib.Pointwise

@[expose] public section

set_option maxRecDepth 16384
set_option maxHeartbeats 2000000

noncomputable section

namespace Cert.KernelIdeal.Val

open Idealize.ShloMosaic Idealize.ShloMosaic.Tactic
open Cert.ReferenceIdeal Cert.ReferenceIdeal.Read

variable (x1 : (⟨S17664x1536, .f32⟩ : BufTy).Contents (Elt Ideal)) (x4 : (⟨S17664x128, .f32⟩ : BufTy).Contents (Elt Ideal)) (x5 : (⟨S1x128x4x128x128, .f32⟩ : BufTy).Contents (Elt Ideal)) (x6 : (⟨S1x128x3x1536, .f32⟩ : BufTy).Contents (Elt Ideal)) (x8 : (⟨S1x4x1536, .f32⟩ : BufTy).Contents (Elt Ideal)) (x9 x10 : (⟨S1x4, .f32⟩ : BufTy).Contents (Elt Ideal))

/-- The mask of a row's own and earlier rows. -/
theorem mask_ge (i j : Fin 8) (x y : EReal) : Scalar.select (IntOp.cmpi CmpIPredicate.sge (BitVec.ofNat 32 i.val) (BitVec.ofNat 32 j.val)) x y = if j.val ≤ i.val then x else y := by
  have h := (by decide +kernel : ∀ i j : Fin 8, IntOp.cmpi CmpIPredicate.sge (BitVec.ofNat 32 i.val) (BitVec.ofNat 32 j.val) = if j.val ≤ i.val then 1#1 else 0#1) i j
  rw [h]; split_ifs <;> rfl

/-- The mask of a row's earlier rows. -/
theorem mask_gt (i j : Fin 8) (x y : EReal) : Scalar.select (IntOp.cmpi CmpIPredicate.sgt (BitVec.ofNat 32 i.val) (BitVec.ofNat 32 j.val)) x y = if j.val < i.val then x else y := by
  have h := (by decide +kernel : ∀ i j : Fin 8, IntOp.cmpi CmpIPredicate.sgt (BitVec.ofNat 32 i.val) (BitVec.ofNat 32 j.val) = if j.val < i.val then 1#1 else 0#1) i j
  rw [h]; split_ifs <;> rfl

/-- The mask of one row. -/
theorem mask_eq (i n : Fin 8) (x y : EReal) : Scalar.select (IntOp.cmpi CmpIPredicate.eq (BitVec.ofNat 32 i.val) (BitVec.ofNat 32 n.val)) x y = if i.val = n.val then x else y := by
  have h := (by decide +kernel : ∀ i j : Fin 8, IntOp.cmpi CmpIPredicate.eq (BitVec.ofNat 32 i.val) (BitVec.ofNat 32 j.val) = if i.val = j.val then 1#1 else 0#1) i n
  rw [h]; split_ifs <;> rfl

/-- The word of zero. -/
theorem word_zero : (constant (F := Ideal) S_ FTy.f32 0#32 ix0 : EReal) = 0 := by
  show Ideal.ofBits FTy.f32 0#32 = 0
  simp [Ideal.ofBits, Ideal.ieee]

/-- The word of minus infinity. -/
theorem word_bot : (constant (F := Ideal) S_ FTy.f32 4286578688#32 ix0 : EReal) = ⊥ := by
  show Ideal.ofBits FTy.f32 4286578688#32 = ⊥
  simp [Ideal.ofBits, Ideal.ieee]

/-- The reference's running sums of the gates. -/
theorem ref_gsum (b : Fin 128) (h : Fin 4) (i : Fin 8) : val_main_v81 (F := Ideal) x4 x9 x10 (ix3 b h i) = gsum (fun j => val_main_v74 (F := Ideal) x4 x9 x10 (ix3 b h j)) i := by
  pointwise [val_main_v81, val_main_cst_5, val_main_v80, val_main_call2_v1, val_main_v79, val_main_v78, val_main_v77, val_main_v76, val_main_call2_v2, val_main_call2_v0, val_main_cst_4]
  simp only [mask_ge, id_eq, word_zero]
  rfl

/-- The reference's triangular matrix. -/
theorem ref_amat (b : Fin 128) (h : Fin 4) (i j : Fin 8) : val_main_v99 (F := Ideal) x1 x4 x6 x8 x9 x10 (ix4 b h i j) = amat (fun i d => val_main_v72 (F := Ideal) x1 x6 x8 (ix4 b h i d)) (fun i => val_main_v75 (F := Ideal) x4 (ix3 b h i)) (fun i => val_main_v74 (F := Ideal) x4 x9 x10 (ix3 b h i)) i j := by
  unfold amat
  pointwise [val_main_v99, val_main_call4_v1, val_main_call4_v0, val_main_cst_7, val_main_v98, val_main_v89, val_main_v88, val_main_call3_v1, val_main_call3_v0, val_main_cst_6, val_main_v87, val_main_v86, val_main_v84, val_main_v85, val_main_v83, val_main_v82, val_main_v77, val_main_v76, val_main_v97, val_main_v92, val_main_v91, val_main_v90, val_main_v96]
  simp only [mask_ge, mask_gt, ref_gsum, id_eq, word_zero, word_bot]

/-- The reference's right side: the gated values. -/
theorem ref_rhs_v (b : Fin 128) (h : Fin 4) (i : Fin 8) (c : Fin 128) : val_main_v104 (F := Ideal) x1 x4 x6 x8 x9 x10 (ix4 b h i ⟨c.val, by omega⟩) = val_main_v73 (F := Ideal) x1 x6 x8 (ix4 b h i c) * val_main_v75 (F := Ideal) x4 (ix3 b h i) := by
  pointwise [val_main_v104, val_main_v103, val_main_v92, val_main_v91, val_main_v90, val_main_v102, val_main_v101, val_main_v100, val_main_v95, val_main_v94, val_main_v93]

/-- The reference's right side: the gated, decayed keys. -/
theorem ref_rhs_k (b : Fin 128) (h : Fin 4) (i : Fin 8) (c : Fin 128) : val_main_v104 (F := Ideal) x1 x4 x6 x8 x9 x10 (ix4 b h i ⟨128 + c.val, by omega⟩) = val_main_v72 (F := Ideal) x1 x6 x8 (ix4 b h i c) * val_main_v75 (F := Ideal) x4 (ix3 b h i) * Ideal.exp (gsum (fun j => val_main_v74 (F := Ideal) x4 x9 x10 (ix3 b h j)) i) := by
  pointwise [val_main_v104, val_main_v103, val_main_v92, val_main_v91, val_main_v90, val_main_v102, val_main_v101, val_main_v100, val_main_v95, val_main_v94, val_main_v93]
  simp only [ref_gsum]

/-- No row is solved at first. -/
theorem ref_sweep_0 (b : Fin 128) (h : Fin 4) (i : Fin 8) (c : Fin 256) : val_main_v106 (F := Ideal) (ix4 b h i c) = 0 := by
  pointwise [val_main_v106, val_main_cst_8]

/-- Row 0 is solved from the rows before. -/
theorem ref_sweep_1 (b : Fin 128) (h : Fin 4) (i : Fin 8) (c : Fin 256) : val_main_v111 (F := Ideal) x1 x4 x6 x8 x9 x10 (ix4 b h i c)
    = sweep (fun i j => val_main_v99 (F := Ideal) x1 x4 x6 x8 x9 x10 (ix4 b h i j)) (fun i => val_main_v104 (F := Ideal) x1 x4 x6 x8 x9 x10 (ix4 b h i c)) 1 i := by
  unfold sweep
  have hs : ∀ j, sweep (fun i j => val_main_v99 (F := Ideal) x1 x4 x6 x8 x9 x10 (ix4 b h i j)) (fun i => val_main_v104 (F := Ideal) x1 x4 x6 x8 x9 x10 (ix4 b h i c)) 0 j = val_main_v106 (F := Ideal) (ix4 b h j c) :=
    fun j => (ref_sweep_0 b h j c).symm
  simp only [hs]
  pointwise [val_main_v111, val_main_v110, val_main_v109, val_main_v108, val_main_v105, val_main_v107, val_main_c]
  exact mask_eq i 0 _ _

/-- Row 1 is solved from the rows before. -/
theorem ref_sweep_2 (b : Fin 128) (h : Fin 4) (i : Fin 8) (c : Fin 256) : val_main_v116 (F := Ideal) x1 x4 x6 x8 x9 x10 (ix4 b h i c)
    = sweep (fun i j => val_main_v99 (F := Ideal) x1 x4 x6 x8 x9 x10 (ix4 b h i j)) (fun i => val_main_v104 (F := Ideal) x1 x4 x6 x8 x9 x10 (ix4 b h i c)) 2 i := by
  unfold sweep
  have hs : ∀ j, sweep (fun i j => val_main_v99 (F := Ideal) x1 x4 x6 x8 x9 x10 (ix4 b h i j)) (fun i => val_main_v104 (F := Ideal) x1 x4 x6 x8 x9 x10 (ix4 b h i c)) 1 j = val_main_v111 (F := Ideal) x1 x4 x6 x8 x9 x10 (ix4 b h j c) :=
    fun j => (ref_sweep_1 x1 x4 x6 x8 x9 x10 b h j c).symm
  simp only [hs]
  pointwise [val_main_v116, val_main_v115, val_main_v114, val_main_v113, val_main_v105, val_main_v112, val_main_c_9]
  exact mask_eq i 1 _ _

/-- Row 2 is solved from the rows before. -/
theorem ref_sweep_3 (b : Fin 128) (h : Fin 4) (i : Fin 8) (c : Fin 256) : val_main_v121 (F := Ideal) x1 x4 x6 x8 x9 x10 (ix4 b h i c)
    = sweep (fun i j => val_main_v99 (F := Ideal) x1 x4 x6 x8 x9 x10 (ix4 b h i j)) (fun i => val_main_v104 (F := Ideal) x1 x4 x6 x8 x9 x10 (ix4 b h i c)) 3 i := by
  unfold sweep
  have hs : ∀ j, sweep (fun i j => val_main_v99 (F := Ideal) x1 x4 x6 x8 x9 x10 (ix4 b h i j)) (fun i => val_main_v104 (F := Ideal) x1 x4 x6 x8 x9 x10 (ix4 b h i c)) 2 j = val_main_v116 (F := Ideal) x1 x4 x6 x8 x9 x10 (ix4 b h j c) :=
    fun j => (ref_sweep_2 x1 x4 x6 x8 x9 x10 b h j c).symm
  simp only [hs]
  pointwise [val_main_v121, val_main_v118, val_main_v105, val_main_v117, val_main_c_10, val_main_v120, val_main_v119]
  exact mask_eq i 2 _ _

/-- Row 3 is solved from the rows before. -/
theorem ref_sweep_4 (b : Fin 128) (h : Fin 4) (i : Fin 8) (c : Fin 256) : val_main_v126 (F := Ideal) x1 x4 x6 x8 x9 x10 (ix4 b h i c)
    = sweep (fun i j => val_main_v99 (F := Ideal) x1 x4 x6 x8 x9 x10 (ix4 b h i j)) (fun i => val_main_v104 (F := Ideal) x1 x4 x6 x8 x9 x10 (ix4 b h i c)) 4 i := by
  unfold sweep
  have hs : ∀ j, sweep (fun i j => val_main_v99 (F := Ideal) x1 x4 x6 x8 x9 x10 (ix4 b h i j)) (fun i => val_main_v104 (F := Ideal) x1 x4 x6 x8 x9 x10 (ix4 b h i c)) 3 j = val_main_v121 (F := Ideal) x1 x4 x6 x8 x9 x10 (ix4 b h j c) :=
    fun j => (ref_sweep_3 x1 x4 x6 x8 x9 x10 b h j c).symm
  simp only [hs]
  pointwise [val_main_v126, val_main_v125, val_main_v124, val_main_v123, val_main_v105, val_main_v122, val_main_c_11]
  exact mask_eq i 3 _ _

/-- Row 4 is solved from the rows before. -/
theorem ref_sweep_5 (b : Fin 128) (h : Fin 4) (i : Fin 8) (c : Fin 256) : val_main_v131 (F := Ideal) x1 x4 x6 x8 x9 x10 (ix4 b h i c)
    = sweep (fun i j => val_main_v99 (F := Ideal) x1 x4 x6 x8 x9 x10 (ix4 b h i j)) (fun i => val_main_v104 (F := Ideal) x1 x4 x6 x8 x9 x10 (ix4 b h i c)) 5 i := by
  unfold sweep
  have hs : ∀ j, sweep (fun i j => val_main_v99 (F := Ideal) x1 x4 x6 x8 x9 x10 (ix4 b h i j)) (fun i => val_main_v104 (F := Ideal) x1 x4 x6 x8 x9 x10 (ix4 b h i c)) 4 j = val_main_v126 (F := Ideal) x1 x4 x6 x8 x9 x10 (ix4 b h j c) :=
    fun j => (ref_sweep_4 x1 x4 x6 x8 x9 x10 b h j c).symm
  simp only [hs]
  pointwise [val_main_v131, val_main_v130, val_main_v129, val_main_v128, val_main_v127, val_main_c_12, val_main_v105]
  exact mask_eq i 4 _ _

/-- Row 5 is solved from the rows before. -/
theorem ref_sweep_6 (b : Fin 128) (h : Fin 4) (i : Fin 8) (c : Fin 256) : val_main_v136 (F := Ideal) x1 x4 x6 x8 x9 x10 (ix4 b h i c)
    = sweep (fun i j => val_main_v99 (F := Ideal) x1 x4 x6 x8 x9 x10 (ix4 b h i j)) (fun i => val_main_v104 (F := Ideal) x1 x4 x6 x8 x9 x10 (ix4 b h i c)) 6 i := by
  unfold sweep
  have hs : ∀ j, sweep (fun i j => val_main_v99 (F := Ideal) x1 x4 x6 x8 x9 x10 (ix4 b h i j)) (fun i => val_main_v104 (F := Ideal) x1 x4 x6 x8 x9 x10 (ix4 b h i c)) 5 j = val_main_v131 (F := Ideal) x1 x4 x6 x8 x9 x10 (ix4 b h j c) :=
    fun j => (ref_sweep_5 x1 x4 x6 x8 x9 x10 b h j c).symm
  simp only [hs]
  pointwise [val_main_v136, val_main_v135, val_main_v134, val_main_v133, val_main_v132, val_main_c_13, val_main_v105]
  exact mask_eq i 5 _ _

/-- Row 6 is solved from the rows before. -/
theorem ref_sweep_7 (b : Fin 128) (h : Fin 4) (i : Fin 8) (c : Fin 256) : val_main_v141 (F := Ideal) x1 x4 x6 x8 x9 x10 (ix4 b h i c)
    = sweep (fun i j => val_main_v99 (F := Ideal) x1 x4 x6 x8 x9 x10 (ix4 b h i j)) (fun i => val_main_v104 (F := Ideal) x1 x4 x6 x8 x9 x10 (ix4 b h i c)) 7 i := by
  unfold sweep
  have hs : ∀ j, sweep (fun i j => val_main_v99 (F := Ideal) x1 x4 x6 x8 x9 x10 (ix4 b h i j)) (fun i => val_main_v104 (F := Ideal) x1 x4 x6 x8 x9 x10 (ix4 b h i c)) 6 j = val_main_v136 (F := Ideal) x1 x4 x6 x8 x9 x10 (ix4 b h j c) :=
    fun j => (ref_sweep_6 x1 x4 x6 x8 x9 x10 b h j c).symm
  simp only [hs]
  pointwise [val_main_v141, val_main_v140, val_main_v139, val_main_v138, val_main_v137, val_main_c_14, val_main_v105]
  exact mask_eq i 6 _ _

/-- Row 7 is solved from the rows before. -/
theorem ref_sweep_8 (b : Fin 128) (h : Fin 4) (i : Fin 8) (c : Fin 256) : val_main_v146 (F := Ideal) x1 x4 x6 x8 x9 x10 (ix4 b h i c)
    = sweep (fun i j => val_main_v99 (F := Ideal) x1 x4 x6 x8 x9 x10 (ix4 b h i j)) (fun i => val_main_v104 (F := Ideal) x1 x4 x6 x8 x9 x10 (ix4 b h i c)) 8 i := by
  unfold sweep
  have hs : ∀ j, sweep (fun i j => val_main_v99 (F := Ideal) x1 x4 x6 x8 x9 x10 (ix4 b h i j)) (fun i => val_main_v104 (F := Ideal) x1 x4 x6 x8 x9 x10 (ix4 b h i c)) 7 j = val_main_v141 (F := Ideal) x1 x4 x6 x8 x9 x10 (ix4 b h j c) :=
    fun j => (ref_sweep_7 x1 x4 x6 x8 x9 x10 b h j c).symm
  simp only [hs]
  pointwise [val_main_v146, val_main_v145, val_main_v144, val_main_v143, val_main_v105, val_main_v142, val_main_c_15]
  exact mask_eq i 7 _ _

/-- The reference's new states. -/
theorem ref_state (b : Fin 128) (h : Fin 4) (p q : Fin 128) : val_main_v166 (F := Ideal) x1 x4 x5 x6 x8 x9 x10 (ix5 0 b h p q)
    = chunk (fun i d => val_main_v72 (F := Ideal) x1 x6 x8 (ix4 b h i d)) (fun i d => val_main_v73 (F := Ideal) x1 x6 x8 (ix4 b h i d)) (fun i => val_main_v75 (F := Ideal) x4 (ix3 b h i)) (fun i => val_main_v74 (F := Ideal) x4 x9 x10 (ix3 b h i)) (fun d c => x5 (ix5 0 b h d c)) p q := by
  unfold chunk
  pointwise [val_main_v166, val_main_v165, val_main_v164, val_main_v150, val_main_v147, val_main_v149, val_main_v148, val_main_v71, val_main_v163, val_main_v162, val_main_v161, val_main_v160, val_main_v159, val_main_v158, val_main_v157, val_main_v152, val_main_v151, val_main_v156, val_main_v155, val_main_v154, val_main_v153]
  simp only [ref_sweep_8, ref_amat, ref_rhs_v, ref_rhs_k, ref_gsum]

end Cert.KernelIdeal.Val

end
-- ==== Proof.MixVals.lean ====
module

public import proofs.«01_k».proof.Proof.MixRef
public import proofs.«01_k».proof.Proof.Gen.ReferenceIdeal.Read

@[expose] public section

set_option maxRecDepth 16384
set_option maxHeartbeats 2000000

noncomputable section

namespace Cert.KernelIdeal.Val

open Idealize.ShloMosaic Idealize.ShloMosaic.Tactic
open Cert.ReferenceIdeal Cert.ReferenceIdeal.Read

variable (x1 : Vec Ideal S17664x1536 .f32) (x4 : Vec Ideal S17664x128 .f32) (x6 : Vec Ideal S1x128x3x1536 .f32) (x8 : Vec Ideal S1x4x1536 .f32) (x9 x10 : Vec Ideal S1x4 .f32)

/-- A sequence's rows before the convolution, the three kept ones first. -/
def eRow (B : Fin 128) (p : ℕ) (k : Fin 1536) : EReal :=
  if h : p < 3 then x6 (ix4 0 B ⟨p, h⟩ k) else if h' : p - 3 < 8 then x1 (ix2 ⟨16384 + B.val * 8 + (p - 3), by omega⟩ k) else 0

/-- The convolution's sum of four taps. -/
def tRow (B : Fin 128) (t : ℕ) (k : Fin 1536) : EReal :=
  eRow x1 x6 B t k * x8 (ix3 0 0 k) + eRow x1 x6 B (t + 1) k * x8 (ix3 0 1 k) + eRow x1 x6 B (t + 2) k * x8 (ix3 0 2 k) + eRow x1 x6 B (t + 3) k * x8 (ix3 0 3 k)

/-- The row after the activation. -/
def aRow (B : Fin 128) (t : ℕ) (k : Fin 1536) : EReal := tRow x1 x6 x8 B t k * Ideal.logistic (tRow x1 x6 x8 B t k)

/-- A key's word. -/
def kRow (B : Fin 128) (h : Fin 4) (t : ℕ) (d : Fin 128) : EReal :=
  aRow x1 x6 x8 B t ⟨512 + (h.val * 128 + d.val), by omega⟩
    * Ideal.rsqrt ((∑ x : Fin 128, aRow x1 x6 x8 B t ⟨512 + (h.val * 128 + x.val), by omega⟩ * aRow x1 x6 x8 B t ⟨512 + (h.val * 128 + x.val), by omega⟩) + Ideal.ofBits .f32 897988541#32)

/-- A value's word. -/
def vRow (B : Fin 128) (h : Fin 4) (t : ℕ) (d : Fin 128) : EReal := aRow x1 x6 x8 B t ⟨1024 + (h.val * 128 + d.val), by omega⟩

/-- A row's gate input at a lane. -/
def baRow (B : Fin 128) (t : Fin 8) (l : Fin 128) : EReal := x4 (ix2 ⟨16384 + (B.val * 8 + t.val), by omega⟩ l)

/-- How strongly a row is written. -/
def bRow (B : Fin 128) (h : Fin 4) (t : Fin 8) : EReal := Ideal.logistic (baRow x4 B t ⟨h.val, by omega⟩)

/-- A row's log decay. -/
def gRow (B : Fin 128) (h : Fin 4) (t : Fin 8) : EReal :=
  (0 - Ideal.exp (x9 (ix2 0 h))) * (max (baRow x4 B t ⟨4 + h.val, by omega⟩ + x10 (ix2 0 h)) 0
    + Ideal.log1p (Ideal.exp (0 - FloatOps.absf (F := Ideal) (φ := .f32) (baRow x4 B t ⟨4 + h.val, by omega⟩ + x10 (ix2 0 h)))))

/-- The word of one. -/
theorem word_one : Ideal.ofBits FTy.f32 1065353216#32 = 1 := by
  simp [Ideal.ofBits, Ideal.ieee]
  rw [← EReal.coe_mul]
  norm_num

/-- The reference's rows before the convolution. -/
theorem ref_ext (B : Fin 128) (p : Fin 11) (k : Fin 1536) : val_main_v3 (F := Ideal) x1 x6 (ix3 B p k) = eRow x1 x6 B p.val k := by
  unfold eRow
  have hp := p.isLt
  pointwise [val_main_v3, val_main_v0, val_main_v1, val_main_v2]
  by_cases h : p.val < 3
  · rw [dif_pos h, dif_pos h]
  · rw [dif_neg h, dif_neg h, dif_pos (by omega)]
    refine congrArg (fun q => x1 (ix2 q k)) (Fin.ext ?_)
    show 16384 + (B.val * 8 + (p.val - 3)) = 16384 + B.val * 8 + (p.val - 3)
    omega

/-- The reference's sum of four taps. -/
theorem ref_tap (B : Fin 128) (t : Fin 8) (k : Fin 1536) : val_main_v36 (F := Ideal) x1 x6 x8 (ix3 B t k) = tRow x1 x6 x8 B t.val k := by
  unfold tRow
  rw [← ref_ext x1 x6 B ⟨t.val, by omega⟩ k, ← ref_ext x1 x6 B ⟨t.val + 1, by omega⟩ k, ← ref_ext x1 x6 B ⟨t.val + 2, by omega⟩ k, ← ref_ext x1 x6 B ⟨t.val + 3, by omega⟩ k]
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst]
  simp only [Nat.add_comm]

/-- The reference's row after the activation. -/
theorem ref_act (B : Fin 128) (t : Fin 8) (k : Fin 1536) : val_main_v37 (F := Ideal) x1 x6 x8 (ix3 B t k) = aRow x1 x6 x8 B t.val k := by
  unfold aRow
  rw [← ref_tap]
  pointwise [val_main_v37, val_main_call0_v5, val_main_call0_v4, val_main_call0_v3, val_main_call0_v2, val_main_call0_v1, val_main_call0_v0]
  have e0 : (val_main_call0_cst_0 (F := Ideal) ix0 : EReal) = 1 := word_one
  have e1 : (val_main_call0_cst (F := Ideal) ix0 : EReal) = 1 := word_one
  rw [e0, e1]
  rfl

/-- The reference's keys. -/
theorem ref_key (B : Fin 128) (h : Fin 4) (t : Fin 8) (d : Fin 128) : val_main_v72 (F := Ideal) x1 x6 x8 (ix4 B h t d) = kRow x1 x6 x8 B h t.val d := by
  unfold kRow
  simp only [← ref_act]
  pointwise [val_main_v72, val_main_v47, val_main_v46, val_main_v45, val_main_v44, val_main_v43, val_main_v42, val_main_v41, val_main_v40, val_main_v39, val_main_v38, val_main_cst_0, val_main_cst_1]

/-- The reference's values. -/
theorem ref_val (B : Fin 128) (h : Fin 4) (t : Fin 8) (d : Fin 128) : val_main_v73 (F := Ideal) x1 x6 x8 (ix4 B h t d) = vRow x1 x6 x8 B h t.val d := by
  unfold vRow
  simp only [← ref_act]
  pointwise [val_main_v73, val_main_v49, val_main_v48]

/-- The reference's write strengths. -/
theorem ref_beta (B : Fin 128) (h : Fin 4) (t : Fin 8) : val_main_v75 (F := Ideal) x4 (ix3 B h t) = bRow x4 B h t := by
  unfold bRow baRow
  pointwise [val_main_v75, val_main_v58, val_main_v57, val_main_v56, val_main_v55, val_main_v54, val_main_v53, val_main_v52, val_main_v51, val_main_v50, val_main_cst_2, val_main_cst_3]
  rfl

/-- The reference's log decays. -/
theorem ref_gate (B : Fin 128) (h : Fin 4) (t : Fin 8) : val_main_v74 (F := Ideal) x4 x9 x10 (ix3 B h t) = gRow x4 x9 x10 B h t := by
  unfold gRow baRow
  pointwise [val_main_v74, val_main_v70, val_main_v69, val_main_v68, val_main_v67, val_main_v66, val_main_v65, val_main_v64, val_main_v63, val_main_v62, val_main_v61, val_main_v60, val_main_v59, val_main_v51, val_main_v50, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11]
  rw [if_neg (fun h => h rfl), zero_sub, zero_sub]

end Cert.KernelIdeal.Val

end
-- ==== Proof.MixRows1.lean ====
module

public import proofs.«01_k».proof.Proof.MixRows

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (arg2 : Memref sig .tc .vmem S16x8x1536 .f32) (harg2 : arg2.IsWhole) (arg7 : Memref sig .tc .vmem S3x16x1536 .f32) (harg7 : arg7.IsWhole)
  (arg9 : Memref sig .tc .vmem S4x8x1536 .f32) (harg9 : arg9.IsWhole)
  (x1 : Vec Ideal S16x8x1536 .f32) (x6 : Vec Ideal S3x16x1536 .f32) (x8 : Vec Ideal S4x8x1536 .f32)

/-- A store of keys: step 7, column 384, from sequence 8 on. -/
theorem k_8_7_384 (x : S8x1x128.Idx) :
    (k0_pay559 (sl.r_405 c arg2 harg2 arg9 harg9 x1 x8) (sl.r_406 c arg2 harg2 arg9 harg9 x1 x8) k0_pay558) x = keys x1 x6 x8 ((Rect.unit (s := S16x8x512) ![8, 7, 384] S8x1x128.size inb_S16x8x512_S8x1x128_8_7_384).emb x) := by
  obtain ⟨b, d, rfl⟩ := idx81 x
  refine Eq.trans ?_ (keys_at x1 x6 x8 (by decide) (by decide) inb_S16x8x512_S8x1x128_8_7_384 b d (by omega) (by decide) (by decide)).symm
  generalize hq : (⟨8 + b.val, by omega⟩ : Fin 16) = bb
  simp only [sl.r_405, sl.r_399, sl.r_398, sl.r_406, read_step, read_kept, read_tap, read_step', read_kept', read_tap']
  pointwise [k0_pay559, k0_pay558, k0_pay555, k0_pay543, k0_pay542, k0_pay557]
  subst hq
  rfl

/-- A store of keys: step 7, column 256, from sequence 8 on. -/
theorem k_8_7_256 (x : S8x1x128.Idx) :
    (k0_pay554 (sl.r_403 c arg2 harg2 arg9 harg9 x1 x8)) x = keys x1 x6 x8 ((Rect.unit (s := S16x8x512) ![8, 7, 256] S8x1x128.size inb_S16x8x512_S8x1x128_8_7_256).emb x) := by
  obtain ⟨b, d, rfl⟩ := idx81 x
  refine Eq.trans ?_ (keys_at x1 x6 x8 (by decide) (by decide) inb_S16x8x512_S8x1x128_8_7_256 b d (by omega) (by decide) (by decide)).symm
  generalize hq : (⟨8 + b.val, by omega⟩ : Fin 16) = bb
  simp only [sl.r_403, sl.r_399, sl.r_398, read_step, read_kept, read_tap, read_step', read_kept', read_tap']
  pointwise [k0_pay554, k0_pay551, k0_pay543, k0_pay542]
  subst hq
  rfl

/-- A store of keys: step 7, column 128, from sequence 8 on. -/
theorem k_8_7_128 (x : S8x1x128.Idx) :
    (k0_pay549 (sl.r_399 c arg2 harg2 arg9 harg9 x1 x8)) x = keys x1 x6 x8 ((Rect.unit (s := S16x8x512) ![8, 7, 128] S8x1x128.size inb_S16x8x512_S8x1x128_8_7_128).emb x) := by
  obtain ⟨b, d, rfl⟩ := idx81 x
  refine Eq.trans ?_ (keys_at x1 x6 x8 (by decide) (by decide) inb_S16x8x512_S8x1x128_8_7_128 b d (by omega) (by decide) (by decide)).symm
  generalize hq : (⟨8 + b.val, by omega⟩ : Fin 16) = bb
  simp only [sl.r_399, sl.r_398, read_step, read_kept, read_tap, read_step', read_kept', read_tap']
  pointwise [k0_pay549, k0_pay543, k0_pay542]
  subst hq
  rfl

/-- A store of keys: step 7, column 0, from sequence 8 on. -/
theorem k_8_7_0 (x : S8x1x128.Idx) :
    (k0_pay547 (sl.r_400 c arg2 harg2 arg9 harg9 x1 x8) (sl.r_401 c arg2 harg2 arg9 harg9 x1 x8)) x = keys x1 x6 x8 ((Rect.unit (s := S16x8x512) ![8, 7, 0] S8x1x128.size inb_S16x8x512_S8x1x128_8_7_0).emb x) := by
  obtain ⟨b, d, rfl⟩ := idx81 x
  refine Eq.trans ?_ (keys_at x1 x6 x8 (by decide) (by decide) inb_S16x8x512_S8x1x128_8_7_0 b d (by omega) (by decide) (by decide)).symm
  generalize hq : (⟨8 + b.val, by omega⟩ : Fin 16) = bb
  simp only [sl.r_400, sl.r_398, sl.r_401, read_step, read_kept, read_tap, read_step', read_kept', read_tap']
  pointwise [k0_pay547, k0_pay544, k0_pay542, k0_pay546, k0_pay543]
  subst hq
  rfl

/-- A store of keys: step 6, column 384, from sequence 8 on. -/
theorem k_8_6_384 (x : S8x1x128.Idx) :
    (k0_pay540 (sl.r_394 c arg2 harg2 arg9 harg9 x1 x8)) x = keys x1 x6 x8 ((Rect.unit (s := S16x8x512) ![8, 6, 384] S8x1x128.size inb_S16x8x512_S8x1x128_8_6_384).emb x) := by
  obtain ⟨b, d, rfl⟩ := idx81 x
  refine Eq.trans ?_ (keys_at x1 x6 x8 (by decide) (by decide) inb_S16x8x512_S8x1x128_8_6_384 b d (by omega) (by decide) (by decide)).symm
  generalize hq : (⟨8 + b.val, by omega⟩ : Fin 16) = bb
  simp only [sl.r_394, sl.r_393, read_step, read_kept, read_tap, read_step', read_kept', read_tap']
  pointwise [k0_pay540, k0_pay529, k0_pay528]
  subst hq
  rfl

/-- A store of keys: step 6, column 256, from sequence 8 on. -/
theorem k_8_6_256 (x : S8x1x128.Idx) :
    (k0_pay537 (sl.r_394 c arg2 harg2 arg9 harg9 x1 x8)) x = keys x1 x6 x8 ((Rect.unit (s := S16x8x512) ![8, 6, 256] S8x1x128.size inb_S16x8x512_S8x1x128_8_6_256).emb x) := by
  obtain ⟨b, d, rfl⟩ := idx81 x
  refine Eq.trans ?_ (keys_at x1 x6 x8 (by decide) (by decide) inb_S16x8x512_S8x1x128_8_6_256 b d (by omega) (by decide) (by decide)).symm
  generalize hq : (⟨8 + b.val, by omega⟩ : Fin 16) = bb
  simp only [sl.r_394, sl.r_393, read_step, read_kept, read_tap, read_step', read_kept', read_tap']
  pointwise [k0_pay537, k0_pay529, k0_pay528]
  subst hq
  rfl

/-- A store of keys: step 6, column 128, from sequence 8 on. -/
theorem k_8_6_128 (x : S8x1x128.Idx) :
    (k0_pay535 (sl.r_395 c arg2 harg2 arg9 harg9 x1 x8)) x = keys x1 x6 x8 ((Rect.unit (s := S16x8x512) ![8, 6, 128] S8x1x128.size inb_S16x8x512_S8x1x128_8_6_128).emb x) := by
  obtain ⟨b, d, rfl⟩ := idx81 x
  refine Eq.trans ?_ (keys_at x1 x6 x8 (by decide) (by decide) inb_S16x8x512_S8x1x128_8_6_128 b d (by omega) (by decide) (by decide)).symm
  generalize hq : (⟨8 + b.val, by omega⟩ : Fin 16) = bb
  simp only [sl.r_395, sl.r_393, read_step, read_kept, read_tap, read_step', read_kept', read_tap']
  pointwise [k0_pay535, k0_pay532, k0_pay528, k0_pay529]
  subst hq
  rfl

/-- A store of keys: step 6, column 0, from sequence 8 on. -/
theorem k_8_6_0 (x : S8x1x128.Idx) :
    (k0_pay531 (sl.r_393 c arg2 harg2 arg9 harg9 x1 x8)) x = keys x1 x6 x8 ((Rect.unit (s := S16x8x512) ![8, 6, 0] S8x1x128.size inb_S16x8x512_S8x1x128_8_6_0).emb x) := by
  obtain ⟨b, d, rfl⟩ := idx81 x
  refine Eq.trans ?_ (keys_at x1 x6 x8 (by decide) (by decide) inb_S16x8x512_S8x1x128_8_6_0 b d (by omega) (by decide) (by decide)).symm
  generalize hq : (⟨8 + b.val, by omega⟩ : Fin 16) = bb
  simp only [sl.r_393, read_step, read_kept, read_tap, read_step', read_kept', read_tap']
  pointwise [k0_pay531, k0_pay528, k0_pay529]
  subst hq
  rfl

/-- A store of keys: step 5, column 384, from sequence 8 on. -/
theorem k_8_5_384 (x : S8x1x128.Idx) :
    (k0_pay526 (sl.r_392 c arg2 harg2 arg9 harg9 x1 x8)) x = keys x1 x6 x8 ((Rect.unit (s := S16x8x512) ![8, 5, 384] S8x1x128.size inb_S16x8x512_S8x1x128_8_5_384).emb x) := by
  obtain ⟨b, d, rfl⟩ := idx81 x
  refine Eq.trans ?_ (keys_at x1 x6 x8 (by decide) (by decide) inb_S16x8x512_S8x1x128_8_5_384 b d (by omega) (by decide) (by decide)).symm
  generalize hq : (⟨8 + b.val, by omega⟩ : Fin 16) = bb
  simp only [sl.r_392, sl.r_386, sl.r_383, sl.r_384, sl.r_385, read_step, read_kept, read_tap, read_step', read_kept', read_tap']
  pointwise [k0_pay526, k0_pay525, k0_pay512, k0_pay510, k0_pay511]
  subst hq
  rfl

/-- A store of keys: step 5, column 256, from sequence 8 on. -/
theorem k_8_5_256 (x : S8x1x128.Idx) :
    (k0_pay523 (sl.r_390 c arg2 harg2 arg9 harg9 x1 x8)) x = keys x1 x6 x8 ((Rect.unit (s := S16x8x512) ![8, 5, 256] S8x1x128.size inb_S16x8x512_S8x1x128_8_5_256).emb x) := by
  obtain ⟨b, d, rfl⟩ := idx81 x
  refine Eq.trans ?_ (keys_at x1 x6 x8 (by decide) (by decide) inb_S16x8x512_S8x1x128_8_5_256 b d (by omega) (by decide) (by decide)).symm
  generalize hq : (⟨8 + b.val, by omega⟩ : Fin 16) = bb
  simp only [sl.r_390, sl.r_386, sl.r_383, sl.r_384, sl.r_385, read_step, read_kept, read_tap, read_step', read_kept', read_tap']
  pointwise [k0_pay523, k0_pay520, k0_pay512, k0_pay510, k0_pay511]
  subst hq
  rfl

/-- A store of keys: step 5, column 128, from sequence 8 on. -/
theorem k_8_5_128 (x : S8x1x128.Idx) :
    (k0_pay518 (sl.r_386 c arg2 harg2 arg9 harg9 x1 x8)) x = keys x1 x6 x8 ((Rect.unit (s := S16x8x512) ![8, 5, 128] S8x1x128.size inb_S16x8x512_S8x1x128_8_5_128).emb x) := by
  obtain ⟨b, d, rfl⟩ := idx81 x
  refine Eq.trans ?_ (keys_at x1 x6 x8 (by decide) (by decide) inb_S16x8x512_S8x1x128_8_5_128 b d (by omega) (by decide) (by decide)).symm
  generalize hq : (⟨8 + b.val, by omega⟩ : Fin 16) = bb
  simp only [sl.r_386, sl.r_383, sl.r_384, sl.r_385, read_step, read_kept, read_tap, read_step', read_kept', read_tap']
  pointwise [k0_pay518, k0_pay512, k0_pay510, k0_pay511]
  subst hq
  rfl

/-- A store of keys: step 5, column 0, from sequence 8 on. -/
theorem k_8_5_0 (x : S8x1x128.Idx) :
    (k0_pay516 (sl.r_387 c arg2 harg2 arg9 harg9 x1 x8) (sl.r_388 c arg2 harg2 arg9 harg9 x1 x8)) x = keys x1 x6 x8 ((Rect.unit (s := S16x8x512) ![8, 5, 0] S8x1x128.size inb_S16x8x512_S8x1x128_8_5_0).emb x) := by
  obtain ⟨b, d, rfl⟩ := idx81 x
  refine Eq.trans ?_ (keys_at x1 x6 x8 (by decide) (by decide) inb_S16x8x512_S8x1x128_8_5_0 b d (by omega) (by decide) (by decide)).symm
  generalize hq : (⟨8 + b.val, by omega⟩ : Fin 16) = bb
  simp only [sl.r_387, sl.r_383, sl.r_384, sl.r_385, sl.r_388, read_step, read_kept, read_tap, read_step', read_kept', read_tap']
  pointwise [k0_pay516, k0_pay513, k0_pay510, k0_pay511, k0_pay515, k0_pay512]
  subst hq
  rfl

/-- A store of keys: step 4, column 384, from sequence 8 on. -/
theorem k_8_4_384 (x : S8x1x128.Idx) :
    (k0_pay508 (sl.r_381 c arg2 harg2 arg9 harg9 x1 x8)) x = keys x1 x6 x8 ((Rect.unit (s := S16x8x512) ![8, 4, 384] S8x1x128.size inb_S16x8x512_S8x1x128_8_4_384).emb x) := by
  obtain ⟨b, d, rfl⟩ := idx81 x
  refine Eq.trans ?_ (keys_at x1 x6 x8 (by decide) (by decide) inb_S16x8x512_S8x1x128_8_4_384 b d (by omega) (by decide) (by decide)).symm
  generalize hq : (⟨8 + b.val, by omega⟩ : Fin 16) = bb
  simp only [sl.r_381, sl.r_374, read_step, read_kept, read_tap, read_step', read_kept', read_tap']
  pointwise [k0_pay508, k0_pay505, k0_pay492]
  subst hq
  rfl

/-- A store of keys: step 4, column 256, from sequence 8 on. -/
theorem k_8_4_256 (x : S8x1x128.Idx) :
    (k0_pay503 (sl.r_374 c arg2 harg2 arg9 harg9 x1 x8)) x = keys x1 x6 x8 ((Rect.unit (s := S16x8x512) ![8, 4, 256] S8x1x128.size inb_S16x8x512_S8x1x128_8_4_256).emb x) := by
  obtain ⟨b, d, rfl⟩ := idx81 x
  refine Eq.trans ?_ (keys_at x1 x6 x8 (by decide) (by decide) inb_S16x8x512_S8x1x128_8_4_256 b d (by omega) (by decide) (by decide)).symm
  generalize hq : (⟨8 + b.val, by omega⟩ : Fin 16) = bb
  simp only [sl.r_374, read_step, read_kept, read_tap, read_step', read_kept', read_tap']
  pointwise [k0_pay503, k0_pay492]
  subst hq
  rfl

/-- A store of keys: step 4, column 128, from sequence 8 on. -/
theorem k_8_4_128 (x : S8x1x128.Idx) :
    (k0_pay501 (sl.r_378 c arg2 harg2 arg9 harg9 x1 x8) (sl.r_379 c arg2 harg2 arg9 harg9 x1 x8)) x = keys x1 x6 x8 ((Rect.unit (s := S16x8x512) ![8, 4, 128] S8x1x128.size inb_S16x8x512_S8x1x128_8_4_128).emb x) := by
  obtain ⟨b, d, rfl⟩ := idx81 x
  refine Eq.trans ?_ (keys_at x1 x6 x8 (by decide) (by decide) inb_S16x8x512_S8x1x128_8_4_128 b d (by omega) (by decide) (by decide)).symm
  generalize hq : (⟨8 + b.val, by omega⟩ : Fin 16) = bb
  simp only [sl.r_378, sl.r_374, sl.r_379, read_step, read_kept, read_tap, read_step', read_kept', read_tap']
  pointwise [k0_pay501, k0_pay498, k0_pay492, k0_pay500]
  subst hq
  rfl

/-- A store of keys: step 4, column 0, from sequence 8 on. -/
theorem k_8_4_0 (x : S8x1x128.Idx) :
    (k0_pay497 (sl.r_376 c arg2 harg2 arg9 harg9 x1 x8)) x = keys x1 x6 x8 ((Rect.unit (s := S16x8x512) ![8, 4, 0] S8x1x128.size inb_S16x8x512_S8x1x128_8_4_0).emb x) := by
  obtain ⟨b, d, rfl⟩ := idx81 x
  refine Eq.trans ?_ (keys_at x1 x6 x8 (by decide) (by decide) inb_S16x8x512_S8x1x128_8_4_0 b d (by omega) (by decide) (by decide)).symm
  generalize hq : (⟨8 + b.val, by omega⟩ : Fin 16) = bb
  simp only [sl.r_376, read_step, read_kept, read_tap, read_step', read_kept', read_tap']
  pointwise [k0_pay497, k0_pay494, k0_pay492]
  subst hq
  rfl

/-- A store of keys: step 3, column 384, from sequence 8 on. -/
theorem k_8_3_384 (x : S8x1x128.Idx) :
    (k0_pay489 (sl.r_369 c arg2 harg2 arg9 harg9 x1 x8)) x = keys x1 x6 x8 ((Rect.unit (s := S16x8x512) ![8, 3, 384] S8x1x128.size inb_S16x8x512_S8x1x128_8_3_384).emb x) := by
  obtain ⟨b, d, rfl⟩ := idx81 x
  refine Eq.trans ?_ (keys_at x1 x6 x8 (by decide) (by decide) inb_S16x8x512_S8x1x128_8_3_384 b d (by omega) (by decide) (by decide)).symm
  generalize hq : (⟨8 + b.val, by omega⟩ : Fin 16) = bb
  simp only [sl.r_369, sl.r_368, read_step, read_kept, read_tap, read_step', read_kept', read_tap']
  pointwise [k0_pay489, k0_pay478, k0_pay477]
  subst hq
  rfl

/-- A store of keys: step 3, column 256, from sequence 8 on. -/
theorem k_8_3_256 (x : S8x1x128.Idx) :
    (k0_pay487 (sl.r_371 c arg2 harg2 arg9 harg9 x1 x8)) x = keys x1 x6 x8 ((Rect.unit (s := S16x8x512) ![8, 3, 256] S8x1x128.size inb_S16x8x512_S8x1x128_8_3_256).emb x) := by
  obtain ⟨b, d, rfl⟩ := idx81 x
  refine Eq.trans ?_ (keys_at x1 x6 x8 (by decide) (by decide) inb_S16x8x512_S8x1x128_8_3_256 b d (by omega) (by decide) (by decide)).symm
  generalize hq : (⟨8 + b.val, by omega⟩ : Fin 16) = bb
  simp only [sl.r_371, sl.r_369, sl.r_368, read_step, read_kept, read_tap, read_step', read_kept', read_tap']
  pointwise [k0_pay487, k0_pay484, k0_pay478, k0_pay477]
  subst hq
  rfl

/-- A store of keys: step 3, column 128, from sequence 8 on. -/
theorem k_8_3_128 (x : S8x1x128.Idx) :
    (k0_pay483 (sl.r_369 c arg2 harg2 arg9 harg9 x1 x8)) x = keys x1 x6 x8 ((Rect.unit (s := S16x8x512) ![8, 3, 128] S8x1x128.size inb_S16x8x512_S8x1x128_8_3_128).emb x) := by
  obtain ⟨b, d, rfl⟩ := idx81 x
  refine Eq.trans ?_ (keys_at x1 x6 x8 (by decide) (by decide) inb_S16x8x512_S8x1x128_8_3_128 b d (by omega) (by decide) (by decide)).symm
  generalize hq : (⟨8 + b.val, by omega⟩ : Fin 16) = bb
  simp only [sl.r_369, sl.r_368, read_step, read_kept, read_tap, read_step', read_kept', read_tap']
  pointwise [k0_pay483, k0_pay478, k0_pay477]
  subst hq
  rfl

/-- A store of keys: step 3, column 0, from sequence 8 on. -/
theorem k_8_3_0 (x : S8x1x128.Idx) :
    (k0_pay481 (sl.r_370 c arg2 harg2 arg9 harg9 x1 x8)) x = keys x1 x6 x8 ((Rect.unit (s := S16x8x512) ![8, 3, 0] S8x1x128.size inb_S16x8x512_S8x1x128_8_3_0).emb x) := by
  obtain ⟨b, d, rfl⟩ := idx81 x
  refine Eq.trans ?_ (keys_at x1 x6 x8 (by decide) (by decide) inb_S16x8x512_S8x1x128_8_3_0 b d (by omega) (by decide) (by decide)).symm
  generalize hq : (⟨8 + b.val, by omega⟩ : Fin 16) = bb
  simp only [sl.r_370, sl.r_368, read_step, read_kept, read_tap, read_step', read_kept', read_tap']
  pointwise [k0_pay481, k0_pay480, k0_pay477, k0_pay478]
  subst hq
  rfl

/-- A store of keys: step 2, column 384, from sequence 8 on. -/
theorem k_8_2_384 (x : S8x1x128.Idx) :
    (k0_pay475 (sl.r_366 c arg2 harg2 arg7 harg7 arg9 harg9 x1 x6 x8)) x = keys x1 x6 x8 ((Rect.unit (s := S16x8x512) ![8, 2, 384] S8x1x128.size inb_S16x8x512_S8x1x128_8_2_384).emb x) := by
  obtain ⟨b, d, rfl⟩ := idx81 x
  refine Eq.trans ?_ (keys_at x1 x6 x8 (by decide) (by decide) inb_S16x8x512_S8x1x128_8_2_384 b d (by omega) (by decide) (by decide)).symm
  generalize hq : (⟨8 + b.val, by omega⟩ : Fin 16) = bb
  simp only [sl.r_366, sl.r_359, read_step, read_kept, read_tap, read_step', read_kept', read_tap']
  pointwise [k0_pay475, k0_pay472, k0_pay459]
  subst hq
  rfl

/-- A store of keys: step 2, column 256, from sequence 8 on. -/
theorem k_8_2_256 (x : S8x1x128.Idx) :
    (k0_pay470 (sl.r_359 c arg2 harg2 arg7 harg7 arg9 harg9 x1 x6 x8)) x = keys x1 x6 x8 ((Rect.unit (s := S16x8x512) ![8, 2, 256] S8x1x128.size inb_S16x8x512_S8x1x128_8_2_256).emb x) := by
  obtain ⟨b, d, rfl⟩ := idx81 x
  refine Eq.trans ?_ (keys_at x1 x6 x8 (by decide) (by decide) inb_S16x8x512_S8x1x128_8_2_256 b d (by omega) (by decide) (by decide)).symm
  generalize hq : (⟨8 + b.val, by omega⟩ : Fin 16) = bb
  simp only [sl.r_359, read_step, read_kept, read_tap, read_step', read_kept', read_tap']
  pointwise [k0_pay470, k0_pay459]
  subst hq
  rfl

end Cert.KernelIdeal.Val

end
-- ==== Proof.MixRows2.lean ====
module

public import proofs.«01_k».proof.Proof.MixRows

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (arg2 : Memref sig .tc .vmem S16x8x1536 .f32) (harg2 : arg2.IsWhole) (arg7 : Memref sig .tc .vmem S3x16x1536 .f32) (harg7 : arg7.IsWhole)
  (arg9 : Memref sig .tc .vmem S4x8x1536 .f32) (harg9 : arg9.IsWhole)
  (x1 : Vec Ideal S16x8x1536 .f32) (x6 : Vec Ideal S3x16x1536 .f32) (x8 : Vec Ideal S4x8x1536 .f32)

/-- A store of keys: step 2, column 128, from sequence 8 on. -/
theorem k_8_2_128 (x : S8x1x128.Idx) :
    (k0_pay468 (sl.r_363 c arg2 harg2 arg7 harg7 arg9 harg9 x1 x6 x8) (sl.r_364 c arg2 harg2 arg7 harg7 arg9 harg9 x1 x6 x8)) x = keys x1 x6 x8 ((Rect.unit (s := S16x8x512) ![8, 2, 128] S8x1x128.size inb_S16x8x512_S8x1x128_8_2_128).emb x) := by
  obtain ⟨b, d, rfl⟩ := idx81 x
  refine Eq.trans ?_ (keys_at x1 x6 x8 (by decide) (by decide) inb_S16x8x512_S8x1x128_8_2_128 b d (by omega) (by decide) (by decide)).symm
  generalize hq : (⟨8 + b.val, by omega⟩ : Fin 16) = bb
  simp only [sl.r_363, sl.r_359, sl.r_364, read_step, read_kept, read_tap, read_step', read_kept', read_tap']
  pointwise [k0_pay468, k0_pay465, k0_pay459, k0_pay467]
  subst hq
  rfl

/-- A store of keys: step 2, column 0, from sequence 8 on. -/
theorem k_8_2_0 (x : S8x1x128.Idx) :
    (k0_pay464 (sl.r_361 c arg2 harg2 arg7 harg7 arg9 harg9 x1 x6 x8)) x = keys x1 x6 x8 ((Rect.unit (s := S16x8x512) ![8, 2, 0] S8x1x128.size inb_S16x8x512_S8x1x128_8_2_0).emb x) := by
  obtain ⟨b, d, rfl⟩ := idx81 x
  refine Eq.trans ?_ (keys_at x1 x6 x8 (by decide) (by decide) inb_S16x8x512_S8x1x128_8_2_0 b d (by omega) (by decide) (by decide)).symm
  generalize hq : (⟨8 + b.val, by omega⟩ : Fin 16) = bb
  simp only [sl.r_361, read_step, read_kept, read_tap, read_step', read_kept', read_tap']
  pointwise [k0_pay464, k0_pay461, k0_pay459]
  subst hq
  rfl

/-- A store of keys: step 1, column 384, from sequence 8 on. -/
theorem k_8_1_384 (x : S8x1x128.Idx) :
    (k0_pay457 (sl.r_352 c arg2 harg2 arg7 harg7 arg9 harg9 x1 x6 x8)) x = keys x1 x6 x8 ((Rect.unit (s := S16x8x512) ![8, 1, 384] S8x1x128.size inb_S16x8x512_S8x1x128_8_1_384).emb x) := by
  obtain ⟨b, d, rfl⟩ := idx81 x
  refine Eq.trans ?_ (keys_at x1 x6 x8 (by decide) (by decide) inb_S16x8x512_S8x1x128_8_1_384 b d (by omega) (by decide) (by decide)).symm
  generalize hq : (⟨8 + b.val, by omega⟩ : Fin 16) = bb
  simp only [sl.r_352, sl.r_349, sl.r_350, sl.r_351, read_step, read_kept, read_tap, read_step', read_kept', read_tap']
  pointwise [k0_pay457, k0_pay444, k0_pay442, k0_pay443]
  subst hq
  rfl

/-- A store of keys: step 1, column 256, from sequence 8 on. -/
theorem k_8_1_256 (x : S8x1x128.Idx) :
    (k0_pay455 (sl.r_356 c arg2 harg2 arg7 harg7 arg9 harg9 x1 x6 x8) (sl.r_357 c arg2 harg2 arg7 harg7 arg9 harg9 x1 x6 x8)) x = keys x1 x6 x8 ((Rect.unit (s := S16x8x512) ![8, 1, 256] S8x1x128.size inb_S16x8x512_S8x1x128_8_1_256).emb x) := by
  obtain ⟨b, d, rfl⟩ := idx81 x
  refine Eq.trans ?_ (keys_at x1 x6 x8 (by decide) (by decide) inb_S16x8x512_S8x1x128_8_1_256 b d (by omega) (by decide) (by decide)).symm
  generalize hq : (⟨8 + b.val, by omega⟩ : Fin 16) = bb
  simp only [sl.r_356, sl.r_352, sl.r_349, sl.r_350, sl.r_351, sl.r_357, read_step, read_kept, read_tap, read_step', read_kept', read_tap']
  pointwise [k0_pay455, k0_pay452, k0_pay444, k0_pay442, k0_pay443, k0_pay454]
  subst hq
  rfl

/-- A store of keys: step 1, column 128, from sequence 8 on. -/
theorem k_8_1_128 (x : S8x1x128.Idx) :
    (k0_pay451 (sl.r_354 c arg2 harg2 arg7 harg7 arg9 harg9 x1 x6 x8)) x = keys x1 x6 x8 ((Rect.unit (s := S16x8x512) ![8, 1, 128] S8x1x128.size inb_S16x8x512_S8x1x128_8_1_128).emb x) := by
  obtain ⟨b, d, rfl⟩ := idx81 x
  refine Eq.trans ?_ (keys_at x1 x6 x8 (by decide) (by decide) inb_S16x8x512_S8x1x128_8_1_128 b d (by omega) (by decide) (by decide)).symm
  generalize hq : (⟨8 + b.val, by omega⟩ : Fin 16) = bb
  simp only [sl.r_354, sl.r_349, sl.r_350, sl.r_351, read_step, read_kept, read_tap, read_step', read_kept', read_tap']
  pointwise [k0_pay451, k0_pay448, k0_pay442, k0_pay443, k0_pay444]
  subst hq
  rfl

/-- A store of keys: step 1, column 0, from sequence 8 on. -/
theorem k_8_1_0 (x : S8x1x128.Idx) :
    (k0_pay446 (sl.r_349 c arg7 harg7 arg9 harg9 x6 x8) (sl.r_350 c arg2 harg2 x1) (sl.r_351 c arg9 harg9 x8) (View.readAt (Elt Ideal) arg2.view (Rect.unit (s := S16x8x1536) ![8, 1, 0] S8x1x1536.size inb_S16x8x1536_S8x1x1536_8_1_0).toLoadRect (harg2.unread x1)) (View.readAt (Elt Ideal) arg9.view (Rect.unit (s := S4x8x1536) ![3, 0, 0] S1x8x1536.size inb_S4x8x1536_S1x8x1536_3_0_0).toLoadRect (harg9.unread x8))) x = keys x1 x6 x8 ((Rect.unit (s := S16x8x512) ![8, 1, 0] S8x1x128.size inb_S16x8x512_S8x1x128_8_1_0).emb x) := by
  obtain ⟨b, d, rfl⟩ := idx81 x
  refine Eq.trans ?_ (keys_at x1 x6 x8 (by decide) (by decide) inb_S16x8x512_S8x1x128_8_1_0 b d (by omega) (by decide) (by decide)).symm
  generalize hq : (⟨8 + b.val, by omega⟩ : Fin 16) = bb
  simp only [sl.r_349, sl.r_350, sl.r_351, read_step, read_kept, read_tap, read_step', read_kept', read_tap']
  pointwise [k0_pay446, k0_pay442, k0_pay443, k0_pay444]
  subst hq
  rfl

/-- A store of keys: step 0, column 384, from sequence 8 on. -/
theorem k_8_0_384 (x : S8x1x128.Idx) :
    (k0_pay440 (sl.r_347 c arg2 harg2 arg7 harg7 arg9 harg9 x1 x6 x8)) x = keys x1 x6 x8 ((Rect.unit (s := S16x8x512) ![8, 0, 384] S8x1x128.size inb_S16x8x512_S8x1x128_8_0_384).emb x) := by
  obtain ⟨b, d, rfl⟩ := idx81 x
  refine Eq.trans ?_ (keys_at x1 x6 x8 (by decide) (by decide) inb_S16x8x512_S8x1x128_8_0_384 b d (by omega) (by decide) (by decide)).symm
  generalize hq : (⟨8 + b.val, by omega⟩ : Fin 16) = bb
  simp only [sl.r_347, sl.r_343, sl.r_342, read_step, read_kept, read_tap, read_step', read_kept', read_tap']
  pointwise [k0_pay440, k0_pay437, k0_pay427, k0_pay426]
  subst hq
  rfl

/-- A store of keys: step 0, column 256, from sequence 8 on. -/
theorem k_8_0_256 (x : S8x1x128.Idx) :
    (k0_pay436 (sl.r_343 c arg2 harg2 arg7 harg7 arg9 harg9 x1 x6 x8)) x = keys x1 x6 x8 ((Rect.unit (s := S16x8x512) ![8, 0, 256] S8x1x128.size inb_S16x8x512_S8x1x128_8_0_256).emb x) := by
  obtain ⟨b, d, rfl⟩ := idx81 x
  refine Eq.trans ?_ (keys_at x1 x6 x8 (by decide) (by decide) inb_S16x8x512_S8x1x128_8_0_256 b d (by omega) (by decide) (by decide)).symm
  generalize hq : (⟨8 + b.val, by omega⟩ : Fin 16) = bb
  simp only [sl.r_343, sl.r_342, read_step, read_kept, read_tap, read_step', read_kept', read_tap']
  pointwise [k0_pay436, k0_pay427, k0_pay426]
  subst hq
  rfl

/-- A store of keys: step 0, column 128, from sequence 8 on. -/
theorem k_8_0_128 (x : S8x1x128.Idx) :
    (k0_pay434 (sl.r_346 c arg2 harg2 arg7 harg7 arg9 harg9 x1 x6 x8)) x = keys x1 x6 x8 ((Rect.unit (s := S16x8x512) ![8, 0, 128] S8x1x128.size inb_S16x8x512_S8x1x128_8_0_128).emb x) := by
  obtain ⟨b, d, rfl⟩ := idx81 x
  refine Eq.trans ?_ (keys_at x1 x6 x8 (by decide) (by decide) inb_S16x8x512_S8x1x128_8_0_128 b d (by omega) (by decide) (by decide)).symm
  generalize hq : (⟨8 + b.val, by omega⟩ : Fin 16) = bb
  simp only [sl.r_346, sl.r_343, sl.r_342, read_step, read_kept, read_tap, read_step', read_kept', read_tap']
  pointwise [k0_pay434, k0_pay433, k0_pay427, k0_pay426]
  subst hq
  rfl

/-- A store of keys: step 0, column 0, from sequence 8 on. -/
theorem k_8_0_0 (x : S8x1x128.Idx) :
    (k0_pay431 (sl.r_344 c arg2 harg2 arg7 harg7 arg9 harg9 x1 x6 x8)) x = keys x1 x6 x8 ((Rect.unit (s := S16x8x512) ![8, 0, 0] S8x1x128.size inb_S16x8x512_S8x1x128_8_0_0).emb x) := by
  obtain ⟨b, d, rfl⟩ := idx81 x
  refine Eq.trans ?_ (keys_at x1 x6 x8 (by decide) (by decide) inb_S16x8x512_S8x1x128_8_0_0 b d (by omega) (by decide) (by decide)).symm
  generalize hq : (⟨8 + b.val, by omega⟩ : Fin 16) = bb
  simp only [sl.r_344, sl.r_342, read_step, read_kept, read_tap, read_step', read_kept', read_tap']
  pointwise [k0_pay431, k0_pay428, k0_pay426, k0_pay427]
  subst hq
  rfl

/-- A store of keys: step 7, column 384, from sequence 0 on. -/
theorem k_0_7_384 (x : S8x1x128.Idx) :
    (k0_pay135 (sl.r_60 c arg2 harg2 arg9 harg9 x1 x8)) x = keys x1 x6 x8 ((Rect.unit (s := S16x8x512) ![0, 7, 384] S8x1x128.size inb_S16x8x512_S8x1x128_0_7_384).emb x) := by
  obtain ⟨b, d, rfl⟩ := idx81 x
  refine Eq.trans ?_ (keys_at x1 x6 x8 (by decide) (by decide) inb_S16x8x512_S8x1x128_0_7_384 b d (by omega) (by decide) (by decide)).symm
  generalize hq : (⟨0 + b.val, by omega⟩ : Fin 16) = bb
  simp only [sl.r_60, sl.r_53, read_step, read_kept, read_tap, read_step', read_kept', read_tap']
  pointwise [k0_pay135, k0_pay132, k0_pay119]
  subst hq
  rfl

/-- A store of keys: step 7, column 256, from sequence 0 on. -/
theorem k_0_7_256 (x : S8x1x128.Idx) :
    (k0_pay130 (sl.r_53 c arg2 harg2 arg9 harg9 x1 x8)) x = keys x1 x6 x8 ((Rect.unit (s := S16x8x512) ![0, 7, 256] S8x1x128.size inb_S16x8x512_S8x1x128_0_7_256).emb x) := by
  obtain ⟨b, d, rfl⟩ := idx81 x
  refine Eq.trans ?_ (keys_at x1 x6 x8 (by decide) (by decide) inb_S16x8x512_S8x1x128_0_7_256 b d (by omega) (by decide) (by decide)).symm
  generalize hq : (⟨0 + b.val, by omega⟩ : Fin 16) = bb
  simp only [sl.r_53, read_step, read_kept, read_tap, read_step', read_kept', read_tap']
  pointwise [k0_pay130, k0_pay119]
  subst hq
  rfl

/-- A store of keys: step 7, column 128, from sequence 0 on. -/
theorem k_0_7_128 (x : S8x1x128.Idx) :
    (k0_pay128 (sl.r_57 c arg2 harg2 arg9 harg9 x1 x8) (sl.r_58 c arg2 harg2 arg9 harg9 x1 x8)) x = keys x1 x6 x8 ((Rect.unit (s := S16x8x512) ![0, 7, 128] S8x1x128.size inb_S16x8x512_S8x1x128_0_7_128).emb x) := by
  obtain ⟨b, d, rfl⟩ := idx81 x
  refine Eq.trans ?_ (keys_at x1 x6 x8 (by decide) (by decide) inb_S16x8x512_S8x1x128_0_7_128 b d (by omega) (by decide) (by decide)).symm
  generalize hq : (⟨0 + b.val, by omega⟩ : Fin 16) = bb
  simp only [sl.r_57, sl.r_53, sl.r_58, read_step, read_kept, read_tap, read_step', read_kept', read_tap']
  pointwise [k0_pay128, k0_pay125, k0_pay119, k0_pay127]
  subst hq
  rfl

/-- A store of keys: step 7, column 0, from sequence 0 on. -/
theorem k_0_7_0 (x : S8x1x128.Idx) :
    (k0_pay124 (sl.r_55 c arg2 harg2 arg9 harg9 x1 x8)) x = keys x1 x6 x8 ((Rect.unit (s := S16x8x512) ![0, 7, 0] S8x1x128.size inb_S16x8x512_S8x1x128_0_7_0).emb x) := by
  obtain ⟨b, d, rfl⟩ := idx81 x
  refine Eq.trans ?_ (keys_at x1 x6 x8 (by decide) (by decide) inb_S16x8x512_S8x1x128_0_7_0 b d (by omega) (by decide) (by decide)).symm
  generalize hq : (⟨0 + b.val, by omega⟩ : Fin 16) = bb
  simp only [sl.r_55, read_step, read_kept, read_tap, read_step', read_kept', read_tap']
  pointwise [k0_pay124, k0_pay121, k0_pay119]
  subst hq
  rfl

/-- A store of keys: step 6, column 384, from sequence 0 on. -/
theorem k_0_6_384 (x : S8x1x128.Idx) :
    (k0_pay117 (sl.r_49 c arg2 harg2 arg9 harg9 x1 x8)) x = keys x1 x6 x8 ((Rect.unit (s := S16x8x512) ![0, 6, 384] S8x1x128.size inb_S16x8x512_S8x1x128_0_6_384).emb x) := by
  obtain ⟨b, d, rfl⟩ := idx81 x
  refine Eq.trans ?_ (keys_at x1 x6 x8 (by decide) (by decide) inb_S16x8x512_S8x1x128_0_6_384 b d (by omega) (by decide) (by decide)).symm
  generalize hq : (⟨0 + b.val, by omega⟩ : Fin 16) = bb
  simp only [sl.r_49, sl.r_48, read_step, read_kept, read_tap, read_step', read_kept', read_tap']
  pointwise [k0_pay117, k0_pay106, k0_pay105]
  subst hq
  rfl

/-- A store of keys: step 6, column 256, from sequence 0 on. -/
theorem k_0_6_256 (x : S8x1x128.Idx) :
    (k0_pay115 (sl.r_51 c arg2 harg2 arg9 harg9 x1 x8)) x = keys x1 x6 x8 ((Rect.unit (s := S16x8x512) ![0, 6, 256] S8x1x128.size inb_S16x8x512_S8x1x128_0_6_256).emb x) := by
  obtain ⟨b, d, rfl⟩ := idx81 x
  refine Eq.trans ?_ (keys_at x1 x6 x8 (by decide) (by decide) inb_S16x8x512_S8x1x128_0_6_256 b d (by omega) (by decide) (by decide)).symm
  generalize hq : (⟨0 + b.val, by omega⟩ : Fin 16) = bb
  simp only [sl.r_51, sl.r_49, sl.r_48, read_step, read_kept, read_tap, read_step', read_kept', read_tap']
  pointwise [k0_pay115, k0_pay112, k0_pay106, k0_pay105]
  subst hq
  rfl

/-- A store of keys: step 6, column 128, from sequence 0 on. -/
theorem k_0_6_128 (x : S8x1x128.Idx) :
    (k0_pay111 (sl.r_49 c arg2 harg2 arg9 harg9 x1 x8)) x = keys x1 x6 x8 ((Rect.unit (s := S16x8x512) ![0, 6, 128] S8x1x128.size inb_S16x8x512_S8x1x128_0_6_128).emb x) := by
  obtain ⟨b, d, rfl⟩ := idx81 x
  refine Eq.trans ?_ (keys_at x1 x6 x8 (by decide) (by decide) inb_S16x8x512_S8x1x128_0_6_128 b d (by omega) (by decide) (by decide)).symm
  generalize hq : (⟨0 + b.val, by omega⟩ : Fin 16) = bb
  simp only [sl.r_49, sl.r_48, read_step, read_kept, read_tap, read_step', read_kept', read_tap']
  pointwise [k0_pay111, k0_pay106, k0_pay105]
  subst hq
  rfl

/-- A store of keys: step 6, column 0, from sequence 0 on. -/
theorem k_0_6_0 (x : S8x1x128.Idx) :
    (k0_pay109 (sl.r_50 c arg2 harg2 arg9 harg9 x1 x8)) x = keys x1 x6 x8 ((Rect.unit (s := S16x8x512) ![0, 6, 0] S8x1x128.size inb_S16x8x512_S8x1x128_0_6_0).emb x) := by
  obtain ⟨b, d, rfl⟩ := idx81 x
  refine Eq.trans ?_ (keys_at x1 x6 x8 (by decide) (by decide) inb_S16x8x512_S8x1x128_0_6_0 b d (by omega) (by decide) (by decide)).symm
  generalize hq : (⟨0 + b.val, by omega⟩ : Fin 16) = bb
  simp only [sl.r_50, sl.r_48, read_step, read_kept, read_tap, read_step', read_kept', read_tap']
  pointwise [k0_pay109, k0_pay108, k0_pay105, k0_pay106]
  subst hq
  rfl

/-- A store of keys: step 5, column 384, from sequence 0 on. -/
theorem k_0_5_384 (x : S8x1x128.Idx) :
    (k0_pay103 (sl.r_46 c arg2 harg2 arg9 harg9 x1 x8)) x = keys x1 x6 x8 ((Rect.unit (s := S16x8x512) ![0, 5, 384] S8x1x128.size inb_S16x8x512_S8x1x128_0_5_384).emb x) := by
  obtain ⟨b, d, rfl⟩ := idx81 x
  refine Eq.trans ?_ (keys_at x1 x6 x8 (by decide) (by decide) inb_S16x8x512_S8x1x128_0_5_384 b d (by omega) (by decide) (by decide)).symm
  generalize hq : (⟨0 + b.val, by omega⟩ : Fin 16) = bb
  simp only [sl.r_46, sl.r_39, read_step, read_kept, read_tap, read_step', read_kept', read_tap']
  pointwise [k0_pay103, k0_pay99, k0_pay86]
  subst hq
  rfl

/-- A store of keys: step 5, column 256, from sequence 0 on. -/
theorem k_0_5_256 (x : S8x1x128.Idx) :
    (k0_pay97 (sl.r_39 c arg2 harg2 arg9 harg9 x1 x8)) x = keys x1 x6 x8 ((Rect.unit (s := S16x8x512) ![0, 5, 256] S8x1x128.size inb_S16x8x512_S8x1x128_0_5_256).emb x) := by
  obtain ⟨b, d, rfl⟩ := idx81 x
  refine Eq.trans ?_ (keys_at x1 x6 x8 (by decide) (by decide) inb_S16x8x512_S8x1x128_0_5_256 b d (by omega) (by decide) (by decide)).symm
  generalize hq : (⟨0 + b.val, by omega⟩ : Fin 16) = bb
  simp only [sl.r_39, read_step, read_kept, read_tap, read_step', read_kept', read_tap']
  pointwise [k0_pay97, k0_pay86]
  subst hq
  rfl

/-- A store of keys: step 5, column 128, from sequence 0 on. -/
theorem k_0_5_128 (x : S8x1x128.Idx) :
    (k0_pay95 (sl.r_43 c arg2 harg2 arg9 harg9 x1 x8) (sl.r_44 c arg2 harg2 arg9 harg9 x1 x8)) x = keys x1 x6 x8 ((Rect.unit (s := S16x8x512) ![0, 5, 128] S8x1x128.size inb_S16x8x512_S8x1x128_0_5_128).emb x) := by
  obtain ⟨b, d, rfl⟩ := idx81 x
  refine Eq.trans ?_ (keys_at x1 x6 x8 (by decide) (by decide) inb_S16x8x512_S8x1x128_0_5_128 b d (by omega) (by decide) (by decide)).symm
  generalize hq : (⟨0 + b.val, by omega⟩ : Fin 16) = bb
  simp only [sl.r_43, sl.r_39, sl.r_44, read_step, read_kept, read_tap, read_step', read_kept', read_tap']
  pointwise [k0_pay95, k0_pay92, k0_pay86, k0_pay94]
  subst hq
  rfl

/-- A store of keys: step 5, column 0, from sequence 0 on. -/
theorem k_0_5_0 (x : S8x1x128.Idx) :
    (k0_pay91 (sl.r_41 c arg2 harg2 arg9 harg9 x1 x8)) x = keys x1 x6 x8 ((Rect.unit (s := S16x8x512) ![0, 5, 0] S8x1x128.size inb_S16x8x512_S8x1x128_0_5_0).emb x) := by
  obtain ⟨b, d, rfl⟩ := idx81 x
  refine Eq.trans ?_ (keys_at x1 x6 x8 (by decide) (by decide) inb_S16x8x512_S8x1x128_0_5_0 b d (by omega) (by decide) (by decide)).symm
  generalize hq : (⟨0 + b.val, by omega⟩ : Fin 16) = bb
  simp only [sl.r_41, read_step, read_kept, read_tap, read_step', read_kept', read_tap']
  pointwise [k0_pay91, k0_pay88, k0_pay86]
  subst hq
  rfl

end Cert.KernelIdeal.Val

end
-- ==== Proof.MixRows3.lean ====
module

public import proofs.«01_k».proof.Proof.MixRows

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (arg2 : Memref sig .tc .vmem S16x8x1536 .f32) (harg2 : arg2.IsWhole) (arg7 : Memref sig .tc .vmem S3x16x1536 .f32) (harg7 : arg7.IsWhole)
  (arg9 : Memref sig .tc .vmem S4x8x1536 .f32) (harg9 : arg9.IsWhole)
  (x1 : Vec Ideal S16x8x1536 .f32) (x6 : Vec Ideal S3x16x1536 .f32) (x8 : Vec Ideal S4x8x1536 .f32)

/-- A store of keys: step 4, column 384, from sequence 0 on. -/
theorem k_0_4_384 (x : S8x1x128.Idx) :
    (k0_pay83 (sl.r_32 c arg2 harg2 arg9 harg9 x1 x8)) x = keys x1 x6 x8 ((Rect.unit (s := S16x8x512) ![0, 4, 384] S8x1x128.size inb_S16x8x512_S8x1x128_0_4_384).emb x) := by
  obtain ⟨b, d, rfl⟩ := idx81 x
  refine Eq.trans ?_ (keys_at x1 x6 x8 (by decide) (by decide) inb_S16x8x512_S8x1x128_0_4_384 b d (by omega) (by decide) (by decide)).symm
  generalize hq : (⟨0 + b.val, by omega⟩ : Fin 16) = bb
  simp only [sl.r_32, sl.r_30, sl.r_31, read_step, read_kept, read_tap, read_step', read_kept', read_tap']
  pointwise [k0_pay83, k0_pay70, k0_pay68, k0_pay69]
  subst hq
  rfl

/-- A store of keys: step 4, column 256, from sequence 0 on. -/
theorem k_0_4_256 (x : S8x1x128.Idx) :
    (k0_pay81 (sl.r_36 c arg2 harg2 arg9 harg9 x1 x8) (sl.r_37 c arg2 harg2 arg9 harg9 x1 x8)) x = keys x1 x6 x8 ((Rect.unit (s := S16x8x512) ![0, 4, 256] S8x1x128.size inb_S16x8x512_S8x1x128_0_4_256).emb x) := by
  obtain ⟨b, d, rfl⟩ := idx81 x
  refine Eq.trans ?_ (keys_at x1 x6 x8 (by decide) (by decide) inb_S16x8x512_S8x1x128_0_4_256 b d (by omega) (by decide) (by decide)).symm
  generalize hq : (⟨0 + b.val, by omega⟩ : Fin 16) = bb
  simp only [sl.r_36, sl.r_32, sl.r_30, sl.r_31, sl.r_37, read_step, read_kept, read_tap, read_step', read_kept', read_tap']
  pointwise [k0_pay81, k0_pay78, k0_pay70, k0_pay68, k0_pay69, k0_pay80]
  subst hq
  rfl

/-- A store of keys: step 4, column 128, from sequence 0 on. -/
theorem k_0_4_128 (x : S8x1x128.Idx) :
    (k0_pay77 (sl.r_34 c arg2 harg2 arg9 harg9 x1 x8)) x = keys x1 x6 x8 ((Rect.unit (s := S16x8x512) ![0, 4, 128] S8x1x128.size inb_S16x8x512_S8x1x128_0_4_128).emb x) := by
  obtain ⟨b, d, rfl⟩ := idx81 x
  refine Eq.trans ?_ (keys_at x1 x6 x8 (by decide) (by decide) inb_S16x8x512_S8x1x128_0_4_128 b d (by omega) (by decide) (by decide)).symm
  generalize hq : (⟨0 + b.val, by omega⟩ : Fin 16) = bb
  simp only [sl.r_34, sl.r_30, sl.r_31, read_step, read_kept, read_tap, read_step', read_kept', read_tap']
  pointwise [k0_pay77, k0_pay74, k0_pay68, k0_pay69, k0_pay70]
  subst hq
  rfl

/-- A store of keys: step 4, column 0, from sequence 0 on. -/
theorem k_0_4_0 (x : S8x1x128.Idx) :
    (k0_pay72 (sl.r_30 c arg2 harg2 arg9 harg9 x1 x8) (sl.r_31 c arg2 harg2 x1) (View.readAt (Elt Ideal) arg9.view (Rect.unit (s := S4x8x1536) ![2, 0, 0] S1x8x1536.size inb_S4x8x1536_S1x8x1536_2_0_0).toLoadRect (harg9.unread x8)) (View.readAt (Elt Ideal) arg2.view (Rect.unit (s := S16x8x1536) ![0, 4, 0] S8x1x1536.size inb_S16x8x1536_S8x1x1536_0_4_0).toLoadRect (harg2.unread x1)) (View.readAt (Elt Ideal) arg9.view (Rect.unit (s := S4x8x1536) ![3, 0, 0] S1x8x1536.size inb_S4x8x1536_S1x8x1536_3_0_0).toLoadRect (harg9.unread x8))) x = keys x1 x6 x8 ((Rect.unit (s := S16x8x512) ![0, 4, 0] S8x1x128.size inb_S16x8x512_S8x1x128_0_4_0).emb x) := by
  obtain ⟨b, d, rfl⟩ := idx81 x
  refine Eq.trans ?_ (keys_at x1 x6 x8 (by decide) (by decide) inb_S16x8x512_S8x1x128_0_4_0 b d (by omega) (by decide) (by decide)).symm
  generalize hq : (⟨0 + b.val, by omega⟩ : Fin 16) = bb
  simp only [sl.r_30, sl.r_31, read_step, read_kept, read_tap, read_step', read_kept', read_tap']
  pointwise [k0_pay72, k0_pay68, k0_pay69, k0_pay70]
  subst hq
  rfl

/-- A store of keys: step 3, column 384, from sequence 0 on. -/
theorem k_0_3_384 (x : S8x1x128.Idx) :
    (k0_pay66 (sl.r_28 c arg2 harg2 arg9 harg9 x1 x8)) x = keys x1 x6 x8 ((Rect.unit (s := S16x8x512) ![0, 3, 384] S8x1x128.size inb_S16x8x512_S8x1x128_0_3_384).emb x) := by
  obtain ⟨b, d, rfl⟩ := idx81 x
  refine Eq.trans ?_ (keys_at x1 x6 x8 (by decide) (by decide) inb_S16x8x512_S8x1x128_0_3_384 b d (by omega) (by decide) (by decide)).symm
  generalize hq : (⟨0 + b.val, by omega⟩ : Fin 16) = bb
  simp only [sl.r_28, sl.r_24, sl.r_23, read_step, read_kept, read_tap, read_step', read_kept', read_tap']
  pointwise [k0_pay66, k0_pay63, k0_pay53]
  subst hq
  rfl

/-- A store of keys: step 3, column 256, from sequence 0 on. -/
theorem k_0_3_256 (x : S8x1x128.Idx) :
    (k0_pay62 (sl.r_24 c arg2 harg2 arg9 harg9 x1 x8)) x = keys x1 x6 x8 ((Rect.unit (s := S16x8x512) ![0, 3, 256] S8x1x128.size inb_S16x8x512_S8x1x128_0_3_256).emb x) := by
  obtain ⟨b, d, rfl⟩ := idx81 x
  refine Eq.trans ?_ (keys_at x1 x6 x8 (by decide) (by decide) inb_S16x8x512_S8x1x128_0_3_256 b d (by omega) (by decide) (by decide)).symm
  generalize hq : (⟨0 + b.val, by omega⟩ : Fin 16) = bb
  simp only [sl.r_24, sl.r_23, read_step, read_kept, read_tap, read_step', read_kept', read_tap']
  pointwise [k0_pay62, k0_pay53]
  subst hq
  rfl

/-- A store of keys: step 3, column 128, from sequence 0 on. -/
theorem k_0_3_128 (x : S8x1x128.Idx) :
    (k0_pay60 (sl.r_27 c arg2 harg2 arg9 harg9 x1 x8)) x = keys x1 x6 x8 ((Rect.unit (s := S16x8x512) ![0, 3, 128] S8x1x128.size inb_S16x8x512_S8x1x128_0_3_128).emb x) := by
  obtain ⟨b, d, rfl⟩ := idx81 x
  refine Eq.trans ?_ (keys_at x1 x6 x8 (by decide) (by decide) inb_S16x8x512_S8x1x128_0_3_128 b d (by omega) (by decide) (by decide)).symm
  generalize hq : (⟨0 + b.val, by omega⟩ : Fin 16) = bb
  simp only [sl.r_27, sl.r_24, sl.r_23, read_step, read_kept, read_tap, read_step', read_kept', read_tap']
  pointwise [k0_pay60, k0_pay59, k0_pay53]
  subst hq
  rfl

/-- A store of keys: step 3, column 0, from sequence 0 on. -/
theorem k_0_3_0 (x : S8x1x128.Idx) :
    (k0_pay57 (sl.r_25 c arg2 harg2 arg9 harg9 x1 x8)) x = keys x1 x6 x8 ((Rect.unit (s := S16x8x512) ![0, 3, 0] S8x1x128.size inb_S16x8x512_S8x1x128_0_3_0).emb x) := by
  obtain ⟨b, d, rfl⟩ := idx81 x
  refine Eq.trans ?_ (keys_at x1 x6 x8 (by decide) (by decide) inb_S16x8x512_S8x1x128_0_3_0 b d (by omega) (by decide) (by decide)).symm
  generalize hq : (⟨0 + b.val, by omega⟩ : Fin 16) = bb
  simp only [sl.r_25, sl.r_23, read_step, read_kept, read_tap, read_step', read_kept', read_tap']
  pointwise [k0_pay57, k0_pay54, k0_pay53]
  subst hq
  rfl

/-- A store of keys: step 2, column 384, from sequence 0 on. -/
theorem k_0_2_384 (x : S8x1x128.Idx) :
    (k0_pay51 (sl.r_17 c arg2 harg2 arg7 harg7 arg9 harg9 x1 x6 x8)) x = keys x1 x6 x8 ((Rect.unit (s := S16x8x512) ![0, 2, 384] S8x1x128.size inb_S16x8x512_S8x1x128_0_2_384).emb x) := by
  obtain ⟨b, d, rfl⟩ := idx81 x
  refine Eq.trans ?_ (keys_at x1 x6 x8 (by decide) (by decide) inb_S16x8x512_S8x1x128_0_2_384 b d (by omega) (by decide) (by decide)).symm
  generalize hq : (⟨0 + b.val, by omega⟩ : Fin 16) = bb
  simp only [sl.r_17, sl.r_16, read_step, read_kept, read_tap, read_step', read_kept', read_tap']
  pointwise [k0_pay51, k0_pay38, k0_pay37]
  subst hq
  rfl

/-- A store of keys: step 2, column 256, from sequence 0 on. -/
theorem k_0_2_256 (x : S8x1x128.Idx) :
    (k0_pay49 (sl.r_21 c arg2 harg2 arg7 harg7 arg9 harg9 x1 x6 x8) (sl.r_22 c arg2 harg2 arg7 harg7 arg9 harg9 x1 x6 x8)) x = keys x1 x6 x8 ((Rect.unit (s := S16x8x512) ![0, 2, 256] S8x1x128.size inb_S16x8x512_S8x1x128_0_2_256).emb x) := by
  obtain ⟨b, d, rfl⟩ := idx81 x
  refine Eq.trans ?_ (keys_at x1 x6 x8 (by decide) (by decide) inb_S16x8x512_S8x1x128_0_2_256 b d (by omega) (by decide) (by decide)).symm
  generalize hq : (⟨0 + b.val, by omega⟩ : Fin 16) = bb
  simp only [sl.r_21, sl.r_17, sl.r_16, sl.r_22, read_step, read_kept, read_tap, read_step', read_kept', read_tap']
  pointwise [k0_pay49, k0_pay46, k0_pay38, k0_pay37, k0_pay48]
  subst hq
  rfl

/-- A store of keys: step 2, column 128, from sequence 0 on. -/
theorem k_0_2_128 (x : S8x1x128.Idx) :
    (k0_pay45 (sl.r_19 c arg2 harg2 arg7 harg7 arg9 harg9 x1 x6 x8)) x = keys x1 x6 x8 ((Rect.unit (s := S16x8x512) ![0, 2, 128] S8x1x128.size inb_S16x8x512_S8x1x128_0_2_128).emb x) := by
  obtain ⟨b, d, rfl⟩ := idx81 x
  refine Eq.trans ?_ (keys_at x1 x6 x8 (by decide) (by decide) inb_S16x8x512_S8x1x128_0_2_128 b d (by omega) (by decide) (by decide)).symm
  generalize hq : (⟨0 + b.val, by omega⟩ : Fin 16) = bb
  simp only [sl.r_19, sl.r_16, read_step, read_kept, read_tap, read_step', read_kept', read_tap']
  pointwise [k0_pay45, k0_pay42, k0_pay37, k0_pay38]
  subst hq
  rfl

/-- A store of keys: step 2, column 0, from sequence 0 on. -/
theorem k_0_2_0 (x : S8x1x128.Idx) :
    (k0_pay40 (sl.r_16 c arg2 harg2 arg7 harg7 arg9 harg9 x1 x6 x8) (View.readAt (Elt Ideal) arg2.view (Rect.unit (s := S16x8x1536) ![0, 2, 0] S8x1x1536.size inb_S16x8x1536_S8x1x1536_0_2_0).toLoadRect (harg2.unread x1)) (View.readAt (Elt Ideal) arg9.view (Rect.unit (s := S4x8x1536) ![3, 0, 0] S1x8x1536.size inb_S4x8x1536_S1x8x1536_3_0_0).toLoadRect (harg9.unread x8))) x = keys x1 x6 x8 ((Rect.unit (s := S16x8x512) ![0, 2, 0] S8x1x128.size inb_S16x8x512_S8x1x128_0_2_0).emb x) := by
  obtain ⟨b, d, rfl⟩ := idx81 x
  refine Eq.trans ?_ (keys_at x1 x6 x8 (by decide) (by decide) inb_S16x8x512_S8x1x128_0_2_0 b d (by omega) (by decide) (by decide)).symm
  generalize hq : (⟨0 + b.val, by omega⟩ : Fin 16) = bb
  simp only [sl.r_16, read_step, read_kept, read_tap, read_step', read_kept', read_tap']
  pointwise [k0_pay40, k0_pay37, k0_pay38]
  subst hq
  rfl

/-- A store of keys: step 1, column 384, from sequence 0 on. -/
theorem k_0_1_384 (x : S8x1x128.Idx) :
    (k0_pay35 (sl.r_14 c arg2 harg2 arg7 harg7 arg9 harg9 x1 x6 x8) (sl.r_15 c arg2 harg2 arg7 harg7 arg9 harg9 x1 x6 x8)) x = keys x1 x6 x8 ((Rect.unit (s := S16x8x512) ![0, 1, 384] S8x1x128.size inb_S16x8x512_S8x1x128_0_1_384).emb x) := by
  obtain ⟨b, d, rfl⟩ := idx81 x
  refine Eq.trans ?_ (keys_at x1 x6 x8 (by decide) (by decide) inb_S16x8x512_S8x1x128_0_1_384 b d (by omega) (by decide) (by decide)).symm
  generalize hq : (⟨0 + b.val, by omega⟩ : Fin 16) = bb
  simp only [sl.r_14, sl.r_8, sl.r_6, sl.r_7, sl.r_15, read_step, read_kept, read_tap, read_step', read_kept', read_tap']
  pointwise [k0_pay35, k0_pay32, k0_pay21, k0_pay19, k0_pay20, k0_pay34]
  subst hq
  rfl

/-- A store of keys: step 1, column 256, from sequence 0 on. -/
theorem k_0_1_256 (x : S8x1x128.Idx) :
    (k0_pay31 (sl.r_12 c arg2 harg2 arg7 harg7 arg9 harg9 x1 x6 x8)) x = keys x1 x6 x8 ((Rect.unit (s := S16x8x512) ![0, 1, 256] S8x1x128.size inb_S16x8x512_S8x1x128_0_1_256).emb x) := by
  obtain ⟨b, d, rfl⟩ := idx81 x
  refine Eq.trans ?_ (keys_at x1 x6 x8 (by decide) (by decide) inb_S16x8x512_S8x1x128_0_1_256 b d (by omega) (by decide) (by decide)).symm
  generalize hq : (⟨0 + b.val, by omega⟩ : Fin 16) = bb
  simp only [sl.r_12, sl.r_8, sl.r_6, sl.r_7, read_step, read_kept, read_tap, read_step', read_kept', read_tap']
  pointwise [k0_pay31, k0_pay28, k0_pay21, k0_pay19, k0_pay20]
  subst hq
  rfl

/-- A store of keys: step 1, column 128, from sequence 0 on. -/
theorem k_0_1_128 (x : S8x1x128.Idx) :
    (k0_pay26 (sl.r_8 c arg2 harg2 arg7 harg7 arg9 harg9 x1 x6 x8)) x = keys x1 x6 x8 ((Rect.unit (s := S16x8x512) ![0, 1, 128] S8x1x128.size inb_S16x8x512_S8x1x128_0_1_128).emb x) := by
  obtain ⟨b, d, rfl⟩ := idx81 x
  refine Eq.trans ?_ (keys_at x1 x6 x8 (by decide) (by decide) inb_S16x8x512_S8x1x128_0_1_128 b d (by omega) (by decide) (by decide)).symm
  generalize hq : (⟨0 + b.val, by omega⟩ : Fin 16) = bb
  simp only [sl.r_8, sl.r_6, sl.r_7, read_step, read_kept, read_tap, read_step', read_kept', read_tap']
  pointwise [k0_pay26, k0_pay21, k0_pay19, k0_pay20]
  subst hq
  rfl

/-- A store of keys: step 1, column 0, from sequence 0 on. -/
theorem k_0_1_0 (x : S8x1x128.Idx) :
    (k0_pay24 (sl.r_9 c arg2 harg2 arg7 harg7 arg9 harg9 x1 x6 x8)) x = keys x1 x6 x8 ((Rect.unit (s := S16x8x512) ![0, 1, 0] S8x1x128.size inb_S16x8x512_S8x1x128_0_1_0).emb x) := by
  obtain ⟨b, d, rfl⟩ := idx81 x
  refine Eq.trans ?_ (keys_at x1 x6 x8 (by decide) (by decide) inb_S16x8x512_S8x1x128_0_1_0 b d (by omega) (by decide) (by decide)).symm
  generalize hq : (⟨0 + b.val, by omega⟩ : Fin 16) = bb
  simp only [sl.r_9, sl.r_6, sl.r_7, read_step, read_kept, read_tap, read_step', read_kept', read_tap']
  pointwise [k0_pay24, k0_pay22, k0_pay19, k0_pay20, k0_pay21]
  subst hq
  rfl

/-- A store of keys: step 0, column 384, from sequence 0 on. -/
theorem k_0_0_384 (x : S8x1x128.Idx) :
    (k0_pay17 (sl.r_2 c arg2 harg2 arg7 harg7 arg9 harg9 x1 x6 x8)) x = keys x1 x6 x8 ((Rect.unit (s := S16x8x512) ![0, 0, 384] S8x1x128.size inb_S16x8x512_S8x1x128_0_0_384).emb x) := by
  obtain ⟨b, d, rfl⟩ := idx81 x
  refine Eq.trans ?_ (keys_at x1 x6 x8 (by decide) (by decide) inb_S16x8x512_S8x1x128_0_0_384 b d (by omega) (by decide) (by decide)).symm
  generalize hq : (⟨0 + b.val, by omega⟩ : Fin 16) = bb
  simp only [sl.r_2, sl.r, sl.r_1, read_step, read_kept, read_tap, read_step', read_kept', read_tap']
  pointwise [k0_pay17, k0_pay6, k0_pay4, k0_pay5]
  subst hq
  rfl

/-- A store of keys: step 0, column 256, from sequence 0 on. -/
theorem k_0_0_256 (x : S8x1x128.Idx) :
    (k0_pay15 (sl.r_5 c arg2 harg2 arg7 harg7 arg9 harg9 x1 x6 x8)) x = keys x1 x6 x8 ((Rect.unit (s := S16x8x512) ![0, 0, 256] S8x1x128.size inb_S16x8x512_S8x1x128_0_0_256).emb x) := by
  obtain ⟨b, d, rfl⟩ := idx81 x
  refine Eq.trans ?_ (keys_at x1 x6 x8 (by decide) (by decide) inb_S16x8x512_S8x1x128_0_0_256 b d (by omega) (by decide) (by decide)).symm
  generalize hq : (⟨0 + b.val, by omega⟩ : Fin 16) = bb
  simp only [sl.r_5, sl.r_2, sl.r, sl.r_1, read_step, read_kept, read_tap, read_step', read_kept', read_tap']
  pointwise [k0_pay15, k0_pay14, k0_pay6, k0_pay4, k0_pay5]
  subst hq
  rfl

/-- A store of keys: step 0, column 128, from sequence 0 on. -/
theorem k_0_0_128 (x : S8x1x128.Idx) :
    (k0_pay12 (sl.r_3 c arg2 harg2 arg7 harg7 arg9 harg9 x1 x6 x8)) x = keys x1 x6 x8 ((Rect.unit (s := S16x8x512) ![0, 0, 128] S8x1x128.size inb_S16x8x512_S8x1x128_0_0_128).emb x) := by
  obtain ⟨b, d, rfl⟩ := idx81 x
  refine Eq.trans ?_ (keys_at x1 x6 x8 (by decide) (by decide) inb_S16x8x512_S8x1x128_0_0_128 b d (by omega) (by decide) (by decide)).symm
  generalize hq : (⟨0 + b.val, by omega⟩ : Fin 16) = bb
  simp only [sl.r_3, sl.r, sl.r_1, read_step, read_kept, read_tap, read_step', read_kept', read_tap']
  pointwise [k0_pay12, k0_pay9, k0_pay4, k0_pay5, k0_pay6]
  subst hq
  rfl

/-- A store of keys: step 0, column 0, from sequence 0 on. -/
theorem k_0_0_0 (x : S8x1x128.Idx) :
    (k0_pay8 (sl.r c arg7 harg7 arg9 harg9 x6 x8) (sl.r_1 c arg2 harg2 x1) (View.readAt (Elt Ideal) arg9.view (Rect.unit (s := S4x8x1536) ![3, 0, 0] S1x8x1536.size inb_S4x8x1536_S1x8x1536_3_0_0).toLoadRect (harg9.unread x8))) x = keys x1 x6 x8 ((Rect.unit (s := S16x8x512) ![0, 0, 0] S8x1x128.size inb_S16x8x512_S8x1x128_0_0_0).emb x) := by
  obtain ⟨b, d, rfl⟩ := idx81 x
  refine Eq.trans ?_ (keys_at x1 x6 x8 (by decide) (by decide) inb_S16x8x512_S8x1x128_0_0_0 b d (by omega) (by decide) (by decide)).symm
  generalize hq : (⟨0 + b.val, by omega⟩ : Fin 16) = bb
  simp only [sl.r, sl.r_1, read_step, read_kept, read_tap, read_step', read_kept', read_tap']
  pointwise [k0_pay8, k0_pay4, k0_pay5, k0_pay6]
  subst hq
  rfl

end Cert.KernelIdeal.Val

end
-- ==== Proof.MixRows4.lean ====
module

public import proofs.«01_k».proof.Proof.MixRows

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (arg2 : Memref sig .tc .vmem S16x8x1536 .f32) (harg2 : arg2.IsWhole) (arg7 : Memref sig .tc .vmem S3x16x1536 .f32) (harg7 : arg7.IsWhole)
  (arg9 : Memref sig .tc .vmem S4x8x1536 .f32) (harg9 : arg9.IsWhole)
  (x1 : Vec Ideal S16x8x1536 .f32) (x6 : Vec Ideal S3x16x1536 .f32) (x8 : Vec Ideal S4x8x1536 .f32)

/-- A store of values: step 7, column 0, from sequence 8 on. -/
theorem v_8_7_0 (x : S8x1x512.Idx) :
    (k0_pay560 (sl.r_399 c arg2 harg2 arg9 harg9 x1 x8)) x = vals x1 x6 x8 ((Rect.unit (s := S16x8x512) ![8, 7, 0] S8x1x512.size inb_S16x8x512_S8x1x512_8_7_0).emb x) := by
  obtain ⟨b, d, rfl⟩ := idx81 x
  refine Eq.trans ?_ (vals_at x1 x6 x8 (by decide) inb_S16x8x512_S8x1x512_8_7_0 b d (by omega) (by decide)).symm
  generalize hq : (⟨8 + b.val, by omega⟩ : Fin 16) = bb
  simp only [sl.r_399, sl.r_398, read_step, read_kept, read_tap, read_step', read_kept', read_tap']
  pointwise [k0_pay560, k0_pay543, k0_pay542]
  subst hq
  rfl

/-- A store of values: step 6, column 0, from sequence 8 on. -/
theorem v_8_6_0 (x : S8x1x512.Idx) :
    (k0_pay541 (sl.r_394 c arg2 harg2 arg9 harg9 x1 x8)) x = vals x1 x6 x8 ((Rect.unit (s := S16x8x512) ![8, 6, 0] S8x1x512.size inb_S16x8x512_S8x1x512_8_6_0).emb x) := by
  obtain ⟨b, d, rfl⟩ := idx81 x
  refine Eq.trans ?_ (vals_at x1 x6 x8 (by decide) inb_S16x8x512_S8x1x512_8_6_0 b d (by omega) (by decide)).symm
  generalize hq : (⟨8 + b.val, by omega⟩ : Fin 16) = bb
  simp only [sl.r_394, sl.r_393, read_step, read_kept, read_tap, read_step', read_kept', read_tap']
  pointwise [k0_pay541, k0_pay529, k0_pay528]
  subst hq
  rfl

/-- A store of values: step 5, column 0, from sequence 8 on. -/
theorem v_8_5_0 (x : S8x1x512.Idx) :
    (k0_pay527 (sl.r_386 c arg2 harg2 arg9 harg9 x1 x8)) x = vals x1 x6 x8 ((Rect.unit (s := S16x8x512) ![8, 5, 0] S8x1x512.size inb_S16x8x512_S8x1x512_8_5_0).emb x) := by
  obtain ⟨b, d, rfl⟩ := idx81 x
  refine Eq.trans ?_ (vals_at x1 x6 x8 (by decide) inb_S16x8x512_S8x1x512_8_5_0 b d (by omega) (by decide)).symm
  generalize hq : (⟨8 + b.val, by omega⟩ : Fin 16) = bb
  simp only [sl.r_386, sl.r_383, sl.r_384, sl.r_385, read_step, read_kept, read_tap, read_step', read_kept', read_tap']
  pointwise [k0_pay527, k0_pay512, k0_pay510, k0_pay511]
  subst hq
  rfl

/-- A store of values: step 4, column 0, from sequence 8 on. -/
theorem v_8_4_0 (x : S8x1x512.Idx) :
    (k0_pay509 (sl.r_374 c arg2 harg2 arg9 harg9 x1 x8)) x = vals x1 x6 x8 ((Rect.unit (s := S16x8x512) ![8, 4, 0] S8x1x512.size inb_S16x8x512_S8x1x512_8_4_0).emb x) := by
  obtain ⟨b, d, rfl⟩ := idx81 x
  refine Eq.trans ?_ (vals_at x1 x6 x8 (by decide) inb_S16x8x512_S8x1x512_8_4_0 b d (by omega) (by decide)).symm
  generalize hq : (⟨8 + b.val, by omega⟩ : Fin 16) = bb
  simp only [sl.r_374, read_step, read_kept, read_tap, read_step', read_kept', read_tap']
  pointwise [k0_pay509, k0_pay492]
  subst hq
  rfl

/-- A store of values: step 3, column 0, from sequence 8 on. -/
theorem v_8_3_0 (x : S8x1x512.Idx) :
    (k0_pay491 (sl.r_373 c arg2 harg2 arg9 harg9 x1 x8)) x = vals x1 x6 x8 ((Rect.unit (s := S16x8x512) ![8, 3, 0] S8x1x512.size inb_S16x8x512_S8x1x512_8_3_0).emb x) := by
  obtain ⟨b, d, rfl⟩ := idx81 x
  refine Eq.trans ?_ (vals_at x1 x6 x8 (by decide) inb_S16x8x512_S8x1x512_8_3_0 b d (by omega) (by decide)).symm
  generalize hq : (⟨8 + b.val, by omega⟩ : Fin 16) = bb
  simp only [sl.r_373, sl.r_369, sl.r_368, read_step, read_kept, read_tap, read_step', read_kept', read_tap']
  pointwise [k0_pay491, k0_pay490, k0_pay478, k0_pay477]
  subst hq
  rfl

/-- A store of values: step 2, column 0, from sequence 8 on. -/
theorem v_8_2_0 (x : S8x1x512.Idx) :
    (k0_pay476 (sl.r_359 c arg2 harg2 arg7 harg7 arg9 harg9 x1 x6 x8)) x = vals x1 x6 x8 ((Rect.unit (s := S16x8x512) ![8, 2, 0] S8x1x512.size inb_S16x8x512_S8x1x512_8_2_0).emb x) := by
  obtain ⟨b, d, rfl⟩ := idx81 x
  refine Eq.trans ?_ (vals_at x1 x6 x8 (by decide) inb_S16x8x512_S8x1x512_8_2_0 b d (by omega) (by decide)).symm
  generalize hq : (⟨8 + b.val, by omega⟩ : Fin 16) = bb
  simp only [sl.r_359, read_step, read_kept, read_tap, read_step', read_kept', read_tap']
  pointwise [k0_pay476, k0_pay459]
  subst hq
  rfl

/-- A store of values: step 1, column 0, from sequence 8 on. -/
theorem v_8_1_0 (x : S8x1x512.Idx) :
    (sl.r_358 c arg2 harg2 arg7 harg7 arg9 harg9 x1 x6 x8) x = vals x1 x6 x8 ((Rect.unit (s := S16x8x512) ![8, 1, 0] S8x1x512.size inb_S16x8x512_S8x1x512_8_1_0).emb x) := by
  obtain ⟨b, d, rfl⟩ := idx81 x
  refine Eq.trans ?_ (vals_at x1 x6 x8 (by decide) inb_S16x8x512_S8x1x512_8_1_0 b d (by omega) (by decide)).symm
  generalize hq : (⟨8 + b.val, by omega⟩ : Fin 16) = bb
  simp only [sl.r_358, sl.r_352, sl.r_349, sl.r_350, sl.r_351, read_step, read_kept, read_tap, read_step', read_kept', read_tap']
  pointwise [k0_pay458, k0_pay444, k0_pay442, k0_pay443]
  subst hq
  rfl

/-- A store of values: step 0, column 0, from sequence 8 on. -/
theorem v_8_0_0 (x : S8x1x512.Idx) :
    (k0_pay441 (sl.r_343 c arg2 harg2 arg7 harg7 arg9 harg9 x1 x6 x8)) x = vals x1 x6 x8 ((Rect.unit (s := S16x8x512) ![8, 0, 0] S8x1x512.size inb_S16x8x512_S8x1x512_8_0_0).emb x) := by
  obtain ⟨b, d, rfl⟩ := idx81 x
  refine Eq.trans ?_ (vals_at x1 x6 x8 (by decide) inb_S16x8x512_S8x1x512_8_0_0 b d (by omega) (by decide)).symm
  generalize hq : (⟨8 + b.val, by omega⟩ : Fin 16) = bb
  simp only [sl.r_343, sl.r_342, read_step, read_kept, read_tap, read_step', read_kept', read_tap']
  pointwise [k0_pay441, k0_pay427, k0_pay426]
  subst hq
  rfl

/-- A store of values: step 7, column 0, from sequence 0 on. -/
theorem v_0_7_0 (x : S8x1x512.Idx) :
    (k0_pay136 (sl.r_53 c arg2 harg2 arg9 harg9 x1 x8)) x = vals x1 x6 x8 ((Rect.unit (s := S16x8x512) ![0, 7, 0] S8x1x512.size inb_S16x8x512_S8x1x512_0_7_0).emb x) := by
  obtain ⟨b, d, rfl⟩ := idx81 x
  refine Eq.trans ?_ (vals_at x1 x6 x8 (by decide) inb_S16x8x512_S8x1x512_0_7_0 b d (by omega) (by decide)).symm
  generalize hq : (⟨0 + b.val, by omega⟩ : Fin 16) = bb
  simp only [sl.r_53, read_step, read_kept, read_tap, read_step', read_kept', read_tap']
  pointwise [k0_pay136, k0_pay119]
  subst hq
  rfl

/-- A store of values: step 6, column 0, from sequence 0 on. -/
theorem v_0_6_0 (x : S8x1x512.Idx) :
    (k0_pay118 (sl.r_49 c arg2 harg2 arg9 harg9 x1 x8)) x = vals x1 x6 x8 ((Rect.unit (s := S16x8x512) ![0, 6, 0] S8x1x512.size inb_S16x8x512_S8x1x512_0_6_0).emb x) := by
  obtain ⟨b, d, rfl⟩ := idx81 x
  refine Eq.trans ?_ (vals_at x1 x6 x8 (by decide) inb_S16x8x512_S8x1x512_0_6_0 b d (by omega) (by decide)).symm
  generalize hq : (⟨0 + b.val, by omega⟩ : Fin 16) = bb
  simp only [sl.r_49, sl.r_48, read_step, read_kept, read_tap, read_step', read_kept', read_tap']
  pointwise [k0_pay118, k0_pay106, k0_pay105]
  subst hq
  rfl

/-- A store of values: step 5, column 0, from sequence 0 on. -/
theorem v_0_5_0 (x : S8x1x512.Idx) :
    (k0_pay104 (sl.r_39 c arg2 harg2 arg9 harg9 x1 x8)) x = vals x1 x6 x8 ((Rect.unit (s := S16x8x512) ![0, 5, 0] S8x1x512.size inb_S16x8x512_S8x1x512_0_5_0).emb x) := by
  obtain ⟨b, d, rfl⟩ := idx81 x
  refine Eq.trans ?_ (vals_at x1 x6 x8 (by decide) inb_S16x8x512_S8x1x512_0_5_0 b d (by omega) (by decide)).symm
  generalize hq : (⟨0 + b.val, by omega⟩ : Fin 16) = bb
  simp only [sl.r_39, read_step, read_kept, read_tap, read_step', read_kept', read_tap']
  pointwise [k0_pay104, k0_pay86]
  subst hq
  rfl

/-- A store of values: step 4, column 0, from sequence 0 on. -/
theorem v_0_4_0 (x : S8x1x512.Idx) :
    (k0_pay85 (sl.r_38 c arg2 harg2 arg9 harg9 x1 x8)) x = vals x1 x6 x8 ((Rect.unit (s := S16x8x512) ![0, 4, 0] S8x1x512.size inb_S16x8x512_S8x1x512_0_4_0).emb x) := by
  obtain ⟨b, d, rfl⟩ := idx81 x
  refine Eq.trans ?_ (vals_at x1 x6 x8 (by decide) inb_S16x8x512_S8x1x512_0_4_0 b d (by omega) (by decide)).symm
  generalize hq : (⟨0 + b.val, by omega⟩ : Fin 16) = bb
  simp only [sl.r_38, sl.r_32, sl.r_30, sl.r_31, read_step, read_kept, read_tap, read_step', read_kept', read_tap']
  pointwise [k0_pay85, k0_pay84, k0_pay70, k0_pay68, k0_pay69]
  subst hq
  rfl

/-- A store of values: step 3, column 0, from sequence 0 on. -/
theorem v_0_3_0 (x : S8x1x512.Idx) :
    (k0_pay67 (sl.r_24 c arg2 harg2 arg9 harg9 x1 x8)) x = vals x1 x6 x8 ((Rect.unit (s := S16x8x512) ![0, 3, 0] S8x1x512.size inb_S16x8x512_S8x1x512_0_3_0).emb x) := by
  obtain ⟨b, d, rfl⟩ := idx81 x
  refine Eq.trans ?_ (vals_at x1 x6 x8 (by decide) inb_S16x8x512_S8x1x512_0_3_0 b d (by omega) (by decide)).symm
  generalize hq : (⟨0 + b.val, by omega⟩ : Fin 16) = bb
  simp only [sl.r_24, sl.r_23, read_step, read_kept, read_tap, read_step', read_kept', read_tap']
  pointwise [k0_pay67, k0_pay53]
  subst hq
  rfl

/-- A store of values: step 2, column 0, from sequence 0 on. -/
theorem v_0_2_0 (x : S8x1x512.Idx) :
    (k0_pay52 (sl.r_17 c arg2 harg2 arg7 harg7 arg9 harg9 x1 x6 x8)) x = vals x1 x6 x8 ((Rect.unit (s := S16x8x512) ![0, 2, 0] S8x1x512.size inb_S16x8x512_S8x1x512_0_2_0).emb x) := by
  obtain ⟨b, d, rfl⟩ := idx81 x
  refine Eq.trans ?_ (vals_at x1 x6 x8 (by decide) inb_S16x8x512_S8x1x512_0_2_0 b d (by omega) (by decide)).symm
  generalize hq : (⟨0 + b.val, by omega⟩ : Fin 16) = bb
  simp only [sl.r_17, sl.r_16, read_step, read_kept, read_tap, read_step', read_kept', read_tap']
  pointwise [k0_pay52, k0_pay38, k0_pay37]
  subst hq
  rfl

/-- A store of values: step 1, column 0, from sequence 0 on. -/
theorem v_0_1_0 (x : S8x1x512.Idx) :
    (k0_pay36 (sl.r_8 c arg2 harg2 arg7 harg7 arg9 harg9 x1 x6 x8)) x = vals x1 x6 x8 ((Rect.unit (s := S16x8x512) ![0, 1, 0] S8x1x512.size inb_S16x8x512_S8x1x512_0_1_0).emb x) := by
  obtain ⟨b, d, rfl⟩ := idx81 x
  refine Eq.trans ?_ (vals_at x1 x6 x8 (by decide) inb_S16x8x512_S8x1x512_0_1_0 b d (by omega) (by decide)).symm
  generalize hq : (⟨0 + b.val, by omega⟩ : Fin 16) = bb
  simp only [sl.r_8, sl.r_6, sl.r_7, read_step, read_kept, read_tap, read_step', read_kept', read_tap']
  pointwise [k0_pay36, k0_pay21, k0_pay19, k0_pay20]
  subst hq
  rfl

/-- A store of values: step 0, column 0, from sequence 0 on. -/
theorem v_0_0_0 (x : S8x1x512.Idx) :
    (k0_pay18 (sl.r_2 c arg2 harg2 arg7 harg7 arg9 harg9 x1 x6 x8)) x = vals x1 x6 x8 ((Rect.unit (s := S16x8x512) ![0, 0, 0] S8x1x512.size inb_S16x8x512_S8x1x512_0_0_0).emb x) := by
  obtain ⟨b, d, rfl⟩ := idx81 x
  refine Eq.trans ?_ (vals_at x1 x6 x8 (by decide) inb_S16x8x512_S8x1x512_0_0_0 b d (by omega) (by decide)).symm
  generalize hq : (⟨0 + b.val, by omega⟩ : Fin 16) = bb
  simp only [sl.r_2, sl.r, sl.r_1, read_step, read_kept, read_tap, read_step', read_kept', read_tap']
  pointwise [k0_pay18, k0_pay6, k0_pay4, k0_pay5]
  subst hq
  rfl

end Cert.KernelIdeal.Val

end
-- ==== Proof.MixKeys.lean ====
module

public import proofs.«01_k».proof.Proof.MixRows1
public import proofs.«01_k».proof.Proof.MixRows2
public import proofs.«01_k».proof.Proof.MixRows3
public import proofs.«01_k».proof.Proof.MixRows4
public import Idealize.ShloMosaic.Lib.Pipeline.ReadBack

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (arg2 : Memref sig .tc .vmem S16x8x1536 .f32) (harg2 : arg2.IsWhole) (arg7 : Memref sig .tc .vmem S3x16x1536 .f32) (harg7 : arg7.IsWhole)
  (arg9 : Memref sig .tc .vmem S4x8x1536 .f32) (harg9 : arg9.IsWhole)
  (x1 : Vec Ideal S16x8x1536 .f32) (x6 : Vec Ideal S3x16x1536 .f32) (x8 : Vec Ideal S4x8x1536 .f32)

/-- The stores of the keys leave the block's keys. -/
theorem canon_keys : View.canon (sl.HS1_64 (F := Ideal) c arg2 harg2 arg7 harg7 arg9 harg9 x1 x6 x8) = keys x1 x6 x8 := by
  funext y
  refine View.canon_apply_of_pieces (keys x1 x6 x8) _ (View.PiecesOf.mem ?_) y (View.cover_of_tiledL _ ![8, 1, 128] (by sl_kernel_rfl) y)
  exact ⟨k_8_7_384 c arg2 harg2 arg9 harg9 x1 x6 x8, k_8_7_256 c arg2 harg2 arg9 harg9 x1 x6 x8, k_8_7_128 c arg2 harg2 arg9 harg9 x1 x6 x8, k_8_7_0 c arg2 harg2 arg9 harg9 x1 x6 x8, k_8_6_384 c arg2 harg2 arg9 harg9 x1 x6 x8, k_8_6_256 c arg2 harg2 arg9 harg9 x1 x6 x8, k_8_6_128 c arg2 harg2 arg9 harg9 x1 x6 x8, k_8_6_0 c arg2 harg2 arg9 harg9 x1 x6 x8, k_8_5_384 c arg2 harg2 arg9 harg9 x1 x6 x8, k_8_5_256 c arg2 harg2 arg9 harg9 x1 x6 x8, k_8_5_128 c arg2 harg2 arg9 harg9 x1 x6 x8, k_8_5_0 c arg2 harg2 arg9 harg9 x1 x6 x8, k_8_4_384 c arg2 harg2 arg9 harg9 x1 x6 x8, k_8_4_256 c arg2 harg2 arg9 harg9 x1 x6 x8, k_8_4_128 c arg2 harg2 arg9 harg9 x1 x6 x8, k_8_4_0 c arg2 harg2 arg9 harg9 x1 x6 x8, k_8_3_384 c arg2 harg2 arg9 harg9 x1 x6 x8, k_8_3_256 c arg2 harg2 arg9 harg9 x1 x6 x8, k_8_3_128 c arg2 harg2 arg9 harg9 x1 x6 x8, k_8_3_0 c arg2 harg2 arg9 harg9 x1 x6 x8, k_8_2_384 c arg2 harg2 arg7 harg7 arg9 harg9 x1 x6 x8, k_8_2_256 c arg2 harg2 arg7 harg7 arg9 harg9 x1 x6 x8, k_8_2_128 c arg2 harg2 arg7 harg7 arg9 harg9 x1 x6 x8, k_8_2_0 c arg2 harg2 arg7 harg7 arg9 harg9 x1 x6 x8, k_8_1_384 c arg2 harg2 arg7 harg7 arg9 harg9 x1 x6 x8, k_8_1_256 c arg2 harg2 arg7 harg7 arg9 harg9 x1 x6 x8, k_8_1_128 c arg2 harg2 arg7 harg7 arg9 harg9 x1 x6 x8, k_8_1_0 c arg2 harg2 arg7 harg7 arg9 harg9 x1 x6 x8, k_8_0_384 c arg2 harg2 arg7 harg7 arg9 harg9 x1 x6 x8, k_8_0_256 c arg2 harg2 arg7 harg7 arg9 harg9 x1 x6 x8, k_8_0_128 c arg2 harg2 arg7 harg7 arg9 harg9 x1 x6 x8, k_8_0_0 c arg2 harg2 arg7 harg7 arg9 harg9 x1 x6 x8, k_0_7_384 c arg2 harg2 arg9 harg9 x1 x6 x8, k_0_7_256 c arg2 harg2 arg9 harg9 x1 x6 x8, k_0_7_128 c arg2 harg2 arg9 harg9 x1 x6 x8, k_0_7_0 c arg2 harg2 arg9 harg9 x1 x6 x8, k_0_6_384 c arg2 harg2 arg9 harg9 x1 x6 x8, k_0_6_256 c arg2 harg2 arg9 harg9 x1 x6 x8, k_0_6_128 c arg2 harg2 arg9 harg9 x1 x6 x8, k_0_6_0 c arg2 harg2 arg9 harg9 x1 x6 x8, k_0_5_384 c arg2 harg2 arg9 harg9 x1 x6 x8, k_0_5_256 c arg2 harg2 arg9 harg9 x1 x6 x8, k_0_5_128 c arg2 harg2 arg9 harg9 x1 x6 x8, k_0_5_0 c arg2 harg2 arg9 harg9 x1 x6 x8, k_0_4_384 c arg2 harg2 arg9 harg9 x1 x6 x8, k_0_4_256 c arg2 harg2 arg9 harg9 x1 x6 x8, k_0_4_128 c arg2 harg2 arg9 harg9 x1 x6 x8, k_0_4_0 c arg2 harg2 arg9 harg9 x1 x6 x8, k_0_3_384 c arg2 harg2 arg9 harg9 x1 x6 x8, k_0_3_256 c arg2 harg2 arg9 harg9 x1 x6 x8, k_0_3_128 c arg2 harg2 arg9 harg9 x1 x6 x8, k_0_3_0 c arg2 harg2 arg9 harg9 x1 x6 x8, k_0_2_384 c arg2 harg2 arg7 harg7 arg9 harg9 x1 x6 x8, k_0_2_256 c arg2 harg2 arg7 harg7 arg9 harg9 x1 x6 x8, k_0_2_128 c arg2 harg2 arg7 harg7 arg9 harg9 x1 x6 x8, k_0_2_0 c arg2 harg2 arg7 harg7 arg9 harg9 x1 x6 x8, k_0_1_384 c arg2 harg2 arg7 harg7 arg9 harg9 x1 x6 x8, k_0_1_256 c arg2 harg2 arg7 harg7 arg9 harg9 x1 x6 x8, k_0_1_128 c arg2 harg2 arg7 harg7 arg9 harg9 x1 x6 x8, k_0_1_0 c arg2 harg2 arg7 harg7 arg9 harg9 x1 x6 x8, k_0_0_384 c arg2 harg2 arg7 harg7 arg9 harg9 x1 x6 x8, k_0_0_256 c arg2 harg2 arg7 harg7 arg9 harg9 x1 x6 x8, k_0_0_128 c arg2 harg2 arg7 harg7 arg9 harg9 x1 x6 x8, k_0_0_0 c arg2 harg2 arg7 harg7 arg9 harg9 x1 x6 x8, trivial⟩

/-- The stores of the values leave the block's values. -/
theorem canon_vals : View.canon (sl.HS2_16 (F := Ideal) c arg2 harg2 arg7 harg7 arg9 harg9 x1 x6 x8) = vals x1 x6 x8 := by
  funext y
  refine View.canon_apply_of_pieces (vals x1 x6 x8) _ (View.PiecesOf.mem ?_) y (View.cover_of_tiledL _ ![8, 1, 512] (by sl_kernel_rfl) y)
  exact ⟨v_8_7_0 c arg2 harg2 arg9 harg9 x1 x6 x8, v_8_6_0 c arg2 harg2 arg9 harg9 x1 x6 x8, v_8_5_0 c arg2 harg2 arg9 harg9 x1 x6 x8, v_8_4_0 c arg2 harg2 arg9 harg9 x1 x6 x8, v_8_3_0 c arg2 harg2 arg9 harg9 x1 x6 x8, v_8_2_0 c arg2 harg2 arg7 harg7 arg9 harg9 x1 x6 x8, v_8_1_0 c arg2 harg2 arg7 harg7 arg9 harg9 x1 x6 x8, v_8_0_0 c arg2 harg2 arg7 harg7 arg9 harg9 x1 x6 x8, v_0_7_0 c arg2 harg2 arg9 harg9 x1 x6 x8, v_0_6_0 c arg2 harg2 arg9 harg9 x1 x6 x8, v_0_5_0 c arg2 harg2 arg9 harg9 x1 x6 x8, v_0_4_0 c arg2 harg2 arg9 harg9 x1 x6 x8, v_0_3_0 c arg2 harg2 arg9 harg9 x1 x6 x8, v_0_2_0 c arg2 harg2 arg7 harg7 arg9 harg9 x1 x6 x8, v_0_1_0 c arg2 harg2 arg7 harg7 arg9 harg9 x1 x6 x8, v_0_0_0 c arg2 harg2 arg7 harg7 arg9 harg9 x1 x6 x8, trivial⟩

end Cert.KernelIdeal.Val

end
-- ==== Proof.MixRead.lean ====
module

public import proofs.«01_k».proof.Proof.DeltaDefs
public import proofs.«01_k».proof.Proof.MixKeys
public import proofs.«01_k».proof.Proof.MixState

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- The word of minus infinity. -/
theorem neg_inf : Ideal.ofBits FTy.f32 4286578688#32 = ⊥ := by
  simp [Ideal.ofBits, Ideal.ieee]

/-- One head's columns of a block. -/
def headCols (y : S16x8x512.Idx → EReal) (h : Fin 4) : Vec Ideal S16x8x128 .f32 := fun j =>
  y (ix3 (j 0) (j 1) ⟨128 * h.val + (j 2).val, by have := (j 2).isLt; change (j 2).val < 128 at this; omega⟩)

/-- Where a word of one head's columns lies. -/
theorem cols_idx {o : ℕ} (inb : ∀ a, (![0, 0, o] : Fin 3 → ℕ) a + S16x8x128.size a ≤ S16x8x512.size a) (h : Fin 4) (ho : o = 128 * h.val)
    (j : S16x8x128.Idx) : (Rect.unit (s := S16x8x512) ![0, 0, o] S16x8x128.size inb).idx j
      = ix3 (j 0) (j 1) ⟨128 * h.val + (j 2).val, by have := (j 2).isLt; change (j 2).val < 128 at this; omega⟩ := by
  funext a
  match a with
  | ⟨0, _⟩ => exact Fin.ext (by show 0 + 1 * (j 0).val = (j 0).val; omega)
  | ⟨1, _⟩ => exact Fin.ext (by show 0 + 1 * (j 1).val = (j 1).val; omega)
  | ⟨2, _⟩ => exact Fin.ext (by show o + 1 * (j 2).val = 128 * h.val + (j 2).val; omega)

/-- A read of head 0's keys. -/
theorem read_v4916 : sl.v4916 c a2 p2 a7 p7 a9 p9 a22 x1 x6 x8 = headCols (keys x1 x6 x8) 0 := by
  unfold sl.v4916
  rw [View.readCov_eq_canon', canon_keys]
  exact funext fun j => congrArg (keys x1 x6 x8) (cols_idx inb_S16x8x512_S16x8x128_0_0_0 0 rfl j)

/-- A read of head 0's vals. -/
theorem read_v5033 : sl.v5033 c a2 p2 a7 p7 a9 p9 a23 x1 x6 x8 = headCols (vals x1 x6 x8) 0 := by
  unfold sl.v5033
  rw [View.readCov_eq_canon', canon_vals]
  exact funext fun j => congrArg (vals x1 x6 x8) (cols_idx inb_S16x8x512_S16x8x128_0_0_0 0 rfl j)

/-- A read of head 1's keys. -/
theorem read_v4934 : sl.v4934 c a2 p2 a7 p7 a9 p9 a22 x1 x6 x8 = headCols (keys x1 x6 x8) 1 := by
  unfold sl.v4934
  rw [View.readCov_eq_canon', canon_keys]
  exact funext fun j => congrArg (keys x1 x6 x8) (cols_idx inb_S16x8x512_S16x8x128_0_0_128 1 rfl j)

/-- A read of head 1's vals. -/
theorem read_v5417 : sl.v5417 c a2 p2 a7 p7 a9 p9 a23 x1 x6 x8 = headCols (vals x1 x6 x8) 1 := by
  unfold sl.v5417
  rw [View.readCov_eq_canon', canon_vals]
  exact funext fun j => congrArg (vals x1 x6 x8) (cols_idx inb_S16x8x512_S16x8x128_0_0_128 1 rfl j)

/-- A read of head 2's keys. -/
theorem read_v4952 : sl.v4952 c a2 p2 a7 p7 a9 p9 a22 x1 x6 x8 = headCols (keys x1 x6 x8) 2 := by
  unfold sl.v4952
  rw [View.readCov_eq_canon', canon_keys]
  exact funext fun j => congrArg (keys x1 x6 x8) (cols_idx inb_S16x8x512_S16x8x128_0_0_256 2 rfl j)

/-- A read of head 2's vals. -/
theorem read_v5801 : sl.v5801 c a2 p2 a7 p7 a9 p9 a23 x1 x6 x8 = headCols (vals x1 x6 x8) 2 := by
  unfold sl.v5801
  rw [View.readCov_eq_canon', canon_vals]
  exact funext fun j => congrArg (vals x1 x6 x8) (cols_idx inb_S16x8x512_S16x8x128_0_0_256 2 rfl j)

/-- A read of head 3's keys. -/
theorem read_v4970 : sl.v4970 c a2 p2 a7 p7 a9 p9 a22 x1 x6 x8 = headCols (keys x1 x6 x8) 3 := by
  unfold sl.v4970
  rw [View.readCov_eq_canon', canon_keys]
  exact funext fun j => congrArg (keys x1 x6 x8) (cols_idx inb_S16x8x512_S16x8x128_0_0_384 3 rfl j)

/-- A read of head 3's vals. -/
theorem read_v6185 : sl.v6185 c a2 p2 a7 p7 a9 p9 a23 x1 x6 x8 = headCols (vals x1 x6 x8) 3 := by
  unfold sl.v6185
  rw [View.readCov_eq_canon', canon_vals]
  exact funext fun j => congrArg (vals x1 x6 x8) (cols_idx inb_S16x8x512_S16x8x128_0_0_384 3 rfl j)

end Cert.KernelIdeal.Val

end
-- ==== Proof.MixHeads.lean ====
module

public import proofs.«01_k».proof.Proof.MixRead

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- Head 0: the solver against the gated values. -/
theorem uv_0 (r v : Fin 128) : (k0_pay940 (sl.r_680 c a5 p5 x4) (sl.r_689 c a5 p5 a10 p10 a11 p11 x4 x9 x10) (sl.r_691 c a2 p2 a5 p5 a7 p7 a9 p9 a22 x1 x4 x6 x8) (sl.r_714 c a2 p2 a5 p5 a7 p7 a9 p9 a10 p10 a11 p11 a21 a22 x1 x4 x6 x8 x9 x10) (sl.r_720 c a2 p2 a5 p5 a7 p7 a9 p9 a10 p10 a11 p11 a21 a22 x1 x4 x6 x8 x9 x10) (sl.v5033 c a2 p2 a7 p7 a9 p9 a23 x1 x6 x8)) (ix2 r ⟨v.val, by omega⟩) = ∑ x : Fin 128, solver (fun r l => (k0_pay892 (F := Ideal) sl.v4849 sl.v4850) (ix2 r l)) (fun r l => (k0_pay923 (F := Ideal) sl.r_687 (sl.r_690 c a5 p5 a10 p10 a11 p11 x4 x9 x10) (sl.r_694 c a2 p2 a5 p5 a7 p7 a9 p9 a21 a22 x1 x4 x6 x8)) (ix2 r l)) r x * (headRow (vals x1 x6 x8) 0 x v * (sl.r_680 c a5 p5 x4) (ix2 x 0)) := by
  simp only [sl.r_691, sl.r_714, sl.r_720, read_v5033]
  pointwise [k0_pay896, k0_pay897, k0_pay927, k0_pay933, k0_pay939, k0_pay940]
  rfl

/-- Head 0: the solver against the gated, decayed keys. -/
theorem uk_0 (r v : Fin 128) : (k0_pay940 (sl.r_680 c a5 p5 x4) (sl.r_689 c a5 p5 a10 p10 a11 p11 x4 x9 x10) (sl.r_691 c a2 p2 a5 p5 a7 p7 a9 p9 a22 x1 x4 x6 x8) (sl.r_714 c a2 p2 a5 p5 a7 p7 a9 p9 a10 p10 a11 p11 a21 a22 x1 x4 x6 x8 x9 x10) (sl.r_720 c a2 p2 a5 p5 a7 p7 a9 p9 a10 p10 a11 p11 a21 a22 x1 x4 x6 x8 x9 x10) (sl.v5033 c a2 p2 a7 p7 a9 p9 a23 x1 x6 x8)) (ix2 r ⟨128 + v.val, by omega⟩) = ∑ x : Fin 128, solver (fun r l => (k0_pay892 (F := Ideal) sl.v4849 sl.v4850) (ix2 r l)) (fun r l => (k0_pay923 (F := Ideal) sl.r_687 (sl.r_690 c a5 p5 a10 p10 a11 p11 x4 x9 x10) (sl.r_694 c a2 p2 a5 p5 a7 p7 a9 p9 a21 a22 x1 x4 x6 x8)) (ix2 r l)) r x * (headRow (keys x1 x6 x8) 0 x v * (sl.r_680 c a5 p5 x4) (ix2 x 0) * Ideal.exp (sl.r_689 c a5 p5 a10 p10 a11 p11 x4 x9 x10 (ix2 x 0))) := by
  simp only [sl.r_691, sl.r_714, sl.r_720, read_v4916]
  pointwise [k0_pay896, k0_pay897, k0_pay927, k0_pay933, k0_pay939, k0_pay940]
  rfl

/-- Head 0: the matrix of the gated products. -/
theorem gram_0 (r l : Fin 128) : (k0_pay923 (F := Ideal) sl.r_687 (sl.r_690 c a5 p5 a10 p10 a11 p11 x4 x9 x10) (sl.r_694 c a2 p2 a5 p5 a7 p7 a9 p9 a21 a22 x1 x4 x6 x8)) (ix2 r l) = gram (headRow (keys x1 x6 x8) 0) (fun r => (sl.r_680 c a5 p5 x4) (ix2 r 0)) (fun r => (sl.r_682 c a5 p5 a10 p10 a11 p11 x4 x9 x10) (ix2 r 4)) r l := by
  unfold gram
  simp only [sl.r_690, sl.r_694, sl.r_691, sl.r_692, sl.r_693, sl.r_685, sl.r_686, sl.r_687, read_v4916]
  pointwise [k0_pay894, k0_pay895, k0_pay896, k0_pay897, k0_pay898, k0_pay899, k0_pay900, k0_pay923, k0_pay886]
  rw [show k0_pay891 sl.v4849 sl.v4850 k0_pay887 (8#32) k0_pay888 (ix2 r l) = _ from strict_mask r l,
    show k0_pay890 sl.v4849 sl.v4850 k0_pay887 (8#32) k0_pay888 (ix2 r l) = _ from causal_mask r l, neg_inf]
  split_ifs <;> rfl

/-- Head 0: the keys decayed to the chunk's end, transposed. -/
theorem tail_0 (d r : Fin 128) : sl.r_730 c a2 p2 a5 p5 a7 p7 a9 p9 a10 p10 a11 p11 a22 x1 x4 x6 x8 x9 x10 (ix2 d r) = headRow (keys x1 x6 x8) 0 r d * Ideal.exp ((sl.r_688 c a5 p5 a10 p10 a11 p11 x4 x9 x10) (ix2 4 r)) := by
  simp only [sl.r_730, sl.r_693, read_v4916]
  pointwise [k0_pay896, k0_pay899, k0_pay945]
  rfl

/-- Head 0: its column of the running sums. -/
theorem gate_0 (r : Fin 128) : sl.r_689 c a5 p5 a10 p10 a11 p11 x4 x9 x10 (ix2 r 0) = (sl.r_682 c a5 p5 a10 p10 a11 p11 x4 x9 x10) (ix2 r 4) := by
  simp only [sl.r_689]
  pointwise [k0_pay894]

/-- Head 1: the solver against the gated values. -/
theorem uv_1 (r v : Fin 128) : (k0_pay1021 (sl.r_680 c a5 p5 x4) (sl.r_697 c a2 p2 a5 p5 a7 p7 a9 p9 a22 x1 x4 x6 x8) (sl.r_723 c a2 p2 a5 p5 a7 p7 a9 p9 a10 p10 a11 p11 a21 a22 x1 x4 x6 x8 x9 x10) (sl.r_772 c a5 p5 a10 p10 a11 p11 x4 x9 x10) (sl.v5417 c a2 p2 a7 p7 a9 p9 a23 x1 x6 x8)) (ix2 r ⟨v.val, by omega⟩) = ∑ x : Fin 128, solver (fun r l => (k0_pay892 (F := Ideal) sl.v4849 sl.v4850) (ix2 r l)) (fun r l => (k0_pay924 (F := Ideal) sl.r_687 (sl.r_696 c a5 p5 a10 p10 a11 p11 x4 x9 x10) (sl.r_700 c a2 p2 a5 p5 a7 p7 a9 p9 a21 a22 x1 x4 x6 x8)) (ix2 r l)) r x * (headRow (vals x1 x6 x8) 1 x v * (sl.r_680 c a5 p5 x4) (ix2 x 1)) := by
  simp only [sl.r_697, sl.r_723, sl.r_772, sl.r_715, sl.r_721, read_v5417]
  pointwise [k0_pay1020, k0_pay1021, k0_pay903, k0_pay904, k0_pay928, k0_pay934, k0_pay936]
  rfl

/-- Head 1: the solver against the gated, decayed keys. -/
theorem uk_1 (r v : Fin 128) : (k0_pay1021 (sl.r_680 c a5 p5 x4) (sl.r_697 c a2 p2 a5 p5 a7 p7 a9 p9 a22 x1 x4 x6 x8) (sl.r_723 c a2 p2 a5 p5 a7 p7 a9 p9 a10 p10 a11 p11 a21 a22 x1 x4 x6 x8 x9 x10) (sl.r_772 c a5 p5 a10 p10 a11 p11 x4 x9 x10) (sl.v5417 c a2 p2 a7 p7 a9 p9 a23 x1 x6 x8)) (ix2 r ⟨128 + v.val, by omega⟩) = ∑ x : Fin 128, solver (fun r l => (k0_pay892 (F := Ideal) sl.v4849 sl.v4850) (ix2 r l)) (fun r l => (k0_pay924 (F := Ideal) sl.r_687 (sl.r_696 c a5 p5 a10 p10 a11 p11 x4 x9 x10) (sl.r_700 c a2 p2 a5 p5 a7 p7 a9 p9 a21 a22 x1 x4 x6 x8)) (ix2 r l)) r x * (headRow (keys x1 x6 x8) 1 x v * (sl.r_680 c a5 p5 x4) (ix2 x 1) * Ideal.exp (sl.r_695 c a5 p5 a10 p10 a11 p11 x4 x9 x10 (ix2 x 0))) := by
  simp only [sl.r_697, sl.r_723, sl.r_772, sl.r_715, sl.r_721, read_v4934]
  pointwise [k0_pay1020, k0_pay1021, k0_pay903, k0_pay904, k0_pay928, k0_pay934, k0_pay936]
  rfl

/-- Head 1: the matrix of the gated products. -/
theorem gram_1 (r l : Fin 128) : (k0_pay924 (F := Ideal) sl.r_687 (sl.r_696 c a5 p5 a10 p10 a11 p11 x4 x9 x10) (sl.r_700 c a2 p2 a5 p5 a7 p7 a9 p9 a21 a22 x1 x4 x6 x8)) (ix2 r l) = gram (headRow (keys x1 x6 x8) 1) (fun r => (sl.r_680 c a5 p5 x4) (ix2 r 1)) (fun r => (sl.r_682 c a5 p5 a10 p10 a11 p11 x4 x9 x10) (ix2 r 5)) r l := by
  unfold gram
  simp only [sl.r_696, sl.r_700, sl.r_685, sl.r_686, sl.r_687, read_v4934]
  pointwise [k0_pay901, k0_pay902, k0_pay903, k0_pay904, k0_pay905, k0_pay906, k0_pay907, k0_pay924, k0_pay886]
  rw [show k0_pay891 sl.v4849 sl.v4850 k0_pay887 (8#32) k0_pay888 (ix2 r l) = _ from strict_mask r l,
    show k0_pay890 sl.v4849 sl.v4850 k0_pay887 (8#32) k0_pay888 (ix2 r l) = _ from causal_mask r l, neg_inf]
  split_ifs <;> rfl

/-- Head 1: the keys decayed to the chunk's end, transposed. -/
theorem tail_1 (d r : Fin 128) : sl.r_777 c a2 p2 a5 p5 a7 p7 a9 p9 a10 p10 a11 p11 a22 x1 x4 x6 x8 x9 x10 (ix2 d r) = headRow (keys x1 x6 x8) 1 r d * Ideal.exp ((sl.r_688 c a5 p5 a10 p10 a11 p11 x4 x9 x10) (ix2 5 r)) := by
  simp only [sl.r_777, sl.r_699, read_v4934]
  pointwise [k0_pay1026, k0_pay903, k0_pay906]
  rfl

/-- Head 1: its column of the running sums. -/
theorem gate_1 (r : Fin 128) : sl.r_695 c a5 p5 a10 p10 a11 p11 x4 x9 x10 (ix2 r 0) = (sl.r_682 c a5 p5 a10 p10 a11 p11 x4 x9 x10) (ix2 r 5) := by
  simp only [sl.r_695]
  pointwise [k0_pay901]

/-- Head 2: the solver against the gated values. -/
theorem uv_2 (r v : Fin 128) : (k0_pay1106 (sl.r_680 c a5 p5 x4) (sl.r_701 c a5 p5 a10 p10 a11 p11 x4 x9 x10) (sl.r_703 c a2 p2 a5 p5 a7 p7 a9 p9 a22 x1 x4 x6 x8) (sl.r_724 c a2 p2 a5 p5 a7 p7 a9 p9 a10 p10 a11 p11 a21 a22 x1 x4 x6 x8 x9 x10) (sl.v5801 c a2 p2 a7 p7 a9 p9 a23 x1 x6 x8)) (ix2 r ⟨v.val, by omega⟩) = ∑ x : Fin 128, solver (fun r l => (k0_pay892 (F := Ideal) sl.v4849 sl.v4850) (ix2 r l)) (fun r l => (k0_pay925 (F := Ideal) sl.r_687 (sl.r_702 c a5 p5 a10 p10 a11 p11 x4 x9 x10) (sl.r_706 c a2 p2 a5 p5 a7 p7 a9 p9 a21 a22 x1 x4 x6 x8)) (ix2 r l)) r x * (headRow (vals x1 x6 x8) 2 x v * (sl.r_680 c a5 p5 x4) (ix2 x 2)) := by
  simp only [sl.r_703, sl.r_724, sl.r_716, sl.r_718, sl.r_722, read_v5801]
  pointwise [k0_pay1105, k0_pay1106, k0_pay910, k0_pay911, k0_pay929, k0_pay931, k0_pay935, k0_pay937]
  rfl

/-- Head 2: the solver against the gated, decayed keys. -/
theorem uk_2 (r v : Fin 128) : (k0_pay1106 (sl.r_680 c a5 p5 x4) (sl.r_701 c a5 p5 a10 p10 a11 p11 x4 x9 x10) (sl.r_703 c a2 p2 a5 p5 a7 p7 a9 p9 a22 x1 x4 x6 x8) (sl.r_724 c a2 p2 a5 p5 a7 p7 a9 p9 a10 p10 a11 p11 a21 a22 x1 x4 x6 x8 x9 x10) (sl.v5801 c a2 p2 a7 p7 a9 p9 a23 x1 x6 x8)) (ix2 r ⟨128 + v.val, by omega⟩) = ∑ x : Fin 128, solver (fun r l => (k0_pay892 (F := Ideal) sl.v4849 sl.v4850) (ix2 r l)) (fun r l => (k0_pay925 (F := Ideal) sl.r_687 (sl.r_702 c a5 p5 a10 p10 a11 p11 x4 x9 x10) (sl.r_706 c a2 p2 a5 p5 a7 p7 a9 p9 a21 a22 x1 x4 x6 x8)) (ix2 r l)) r x * (headRow (keys x1 x6 x8) 2 x v * (sl.r_680 c a5 p5 x4) (ix2 x 2) * Ideal.exp (sl.r_701 c a5 p5 a10 p10 a11 p11 x4 x9 x10 (ix2 x 0))) := by
  simp only [sl.r_703, sl.r_724, sl.r_716, sl.r_718, sl.r_722, read_v4952]
  pointwise [k0_pay1105, k0_pay1106, k0_pay910, k0_pay911, k0_pay929, k0_pay931, k0_pay935, k0_pay937]
  rfl

/-- Head 2: the matrix of the gated products. -/
theorem gram_2 (r l : Fin 128) : (k0_pay925 (F := Ideal) sl.r_687 (sl.r_702 c a5 p5 a10 p10 a11 p11 x4 x9 x10) (sl.r_706 c a2 p2 a5 p5 a7 p7 a9 p9 a21 a22 x1 x4 x6 x8)) (ix2 r l) = gram (headRow (keys x1 x6 x8) 2) (fun r => (sl.r_680 c a5 p5 x4) (ix2 r 2)) (fun r => (sl.r_682 c a5 p5 a10 p10 a11 p11 x4 x9 x10) (ix2 r 6)) r l := by
  unfold gram
  simp only [sl.r_702, sl.r_706, sl.r_685, sl.r_686, sl.r_687, read_v4952]
  pointwise [k0_pay908, k0_pay909, k0_pay910, k0_pay911, k0_pay912, k0_pay913, k0_pay914, k0_pay925, k0_pay886]
  rw [show k0_pay891 sl.v4849 sl.v4850 k0_pay887 (8#32) k0_pay888 (ix2 r l) = _ from strict_mask r l,
    show k0_pay890 sl.v4849 sl.v4850 k0_pay887 (8#32) k0_pay888 (ix2 r l) = _ from causal_mask r l, neg_inf]
  split_ifs <;> rfl

/-- Head 2: the keys decayed to the chunk's end, transposed. -/
theorem tail_2 (d r : Fin 128) : sl.r_828 c a2 p2 a5 p5 a7 p7 a9 p9 a10 p10 a11 p11 a22 x1 x4 x6 x8 x9 x10 (ix2 d r) = headRow (keys x1 x6 x8) 2 r d * Ideal.exp ((sl.r_688 c a5 p5 a10 p10 a11 p11 x4 x9 x10) (ix2 6 r)) := by
  simp only [sl.r_828, sl.r_705, read_v4952]
  pointwise [k0_pay1111, k0_pay910, k0_pay913]
  rfl

/-- Head 2: its column of the running sums. -/
theorem gate_2 (r : Fin 128) : sl.r_701 c a5 p5 a10 p10 a11 p11 x4 x9 x10 (ix2 r 0) = (sl.r_682 c a5 p5 a10 p10 a11 p11 x4 x9 x10) (ix2 r 6) := by
  simp only [sl.r_701]
  pointwise [k0_pay908]

/-- Head 3: the solver against the gated values. -/
theorem uv_3 (r v : Fin 128) : (k0_pay1186 (sl.r_680 c a5 p5 x4) (sl.r_710 c a2 p2 a5 p5 a7 p7 a9 p9 a22 x1 x4 x6 x8) (sl.r_725 c a2 p2 a5 p5 a7 p7 a9 p9 a10 p10 a11 p11 a21 a22 x1 x4 x6 x8 x9 x10) (sl.r_871 c a5 p5 a10 p10 a11 p11 x4 x9 x10) (sl.v6185 c a2 p2 a7 p7 a9 p9 a23 x1 x6 x8)) (ix2 r ⟨v.val, by omega⟩) = ∑ x : Fin 128, solver (fun r l => (k0_pay892 (F := Ideal) sl.v4849 sl.v4850) (ix2 r l)) (fun r l => (k0_pay926 (F := Ideal) (sl.r_680 c a5 p5 x4) sl.r_686 sl.r_687 (sl.r_708 c a5 p5 a10 p10 a11 p11 x4 x9 x10) (sl.v4970 c a2 p2 a7 p7 a9 p9 a22 x1 x6 x8) (sl.v4975 c a2 p2 a7 p7 a9 p9 a21 x1 x6 x8)) (ix2 r l)) r x * (headRow (vals x1 x6 x8) 3 x v * (sl.r_680 c a5 p5 x4) (ix2 x 3)) := by
  simp only [sl.r_710, sl.r_725, sl.r_871, sl.r_717, sl.r_719, sl.v4975, sl.HS0_64, sl.r_399, sl.r_402, sl.r_404, sl.cst_1822, sl.r_398, sl.r_397, sl.r_394, sl.r_396, sl.r_393, sl.r_386, sl.r_389, sl.r_391, sl.r_383, sl.r_384, sl.r_385, sl.r_380, sl.r_382, sl.r_374, sl.r_375, sl.r_377, sl.r_369, sl.r_372, sl.r_368, sl.r_365, sl.r_367, sl.r_359, sl.r_360, sl.r_362, sl.r_352, sl.r_353, sl.r_355, sl.r_349, sl.r_350, sl.r_351, sl.r_348, sl.r_343, sl.r_345, sl.r_59, sl.r_61, sl.r_53, sl.r_54, sl.r_56, sl.r_49, sl.r_52, sl.r_48, sl.r_45, sl.r_47, sl.r_39, sl.r_40, sl.r_42, sl.r_32, sl.r_33, sl.r_35, sl.r_30, sl.r_31, sl.r_29, sl.r_24, sl.r_26, sl.r_17, sl.r_18, sl.r_20, sl.r_16, sl.r_8, sl.r_11, sl.r_13, sl.r_10, sl.r_2, sl.r_4, sl.r, sl.r_1, sl.r_6, sl.r_7, sl.r_23, sl.r_342, read_v6185]
  pointwise [k0_pay10, k0_pay100, k0_pay101, k0_pay102, k0_pay105, k0_pay106, k0_pay107, k0_pay11, k0_pay110, k0_pay113, k0_pay114, k0_pay116, k0_pay1185, k0_pay1186, k0_pay119, k0_pay120, k0_pay122, k0_pay123, k0_pay126, k0_pay129, k0_pay13, k0_pay131, k0_pay133, k0_pay134, k0_pay16, k0_pay19, k0_pay20, k0_pay21, k0_pay23, k0_pay25, k0_pay27, k0_pay29, k0_pay30, k0_pay33, k0_pay37, k0_pay38, k0_pay39, k0_pay4, k0_pay41, k0_pay426, k0_pay427, k0_pay429, k0_pay43, k0_pay430, k0_pay432, k0_pay435, k0_pay438, k0_pay439, k0_pay44, k0_pay442, k0_pay443, k0_pay444, k0_pay445, k0_pay447, k0_pay449, k0_pay450, k0_pay453, k0_pay456, k0_pay459, k0_pay460, k0_pay462, k0_pay463, k0_pay466, k0_pay469, k0_pay47, k0_pay471, k0_pay473, k0_pay474, k0_pay477, k0_pay478, k0_pay479, k0_pay482, k0_pay485, k0_pay486, k0_pay488, k0_pay492, k0_pay493, k0_pay495, k0_pay496, k0_pay499, k0_pay5, k0_pay50, k0_pay502, k0_pay504, k0_pay506, k0_pay507, k0_pay510, k0_pay511, k0_pay512, k0_pay514, k0_pay517, k0_pay519, k0_pay521, k0_pay522, k0_pay524, k0_pay528, k0_pay529, k0_pay53, k0_pay530, k0_pay533, k0_pay534, k0_pay536, k0_pay538, k0_pay539, k0_pay542, k0_pay543, k0_pay545, k0_pay548, k0_pay55, k0_pay550, k0_pay552, k0_pay553, k0_pay556, k0_pay56, k0_pay58, k0_pay6, k0_pay61, k0_pay64, k0_pay65, k0_pay68, k0_pay69, k0_pay7, k0_pay70, k0_pay71, k0_pay73, k0_pay75, k0_pay76, k0_pay79, k0_pay82, k0_pay86, k0_pay87, k0_pay89, k0_pay90, k0_pay918, k0_pay919, k0_pay93, k0_pay930, k0_pay932, k0_pay938, k0_pay96, k0_pay98]
  rfl

/-- Head 3: the solver against the gated, decayed keys. -/
theorem uk_3 (r v : Fin 128) : (k0_pay1186 (sl.r_680 c a5 p5 x4) (sl.r_710 c a2 p2 a5 p5 a7 p7 a9 p9 a22 x1 x4 x6 x8) (sl.r_725 c a2 p2 a5 p5 a7 p7 a9 p9 a10 p10 a11 p11 a21 a22 x1 x4 x6 x8 x9 x10) (sl.r_871 c a5 p5 a10 p10 a11 p11 x4 x9 x10) (sl.v6185 c a2 p2 a7 p7 a9 p9 a23 x1 x6 x8)) (ix2 r ⟨128 + v.val, by omega⟩) = ∑ x : Fin 128, solver (fun r l => (k0_pay892 (F := Ideal) sl.v4849 sl.v4850) (ix2 r l)) (fun r l => (k0_pay926 (F := Ideal) (sl.r_680 c a5 p5 x4) sl.r_686 sl.r_687 (sl.r_708 c a5 p5 a10 p10 a11 p11 x4 x9 x10) (sl.v4970 c a2 p2 a7 p7 a9 p9 a22 x1 x6 x8) (sl.v4975 c a2 p2 a7 p7 a9 p9 a21 x1 x6 x8)) (ix2 r l)) r x * (headRow (keys x1 x6 x8) 3 x v * (sl.r_680 c a5 p5 x4) (ix2 x 3) * Ideal.exp (sl.r_707 c a5 p5 a10 p10 a11 p11 x4 x9 x10 (ix2 x 0))) := by
  simp only [sl.r_710, sl.r_725, sl.r_871, sl.r_717, sl.r_719, sl.v4975, sl.HS0_64, sl.r_399, sl.r_402, sl.r_404, sl.cst_1822, sl.r_398, sl.r_397, sl.r_394, sl.r_396, sl.r_393, sl.r_386, sl.r_389, sl.r_391, sl.r_383, sl.r_384, sl.r_385, sl.r_380, sl.r_382, sl.r_374, sl.r_375, sl.r_377, sl.r_369, sl.r_372, sl.r_368, sl.r_365, sl.r_367, sl.r_359, sl.r_360, sl.r_362, sl.r_352, sl.r_353, sl.r_355, sl.r_349, sl.r_350, sl.r_351, sl.r_348, sl.r_343, sl.r_345, sl.r_59, sl.r_61, sl.r_53, sl.r_54, sl.r_56, sl.r_49, sl.r_52, sl.r_48, sl.r_45, sl.r_47, sl.r_39, sl.r_40, sl.r_42, sl.r_32, sl.r_33, sl.r_35, sl.r_30, sl.r_31, sl.r_29, sl.r_24, sl.r_26, sl.r_17, sl.r_18, sl.r_20, sl.r_16, sl.r_8, sl.r_11, sl.r_13, sl.r_10, sl.r_2, sl.r_4, sl.r, sl.r_1, sl.r_6, sl.r_7, sl.r_23, sl.r_342, read_v4970]
  pointwise [k0_pay10, k0_pay100, k0_pay101, k0_pay102, k0_pay105, k0_pay106, k0_pay107, k0_pay11, k0_pay110, k0_pay113, k0_pay114, k0_pay116, k0_pay1185, k0_pay1186, k0_pay119, k0_pay120, k0_pay122, k0_pay123, k0_pay126, k0_pay129, k0_pay13, k0_pay131, k0_pay133, k0_pay134, k0_pay16, k0_pay19, k0_pay20, k0_pay21, k0_pay23, k0_pay25, k0_pay27, k0_pay29, k0_pay30, k0_pay33, k0_pay37, k0_pay38, k0_pay39, k0_pay4, k0_pay41, k0_pay426, k0_pay427, k0_pay429, k0_pay43, k0_pay430, k0_pay432, k0_pay435, k0_pay438, k0_pay439, k0_pay44, k0_pay442, k0_pay443, k0_pay444, k0_pay445, k0_pay447, k0_pay449, k0_pay450, k0_pay453, k0_pay456, k0_pay459, k0_pay460, k0_pay462, k0_pay463, k0_pay466, k0_pay469, k0_pay47, k0_pay471, k0_pay473, k0_pay474, k0_pay477, k0_pay478, k0_pay479, k0_pay482, k0_pay485, k0_pay486, k0_pay488, k0_pay492, k0_pay493, k0_pay495, k0_pay496, k0_pay499, k0_pay5, k0_pay50, k0_pay502, k0_pay504, k0_pay506, k0_pay507, k0_pay510, k0_pay511, k0_pay512, k0_pay514, k0_pay517, k0_pay519, k0_pay521, k0_pay522, k0_pay524, k0_pay528, k0_pay529, k0_pay53, k0_pay530, k0_pay533, k0_pay534, k0_pay536, k0_pay538, k0_pay539, k0_pay542, k0_pay543, k0_pay545, k0_pay548, k0_pay55, k0_pay550, k0_pay552, k0_pay553, k0_pay556, k0_pay56, k0_pay58, k0_pay6, k0_pay61, k0_pay64, k0_pay65, k0_pay68, k0_pay69, k0_pay7, k0_pay70, k0_pay71, k0_pay73, k0_pay75, k0_pay76, k0_pay79, k0_pay82, k0_pay86, k0_pay87, k0_pay89, k0_pay90, k0_pay918, k0_pay919, k0_pay93, k0_pay930, k0_pay932, k0_pay938, k0_pay96, k0_pay98]
  rfl

/-- Head 3: the matrix of the gated products. -/
theorem gram_3 (r l : Fin 128) : (k0_pay926 (F := Ideal) (sl.r_680 c a5 p5 x4) sl.r_686 sl.r_687 (sl.r_708 c a5 p5 a10 p10 a11 p11 x4 x9 x10) (sl.v4970 c a2 p2 a7 p7 a9 p9 a22 x1 x6 x8) (sl.v4975 c a2 p2 a7 p7 a9 p9 a21 x1 x6 x8)) (ix2 r l) = gram (headRow (keys x1 x6 x8) 3) (fun r => (sl.r_680 c a5 p5 x4) (ix2 r 3)) (fun r => (sl.r_682 c a5 p5 a10 p10 a11 p11 x4 x9 x10) (ix2 r 7)) r l := by
  unfold gram
  simp only [sl.r_708, sl.r_685, sl.r_686, sl.r_687, read_v4970]
  pointwise [k0_pay915, k0_pay916, k0_pay917, k0_pay918, k0_pay919, k0_pay920, k0_pay921, k0_pay922, k0_pay926, k0_pay886]
  rw [show k0_pay891 sl.v4849 sl.v4850 k0_pay887 (8#32) k0_pay888 (ix2 r l) = _ from strict_mask r l,
    show k0_pay890 sl.v4849 sl.v4850 k0_pay887 (8#32) k0_pay888 (ix2 r l) = _ from causal_mask r l, neg_inf]
  split_ifs <;> rfl

/-- Head 3: the keys decayed to the chunk's end, transposed. -/
theorem tail_3 (d r : Fin 128) : sl.r_876 c a2 p2 a5 p5 a7 p7 a9 p9 a10 p10 a11 p11 a22 x1 x4 x6 x8 x9 x10 (ix2 d r) = headRow (keys x1 x6 x8) 3 r d * Ideal.exp ((sl.r_688 c a5 p5 a10 p10 a11 p11 x4 x9 x10) (ix2 7 r)) := by
  simp only [sl.r_876, sl.r_712, read_v4970]
  pointwise [k0_pay1191, k0_pay918, k0_pay921]
  rfl

/-- Head 3: its column of the running sums. -/
theorem gate_3 (r : Fin 128) : sl.r_707 c a5 p5 a10 p10 a11 p11 x4 x9 x10 (ix2 r 0) = (sl.r_682 c a5 p5 a10 p10 a11 p11 x4 x9 x10) (ix2 r 7) := by
  simp only [sl.r_707]
  pointwise [k0_pay915]

end Cert.KernelIdeal.Val

end
-- ==== Proof.DeltaBlock.lean ====
module

public import proofs.«01_k».proof.Proof.DeltaMath
public import proofs.«01_k».proof.Proof.DeltaChunk

@[expose] public section

set_option maxRecDepth 16384

noncomputable section

namespace Cert.KernelIdeal.Val

open Idealize.ShloMosaic

/-- A running sum over a chunk's first rows, as a sum over all its rows. -/
theorem gsum_range (F : ℕ → EReal) (i : Fin 8) : ∑ j ∈ Finset.range (i.val + 1), F j = gsum (fun j => F j.val) i := by
  unfold gsum
  fin_cases i <;> simp [Finset.sum_range_succ, Fin.sum_univ_eight]

/-- What is left of a chunk's sum after a row. -/
theorem gsum_rest (F : ℕ → EReal) (hF : ∀ j, IsFin (F j)) (i : Fin 8) :
    (∑ j ∈ Finset.range (8 - i.val), F (i.val + j)) - F i.val = gsum (fun j => F j.val) 7 - gsum (fun j => F j.val) i := by
  choose γ hγ using hF
  unfold gsum
  simp only [hγ]
  fin_cases i <;> simp [Finset.sum_range_succ, Fin.sum_univ_eight] <;> norm_cast <;> ring

/-- A gate's running sum is a real number if the gates are. -/
theorem gsum_fin (g : Fin 8 → EReal) (hg : ∀ j, IsFin (g j)) (i : Fin 8) : IsFin (gsum g i) :=
  IsFin.sum fun j => IsFin.ite (hg j) IsFin.zero

/-- The entries of the gated products' matrix are real numbers. -/
theorem gram_fin (k : Fin 128 → Fin 128 → EReal) (be g : Fin 128 → EReal) (hk : ∀ r d, IsFin (k r d)) (hb : ∀ r, IsFin (be r)) (hg : ∀ r, IsFin (g r)) (r l : Fin 128) :
    IsFin (gram k be g r l) := by
  unfold gram
  by_cases h : r.val / 8 = l.val / 8 ∧ l.val < r.val
  · rw [if_pos h, if_pos ⟨h.1, h.2.le⟩]
    exact (IsFin.sum fun x => ((hk r x).mul (hb r)).mul (hk l x)).mul ((hg r).sub (hg l)).exp
  · rw [if_neg h]
    exact IsFin.zero

/-- The rows of one sequence among the 128. -/
abbrev rowOf (b : Fin 16) (i : Fin 8) : Fin 128 := ⟨8 * b.val + i.val, by omega⟩

/-- One sequence's part of the gated products' matrix. -/
theorem gram_amat (k : Fin 128 → Fin 128 → EReal) (be gc : Fin 128 → EReal) (g : Fin 8 → EReal) (b : Fin 16) (hgc : ∀ i, gc (rowOf b i) = gsum g i) (i j : Fin 8) :
    gram k be gc (rowOf b i) (rowOf b j) = amat (fun i d => k (rowOf b i) d) (fun i => be (rowOf b i)) g i j := by
  unfold gram amat
  rw [hgc, hgc]
  have h1 : ((rowOf b i).val / 8 = (rowOf b j).val / 8 ∧ (rowOf b j).val < (rowOf b i).val) ↔ j.val < i.val := by
    show (8 * b.val + i.val) / 8 = (8 * b.val + j.val) / 8 ∧ 8 * b.val + j.val < 8 * b.val + i.val ↔ _
    omega
  have h2 : ((rowOf b i).val / 8 = (rowOf b j).val / 8 ∧ (rowOf b j).val ≤ (rowOf b i).val) ↔ j.val ≤ i.val := by
    show (8 * b.val + i.val) / 8 = (8 * b.val + j.val) / 8 ∧ 8 * b.val + j.val ≤ 8 * b.val + i.val ↔ _
    omega
  simp only [h1, h2]

/-- What the solver makes of a column is what the sweep finds. -/
theorem solver_sweep (k : Fin 128 → Fin 128 → EReal) (be gc f : Fin 128 → EReal) (g : Fin 8 → EReal) (b : Fin 16) (hgc : ∀ i, gc (rowOf b i) = gsum g i)
    (hk : ∀ r d, IsFin (k r d)) (hb : ∀ r, IsFin (be r)) (hg : ∀ r, IsFin (gc r)) (hf : ∀ r, IsFin (f r)) (i : Fin 8) :
    ∑ x, solver (fun r l => if r = l then 1 else 0) (gram k be gc) (rowOf b i) x * f x
      = sweep (amat (fun i d => k (rowOf b i) d) (fun i => be (rowOf b i)) g) (fun i => f (rowOf b i)) 8 i := by
  refine (sweep_eq _ _ (fun i => ∑ x, solver (fun r l => if r = l then 1 else 0) (gram k be gc) (rowOf b i) x * f x) (fun i j h => if_neg h) (fun i => ?_) 8 i i.isLt).symm
  refine (solver_rows (gram k be gc) f (gram_fin k be gc hk hb hg) hf (fun r l h => if_neg h) b i).trans ?_
  refine congrArg (fun q : EReal => f (rowOf b i) - q) (Finset.sum_congr rfl fun j _ => ?_)
  exact congrArg (fun q : EReal => q * ∑ x, solver (fun r l => if r = l then 1 else 0) (gram k be gc) (rowOf b j) x * f x) (gram_amat k be gc g b hgc i j)

/-- The kernel's arrangement of one head's chunk computes the chunk. -/
theorem block_chunk (k v : Fin 128 → Fin 128 → EReal) (be gc tail : Fin 128 → EReal) (UV UK : Fin 128 → Fin 128 → EReal) (s : Fin 128 → Fin 128 → EReal) (g : Fin 8 → EReal) (b : Fin 16)
    (hUV : ∀ r c, UV r c = ∑ x, solver (fun r l => if r = l then 1 else 0) (gram k be gc) r x * (v x c * be x))
    (hUK : ∀ r c, UK r c = ∑ x, solver (fun r l => if r = l then 1 else 0) (gram k be gc) r x * (k x c * be x * Ideal.exp (gc x)))
    (hgc : ∀ i, gc (rowOf b i) = gsum g i) (ht : ∀ i, tail (rowOf b i) = gsum g 7 - gsum g i)
    (hk : ∀ r d, IsFin (k r d)) (hv : ∀ r d, IsFin (v r d)) (hb : ∀ r, IsFin (be r)) (hg : ∀ r, IsFin (gc r)) (d c : Fin 128) :
    s d c * Ideal.exp (gc (rowOf b 7)) + ∑ i, (k (rowOf b i) d * Ideal.exp (tail (rowOf b i))) * (UV (rowOf b i) c - ∑ x, UK (rowOf b i) x * s x c)
      = chunk (fun i d => k (rowOf b i) d) (fun i d => v (rowOf b i) d) (fun i => be (rowOf b i)) g s d c := by
  unfold chunk
  rw [hgc]
  refine congrArg _ (Finset.sum_congr rfl fun i _ => ?_)
  rw [ht, hUV, solver_sweep k be gc (fun x => v x c * be x) g b hgc hk hb hg (fun r => (hv r c).mul (hb r)) i]
  refine congrArg _ (congrArg _ (Finset.sum_congr rfl fun x _ => ?_))
  rw [hUK, solver_sweep k be gc (fun y => k y x * be y * Ideal.exp (gc y)) g b hgc hk hb hg (fun r => ((hk r x).mul (hb r)).mul (hg r).exp) i]
  simp only [hgc]

end Cert.KernelIdeal.Val

end
-- ==== Proof.MixMatch.lean ====
module

public import proofs.«01_k».proof.Proof.MixIn
public import proofs.«01_k».proof.Proof.MixVals
public import proofs.«01_k».proof.Proof.MixRows
public import proofs.«01_k».proof.Proof.MixHeads
public import proofs.«01_k».proof.Proof.DeltaBlock

@[expose] public section

set_option maxRecDepth 16384

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The sequence a block's row belongs to. -/
abbrev seqOf (t : Fin cfg0.N) (b : Fin 16) : Fin 128 := ⟨t.val * 16 + b.val, by have : t.val < 8 := lt_of_lt_of_eq t.isLt (show cfg0.N = 8 from N_0); omega⟩

/-- A block's rows before the convolution, from the arguments. -/
theorem ext_match (c : Dev nD) (t : Fin cfg0.N) (b : Fin 16) (p : ℕ) (k : Fin 1536) :
    extRow (iblk m c 1 t) (iblk m c 6 t) b p k = eRow (m ((c.tc : Thread nD τ).loc main_arg1)) (m ((c.tc : Thread nD τ).loc main_arg6)) (seqOf t b) p k := by
  have ht : t.val < 8 := lt_of_lt_of_eq t.isLt (show cfg0.N = 8 from N_0)
  unfold extRow eRow
  by_cases h : p < 3
  · rw [dif_pos h, dif_pos h]
    exact kept_apply m c t ⟨p, h⟩ b k (seqOf t b).isLt
  · rw [dif_neg h, dif_neg h]
    by_cases h' : p - 3 < 8
    · rw [dif_pos h', dif_pos h']
      exact qkv_apply m c t b ⟨p - 3, h'⟩ k (by show 16384 + (t.val * 16 + b.val) * 8 + (p - 3) < 17664; omega)
    · rw [dif_neg h', dif_neg h']

/-- A block's rows after the activation, from the arguments. -/
theorem act_match (c : Dev nD) (t : Fin cfg0.N) (b : Fin 16) (e : Fin 8) (s : ℕ) (k : Fin 1536) :
    actRow (iblk m c 1 t) (iblk m c 6 t) (iblk m c 8 t) b e s k
      = aRow (m ((c.tc : Thread nD τ).loc main_arg1)) (m ((c.tc : Thread nD τ).loc main_arg6)) (m ((c.tc : Thread nD τ).loc main_arg8)) (seqOf t b) s k := by
  have h : tapRow (iblk m c 1 t) (iblk m c 6 t) (iblk m c 8 t) b e s k
      = tRow (m ((c.tc : Thread nD τ).loc main_arg1)) (m ((c.tc : Thread nD τ).loc main_arg6)) (m ((c.tc : Thread nD τ).loc main_arg8)) (seqOf t b) s k := by
    unfold tapRow tRow
    simp only [ext_match, tap_apply]
  unfold actRow aRow
  rw [h]

/-- A block's keys, from the arguments. -/
theorem key_match (c : Dev nD) (t : Fin cfg0.N) (b : Fin 16) (h : ℕ) (hh : h < 4) (i : Fin 8) (d : Fin 128) :
    keys (iblk m c 1 t) (iblk m c 6 t) (iblk m c 8 t) (ix3 ⟨(8 * b.val + i.val) / 8, by omega⟩ ⟨(8 * b.val + i.val) % 8, by omega⟩ ⟨128 * h + d.val, by omega⟩)
      = kRow (m ((c.tc : Thread nD τ).loc main_arg1)) (m ((c.tc : Thread nD τ).loc main_arg6)) (m ((c.tc : Thread nD τ).loc main_arg8)) (seqOf t b) ⟨h, hh⟩ i.val d := by
  have e1 : (⟨(8 * b.val + i.val) / 8, by omega⟩ : Fin 16) = b := Fin.ext (by show (8 * b.val + i.val) / 8 = b.val; omega)
  have e2 : (⟨(8 * b.val + i.val) % 8, by omega⟩ : Fin 8) = i := Fin.ext (by show (8 * b.val + i.val) % 8 = i.val; omega)
  have e3 : 512 + (128 * h + d.val) / 128 * 128 = 512 + h * 128 := by omega
  have e4 : (⟨(128 * h + d.val) % 128, by omega⟩ : Fin 128) = d := Fin.ext (by show (128 * h + d.val) % 128 = d.val; omega)
  rw [e1, e2]
  show keyRow (iblk m c 1 t) (iblk m c 6 t) (iblk m c 8 t) b ⟨b.val % 8, _⟩ i.val (512 + (128 * h + d.val) / 128 * 128) _ ⟨(128 * h + d.val) % 128, _⟩ = _
  rw [e4]
  simp only [e3]
  unfold keyRow kRow
  simp only [act_match, Nat.add_assoc]

/-- A block's values, from the arguments. -/
theorem val_match (c : Dev nD) (t : Fin cfg0.N) (b : Fin 16) (h : ℕ) (hh : h < 4) (i : Fin 8) (d : Fin 128) :
    vals (iblk m c 1 t) (iblk m c 6 t) (iblk m c 8 t) (ix3 ⟨(8 * b.val + i.val) / 8, by omega⟩ ⟨(8 * b.val + i.val) % 8, by omega⟩ ⟨128 * h + d.val, by omega⟩)
      = vRow (m ((c.tc : Thread nD τ).loc main_arg1)) (m ((c.tc : Thread nD τ).loc main_arg6)) (m ((c.tc : Thread nD τ).loc main_arg8)) (seqOf t b) ⟨h, hh⟩ i.val d := by
  have e1 : (⟨(8 * b.val + i.val) / 8, by omega⟩ : Fin 16) = b := Fin.ext (by show (8 * b.val + i.val) / 8 = b.val; omega)
  have e2 : (⟨(8 * b.val + i.val) % 8, by omega⟩ : Fin 8) = i := Fin.ext (by show (8 * b.val + i.val) % 8 = i.val; omega)
  have e3 : 128 * h = h * 128 := Nat.mul_comm _ _
  rw [e1, e2]
  show actRow (iblk m c 1 t) (iblk m c 6 t) (iblk m c 8 t) b ⟨b.val % 8, _⟩ i.val ⟨1024 + (128 * h + d.val), _⟩ = _
  unfold vRow
  simp only [act_match, e3]

/-- A block's write strengths, from the arguments. -/
theorem beta_match (c : Dev nD) (t : Fin cfg0.N) (b : Fin 16) (h : ℕ) (hh : h < 4) (i : Fin 8) :
    sl.r_680 (F := Ideal) c (ms0_4 t) (hs0_4 t) (iblk m c 4 t) (ix2 ⟨8 * b.val + i.val, by omega⟩ ⟨h, by omega⟩)
      = bRow (m ((c.tc : Thread nD τ).loc main_arg4)) (seqOf t b) ⟨h, hh⟩ i := by
  have ht : t.val < 8 := lt_of_lt_of_eq t.isLt (show cfg0.N = 8 from N_0)
  unfold sl.r_680
  simp only [View.readAt_eq_ld, Memref.IsWhole.read_unread]
  pointwise [k0_pay875, k0_pay874]
  have e := ba_apply m c t b i ⟨h, by omega⟩ (by omega)
  unfold bRow baRow
  exact congrArg Ideal.logistic (e.trans (congrArg (fun q => m ((c.tc : Thread nD τ).loc main_arg4) (ix2 q _)) (Fin.ext (Nat.add_assoc _ _ _))))

/-- A block's log decays, from the arguments. -/
theorem gate_match (c : Dev nD) (t : Fin cfg0.N) (b : Fin 16) (h : ℕ) (hh : h < 4) (i : Fin 8) :
    sl.r_681 (F := Ideal) c (ms0_4 t) (hs0_4 t) (ms0_9 t) (hs0_9 t) (ms0_10 t) (hs0_10 t) (iblk m c 4 t) (iblk m c 9 t) (iblk m c 10 t) (ix2 ⟨8 * b.val + i.val, by omega⟩ ⟨4 + h, by omega⟩)
      = gRow (m ((c.tc : Thread nD τ).loc main_arg4)) (m ((c.tc : Thread nD τ).loc main_arg9)) (m ((c.tc : Thread nD τ).loc main_arg10)) (seqOf t b) ⟨h, hh⟩ i := by
  have ht : t.val < 8 := lt_of_lt_of_eq t.isLt (show cfg0.N = 8 from N_0)
  unfold sl.r_681
  simp only [View.readAt_eq_ld, Memref.IsWhole.read_unread]
  pointwise [k0_pay876, k0_pay874]
  have e := ba_apply m c t b i ⟨4 + h, by omega⟩ (by omega)
  have e9 := decay_apply m c t ⟨h, hh⟩
  have e10 := offset_apply m c t ⟨h, hh⟩
  unfold gRow baRow
  exact congrArg₂ (fun p q : EReal => (0 - Ideal.exp p) * (max q 0 + Ideal.log1p (Ideal.exp (0 - FloatOps.absf (F := Ideal) (φ := .f32) q)))) e9
    (congrArg₂ (fun p q : EReal => p + q) (e.trans (congrArg (fun q => m ((c.tc : Thread nD τ).loc main_arg4) (ix2 q _)) (Fin.ext (Nat.add_assoc _ _ _)))) e10)

end Cert.KernelIdeal.Val

end
-- ==== Proof.MixFinite.lean ====
module

public import proofs.«01_k».proof.Proof.MixVals
public import proofs.«01_k».proof.Proof.DeltaMath
public import Idealize.ShloMosaic.Lib.Pointwise

@[expose] public section

set_option maxRecDepth 16384

noncomputable section

namespace Cert.KernelIdeal.Val

open Idealize.ShloMosaic Idealize.ShloMosaic.Tactic
open Cert.ReferenceIdeal

/-- The logistic function of a real number is real. -/
theorem IsFin.logistic {x : EReal} (hx : IsFin x) : IsFin (Ideal.logistic x) := by
  obtain ⟨a, rfl⟩ := hx; exact ⟨_, Ideal.logistic_coe a⟩

/-- The small word added to a length is a positive real number. -/
theorem eps_pos : ∃ r : ℝ, 0 < r ∧ Ideal.ofBits .f32 897988541#32 = (r : EReal) := by
  simp [Ideal.ofBits, Ideal.ieee]
  exact ⟨8796093 * (2 ^ 43)⁻¹, by norm_num, (EReal.coe_mul _ _).symm⟩

/-- The reciprocal root of a sum of squares and a positive number is real. -/
theorem IsFin.rsqrt_sum {n : ℕ} {f : Fin n → EReal} (hf : ∀ i, IsFin (f i)) :
    IsFin (Ideal.rsqrt ((∑ i, f i * f i) + Ideal.ofBits .f32 897988541#32)) := by
  choose g hg using hf
  obtain ⟨e, he, h⟩ := eps_pos
  have hs : (∑ i, f i * f i) + Ideal.ofBits .f32 897988541#32 = (((∑ i, g i * g i) + e : ℝ) : EReal) := by
    rw [h, EReal.coe_add, ← coe_sum]
    exact congrArg (· + _) (Finset.sum_congr rfl fun i _ => by rw [hg i, EReal.coe_mul])
  have h0 : 0 < (∑ i, g i * g i) + e := add_pos_of_nonneg_of_pos (Finset.sum_nonneg fun i _ => mul_self_nonneg _) he
  rw [hs, Ideal.rsqrt_coe, if_neg (not_lt.2 h0.le), if_neg h0.ne']
  exact ⟨_, rfl⟩

/-- The softplus's tail is real at a real number. -/
theorem IsFin.softplus {x : EReal} (hx : IsFin x) : IsFin (Ideal.log1p (Ideal.exp (0 - FloatOps.absf (F := Ideal) (φ := .f32) x))) := by
  obtain ⟨a, rfl⟩ := hx
  have h1 : FloatOps.absf (F := Ideal) (φ := .f32) (a : EReal) = ((|a| : ℝ) : EReal) := by
    show Max.max (a : EReal) (-(a : EReal)) = _
    rw [← EReal.coe_neg]
    exact (EReal.coe_strictMono.monotone.map_max (a := a) (b := -a)).symm
  rw [h1]
  have h2 : (0 : EReal) - ((|a| : ℝ) : EReal) = ((-|a| : ℝ) : EReal) := by rw [zero_sub, EReal.coe_neg]
  rw [h2]
  have h3 : Ideal.exp ((-|a| : ℝ) : EReal) = ((Real.exp (-|a|) : ℝ) : EReal) := rfl
  rw [h3]
  unfold Ideal.log1p
  have h4 : (1 : EReal) + ((Real.exp (-|a|) : ℝ) : EReal) = ((1 + Real.exp (-|a|) : ℝ) : EReal) := by rw [EReal.coe_add, EReal.coe_one]
  rw [h4, Ideal.log_coe, if_neg (not_le.2 (by positivity))]
  exact ⟨_, rfl⟩

variable (x1 : Vec Ideal S17664x1536 .f32) (x4 : Vec Ideal S17664x128 .f32) (x6 : Vec Ideal S1x128x3x1536 .f32) (x8 : Vec Ideal S1x4x1536 .f32) (x9 x10 : Vec Ideal S1x4 .f32)

/-- The rows before the convolution are real. -/
theorem eRow_fin (h1 : ∀ i, IsFin (x1 i)) (h6 : ∀ i, IsFin (x6 i)) (B : Fin 128) (p : ℕ) (k : Fin 1536) : IsFin (eRow x1 x6 B p k) := by
  unfold eRow
  split_ifs
  exacts [h6 _, h1 _, IsFin.zero]

/-- The rows after the activation are real. -/
theorem aRow_fin (h1 : ∀ i, IsFin (x1 i)) (h6 : ∀ i, IsFin (x6 i)) (h8 : ∀ i, IsFin (x8 i)) (B : Fin 128) (t : ℕ) (k : Fin 1536) : IsFin (aRow x1 x6 x8 B t k) := by
  have e := fun p => eRow_fin x1 x6 h1 h6 B p k
  have ht : IsFin (tRow x1 x6 x8 B t k) := ((((e _).mul (h8 _)).add ((e _).mul (h8 _))).add ((e _).mul (h8 _))).add ((e _).mul (h8 _))
  exact ht.mul ht.logistic

/-- The keys are real. -/
theorem kRow_fin (h1 : ∀ i, IsFin (x1 i)) (h6 : ∀ i, IsFin (x6 i)) (h8 : ∀ i, IsFin (x8 i)) (B : Fin 128) (h : Fin 4) (t : ℕ) (d : Fin 128) : IsFin (kRow x1 x6 x8 B h t d) :=
  (aRow_fin x1 x6 x8 h1 h6 h8 B t _).mul (IsFin.rsqrt_sum fun x => aRow_fin x1 x6 x8 h1 h6 h8 B t _)

/-- The values are real. -/
theorem vRow_fin (h1 : ∀ i, IsFin (x1 i)) (h6 : ∀ i, IsFin (x6 i)) (h8 : ∀ i, IsFin (x8 i)) (B : Fin 128) (h : Fin 4) (t : ℕ) (d : Fin 128) : IsFin (vRow x1 x6 x8 B h t d) :=
  aRow_fin x1 x6 x8 h1 h6 h8 B t _

/-- The write strengths are real. -/
theorem bRow_fin (h4 : ∀ i, IsFin (x4 i)) (B : Fin 128) (h : Fin 4) (t : Fin 8) : IsFin (bRow x4 B h t) := IsFin.logistic (h4 _)

/-- The log decays are real. -/
theorem gRow_fin (h4 : ∀ i, IsFin (x4 i)) (h9 : ∀ i, IsFin (x9 i)) (h10 : ∀ i, IsFin (x10 i)) (B : Fin 128) (h : Fin 4) (t : Fin 8) : IsFin (gRow x4 x9 x10 B h t) :=
  (IsFin.zero.sub (h9 _).exp).mul ((((h4 _).add (h10 _)).max IsFin.zero).add (((h4 _).add (h10 _)).softplus))

end Cert.KernelIdeal.Val

end
-- ==== Proof.MixCat.lean ====
module

public import proofs.«01_k».proof.Proof.MixState

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

/-- Row `0 + i` of sixteen pieces under each other is row `i` of piece 0. -/
theorem cat_0 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨i.val, by omega⟩ v) = p0 (ix2 i v) := by
  refine concatenate_apply_piece 0 _ h _ 0 (by simp) S8x128 p0 rfl rfl 0 (by rfl) (ix2 i v) (fun a ha => ?_) (Nat.zero_add _)
  match a, ha with
  | ⟨0, _⟩, ha => exact absurd rfl ha
  | ⟨1, _⟩, _ => rfl

/-- Row `8 + i` of sixteen pieces under each other is row `i` of piece 1. -/
theorem cat_1 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨8 + i.val, by omega⟩ v) = p1 (ix2 i v) := by
  refine concatenate_apply_piece 0 _ h _ 1 (by simp) S8x128 p1 rfl rfl 8 (by rfl) (ix2 i v) (fun a ha => ?_) rfl
  match a, ha with
  | ⟨0, _⟩, ha => exact absurd rfl ha
  | ⟨1, _⟩, _ => rfl

/-- Row `16 + i` of sixteen pieces under each other is row `i` of piece 2. -/
theorem cat_2 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨16 + i.val, by omega⟩ v) = p2 (ix2 i v) := by
  refine concatenate_apply_piece 0 _ h _ 2 (by simp) S8x128 p2 rfl rfl 16 (by rfl) (ix2 i v) (fun a ha => ?_) rfl
  match a, ha with
  | ⟨0, _⟩, ha => exact absurd rfl ha
  | ⟨1, _⟩, _ => rfl

/-- Row `24 + i` of sixteen pieces under each other is row `i` of piece 3. -/
theorem cat_3 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨24 + i.val, by omega⟩ v) = p3 (ix2 i v) := by
  refine concatenate_apply_piece 0 _ h _ 3 (by simp) S8x128 p3 rfl rfl 24 (by rfl) (ix2 i v) (fun a ha => ?_) rfl
  match a, ha with
  | ⟨0, _⟩, ha => exact absurd rfl ha
  | ⟨1, _⟩, _ => rfl

/-- Row `32 + i` of sixteen pieces under each other is row `i` of piece 4. -/
theorem cat_4 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨32 + i.val, by omega⟩ v) = p4 (ix2 i v) := by
  refine concatenate_apply_piece 0 _ h _ 4 (by simp) S8x128 p4 rfl rfl 32 (by rfl) (ix2 i v) (fun a ha => ?_) rfl
  match a, ha with
  | ⟨0, _⟩, ha => exact absurd rfl ha
  | ⟨1, _⟩, _ => rfl

/-- Row `40 + i` of sixteen pieces under each other is row `i` of piece 5. -/
theorem cat_5 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨40 + i.val, by omega⟩ v) = p5 (ix2 i v) := by
  refine concatenate_apply_piece 0 _ h _ 5 (by simp) S8x128 p5 rfl rfl 40 (by rfl) (ix2 i v) (fun a ha => ?_) rfl
  match a, ha with
  | ⟨0, _⟩, ha => exact absurd rfl ha
  | ⟨1, _⟩, _ => rfl

/-- Row `48 + i` of sixteen pieces under each other is row `i` of piece 6. -/
theorem cat_6 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨48 + i.val, by omega⟩ v) = p6 (ix2 i v) := by
  refine concatenate_apply_piece 0 _ h _ 6 (by simp) S8x128 p6 rfl rfl 48 (by rfl) (ix2 i v) (fun a ha => ?_) rfl
  match a, ha with
  | ⟨0, _⟩, ha => exact absurd rfl ha
  | ⟨1, _⟩, _ => rfl

/-- Row `56 + i` of sixteen pieces under each other is row `i` of piece 7. -/
theorem cat_7 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨56 + i.val, by omega⟩ v) = p7 (ix2 i v) := by
  refine concatenate_apply_piece 0 _ h _ 7 (by simp) S8x128 p7 rfl rfl 56 (by rfl) (ix2 i v) (fun a ha => ?_) rfl
  match a, ha with
  | ⟨0, _⟩, ha => exact absurd rfl ha
  | ⟨1, _⟩, _ => rfl

/-- Row `64 + i` of sixteen pieces under each other is row `i` of piece 8. -/
theorem cat_8 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨64 + i.val, by omega⟩ v) = p8 (ix2 i v) := by
  refine concatenate_apply_piece 0 _ h _ 8 (by simp) S8x128 p8 rfl rfl 64 (by rfl) (ix2 i v) (fun a ha => ?_) rfl
  match a, ha with
  | ⟨0, _⟩, ha => exact absurd rfl ha
  | ⟨1, _⟩, _ => rfl

/-- Row `72 + i` of sixteen pieces under each other is row `i` of piece 9. -/
theorem cat_9 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨72 + i.val, by omega⟩ v) = p9 (ix2 i v) := by
  refine concatenate_apply_piece 0 _ h _ 9 (by simp) S8x128 p9 rfl rfl 72 (by rfl) (ix2 i v) (fun a ha => ?_) rfl
  match a, ha with
  | ⟨0, _⟩, ha => exact absurd rfl ha
  | ⟨1, _⟩, _ => rfl

/-- Row `80 + i` of sixteen pieces under each other is row `i` of piece 10. -/
theorem cat_10 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨80 + i.val, by omega⟩ v) = p10 (ix2 i v) := by
  refine concatenate_apply_piece 0 _ h _ 10 (by simp) S8x128 p10 rfl rfl 80 (by rfl) (ix2 i v) (fun a ha => ?_) rfl
  match a, ha with
  | ⟨0, _⟩, ha => exact absurd rfl ha
  | ⟨1, _⟩, _ => rfl

/-- Row `88 + i` of sixteen pieces under each other is row `i` of piece 11. -/
theorem cat_11 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨88 + i.val, by omega⟩ v) = p11 (ix2 i v) := by
  refine concatenate_apply_piece 0 _ h _ 11 (by simp) S8x128 p11 rfl rfl 88 (by rfl) (ix2 i v) (fun a ha => ?_) rfl
  match a, ha with
  | ⟨0, _⟩, ha => exact absurd rfl ha
  | ⟨1, _⟩, _ => rfl

/-- Row `96 + i` of sixteen pieces under each other is row `i` of piece 12. -/
theorem cat_12 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨96 + i.val, by omega⟩ v) = p12 (ix2 i v) := by
  refine concatenate_apply_piece 0 _ h _ 12 (by simp) S8x128 p12 rfl rfl 96 (by rfl) (ix2 i v) (fun a ha => ?_) rfl
  match a, ha with
  | ⟨0, _⟩, ha => exact absurd rfl ha
  | ⟨1, _⟩, _ => rfl

/-- Row `104 + i` of sixteen pieces under each other is row `i` of piece 13. -/
theorem cat_13 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨104 + i.val, by omega⟩ v) = p13 (ix2 i v) := by
  refine concatenate_apply_piece 0 _ h _ 13 (by simp) S8x128 p13 rfl rfl 104 (by rfl) (ix2 i v) (fun a ha => ?_) rfl
  match a, ha with
  | ⟨0, _⟩, ha => exact absurd rfl ha
  | ⟨1, _⟩, _ => rfl

/-- Row `112 + i` of sixteen pieces under each other is row `i` of piece 14. -/
theorem cat_14 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨112 + i.val, by omega⟩ v) = p14 (ix2 i v) := by
  refine concatenate_apply_piece 0 _ h _ 14 (by simp) S8x128 p14 rfl rfl 112 (by rfl) (ix2 i v) (fun a ha => ?_) rfl
  match a, ha with
  | ⟨0, _⟩, ha => exact absurd rfl ha
  | ⟨1, _⟩, _ => rfl

/-- Row `120 + i` of sixteen pieces under each other is row `i` of piece 15. -/
theorem cat_15 (p0 p1 p2 p3 p4 p5 p6 p7 p8 p9 p10 p11 p12 p13 p14 p15 : FVec Ideal S8x128 .f32) (h) (i : Fin 8) (v : Fin 128) :
    concatenate S128x128 0 [⟨S8x128, p0⟩, ⟨S8x128, p1⟩, ⟨S8x128, p2⟩, ⟨S8x128, p3⟩, ⟨S8x128, p4⟩, ⟨S8x128, p5⟩, ⟨S8x128, p6⟩, ⟨S8x128, p7⟩, ⟨S8x128, p8⟩, ⟨S8x128, p9⟩, ⟨S8x128, p10⟩, ⟨S8x128, p11⟩, ⟨S8x128, p12⟩, ⟨S8x128, p13⟩, ⟨S8x128, p14⟩, ⟨S8x128, p15⟩] h (ix2 ⟨120 + i.val, by omega⟩ v) = p15 (ix2 i v) := by
  refine concatenate_apply_piece 0 _ h _ 15 (by simp) S8x128 p15 rfl rfl 120 (by rfl) (ix2 i v) (fun a ha => ?_) rfl
  match a, ha with
  | ⟨0, _⟩, ha => exact absurd rfl ha
  | ⟨1, _⟩, _ => rfl

/-- What holds of each of the sixteen sequences holds of all. -/
theorem fin16 {P : Fin 16 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) : ∀ b, P b := fun b =>
  match b with
  | ⟨0, _⟩ => h0
  | ⟨1, _⟩ => h1
  | ⟨2, _⟩ => h2
  | ⟨3, _⟩ => h3
  | ⟨4, _⟩ => h4
  | ⟨5, _⟩ => h5
  | ⟨6, _⟩ => h6
  | ⟨7, _⟩ => h7
  | ⟨8, _⟩ => h8
  | ⟨9, _⟩ => h9
  | ⟨10, _⟩ => h10
  | ⟨11, _⟩ => h11
  | ⟨12, _⟩ => h12
  | ⟨13, _⟩ => h13
  | ⟨14, _⟩ => h14
  | ⟨15, _⟩ => h15
  | ⟨k + 16, hk⟩ => absurd hk (by omega)

/-- The rows of the first sequence. -/
theorem row0 (i : Fin 8) (h) : (⟨8 * (0 : Fin 16).val + i.val, h⟩ : Fin 128) = ⟨i.val, by omega⟩ :=
  Fin.ext (Nat.zero_add _)

end Cert.KernelIdeal.Val

end
-- ==== Proof.MixSolved1.lean ====
module

public import proofs.«01_k».proof.Proof.MixCat

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- The solved rows of one sequence's head 0, less what they read of the old state. -/
theorem solved_0 (b : Fin 16) (i : Fin 8) (v : Fin 128) :
    sl.r_762 c a2 p2 a5 p5 a6 p6 a7 p7 a9 p9 a10 p10 a11 p11 a18 a21 a22 a23 x1 x4 x5 x6 x8 x9 x10 (ix2 ⟨8 * b.val + i.val, by omega⟩ v)
      = (k0_pay940 (sl.r_680 c a5 p5 x4) (sl.r_689 c a5 p5 a10 p10 a11 p11 x4 x9 x10) (sl.r_691 c a2 p2 a5 p5 a7 p7 a9 p9 a22 x1 x4 x6 x8) (sl.r_714 c a2 p2 a5 p5 a7 p7 a9 p9 a10 p10 a11 p11 a21 a22 x1 x4 x6 x8 x9 x10) (sl.r_720 c a2 p2 a5 p5 a7 p7 a9 p9 a10 p10 a11 p11 a21 a22 x1 x4 x6 x8 x9 x10) (sl.v5033 c a2 p2 a7 p7 a9 p9 a23 x1 x6 x8)) (ix2 ⟨8 * b.val + i.val, by omega⟩ ⟨v.val, by omega⟩) - ∑ x : Fin 128, (k0_pay940 (sl.r_680 c a5 p5 x4) (sl.r_689 c a5 p5 a10 p10 a11 p11 x4 x9 x10) (sl.r_691 c a2 p2 a5 p5 a7 p7 a9 p9 a22 x1 x4 x6 x8) (sl.r_714 c a2 p2 a5 p5 a7 p7 a9 p9 a10 p10 a11 p11 a21 a22 x1 x4 x6 x8 x9 x10) (sl.r_720 c a2 p2 a5 p5 a7 p7 a9 p9 a10 p10 a11 p11 a21 a22 x1 x4 x6 x8 x9 x10) (sl.v5033 c a2 p2 a7 p7 a9 p9 a23 x1 x6 x8)) (ix2 ⟨8 * b.val + i.val, by omega⟩ ⟨128 + x.val, by omega⟩) * headOf x5 b 0 (ix5 0 0 0 x v) := by
  unfold sl.r_762 k0_pay993
  refine congrArg₂ (fun p q : EReal => p - q) ?_ ?_
  · simp only [sl.r_762, sl.r_726, sl.r_727, sl.r_729, sl.r_732, sl.r_734, sl.r_736, sl.r_738, sl.r_742, sl.r_744, sl.r_746, sl.r_748, sl.r_750, sl.r_753, sl.r_755, sl.r_757, sl.r_759, sl.r_761, sl.r_752, sl.r_740, sl.r_741, sl.cst_3309, sl.r_731]
    pointwise [k0_pay939, k0_pay941, k0_pay942, k0_pay944, k0_pay946, k0_pay947, k0_pay948, k0_pay950, k0_pay951, k0_pay953, k0_pay954, k0_pay956, k0_pay957, k0_pay959, k0_pay960, k0_pay961, k0_pay962, k0_pay964, k0_pay965, k0_pay967, k0_pay968, k0_pay970, k0_pay971, k0_pay973, k0_pay974, k0_pay976, k0_pay977, k0_pay978, k0_pay980, k0_pay981, k0_pay983, k0_pay984, k0_pay986, k0_pay987, k0_pay989, k0_pay990, k0_pay991, k0_pay992, k0_pay993]
    try rfl
  · revert b
    refine fin16 ?_ ((cat_1 _ _ _ _ _ _ _ _ _ _ _ _ _ _ _ _ _ i v).trans ?_) ((cat_2 _ _ _ _ _ _ _ _ _ _ _ _ _ _ _ _ _ i v).trans ?_) ((cat_3 _ _ _ _ _ _ _ _ _ _ _ _ _ _ _ _ _ i v).trans ?_) ((cat_4 _ _ _ _ _ _ _ _ _ _ _ _ _ _ _ _ _ i v).trans ?_) ((cat_5 _ _ _ _ _ _ _ _ _ _ _ _ _ _ _ _ _ i v).trans ?_) ((cat_6 _ _ _ _ _ _ _ _ _ _ _ _ _ _ _ _ _ i v).trans ?_) ((cat_7 _ _ _ _ _ _ _ _ _ _ _ _ _ _ _ _ _ i v).trans ?_) ((cat_8 _ _ _ _ _ _ _ _ _ _ _ _ _ _ _ _ _ i v).trans ?_) ((cat_9 _ _ _ _ _ _ _ _ _ _ _ _ _ _ _ _ _ i v).trans ?_) ((cat_10 _ _ _ _ _ _ _ _ _ _ _ _ _ _ _ _ _ i v).trans ?_) ((cat_11 _ _ _ _ _ _ _ _ _ _ _ _ _ _ _ _ _ i v).trans ?_) ((cat_12 _ _ _ _ _ _ _ _ _ _ _ _ _ _ _ _ _ i v).trans ?_) ((cat_13 _ _ _ _ _ _ _ _ _ _ _ _ _ _ _ _ _ i v).trans ?_) ((cat_14 _ _ _ _ _ _ _ _ _ _ _ _ _ _ _ _ _ i v).trans ?_) ((cat_15 _ _ _ _ _ _ _ _ _ _ _ _ _ _ _ _ _ i v).trans ?_)
    on_goal 1 => (simp only [row0 i]; refine (cat_0 _ _ _ _ _ _ _ _ _ _ _ _ _ _ _ _ _ i v).trans ?_)
    all_goals
      simp only [sl.r_762, sl.r_726, sl.r_727, sl.r_729, sl.r_732, sl.r_734, sl.r_736, sl.r_738, sl.r_742, sl.r_744, sl.r_746, sl.r_748, sl.r_750, sl.r_753, sl.r_755, sl.r_757, sl.r_759, sl.r_761, sl.r_752, sl.r_740, sl.r_741, sl.cst_3309, sl.r_731, read_v5079, read_v5135, read_v5151, read_v5119, read_v5143, read_v5071, read_v5063, read_v5055, read_v5175, read_v5087, read_v5127, read_v5167, read_v5103, read_v5111, read_v5159, read_v5095]
      pointwise [k0_pay939, k0_pay941, k0_pay942, k0_pay944, k0_pay946, k0_pay947, k0_pay948, k0_pay950, k0_pay951, k0_pay953, k0_pay954, k0_pay956, k0_pay957, k0_pay959, k0_pay960, k0_pay961, k0_pay962, k0_pay964, k0_pay965, k0_pay967, k0_pay968, k0_pay970, k0_pay971, k0_pay973, k0_pay974, k0_pay976, k0_pay977, k0_pay978, k0_pay980, k0_pay981, k0_pay983, k0_pay984, k0_pay986, k0_pay987, k0_pay989, k0_pay990, k0_pay991, k0_pay992, k0_pay993]
      try rfl

end Cert.KernelIdeal.Val

end
-- ==== Proof.MixSolved2.lean ====
module

public import proofs.«01_k».proof.Proof.MixCat

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- The solved rows of one sequence's head 1, less what they read of the old state. -/
theorem solved_1 (b : Fin 16) (i : Fin 8) (v : Fin 128) :
    sl.r_812 c a2 p2 a5 p5 a6 p6 a7 p7 a9 p9 a10 p10 a11 p11 a18 a21 a22 a23 x1 x4 x5 x6 x8 x9 x10 (ix2 ⟨8 * b.val + i.val, by omega⟩ v)
      = (k0_pay1021 (sl.r_680 c a5 p5 x4) (sl.r_697 c a2 p2 a5 p5 a7 p7 a9 p9 a22 x1 x4 x6 x8) (sl.r_723 c a2 p2 a5 p5 a7 p7 a9 p9 a10 p10 a11 p11 a21 a22 x1 x4 x6 x8 x9 x10) (sl.r_772 c a5 p5 a10 p10 a11 p11 x4 x9 x10) (sl.v5417 c a2 p2 a7 p7 a9 p9 a23 x1 x6 x8)) (ix2 ⟨8 * b.val + i.val, by omega⟩ ⟨v.val, by omega⟩) - ∑ x : Fin 128, (k0_pay1021 (sl.r_680 c a5 p5 x4) (sl.r_697 c a2 p2 a5 p5 a7 p7 a9 p9 a22 x1 x4 x6 x8) (sl.r_723 c a2 p2 a5 p5 a7 p7 a9 p9 a10 p10 a11 p11 a21 a22 x1 x4 x6 x8 x9 x10) (sl.r_772 c a5 p5 a10 p10 a11 p11 x4 x9 x10) (sl.v5417 c a2 p2 a7 p7 a9 p9 a23 x1 x6 x8)) (ix2 ⟨8 * b.val + i.val, by omega⟩ ⟨128 + x.val, by omega⟩) * headOf x5 b 1 (ix5 0 0 0 x v) := by
  unfold sl.r_812 k0_pay1077
  refine congrArg₂ (fun p q : EReal => p - q) ?_ ?_
  · simp only [sl.r_812, sl.r_773, sl.r_778, sl.r_780, sl.r_784, sl.r_786, sl.r_788, sl.r_790, sl.r_792, sl.r_794, sl.r_796, sl.r_798, sl.r_800, sl.r_803, sl.r_805, sl.r_807, sl.r_809, sl.r_811, sl.r_774, sl.r_776, sl.r_802, sl.r_782, sl.r_783]
    pointwise [k0_pay1022, k0_pay1023, k0_pay1025, k0_pay1027, k0_pay1028, k0_pay1030, k0_pay1031, k0_pay1033, k0_pay1034, k0_pay1035, k0_pay1036, k0_pay1038, k0_pay1039, k0_pay1041, k0_pay1042, k0_pay1044, k0_pay1045, k0_pay1047, k0_pay1048, k0_pay1050, k0_pay1051, k0_pay1053, k0_pay1054, k0_pay1056, k0_pay1057, k0_pay1059, k0_pay1060, k0_pay1062, k0_pay1063, k0_pay1064, k0_pay1066, k0_pay1067, k0_pay1069, k0_pay1070, k0_pay1072, k0_pay1073, k0_pay1075, k0_pay1076, k0_pay1077]
    try rfl
  · revert b
    refine fin16 ?_ ((cat_1 _ _ _ _ _ _ _ _ _ _ _ _ _ _ _ _ _ i v).trans ?_) ((cat_2 _ _ _ _ _ _ _ _ _ _ _ _ _ _ _ _ _ i v).trans ?_) ((cat_3 _ _ _ _ _ _ _ _ _ _ _ _ _ _ _ _ _ i v).trans ?_) ((cat_4 _ _ _ _ _ _ _ _ _ _ _ _ _ _ _ _ _ i v).trans ?_) ((cat_5 _ _ _ _ _ _ _ _ _ _ _ _ _ _ _ _ _ i v).trans ?_) ((cat_6 _ _ _ _ _ _ _ _ _ _ _ _ _ _ _ _ _ i v).trans ?_) ((cat_7 _ _ _ _ _ _ _ _ _ _ _ _ _ _ _ _ _ i v).trans ?_) ((cat_8 _ _ _ _ _ _ _ _ _ _ _ _ _ _ _ _ _ i v).trans ?_) ((cat_9 _ _ _ _ _ _ _ _ _ _ _ _ _ _ _ _ _ i v).trans ?_) ((cat_10 _ _ _ _ _ _ _ _ _ _ _ _ _ _ _ _ _ i v).trans ?_) ((cat_11 _ _ _ _ _ _ _ _ _ _ _ _ _ _ _ _ _ i v).trans ?_) ((cat_12 _ _ _ _ _ _ _ _ _ _ _ _ _ _ _ _ _ i v).trans ?_) ((cat_13 _ _ _ _ _ _ _ _ _ _ _ _ _ _ _ _ _ i v).trans ?_) ((cat_14 _ _ _ _ _ _ _ _ _ _ _ _ _ _ _ _ _ i v).trans ?_) ((cat_15 _ _ _ _ _ _ _ _ _ _ _ _ _ _ _ _ _ i v).trans ?_)
    on_goal 1 => (simp only [row0 i]; refine (cat_0 _ _ _ _ _ _ _ _ _ _ _ _ _ _ _ _ _ i v).trans ?_)
    all_goals
      simp only [sl.r_812, sl.r_773, sl.r_778, sl.r_780, sl.r_784, sl.r_786, sl.r_788, sl.r_790, sl.r_792, sl.r_794, sl.r_796, sl.r_798, sl.r_800, sl.r_803, sl.r_805, sl.r_807, sl.r_809, sl.r_811, sl.r_774, sl.r_776, sl.r_802, sl.r_782, sl.r_783, read_v5487, read_v5527, read_v5455, read_v5463, read_v5471, read_v5503, read_v5559, read_v5535, read_v5511, read_v5495, read_v5479, read_v5551, read_v5447, read_v5543, read_v5439, read_v5519]
      pointwise [k0_pay1022, k0_pay1023, k0_pay1025, k0_pay1027, k0_pay1028, k0_pay1030, k0_pay1031, k0_pay1033, k0_pay1034, k0_pay1035, k0_pay1036, k0_pay1038, k0_pay1039, k0_pay1041, k0_pay1042, k0_pay1044, k0_pay1045, k0_pay1047, k0_pay1048, k0_pay1050, k0_pay1051, k0_pay1053, k0_pay1054, k0_pay1056, k0_pay1057, k0_pay1059, k0_pay1060, k0_pay1062, k0_pay1063, k0_pay1064, k0_pay1066, k0_pay1067, k0_pay1069, k0_pay1070, k0_pay1072, k0_pay1073, k0_pay1075, k0_pay1076, k0_pay1077]
      try rfl

end Cert.KernelIdeal.Val

end
-- ==== Proof.MixSolved3.lean ====
module

public import proofs.«01_k».proof.Proof.MixCat

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- The solved rows of one sequence's head 2, less what they read of the old state. -/
theorem solved_2 (b : Fin 16) (i : Fin 8) (v : Fin 128) :
    sl.r_859 c a2 p2 a5 p5 a6 p6 a7 p7 a9 p9 a10 p10 a11 p11 a18 a21 a22 a23 x1 x4 x5 x6 x8 x9 x10 (ix2 ⟨8 * b.val + i.val, by omega⟩ v)
      = (k0_pay1106 (sl.r_680 c a5 p5 x4) (sl.r_701 c a5 p5 a10 p10 a11 p11 x4 x9 x10) (sl.r_703 c a2 p2 a5 p5 a7 p7 a9 p9 a22 x1 x4 x6 x8) (sl.r_724 c a2 p2 a5 p5 a7 p7 a9 p9 a10 p10 a11 p11 a21 a22 x1 x4 x6 x8 x9 x10) (sl.v5801 c a2 p2 a7 p7 a9 p9 a23 x1 x6 x8)) (ix2 ⟨8 * b.val + i.val, by omega⟩ ⟨v.val, by omega⟩) - ∑ x : Fin 128, (k0_pay1106 (sl.r_680 c a5 p5 x4) (sl.r_701 c a5 p5 a10 p10 a11 p11 x4 x9 x10) (sl.r_703 c a2 p2 a5 p5 a7 p7 a9 p9 a22 x1 x4 x6 x8) (sl.r_724 c a2 p2 a5 p5 a7 p7 a9 p9 a10 p10 a11 p11 a21 a22 x1 x4 x6 x8 x9 x10) (sl.v5801 c a2 p2 a7 p7 a9 p9 a23 x1 x6 x8)) (ix2 ⟨8 * b.val + i.val, by omega⟩ ⟨128 + x.val, by omega⟩) * headOf x5 b 2 (ix5 0 0 0 x v) := by
  unfold sl.r_859 k0_pay1157
  refine congrArg₂ (fun p q : EReal => p - q) ?_ ?_
  · simp only [sl.r_859, sl.r_824, sl.r_825, sl.r_827, sl.r_830, sl.r_832, sl.r_834, sl.r_836, sl.r_839, sl.r_841, sl.r_843, sl.r_845, sl.r_847, sl.r_850, sl.r_852, sl.r_854, sl.r_856, sl.r_858, sl.r_849, sl.r_829]
    pointwise [k0_pay1105, k0_pay1107, k0_pay1108, k0_pay1110, k0_pay1112, k0_pay1113, k0_pay1114, k0_pay1116, k0_pay1117, k0_pay1119, k0_pay1120, k0_pay1122, k0_pay1123, k0_pay1125, k0_pay1126, k0_pay1128, k0_pay1129, k0_pay1131, k0_pay1132, k0_pay1134, k0_pay1135, k0_pay1137, k0_pay1138, k0_pay1140, k0_pay1141, k0_pay1142, k0_pay1144, k0_pay1145, k0_pay1147, k0_pay1148, k0_pay1150, k0_pay1151, k0_pay1153, k0_pay1154, k0_pay1155, k0_pay1156, k0_pay1157]
    try rfl
  · revert b
    refine fin16 ?_ ((cat_1 _ _ _ _ _ _ _ _ _ _ _ _ _ _ _ _ _ i v).trans ?_) ((cat_2 _ _ _ _ _ _ _ _ _ _ _ _ _ _ _ _ _ i v).trans ?_) ((cat_3 _ _ _ _ _ _ _ _ _ _ _ _ _ _ _ _ _ i v).trans ?_) ((cat_4 _ _ _ _ _ _ _ _ _ _ _ _ _ _ _ _ _ i v).trans ?_) ((cat_5 _ _ _ _ _ _ _ _ _ _ _ _ _ _ _ _ _ i v).trans ?_) ((cat_6 _ _ _ _ _ _ _ _ _ _ _ _ _ _ _ _ _ i v).trans ?_) ((cat_7 _ _ _ _ _ _ _ _ _ _ _ _ _ _ _ _ _ i v).trans ?_) ((cat_8 _ _ _ _ _ _ _ _ _ _ _ _ _ _ _ _ _ i v).trans ?_) ((cat_9 _ _ _ _ _ _ _ _ _ _ _ _ _ _ _ _ _ i v).trans ?_) ((cat_10 _ _ _ _ _ _ _ _ _ _ _ _ _ _ _ _ _ i v).trans ?_) ((cat_11 _ _ _ _ _ _ _ _ _ _ _ _ _ _ _ _ _ i v).trans ?_) ((cat_12 _ _ _ _ _ _ _ _ _ _ _ _ _ _ _ _ _ i v).trans ?_) ((cat_13 _ _ _ _ _ _ _ _ _ _ _ _ _ _ _ _ _ i v).trans ?_) ((cat_14 _ _ _ _ _ _ _ _ _ _ _ _ _ _ _ _ _ i v).trans ?_) ((cat_15 _ _ _ _ _ _ _ _ _ _ _ _ _ _ _ _ _ i v).trans ?_)
    on_goal 1 => (simp only [row0 i]; refine (cat_0 _ _ _ _ _ _ _ _ _ _ _ _ _ _ _ _ _ i v).trans ?_)
    all_goals
      simp only [sl.r_859, sl.r_824, sl.r_825, sl.r_827, sl.r_830, sl.r_832, sl.r_834, sl.r_836, sl.r_839, sl.r_841, sl.r_843, sl.r_845, sl.r_847, sl.r_850, sl.r_852, sl.r_854, sl.r_856, sl.r_858, sl.r_849, sl.r_829, read_v5887, read_v5823, read_v5847, read_v5831, read_v5903, read_v5919, read_v5911, read_v5871, read_v5935, read_v5863, read_v5879, read_v5943, read_v5895, read_v5839, read_v5927, read_v5855]
      pointwise [k0_pay1105, k0_pay1107, k0_pay1108, k0_pay1110, k0_pay1112, k0_pay1113, k0_pay1114, k0_pay1116, k0_pay1117, k0_pay1119, k0_pay1120, k0_pay1122, k0_pay1123, k0_pay1125, k0_pay1126, k0_pay1128, k0_pay1129, k0_pay1131, k0_pay1132, k0_pay1134, k0_pay1135, k0_pay1137, k0_pay1138, k0_pay1140, k0_pay1141, k0_pay1142, k0_pay1144, k0_pay1145, k0_pay1147, k0_pay1148, k0_pay1150, k0_pay1151, k0_pay1153, k0_pay1154, k0_pay1155, k0_pay1156, k0_pay1157]
      try rfl

end Cert.KernelIdeal.Val

end
-- ==== Proof.MixSolved4.lean ====
module

public import proofs.«01_k».proof.Proof.MixCat

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- The solved rows of one sequence's head 3, less what they read of the old state. -/
theorem solved_3 (b : Fin 16) (i : Fin 8) (v : Fin 128) :
    sl.r_913 c a2 p2 a5 p5 a6 p6 a7 p7 a9 p9 a10 p10 a11 p11 a18 a21 a22 a23 x1 x4 x5 x6 x8 x9 x10 (ix2 ⟨8 * b.val + i.val, by omega⟩ v)
      = (k0_pay1186 (sl.r_680 c a5 p5 x4) (sl.r_710 c a2 p2 a5 p5 a7 p7 a9 p9 a22 x1 x4 x6 x8) (sl.r_725 c a2 p2 a5 p5 a7 p7 a9 p9 a10 p10 a11 p11 a21 a22 x1 x4 x6 x8 x9 x10) (sl.r_871 c a5 p5 a10 p10 a11 p11 x4 x9 x10) (sl.v6185 c a2 p2 a7 p7 a9 p9 a23 x1 x6 x8)) (ix2 ⟨8 * b.val + i.val, by omega⟩ ⟨v.val, by omega⟩) - ∑ x : Fin 128, (k0_pay1186 (sl.r_680 c a5 p5 x4) (sl.r_710 c a2 p2 a5 p5 a7 p7 a9 p9 a22 x1 x4 x6 x8) (sl.r_725 c a2 p2 a5 p5 a7 p7 a9 p9 a10 p10 a11 p11 a21 a22 x1 x4 x6 x8 x9 x10) (sl.r_871 c a5 p5 a10 p10 a11 p11 x4 x9 x10) (sl.v6185 c a2 p2 a7 p7 a9 p9 a23 x1 x6 x8)) (ix2 ⟨8 * b.val + i.val, by omega⟩ ⟨128 + x.val, by omega⟩) * headOf x5 b 3 (ix5 0 0 0 x v) := by
  unfold sl.r_913 k0_pay1243
  refine congrArg₂ (fun p q : EReal => p - q) ?_ ?_
  · simp only [sl.r_913, sl.r_872, sl.r_877, sl.r_879, sl.r_882, sl.r_884, sl.r_886, sl.r_888, sl.r_890, sl.r_894, sl.r_896, sl.r_898, sl.r_900, sl.r_903, sl.r_905, sl.r_907, sl.r_909, sl.r_911, sl.r_912, sl.r_873, sl.r_875, sl.r_902, sl.r_892, sl.r_893, sl.r_881]
    pointwise [k0_pay1187, k0_pay1188, k0_pay1190, k0_pay1192, k0_pay1193, k0_pay1195, k0_pay1196, k0_pay1198, k0_pay1199, k0_pay1201, k0_pay1202, k0_pay1204, k0_pay1205, k0_pay1207, k0_pay1208, k0_pay1210, k0_pay1211, k0_pay1213, k0_pay1214, k0_pay1215, k0_pay1216, k0_pay1218, k0_pay1219, k0_pay1221, k0_pay1222, k0_pay1224, k0_pay1225, k0_pay1227, k0_pay1228, k0_pay1229, k0_pay1231, k0_pay1232, k0_pay1234, k0_pay1235, k0_pay1237, k0_pay1238, k0_pay1240, k0_pay1241, k0_pay1242, k0_pay1243]
    try rfl
  · revert b
    refine fin16 ?_ ((cat_1 _ _ _ _ _ _ _ _ _ _ _ _ _ _ _ _ _ i v).trans ?_) ((cat_2 _ _ _ _ _ _ _ _ _ _ _ _ _ _ _ _ _ i v).trans ?_) ((cat_3 _ _ _ _ _ _ _ _ _ _ _ _ _ _ _ _ _ i v).trans ?_) ((cat_4 _ _ _ _ _ _ _ _ _ _ _ _ _ _ _ _ _ i v).trans ?_) ((cat_5 _ _ _ _ _ _ _ _ _ _ _ _ _ _ _ _ _ i v).trans ?_) ((cat_6 _ _ _ _ _ _ _ _ _ _ _ _ _ _ _ _ _ i v).trans ?_) ((cat_7 _ _ _ _ _ _ _ _ _ _ _ _ _ _ _ _ _ i v).trans ?_) ((cat_8 _ _ _ _ _ _ _ _ _ _ _ _ _ _ _ _ _ i v).trans ?_) ((cat_9 _ _ _ _ _ _ _ _ _ _ _ _ _ _ _ _ _ i v).trans ?_) ((cat_10 _ _ _ _ _ _ _ _ _ _ _ _ _ _ _ _ _ i v).trans ?_) ((cat_11 _ _ _ _ _ _ _ _ _ _ _ _ _ _ _ _ _ i v).trans ?_) ((cat_12 _ _ _ _ _ _ _ _ _ _ _ _ _ _ _ _ _ i v).trans ?_) ((cat_13 _ _ _ _ _ _ _ _ _ _ _ _ _ _ _ _ _ i v).trans ?_) ((cat_14 _ _ _ _ _ _ _ _ _ _ _ _ _ _ _ _ _ i v).trans ?_) ((cat_15 _ _ _ _ _ _ _ _ _ _ _ _ _ _ _ _ _ i v).trans ?_)
    on_goal 1 => (simp only [row0 i]; refine (cat_0 _ _ _ _ _ _ _ _ _ _ _ _ _ _ _ _ _ i v).trans ?_)
    all_goals
      simp only [sl.r_913, sl.r_872, sl.r_877, sl.r_879, sl.r_882, sl.r_884, sl.r_886, sl.r_888, sl.r_890, sl.r_894, sl.r_896, sl.r_898, sl.r_900, sl.r_903, sl.r_905, sl.r_907, sl.r_909, sl.r_911, sl.r_912, sl.r_873, sl.r_875, sl.r_902, sl.r_892, sl.r_893, sl.r_881, read_v6327, read_v6287, read_v6311, read_v6303, read_v6255, read_v6263, read_v6223, read_v6247, read_v6295, read_v6215, read_v6239, read_v6271, read_v6231, read_v6319, read_v6279, read_v6207]
      pointwise [k0_pay1187, k0_pay1188, k0_pay1190, k0_pay1192, k0_pay1193, k0_pay1195, k0_pay1196, k0_pay1198, k0_pay1199, k0_pay1201, k0_pay1202, k0_pay1204, k0_pay1205, k0_pay1207, k0_pay1208, k0_pay1210, k0_pay1211, k0_pay1213, k0_pay1214, k0_pay1215, k0_pay1216, k0_pay1218, k0_pay1219, k0_pay1221, k0_pay1222, k0_pay1224, k0_pay1225, k0_pay1227, k0_pay1228, k0_pay1229, k0_pay1231, k0_pay1232, k0_pay1234, k0_pay1235, k0_pay1237, k0_pay1238, k0_pay1240, k0_pay1241, k0_pay1242, k0_pay1243]
      try rfl

end Cert.KernelIdeal.Val

end
-- ==== Proof.MixDelta.lean ====
module

public import proofs.«01_k».proof.Proof.MixHeads
public import proofs.«01_k».proof.Proof.DeltaBlock
public import proofs.«01_k».proof.Proof.MixSolved1
public import proofs.«01_k».proof.Proof.MixSolved2
public import proofs.«01_k».proof.Proof.MixSolved3
public import proofs.«01_k».proof.Proof.MixSolved4

@[expose] public section

set_option maxRecDepth 16384
set_option maxHeartbeats 2000000

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

/-- The kernel's running sums at one sequence's rows. -/
theorem run_gsum (g : FVec Ideal S128x128 .f32) (l : Fin 128) (b : Fin 16) (i : Fin 8) :
    k0_pay881 g (8#32) k0_pay877 k0_pay878 k0_pay879 k0_pay880 (ix2 (rowOf b i) l) = gsum (fun j => g (ix2 (rowOf b j) l)) i :=
  (colOf_eq _ l _ _).trans ((running g l b i b.isLt i.isLt).trans ((gsum_range (fun j => at8 g l b j) i).trans
    (congrArg (gsum · i) (funext fun j => (colOf_eq g l _ _).symm))))

/-- What is left of a sequence's sum after a row, as the kernel sums it. -/
theorem rest_gsum (g : FVec Ideal S128x128 .f32) (l : Fin 128) (hg : ∀ r, IsFin (g (ix2 r l))) (b : Fin 16) (i : Fin 8) :
    k0_pay893 (k0_pay885 g k0_pay882 k0_pay883 (k0_pay884 g)) (ix2 l (rowOf b i))
      = gsum (fun j => g (ix2 (rowOf b j) l)) 7 - gsum (fun j => g (ix2 (rowOf b j) l)) i := by
  have hF : ∀ j, IsFin (at8 g l b j) := fun j => by
    unfold at8 colOf
    split_ifs
    · exact hg _
    · exact IsFin.zero
  have e : (fun j : Fin 8 => g (ix2 (rowOf b j) l)) = fun j => at8 g l b j.val := funext fun j => colOf_eq g l _ _
  rw [e]
  exact (after_row g l b i b.isLt i.isLt).trans (gsum_rest (fun j => at8 g l b j) hF i)

/-- A row of the 128 is a row of one of the sequences. -/
theorem rowOf_div (r : Fin 128) : r = rowOf ⟨r.val / 8, by omega⟩ ⟨r.val % 8, by omega⟩ :=
  Fin.ext (by show r.val = 8 * (r.val / 8) + r.val % 8; omega)

/-- The running sums are real numbers if the gates are. -/
theorem run_fin (g : FVec Ideal S128x128 .f32) (l : Fin 128) (hg : ∀ r, IsFin (g (ix2 r l))) (r : Fin 128) :
    IsFin (k0_pay881 g (8#32) k0_pay877 k0_pay878 k0_pay879 k0_pay880 (ix2 r l)) := by
  rw [rowOf_div r, run_gsum]
  exact gsum_fin _ (fun j => hg _) _

/-- The identity's entries. -/
theorem eye_at (r l : Fin 128) : k0_pay892 (F := Ideal) sl.v4849 sl.v4850 (ix2 r l) = if r = l then 1 else 0 := eye_mask r l

variable (c : Dev nD) (a2 : Memref sig .tc .vmem S16x8x1536 .f32) (p2 : a2.IsWhole) (a5 : Memref sig .tc .vmem S16x8x128 .f32) (p5 : a5.IsWhole) (a6 : Memref sig .tc .vmem S1x16x4x128x128 .f32) (p6 : a6.IsWhole) (a7 : Memref sig .tc .vmem S3x16x1536 .f32) (p7 : a7.IsWhole) (a9 : Memref sig .tc .vmem S4x8x1536 .f32) (p9 : a9.IsWhole) (a10 : Memref sig .tc .vmem S1x128 .f32) (p10 : a10.IsWhole) (a11 : Memref sig .tc .vmem S1x128 .f32) (p11 : a11.IsWhole) (a18 : Memref sig .tc .vmem S1x16x4x128x128 .f32) (a21 : Memref sig .tc .vmem S16x8x512 .f32) (a22 : Memref sig .tc .vmem S16x8x512 .f32) (a23 : Memref sig .tc .vmem S16x8x512 .f32) (x1 : Vec Ideal S16x8x1536 .f32) (x4 : Vec Ideal S16x8x128 .f32) (x5 : Vec Ideal S1x16x4x128x128 .f32) (x6 : Vec Ideal S3x16x1536 .f32) (x8 : Vec Ideal S4x8x1536 .f32) (x9 : Vec Ideal S1x128 .f32) (x10 : Vec Ideal S1x128 .f32)

/-- Head 0: the new states are the chunk of the delta rule. -/
theorem delta_0 (hk : ∀ r d, IsFin ((headRow (keys x1 x6 x8) 0) r d)) (hv : ∀ r d, IsFin ((headRow (vals x1 x6 x8) 0) r d)) (hb : ∀ r, IsFin ((sl.r_680 c a5 p5 x4) (ix2 r 0))) (hg : ∀ r, IsFin ((sl.r_681 c a5 p5 a10 p10 a11 p11 x4 x9 x10) (ix2 r 4))) (b : Fin 16) (d v : Fin 128) :
    blkS c a2 p2 a5 p5 a6 p6 a7 p7 a9 p9 a10 p10 a11 p11 a18 a21 a22 a23 x1 x4 x5 x6 x8 x9 x10 (ix5 0 b 0 d v)
      = chunk (fun i d => (headRow (keys x1 x6 x8) 0) (rowOf b i) d) (fun i d => (headRow (vals x1 x6 x8) 0) (rowOf b i) d) (fun i => (sl.r_680 c a5 p5 x4) (ix2 (rowOf b i) 0)) (fun i => (sl.r_681 c a5 p5 a10 p10 a11 p11 x4 x9 x10) (ix2 (rowOf b i) 4))
        (fun d w => x5 (ix5 0 b 0 d w)) d v := by
  refine Eq.trans ?_ (block_chunk (headRow (keys x1 x6 x8) 0) (headRow (vals x1 x6 x8) 0) (fun r => (sl.r_680 c a5 p5 x4) (ix2 r 0)) (fun r => (sl.r_682 c a5 p5 a10 p10 a11 p11 x4 x9 x10) (ix2 r 4)) (fun r => (sl.r_688 c a5 p5 a10 p10 a11 p11 x4 x9 x10) (ix2 4 r))
    (fun r w => (k0_pay940 (sl.r_680 c a5 p5 x4) (sl.r_689 c a5 p5 a10 p10 a11 p11 x4 x9 x10) (sl.r_691 c a2 p2 a5 p5 a7 p7 a9 p9 a22 x1 x4 x6 x8) (sl.r_714 c a2 p2 a5 p5 a7 p7 a9 p9 a10 p10 a11 p11 a21 a22 x1 x4 x6 x8 x9 x10) (sl.r_720 c a2 p2 a5 p5 a7 p7 a9 p9 a10 p10 a11 p11 a21 a22 x1 x4 x6 x8 x9 x10) (sl.v5033 c a2 p2 a7 p7 a9 p9 a23 x1 x6 x8)) (ix2 r ⟨w.val, by omega⟩)) (fun r w => (k0_pay940 (sl.r_680 c a5 p5 x4) (sl.r_689 c a5 p5 a10 p10 a11 p11 x4 x9 x10) (sl.r_691 c a2 p2 a5 p5 a7 p7 a9 p9 a22 x1 x4 x6 x8) (sl.r_714 c a2 p2 a5 p5 a7 p7 a9 p9 a10 p10 a11 p11 a21 a22 x1 x4 x6 x8 x9 x10) (sl.r_720 c a2 p2 a5 p5 a7 p7 a9 p9 a10 p10 a11 p11 a21 a22 x1 x4 x6 x8 x9 x10) (sl.v5033 c a2 p2 a7 p7 a9 p9 a23 x1 x6 x8)) (ix2 r ⟨128 + w.val, by omega⟩))
    (fun d w => x5 (ix5 0 b 0 d w)) (fun i => (sl.r_681 c a5 p5 a10 p10 a11 p11 x4 x9 x10) (ix2 (rowOf b i) 4)) b
    (fun r w => ?_) (fun r w => ?_) (fun i => run_gsum _ _ b i) (fun i => rest_gsum _ _ hg b i) hk hv hb (run_fin _ _ hg) d v)
  · refine (newS_at x5 _ _ _ b 0 d v (8 * b.val) rfl (by omega)).trans ?_
    refine congrArg₂ (fun p q : EReal => p + q) (congrArg (fun q => x5 (ix5 0 b 0 d v) * Ideal.exp q) ?_) (Finset.sum_congr rfl fun i _ => congrArg₂ (fun p q : EReal => p * q) ?_ ?_)
    · apply gate_0
    · apply tail_0
    · apply solved_0
  · refine (show _ = _ by apply uv_0).trans ?_
    simp only [gram_0, eye_at]
  · refine (show _ = _ by apply uk_0).trans ?_
    simp only [gram_0, eye_at, gate_0]

/-- Head 1: the new states are the chunk of the delta rule. -/
theorem delta_1 (hk : ∀ r d, IsFin ((headRow (keys x1 x6 x8) 1) r d)) (hv : ∀ r d, IsFin ((headRow (vals x1 x6 x8) 1) r d)) (hb : ∀ r, IsFin ((sl.r_680 c a5 p5 x4) (ix2 r 1))) (hg : ∀ r, IsFin ((sl.r_681 c a5 p5 a10 p10 a11 p11 x4 x9 x10) (ix2 r 5))) (b : Fin 16) (d v : Fin 128) :
    blkS c a2 p2 a5 p5 a6 p6 a7 p7 a9 p9 a10 p10 a11 p11 a18 a21 a22 a23 x1 x4 x5 x6 x8 x9 x10 (ix5 0 b 1 d v)
      = chunk (fun i d => (headRow (keys x1 x6 x8) 1) (rowOf b i) d) (fun i d => (headRow (vals x1 x6 x8) 1) (rowOf b i) d) (fun i => (sl.r_680 c a5 p5 x4) (ix2 (rowOf b i) 1)) (fun i => (sl.r_681 c a5 p5 a10 p10 a11 p11 x4 x9 x10) (ix2 (rowOf b i) 5))
        (fun d w => x5 (ix5 0 b 1 d w)) d v := by
  refine Eq.trans ?_ (block_chunk (headRow (keys x1 x6 x8) 1) (headRow (vals x1 x6 x8) 1) (fun r => (sl.r_680 c a5 p5 x4) (ix2 r 1)) (fun r => (sl.r_682 c a5 p5 a10 p10 a11 p11 x4 x9 x10) (ix2 r 5)) (fun r => (sl.r_688 c a5 p5 a10 p10 a11 p11 x4 x9 x10) (ix2 5 r))
    (fun r w => (k0_pay1021 (sl.r_680 c a5 p5 x4) (sl.r_697 c a2 p2 a5 p5 a7 p7 a9 p9 a22 x1 x4 x6 x8) (sl.r_723 c a2 p2 a5 p5 a7 p7 a9 p9 a10 p10 a11 p11 a21 a22 x1 x4 x6 x8 x9 x10) (sl.r_772 c a5 p5 a10 p10 a11 p11 x4 x9 x10) (sl.v5417 c a2 p2 a7 p7 a9 p9 a23 x1 x6 x8)) (ix2 r ⟨w.val, by omega⟩)) (fun r w => (k0_pay1021 (sl.r_680 c a5 p5 x4) (sl.r_697 c a2 p2 a5 p5 a7 p7 a9 p9 a22 x1 x4 x6 x8) (sl.r_723 c a2 p2 a5 p5 a7 p7 a9 p9 a10 p10 a11 p11 a21 a22 x1 x4 x6 x8 x9 x10) (sl.r_772 c a5 p5 a10 p10 a11 p11 x4 x9 x10) (sl.v5417 c a2 p2 a7 p7 a9 p9 a23 x1 x6 x8)) (ix2 r ⟨128 + w.val, by omega⟩))
    (fun d w => x5 (ix5 0 b 1 d w)) (fun i => (sl.r_681 c a5 p5 a10 p10 a11 p11 x4 x9 x10) (ix2 (rowOf b i) 5)) b
    (fun r w => ?_) (fun r w => ?_) (fun i => run_gsum _ _ b i) (fun i => rest_gsum _ _ hg b i) hk hv hb (run_fin _ _ hg) d v)
  · refine (newS_at x5 _ _ _ b 1 d v (8 * b.val) rfl (by omega)).trans ?_
    refine congrArg₂ (fun p q : EReal => p + q) (congrArg (fun q => x5 (ix5 0 b 1 d v) * Ideal.exp q) ?_) (Finset.sum_congr rfl fun i _ => congrArg₂ (fun p q : EReal => p * q) ?_ ?_)
    · apply gate_1
    · apply tail_1
    · apply solved_1
  · refine (show _ = _ by apply uv_1).trans ?_
    simp only [gram_1, eye_at]
  · refine (show _ = _ by apply uk_1).trans ?_
    simp only [gram_1, eye_at, gate_1]

/-- Head 2: the new states are the chunk of the delta rule. -/
theorem delta_2 (hk : ∀ r d, IsFin ((headRow (keys x1 x6 x8) 2) r d)) (hv : ∀ r d, IsFin ((headRow (vals x1 x6 x8) 2) r d)) (hb : ∀ r, IsFin ((sl.r_680 c a5 p5 x4) (ix2 r 2))) (hg : ∀ r, IsFin ((sl.r_681 c a5 p5 a10 p10 a11 p11 x4 x9 x10) (ix2 r 6))) (b : Fin 16) (d v : Fin 128) :
    blkS c a2 p2 a5 p5 a6 p6 a7 p7 a9 p9 a10 p10 a11 p11 a18 a21 a22 a23 x1 x4 x5 x6 x8 x9 x10 (ix5 0 b 2 d v)
      = chunk (fun i d => (headRow (keys x1 x6 x8) 2) (rowOf b i) d) (fun i d => (headRow (vals x1 x6 x8) 2) (rowOf b i) d) (fun i => (sl.r_680 c a5 p5 x4) (ix2 (rowOf b i) 2)) (fun i => (sl.r_681 c a5 p5 a10 p10 a11 p11 x4 x9 x10) (ix2 (rowOf b i) 6))
        (fun d w => x5 (ix5 0 b 2 d w)) d v := by
  refine Eq.trans ?_ (block_chunk (headRow (keys x1 x6 x8) 2) (headRow (vals x1 x6 x8) 2) (fun r => (sl.r_680 c a5 p5 x4) (ix2 r 2)) (fun r => (sl.r_682 c a5 p5 a10 p10 a11 p11 x4 x9 x10) (ix2 r 6)) (fun r => (sl.r_688 c a5 p5 a10 p10 a11 p11 x4 x9 x10) (ix2 6 r))
    (fun r w => (k0_pay1106 (sl.r_680 c a5 p5 x4) (sl.r_701 c a5 p5 a10 p10 a11 p11 x4 x9 x10) (sl.r_703 c a2 p2 a5 p5 a7 p7 a9 p9 a22 x1 x4 x6 x8) (sl.r_724 c a2 p2 a5 p5 a7 p7 a9 p9 a10 p10 a11 p11 a21 a22 x1 x4 x6 x8 x9 x10) (sl.v5801 c a2 p2 a7 p7 a9 p9 a23 x1 x6 x8)) (ix2 r ⟨w.val, by omega⟩)) (fun r w => (k0_pay1106 (sl.r_680 c a5 p5 x4) (sl.r_701 c a5 p5 a10 p10 a11 p11 x4 x9 x10) (sl.r_703 c a2 p2 a5 p5 a7 p7 a9 p9 a22 x1 x4 x6 x8) (sl.r_724 c a2 p2 a5 p5 a7 p7 a9 p9 a10 p10 a11 p11 a21 a22 x1 x4 x6 x8 x9 x10) (sl.v5801 c a2 p2 a7 p7 a9 p9 a23 x1 x6 x8)) (ix2 r ⟨128 + w.val, by omega⟩))
    (fun d w => x5 (ix5 0 b 2 d w)) (fun i => (sl.r_681 c a5 p5 a10 p10 a11 p11 x4 x9 x10) (ix2 (rowOf b i) 6)) b
    (fun r w => ?_) (fun r w => ?_) (fun i => run_gsum _ _ b i) (fun i => rest_gsum _ _ hg b i) hk hv hb (run_fin _ _ hg) d v)
  · refine (newS_at x5 _ _ _ b 2 d v (8 * b.val) rfl (by omega)).trans ?_
    refine congrArg₂ (fun p q : EReal => p + q) (congrArg (fun q => x5 (ix5 0 b 2 d v) * Ideal.exp q) ?_) (Finset.sum_congr rfl fun i _ => congrArg₂ (fun p q : EReal => p * q) ?_ ?_)
    · apply gate_2
    · apply tail_2
    · apply solved_2
  · refine (show _ = _ by apply uv_2).trans ?_
    simp only [gram_2, eye_at]
  · refine (show _ = _ by apply uk_2).trans ?_
    simp only [gram_2, eye_at, gate_2]

/-- Head 3: the new states are the chunk of the delta rule. -/
theorem delta_3 (hk : ∀ r d, IsFin ((headRow (keys x1 x6 x8) 3) r d)) (hv : ∀ r d, IsFin ((headRow (vals x1 x6 x8) 3) r d)) (hb : ∀ r, IsFin ((sl.r_680 c a5 p5 x4) (ix2 r 3))) (hg : ∀ r, IsFin ((sl.r_681 c a5 p5 a10 p10 a11 p11 x4 x9 x10) (ix2 r 7))) (b : Fin 16) (d v : Fin 128) :
    blkS c a2 p2 a5 p5 a6 p6 a7 p7 a9 p9 a10 p10 a11 p11 a18 a21 a22 a23 x1 x4 x5 x6 x8 x9 x10 (ix5 0 b 3 d v)
      = chunk (fun i d => (headRow (keys x1 x6 x8) 3) (rowOf b i) d) (fun i d => (headRow (vals x1 x6 x8) 3) (rowOf b i) d) (fun i => (sl.r_680 c a5 p5 x4) (ix2 (rowOf b i) 3)) (fun i => (sl.r_681 c a5 p5 a10 p10 a11 p11 x4 x9 x10) (ix2 (rowOf b i) 7))
        (fun d w => x5 (ix5 0 b 3 d w)) d v := by
  refine Eq.trans ?_ (block_chunk (headRow (keys x1 x6 x8) 3) (headRow (vals x1 x6 x8) 3) (fun r => (sl.r_680 c a5 p5 x4) (ix2 r 3)) (fun r => (sl.r_682 c a5 p5 a10 p10 a11 p11 x4 x9 x10) (ix2 r 7)) (fun r => (sl.r_688 c a5 p5 a10 p10 a11 p11 x4 x9 x10) (ix2 7 r))
    (fun r w => (k0_pay1186 (sl.r_680 c a5 p5 x4) (sl.r_710 c a2 p2 a5 p5 a7 p7 a9 p9 a22 x1 x4 x6 x8) (sl.r_725 c a2 p2 a5 p5 a7 p7 a9 p9 a10 p10 a11 p11 a21 a22 x1 x4 x6 x8 x9 x10) (sl.r_871 c a5 p5 a10 p10 a11 p11 x4 x9 x10) (sl.v6185 c a2 p2 a7 p7 a9 p9 a23 x1 x6 x8)) (ix2 r ⟨w.val, by omega⟩)) (fun r w => (k0_pay1186 (sl.r_680 c a5 p5 x4) (sl.r_710 c a2 p2 a5 p5 a7 p7 a9 p9 a22 x1 x4 x6 x8) (sl.r_725 c a2 p2 a5 p5 a7 p7 a9 p9 a10 p10 a11 p11 a21 a22 x1 x4 x6 x8 x9 x10) (sl.r_871 c a5 p5 a10 p10 a11 p11 x4 x9 x10) (sl.v6185 c a2 p2 a7 p7 a9 p9 a23 x1 x6 x8)) (ix2 r ⟨128 + w.val, by omega⟩))
    (fun d w => x5 (ix5 0 b 3 d w)) (fun i => (sl.r_681 c a5 p5 a10 p10 a11 p11 x4 x9 x10) (ix2 (rowOf b i) 7)) b
    (fun r w => ?_) (fun r w => ?_) (fun i => run_gsum _ _ b i) (fun i => rest_gsum _ _ hg b i) hk hv hb (run_fin _ _ hg) d v)
  · refine (newS_at x5 _ _ _ b 3 d v (8 * b.val) rfl (by omega)).trans ?_
    refine congrArg₂ (fun p q : EReal => p + q) (congrArg (fun q => x5 (ix5 0 b 3 d v) * Ideal.exp q) ?_) (Finset.sum_congr rfl fun i _ => congrArg₂ (fun p q : EReal => p * q) ?_ ?_)
    · apply gate_3
    · apply tail_3
    · apply solved_3
  · refine (show _ = _ by apply uv_3).trans ?_
    simp only [gram_3, eye_at]
  · refine (show _ = _ by apply uk_3).trans ?_
    simp only [gram_3, eye_at, gate_3]

end Cert.KernelIdeal.Val

end
-- ==== Proof.MixStates.lean ====
module

public import proofs.«01_k».proof.Proof.MixBlock
public import proofs.«01_k».proof.Proof.MixMatch
public import proofs.«01_k».proof.Proof.MixFinite
public import proofs.«01_k».proof.Proof.MixDelta

@[expose] public section

set_option maxRecDepth 16384

noncomputable section

namespace Cert.KernelIdeal.Val

open Cert.KernelIdeal Cert.KernelIdeal.Gen Cert.KernelIdeal.Gen.kernelRun0_A
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The new states as the chunk of the delta rule, from the arguments. -/
def newSd (x1 : Vec Ideal S17664x1536 .f32) (x4 : Vec Ideal S17664x128 .f32) (x5 : Vec Ideal S1x128x4x128x128 .f32) (x6 : Vec Ideal S1x128x3x1536 .f32) (x8 : Vec Ideal S1x4x1536 .f32) (x9 x10 : Vec Ideal S1x4 .f32)
    (B : Fin 128) (h : Fin 4) (d v : Fin 128) : EReal :=
  chunk (fun i d => kRow x1 x6 x8 B h i.val d) (fun i d => vRow x1 x6 x8 B h i.val d) (fun i => bRow x4 B h i) (fun i => gRow x4 x9 x10 B h i) (fun d w => x5 (ix5 0 B h d w)) d v

/-- The arguments the new states are made of are real. -/
structure Real6 (c : Dev nD) : Prop where
  /-- Argument 1's words are real. -/
  r1 : ∀ i, IsFin (m ((c.tc : Thread nD τ).loc main_arg1) i)
  /-- Argument 4's words are real. -/
  r4 : ∀ i, IsFin (m ((c.tc : Thread nD τ).loc main_arg4) i)
  /-- Argument 6's words are real. -/
  r6 : ∀ i, IsFin (m ((c.tc : Thread nD τ).loc main_arg6) i)
  /-- Argument 8's words are real. -/
  r8 : ∀ i, IsFin (m ((c.tc : Thread nD τ).loc main_arg8) i)
  /-- Argument 9's words are real. -/
  r9 : ∀ i, IsFin (m ((c.tc : Thread nD τ).loc main_arg9) i)
  /-- Argument 10's words are real. -/
  r10 : ∀ i, IsFin (m ((c.tc : Thread nD τ).loc main_arg10) i)

/-- Head 0: a block's new states, from the arguments. -/
theorem head_0 (c : Dev nD) (hr : Real6 m c) (t : Fin cfg0.N) (b : Fin 16) (d v : Fin 128) :
    (outsAt0 m c t).2.1 (ix5 0 b 0 d v) = newSd (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (seqOf t b) 0 d v := by
  have hrow : ∀ r : Fin 128, ∃ (b : Fin 16) (i : Fin 8), r = rowOf b i := fun r => ⟨⟨r.val / 8, by omega⟩, ⟨r.val % 8, by omega⟩, Fin.ext (by show r.val = 8 * (r.val / 8) + r.val % 8; omega)⟩
  have hk : ∀ (b : Fin 16) (i : Fin 8) (d : Fin 128), headRow (keys (iblk m c 1 t) (iblk m c 6 t) (iblk m c 8 t)) 0 (rowOf b i) d = kRow (m ((c.tc : Thread nD τ).loc main_arg1)) (m ((c.tc : Thread nD τ).loc main_arg6)) (m ((c.tc : Thread nD τ).loc main_arg8)) (seqOf t b) 0 i.val d :=
    fun b i d => key_match m c t b 0 (by omega) i d
  have hv : ∀ (b : Fin 16) (i : Fin 8) (d : Fin 128), headRow (vals (iblk m c 1 t) (iblk m c 6 t) (iblk m c 8 t)) 0 (rowOf b i) d = vRow (m ((c.tc : Thread nD τ).loc main_arg1)) (m ((c.tc : Thread nD τ).loc main_arg6)) (m ((c.tc : Thread nD τ).loc main_arg8)) (seqOf t b) 0 i.val d :=
    fun b i d => val_match m c t b 0 (by omega) i d
  have hb : ∀ (b : Fin 16) (i : Fin 8), sl.r_680 (F := Ideal) c (ms0_4 t) (hs0_4 t) (iblk m c 4 t) (ix2 (rowOf b i) 0) = bRow (m ((c.tc : Thread nD τ).loc main_arg4)) (seqOf t b) 0 i :=
    fun b i => beta_match m c t b 0 (by omega) i
  have hg : ∀ (b : Fin 16) (i : Fin 8), sl.r_681 (F := Ideal) c (ms0_4 t) (hs0_4 t) (ms0_9 t) (hs0_9 t) (ms0_10 t) (hs0_10 t) (iblk m c 4 t) (iblk m c 9 t) (iblk m c 10 t) (ix2 (rowOf b i) 4) = gRow (m ((c.tc : Thread nD τ).loc main_arg4)) (m ((c.tc : Thread nD τ).loc main_arg9)) (m ((c.tc : Thread nD τ).loc main_arg10)) (seqOf t b) 0 i :=
    fun b i => gate_match m c t b 0 (by omega) i
  have fk : ∀ r d, IsFin (headRow (keys (iblk m c 1 t) (iblk m c 6 t) (iblk m c 8 t)) 0 r d) := fun r d => by
    obtain ⟨b, i, rfl⟩ := hrow r
    rw [hk]; exact kRow_fin _ _ _ hr.r1 hr.r6 hr.r8 _ _ _ _
  have fv : ∀ r d, IsFin (headRow (vals (iblk m c 1 t) (iblk m c 6 t) (iblk m c 8 t)) 0 r d) := fun r d => by
    obtain ⟨b, i, rfl⟩ := hrow r
    rw [hv]; exact vRow_fin _ _ _ hr.r1 hr.r6 hr.r8 _ _ _ _
  have fb : ∀ r, IsFin (sl.r_680 (F := Ideal) c (ms0_4 t) (hs0_4 t) (iblk m c 4 t) (ix2 r 0)) := fun r => by
    obtain ⟨b, i, rfl⟩ := hrow r
    rw [hb]; exact bRow_fin _ hr.r4 _ _ _
  have fg : ∀ r, IsFin (sl.r_681 (F := Ideal) c (ms0_4 t) (hs0_4 t) (ms0_9 t) (hs0_9 t) (ms0_10 t) (hs0_10 t) (iblk m c 4 t) (iblk m c 9 t) (iblk m c 10 t) (ix2 r 4)) := fun r => by
    obtain ⟨b, i, rfl⟩ := hrow r
    rw [hg]; exact gRow_fin _ _ _ hr.r4 hr.r9 hr.r10 _ _ _
  refine (sd_piece m c t _).trans ((delta_0 c (ms0_1 t) (hs0_1 t) (ms0_4 t) (hs0_4 t) (ms0_5 t) (hs0_5 t) (ms0_6 t) (hs0_6 t) (ms0_8 t) (hs0_8 t) (ms0_9 t) (hs0_9 t) (ms0_10 t) (hs0_10 t) (ms0_17 t) scM0_0 scM0_1 scM0_2 (iblk m c 1 t) (iblk m c 4 t) (iblk m c 5 t) (iblk m c 6 t) (iblk m c 8 t) (iblk m c 9 t) (iblk m c 10 t) fk fv fb fg b d v).trans ?_)
  unfold newSd
  simp only [hk, hv, hb, hg]
  refine congrArg (fun s => chunk _ _ _ _ s d v) (funext fun d' => funext fun w => ?_)
  exact old_apply m c t b 0 d' w (seqOf t b).isLt

/-- Head 1: a block's new states, from the arguments. -/
theorem head_1 (c : Dev nD) (hr : Real6 m c) (t : Fin cfg0.N) (b : Fin 16) (d v : Fin 128) :
    (outsAt0 m c t).2.1 (ix5 0 b 1 d v) = newSd (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (seqOf t b) 1 d v := by
  have hrow : ∀ r : Fin 128, ∃ (b : Fin 16) (i : Fin 8), r = rowOf b i := fun r => ⟨⟨r.val / 8, by omega⟩, ⟨r.val % 8, by omega⟩, Fin.ext (by show r.val = 8 * (r.val / 8) + r.val % 8; omega)⟩
  have hk : ∀ (b : Fin 16) (i : Fin 8) (d : Fin 128), headRow (keys (iblk m c 1 t) (iblk m c 6 t) (iblk m c 8 t)) 1 (rowOf b i) d = kRow (m ((c.tc : Thread nD τ).loc main_arg1)) (m ((c.tc : Thread nD τ).loc main_arg6)) (m ((c.tc : Thread nD τ).loc main_arg8)) (seqOf t b) 1 i.val d :=
    fun b i d => key_match m c t b 1 (by omega) i d
  have hv : ∀ (b : Fin 16) (i : Fin 8) (d : Fin 128), headRow (vals (iblk m c 1 t) (iblk m c 6 t) (iblk m c 8 t)) 1 (rowOf b i) d = vRow (m ((c.tc : Thread nD τ).loc main_arg1)) (m ((c.tc : Thread nD τ).loc main_arg6)) (m ((c.tc : Thread nD τ).loc main_arg8)) (seqOf t b) 1 i.val d :=
    fun b i d => val_match m c t b 1 (by omega) i d
  have hb : ∀ (b : Fin 16) (i : Fin 8), sl.r_680 (F := Ideal) c (ms0_4 t) (hs0_4 t) (iblk m c 4 t) (ix2 (rowOf b i) 1) = bRow (m ((c.tc : Thread nD τ).loc main_arg4)) (seqOf t b) 1 i :=
    fun b i => beta_match m c t b 1 (by omega) i
  have hg : ∀ (b : Fin 16) (i : Fin 8), sl.r_681 (F := Ideal) c (ms0_4 t) (hs0_4 t) (ms0_9 t) (hs0_9 t) (ms0_10 t) (hs0_10 t) (iblk m c 4 t) (iblk m c 9 t) (iblk m c 10 t) (ix2 (rowOf b i) 5) = gRow (m ((c.tc : Thread nD τ).loc main_arg4)) (m ((c.tc : Thread nD τ).loc main_arg9)) (m ((c.tc : Thread nD τ).loc main_arg10)) (seqOf t b) 1 i :=
    fun b i => gate_match m c t b 1 (by omega) i
  have fk : ∀ r d, IsFin (headRow (keys (iblk m c 1 t) (iblk m c 6 t) (iblk m c 8 t)) 1 r d) := fun r d => by
    obtain ⟨b, i, rfl⟩ := hrow r
    rw [hk]; exact kRow_fin _ _ _ hr.r1 hr.r6 hr.r8 _ _ _ _
  have fv : ∀ r d, IsFin (headRow (vals (iblk m c 1 t) (iblk m c 6 t) (iblk m c 8 t)) 1 r d) := fun r d => by
    obtain ⟨b, i, rfl⟩ := hrow r
    rw [hv]; exact vRow_fin _ _ _ hr.r1 hr.r6 hr.r8 _ _ _ _
  have fb : ∀ r, IsFin (sl.r_680 (F := Ideal) c (ms0_4 t) (hs0_4 t) (iblk m c 4 t) (ix2 r 1)) := fun r => by
    obtain ⟨b, i, rfl⟩ := hrow r
    rw [hb]; exact bRow_fin _ hr.r4 _ _ _
  have fg : ∀ r, IsFin (sl.r_681 (F := Ideal) c (ms0_4 t) (hs0_4 t) (ms0_9 t) (hs0_9 t) (ms0_10 t) (hs0_10 t) (iblk m c 4 t) (iblk m c 9 t) (iblk m c 10 t) (ix2 r 5)) := fun r => by
    obtain ⟨b, i, rfl⟩ := hrow r
    rw [hg]; exact gRow_fin _ _ _ hr.r4 hr.r9 hr.r10 _ _ _
  refine (sd_piece m c t _).trans ((delta_1 c (ms0_1 t) (hs0_1 t) (ms0_4 t) (hs0_4 t) (ms0_5 t) (hs0_5 t) (ms0_6 t) (hs0_6 t) (ms0_8 t) (hs0_8 t) (ms0_9 t) (hs0_9 t) (ms0_10 t) (hs0_10 t) (ms0_17 t) scM0_0 scM0_1 scM0_2 (iblk m c 1 t) (iblk m c 4 t) (iblk m c 5 t) (iblk m c 6 t) (iblk m c 8 t) (iblk m c 9 t) (iblk m c 10 t) fk fv fb fg b d v).trans ?_)
  unfold newSd
  simp only [hk, hv, hb, hg]
  refine congrArg (fun s => chunk _ _ _ _ s d v) (funext fun d' => funext fun w => ?_)
  exact old_apply m c t b 1 d' w (seqOf t b).isLt

/-- Head 2: a block's new states, from the arguments. -/
theorem head_2 (c : Dev nD) (hr : Real6 m c) (t : Fin cfg0.N) (b : Fin 16) (d v : Fin 128) :
    (outsAt0 m c t).2.1 (ix5 0 b 2 d v) = newSd (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (seqOf t b) 2 d v := by
  have hrow : ∀ r : Fin 128, ∃ (b : Fin 16) (i : Fin 8), r = rowOf b i := fun r => ⟨⟨r.val / 8, by omega⟩, ⟨r.val % 8, by omega⟩, Fin.ext (by show r.val = 8 * (r.val / 8) + r.val % 8; omega)⟩
  have hk : ∀ (b : Fin 16) (i : Fin 8) (d : Fin 128), headRow (keys (iblk m c 1 t) (iblk m c 6 t) (iblk m c 8 t)) 2 (rowOf b i) d = kRow (m ((c.tc : Thread nD τ).loc main_arg1)) (m ((c.tc : Thread nD τ).loc main_arg6)) (m ((c.tc : Thread nD τ).loc main_arg8)) (seqOf t b) 2 i.val d :=
    fun b i d => key_match m c t b 2 (by omega) i d
  have hv : ∀ (b : Fin 16) (i : Fin 8) (d : Fin 128), headRow (vals (iblk m c 1 t) (iblk m c 6 t) (iblk m c 8 t)) 2 (rowOf b i) d = vRow (m ((c.tc : Thread nD τ).loc main_arg1)) (m ((c.tc : Thread nD τ).loc main_arg6)) (m ((c.tc : Thread nD τ).loc main_arg8)) (seqOf t b) 2 i.val d :=
    fun b i d => val_match m c t b 2 (by omega) i d
  have hb : ∀ (b : Fin 16) (i : Fin 8), sl.r_680 (F := Ideal) c (ms0_4 t) (hs0_4 t) (iblk m c 4 t) (ix2 (rowOf b i) 2) = bRow (m ((c.tc : Thread nD τ).loc main_arg4)) (seqOf t b) 2 i :=
    fun b i => beta_match m c t b 2 (by omega) i
  have hg : ∀ (b : Fin 16) (i : Fin 8), sl.r_681 (F := Ideal) c (ms0_4 t) (hs0_4 t) (ms0_9 t) (hs0_9 t) (ms0_10 t) (hs0_10 t) (iblk m c 4 t) (iblk m c 9 t) (iblk m c 10 t) (ix2 (rowOf b i) 6) = gRow (m ((c.tc : Thread nD τ).loc main_arg4)) (m ((c.tc : Thread nD τ).loc main_arg9)) (m ((c.tc : Thread nD τ).loc main_arg10)) (seqOf t b) 2 i :=
    fun b i => gate_match m c t b 2 (by omega) i
  have fk : ∀ r d, IsFin (headRow (keys (iblk m c 1 t) (iblk m c 6 t) (iblk m c 8 t)) 2 r d) := fun r d => by
    obtain ⟨b, i, rfl⟩ := hrow r
    rw [hk]; exact kRow_fin _ _ _ hr.r1 hr.r6 hr.r8 _ _ _ _
  have fv : ∀ r d, IsFin (headRow (vals (iblk m c 1 t) (iblk m c 6 t) (iblk m c 8 t)) 2 r d) := fun r d => by
    obtain ⟨b, i, rfl⟩ := hrow r
    rw [hv]; exact vRow_fin _ _ _ hr.r1 hr.r6 hr.r8 _ _ _ _
  have fb : ∀ r, IsFin (sl.r_680 (F := Ideal) c (ms0_4 t) (hs0_4 t) (iblk m c 4 t) (ix2 r 2)) := fun r => by
    obtain ⟨b, i, rfl⟩ := hrow r
    rw [hb]; exact bRow_fin _ hr.r4 _ _ _
  have fg : ∀ r, IsFin (sl.r_681 (F := Ideal) c (ms0_4 t) (hs0_4 t) (ms0_9 t) (hs0_9 t) (ms0_10 t) (hs0_10 t) (iblk m c 4 t) (iblk m c 9 t) (iblk m c 10 t) (ix2 r 6)) := fun r => by
    obtain ⟨b, i, rfl⟩ := hrow r
    rw [hg]; exact gRow_fin _ _ _ hr.r4 hr.r9 hr.r10 _ _ _
  refine (sd_piece m c t _).trans ((delta_2 c (ms0_1 t) (hs0_1 t) (ms0_4 t) (hs0_4 t) (ms0_5 t) (hs0_5 t) (ms0_6 t) (hs0_6 t) (ms0_8 t) (hs0_8 t) (ms0_9 t) (hs0_9 t) (ms0_10 t) (hs0_10 t) (ms0_17 t) scM0_0 scM0_1 scM0_2 (iblk m c 1 t) (iblk m c 4 t) (iblk m c 5 t) (iblk m c 6 t) (iblk m c 8 t) (iblk m c 9 t) (iblk m c 10 t) fk fv fb fg b d v).trans ?_)
  unfold newSd
  simp only [hk, hv, hb, hg]
  refine congrArg (fun s => chunk _ _ _ _ s d v) (funext fun d' => funext fun w => ?_)
  exact old_apply m c t b 2 d' w (seqOf t b).isLt

/-- Head 3: a block's new states, from the arguments. -/
theorem head_3 (c : Dev nD) (hr : Real6 m c) (t : Fin cfg0.N) (b : Fin 16) (d v : Fin 128) :
    (outsAt0 m c t).2.1 (ix5 0 b 3 d v) = newSd (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (seqOf t b) 3 d v := by
  have hrow : ∀ r : Fin 128, ∃ (b : Fin 16) (i : Fin 8), r = rowOf b i := fun r => ⟨⟨r.val / 8, by omega⟩, ⟨r.val % 8, by omega⟩, Fin.ext (by show r.val = 8 * (r.val / 8) + r.val % 8; omega)⟩
  have hk : ∀ (b : Fin 16) (i : Fin 8) (d : Fin 128), headRow (keys (iblk m c 1 t) (iblk m c 6 t) (iblk m c 8 t)) 3 (rowOf b i) d = kRow (m ((c.tc : Thread nD τ).loc main_arg1)) (m ((c.tc : Thread nD τ).loc main_arg6)) (m ((c.tc : Thread nD τ).loc main_arg8)) (seqOf t b) 3 i.val d :=
    fun b i d => key_match m c t b 3 (by omega) i d
  have hv : ∀ (b : Fin 16) (i : Fin 8) (d : Fin 128), headRow (vals (iblk m c 1 t) (iblk m c 6 t) (iblk m c 8 t)) 3 (rowOf b i) d = vRow (m ((c.tc : Thread nD τ).loc main_arg1)) (m ((c.tc : Thread nD τ).loc main_arg6)) (m ((c.tc : Thread nD τ).loc main_arg8)) (seqOf t b) 3 i.val d :=
    fun b i d => val_match m c t b 3 (by omega) i d
  have hb : ∀ (b : Fin 16) (i : Fin 8), sl.r_680 (F := Ideal) c (ms0_4 t) (hs0_4 t) (iblk m c 4 t) (ix2 (rowOf b i) 3) = bRow (m ((c.tc : Thread nD τ).loc main_arg4)) (seqOf t b) 3 i :=
    fun b i => beta_match m c t b 3 (by omega) i
  have hg : ∀ (b : Fin 16) (i : Fin 8), sl.r_681 (F := Ideal) c (ms0_4 t) (hs0_4 t) (ms0_9 t) (hs0_9 t) (ms0_10 t) (hs0_10 t) (iblk m c 4 t) (iblk m c 9 t) (iblk m c 10 t) (ix2 (rowOf b i) 7) = gRow (m ((c.tc : Thread nD τ).loc main_arg4)) (m ((c.tc : Thread nD τ).loc main_arg9)) (m ((c.tc : Thread nD τ).loc main_arg10)) (seqOf t b) 3 i :=
    fun b i => gate_match m c t b 3 (by omega) i
  have fk : ∀ r d, IsFin (headRow (keys (iblk m c 1 t) (iblk m c 6 t) (iblk m c 8 t)) 3 r d) := fun r d => by
    obtain ⟨b, i, rfl⟩ := hrow r
    rw [hk]; exact kRow_fin _ _ _ hr.r1 hr.r6 hr.r8 _ _ _ _
  have fv : ∀ r d, IsFin (headRow (vals (iblk m c 1 t) (iblk m c 6 t) (iblk m c 8 t)) 3 r d) := fun r d => by
    obtain ⟨b, i, rfl⟩ := hrow r
    rw [hv]; exact vRow_fin _ _ _ hr.r1 hr.r6 hr.r8 _ _ _ _
  have fb : ∀ r, IsFin (sl.r_680 (F := Ideal) c (ms0_4 t) (hs0_4 t) (iblk m c 4 t) (ix2 r 3)) := fun r => by
    obtain ⟨b, i, rfl⟩ := hrow r
    rw [hb]; exact bRow_fin _ hr.r4 _ _ _
  have fg : ∀ r, IsFin (sl.r_681 (F := Ideal) c (ms0_4 t) (hs0_4 t) (ms0_9 t) (hs0_9 t) (ms0_10 t) (hs0_10 t) (iblk m c 4 t) (iblk m c 9 t) (iblk m c 10 t) (ix2 r 7)) := fun r => by
    obtain ⟨b, i, rfl⟩ := hrow r
    rw [hg]; exact gRow_fin _ _ _ hr.r4 hr.r9 hr.r10 _ _ _
  refine (sd_piece m c t _).trans ((delta_3 c (ms0_1 t) (hs0_1 t) (ms0_4 t) (hs0_4 t) (ms0_5 t) (hs0_5 t) (ms0_6 t) (hs0_6 t) (ms0_8 t) (hs0_8 t) (ms0_9 t) (hs0_9 t) (ms0_10 t) (hs0_10 t) (ms0_17 t) scM0_0 scM0_1 scM0_2 (iblk m c 1 t) (iblk m c 4 t) (iblk m c 5 t) (iblk m c 6 t) (iblk m c 8 t) (iblk m c 9 t) (iblk m c 10 t) fk fv fb fg b d v).trans ?_)
  unfold newSd
  simp only [hk, hv, hb, hg]
  refine congrArg (fun s => chunk _ _ _ _ s d v) (funext fun d' => funext fun w => ?_)
  exact old_apply m c t b 3 d' w (seqOf t b).isLt

/-- A block's new states, from the arguments. -/
theorem heads (c : Dev nD) (hr : Real6 m c) (t : Fin cfg0.N) (b : Fin 16) (h : Fin 4) (d v : Fin 128) :
    (outsAt0 m c t).2.1 (ix5 0 b h d v) = newSd (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (seqOf t b) h d v := by
  match h with
  | 0 => exact head_0 m c hr t b d v
  | 1 => exact head_1 m c hr t b d v
  | 2 => exact head_2 m c hr t b d v
  | 3 => exact head_3 m c hr t b d v

/-- The new states as an array. -/
def newSdArr (x1 : Vec Ideal S17664x1536 .f32) (x4 : Vec Ideal S17664x128 .f32) (x5 : Vec Ideal S1x128x4x128x128 .f32) (x6 : Vec Ideal S1x128x3x1536 .f32) (x8 : Vec Ideal S1x4x1536 .f32) (x9 x10 : Vec Ideal S1x4 .f32) :
    S1x128x4x128x128.Idx → EReal := fun y => newSd x1 x4 x5 x6 x8 x9 x10 (y 1) (y 2) (y 3) (y 4)

set_option maxHeartbeats 4000000 in
/-- Result 2 ends as the new states. -/
theorem array17 (c : Dev nD) (hr : Real6 m c) : (dats m 0 c).arrAt 17 cfg0.N
    = newSdArr (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) := by
  refine (dats m 0 c).arrAt_eq_of_covers 17 _ (by decide +kernel) fun t hf y => ?_
  have hN : t.val < 8 := lt_of_lt_of_eq t.isLt (show cfg0.N = 8 from N_0)
  have hi := idx17 t
  blk_simp
  rw [after0_17]
  obtain ⟨b, h, d, v, rfl⟩ : ∃ (b : Fin 16) (h : Fin 4) (d v : Fin 128), y = ix5 0 b h d v :=
    ⟨y 1, y 2, y 3, y 4, by funext a; match a with | ⟨0, _⟩ => exact Subsingleton.elim (α := Fin 1) _ _ | ⟨1, _⟩ => rfl | ⟨2, _⟩ => rfl | ⟨3, _⟩ => rfl | ⟨4, _⟩ => rfl⟩
  have e : (outsAt0 m c t).2.1 (ix5 0 b h d v) = newSdArr (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (ix5 0 (seqOf t b) h d v) := heads m c hr t b h d v
  refine e.trans (congrArg (newSdArr (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10))) ?_)
  blk_ext [hi]

/-- The reference's new states are the same chunk. -/
theorem ref_newSd (x1 : Vec Ideal S17664x1536 .f32) (x4 : Vec Ideal S17664x128 .f32) (x5 : Vec Ideal S1x128x4x128x128 .f32) (x6 : Vec Ideal S1x128x3x1536 .f32) (x8 : Vec Ideal S1x4x1536 .f32) (x9 x10 : Vec Ideal S1x4 .f32)
    (B : Fin 128) (h : Fin 4) (d v : Fin 128) : Cert.ReferenceIdeal.Read.val_main_v166 (F := Ideal) x1 x4 x5 x6 x8 x9 x10 (ix5 0 B h d v) = newSd x1 x4 x5 x6 x8 x9 x10 B h d v := by
  rw [ref_state]
  unfold newSd
  simp only [ref_key, ref_val, ref_beta, ref_gate]

end Cert.KernelIdeal.Val

end
-- ==== Proof.MixClaims.lean ====
module

public import proofs.«01_k».proof.Defs
public import proofs.«01_k».proof.Proof.MixArrays
public import proofs.«01_k».proof.Proof.MixRefConv
public import proofs.«01_k».proof.Proof.MixStates
public import proofs.«01_k».proof.Proof.MixPre
public import proofs.«01_k».proof.Proof.Gen.Kernel
public import proofs.«01_k».proof.Proof.Gen.KernelIdeal.Frame
public import proofs.«01_k».proof.Proof.Gen.ReferenceIdeal
public import proofs.«01_k».proof.Proof.Gen.ReferenceIdeal.Run

@[expose] public section

set_option maxHeartbeats 4000000

noncomputable section

namespace Cert.KernelIdeal.Claims

open Idealize.ShloMosaic Idealize.SL.Sem

set_option maxRecDepth 65536 in
/-- The two readings of the sample mixer have the same body. -/
theorem body_same : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl

/-- And the same table of calls. -/
theorem defs_same : Cert.Kernel.defs (F := Bits) = Cert.KernelIdeal.defs (F := Bits) :=
  congrArg (Idealize.ShloMosaic.Pipeline.defs (Cert.KernelIdeal.pcfgs (F := Bits))) body_same

set_option maxRecDepth 65536 in
/-- The sample mixer over machine words ends with its arguments unchanged and every semaphore at zero. -/
theorem frame_kernel : Cert.quiescent_Kernel := fun m ρ _ => by
  rw [defs_same]
  exact Cert.KernelIdeal.Gen.frame (F := Bits) m ρ

/-- The sample mixer over the extended reals ends with its arguments unchanged and every semaphore at zero. -/
theorem frame_kernelIdeal : Cert.quiescent_KernelIdeal := fun m ρ _ => Cert.KernelIdeal.Gen.frame (F := Ideal) m ρ

/-- Its reference ends with its arguments unchanged; it has no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The same of the memories that the precondition holds of. -/
theorem frame_kernelIdeal_finite : Cert.quiescent_KernelIdeal_pre_finite := fun m ρ _ => Cert.KernelIdeal.Gen.frame (F := Ideal) m ρ

/-- And of the reference's. -/
theorem frame_reference_finite : Cert.quiescent_ReferenceIdeal_pre_finite := fun m ρ _ => frame_reference m ρ trivial

/-- The precondition: the arguments the new states are made of are real. -/
theorem real_of_pre (m : (ℓ : Loc Cert.KernelIdeal.nD Cert.KernelIdeal.τ Cert.KernelIdeal.sig) → Buf (Elt Ideal) ℓ) (h : Cert.Pre_KernelIdeal_finite m) (c : Dev Cert.KernelIdeal.nD) : Cert.KernelIdeal.Val.Real6 m c := by
  obtain ⟨h1, h4, h6, h8, h9, h10⟩ := Cert.KernelIdeal.Val.fin_of_pre _ _ _ _ _ _ _ _ _ _ _ _ _ _ _ _ (h c)
  exact ⟨h1, h4, h6, h8, h9, h10⟩

/-- The sample mixer and its reference end with equal states and equal convolution windows, for real arguments. -/
theorem algebraic_kernel : Cert.algebraic_KernelIdeal_ReferenceIdeal_pre_finite := by
  intro m g m' g' hpre hagree
  refine ⟨fun c => Cert.KernelIdeal.Val.newSdArr (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.Val.newSq (m ((c.tc : Thread Cert.KernelIdeal.nD Cert.KernelIdeal.τ).loc Cert.KernelIdeal.main_arg1)),
    fun c => Cert.KernelIdeal.Val.newSc (m ((c.tc : Thread Cert.KernelIdeal.nD Cert.KernelIdeal.τ).loc Cert.KernelIdeal.main_arg3)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Value.run_blocks (F := Ideal) m g)
    exact ⟨(h c).2.1.trans (Cert.KernelIdeal.Val.array17 m c (real_of_pre m hpre c)), (h c).2.2.1.trans (Cert.KernelIdeal.Val.array18 m c), (h c).2.2.2.1.trans (Cert.KernelIdeal.Val.array19 m c), (h c).2.2.2.2⟩
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' g')
    · obtain ⟨h0, h1, h2, h3, h4, h5, h6, h7, h8, h9, h10, h11, h12, h13, h14, h15⟩ := hagree c
      clear h
      refine (Cert.ReferenceIdeal.Read.val_main_v166_eq _).trans ?_
      show Cert.ReferenceIdeal.Read.val_main_v166 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
      rw [h1, h4, h5, h6, h8, h9, h10]
      funext i
      obtain ⟨a, b, d, w, rfl⟩ : ∃ a b d w, i = ix5 0 a b d w := ⟨i 1, i 2, i 3, i 4, by funext q; match q with | 0 => exact Subsingleton.elim (α := Fin 1) _ _ | 1 => rfl | 2 => rfl | 3 => rfl | 4 => rfl⟩
      exact Cert.KernelIdeal.Val.ref_newSd _ _ _ _ _ _ _ a b d w
    · obtain ⟨h0, h1, h2, h3, h4, h5, h6, h7, h8, h9, h10, h11, h12, h13, h14, h15⟩ := hagree c
      clear h
      refine (Cert.ReferenceIdeal.Read.val_main_v168_eq _).trans ?_
      show Cert.ReferenceIdeal.Read.val_main_v168 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) = _
      rw [h1, h6]
      funext i
      obtain ⟨a, b, k, rfl⟩ : ∃ a b k, i = ix3 a b k := ⟨i 0, i 1, i 2, by funext d; match d with | 0 => rfl | 1 => rfl | 2 => rfl⟩
      exact Cert.KernelIdeal.Val.ref_newSq _ _ a b k
    · obtain ⟨h0, h1, h2, h3, h4, h5, h6, h7, h8, h9, h10, h11, h12, h13, h14, h15⟩ := hagree c
      clear h
      refine (Cert.ReferenceIdeal.Read.val_main_v170_eq _).trans ?_
      show Cert.ReferenceIdeal.Read.val_main_v170 (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) = _
      rw [h3, h7]
      funext i
      obtain ⟨a, b, k, rfl⟩ : ∃ a b k, i = ix3 a b k := ⟨i 0, i 1, i 2, by funext d; match d with | 0 => rfl | 1 => rfl | 2 => rfl⟩
      exact Cert.KernelIdeal.Val.ref_newSc _ _ a b k

end Cert.KernelIdeal.Claims

end
-- ==== Proof.BackBody.lean ====
module

public import proofs.«01_k».proof.Proof.Gen.BackIdeal.Frame
public import proofs.«01_k».proof.Proof.Gen.BackIdeal.Skeleton
public import Idealize.ShloMosaic.Lib.VecWindow

@[expose] public section

set_option maxRecDepth 16384

noncomputable section

namespace Cert.BackIdeal.Run

open Cert.BackIdeal Cert.BackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body does at one grid point -/

/-- Points 0 to 7 convert the weights; -/
abbrev cond0_0 (i : grid0.Coords) : Prop := k0_cond1 i = 1#1
/-- When the body converts weights. -/
theorem hcond0_0 : ∀ t : Fin cfg0.N, cond0_0 (grid0.coords t) ↔ t.val < 8 :=
  (by decide +kernel : ∀ t : Fin grid0.N, cond0_0 (grid0.coords t) ↔ t.val < 8)
/-- points 8 to 39 work on a block of prompt rows; -/
abbrev cond0_1 (i : grid0.Coords) : Prop := k0_cond2 i = 1#1
/-- When it works on the prompt. -/
theorem hcond0_1 : ∀ t : Fin cfg0.N, cond0_1 (grid0.coords t) ↔ (8 ≤ t.val ∧ t.val ≤ 39) :=
  (by decide +kernel : ∀ t : Fin grid0.N, cond0_1 (grid0.coords t) ↔ (8 ≤ t.val ∧ t.val ≤ 39))
/-- points 40 and 41 work on a block of sample rows. -/
abbrev cond0_2 (i : grid0.Coords) : Prop := k0_cond3 i = 1#1
/-- When it works on the other rows. -/
theorem hcond0_2 : ∀ t : Fin cfg0.N, cond0_2 (grid0.coords t) ↔ 40 ≤ t.val :=
  (by decide +kernel : ∀ t : Fin grid0.N, cond0_2 (grid0.coords t) ↔ 40 ≤ t.val)

/-- What the body computes from 256 rows: the second feed-forward half and the final normalisation. -/
def half (x : Vec F S256x1024 .f32) (nw fw : Vec F S1x1024 .f32) (wg wu : Vec F S1024x2816 .bf16) (wd : Vec F S2816x1024 .bf16) :
    FVec F S256x1024 .f32 :=
  k0_pay9 (k0_pay6 x nw wg wu wd) (k0_pay7 fw) (k0_pay8 x nw wg wu wd)

/-- The stored products, one by one. -/
theorem half_second (x : Vec F S256x1024 .f32) (nw fw : Vec F S1x1024 .f32) (wg wu : Vec F S1024x2816 .bf16) (wd : Vec F S2816x1024 .bf16) :
    k0_pay4 (k0_pay10 x nw wg wu wd) (k0_pay11 fw) (k0_pay12 x nw wg wu wd) = half x nw fw wg wu wd := rfl

theorem half_third (x : Vec F S256x1024 .f32) (nw fw : Vec F S1x1024 .f32) (wg wu : Vec F S1024x2816 .bf16) (wd : Vec F S2816x1024 .bf16) :
    k0_pay16 (k0_pay13 x nw wg wu wd) (k0_pay14 fw) (k0_pay15 x nw wg wu wd) = half x nw fw wg wu wd := rfl

theorem half_fourth (x : Vec F S256x1024 .f32) (nw fw : Vec F S1x1024 .f32) (wg wu : Vec F S1024x2816 .bf16) (wd : Vec F S2816x1024 .bf16) :
    k0_pay5 (k0_pay17 x nw wg wu wd) (k0_pay18 fw) (k0_pay19 x nw wg wu wd) = half x nw fw wg wu wd := rfl

/-- The upper and the lower 256 rows of a block of 512. -/
abbrev upper (x : Vec F S512x1024 .f32) : Vec F S256x1024 .f32 := VecWindow.window x ![0, 0] S256x1024.size inb_S512x1024_S256x1024_0_0
abbrev lower (x : Vec F S512x1024 .f32) : Vec F S256x1024 .f32 := VecWindow.window x ![256, 0] S256x1024.size inb_S512x1024_S256x1024_256_0

/-- What the body leaves in the output block, its two halves stored one after the other over `y`. -/
def block (y x : Vec F S512x1024 .f32) (nw fw : Vec F S1x1024 .f32) (wg wu : Vec F S1024x2816 .bf16) (wd : Vec F S2816x1024 .bf16) :
    Vec F S512x1024 .f32 :=
  VecWindow.put (VecWindow.put y ![0, 0] S256x1024.size (half (upper x) nw fw wg wu wd)) ![256, 0] S256x1024.size (half (lower x) nw fw wg wu wd)

set_option maxHeartbeats 1000000 in
/-- At a point that converts weights: the three scratch buffers get the converted chunk put at the point's rows, everything else is left as it was. -/
theorem body_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S128x2816 .f32) (harg3 : arg3.IsWhole) (arg4 : Memref sig .tc .vmem S128x2816 .f32) (harg4 : arg4.IsWhole) (arg5 : Memref sig .tc .vmem S352x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole)
    (hc0 : cond0_0 i) (hc1 : ¬cond0_1 i) (hc2 : ¬cond0_2 i)
    (x0 : Vec F S512x1024 .f32) (x1 : Vec F S512x1024 .f32) (x2 : Vec F S128x2816 .f32) (x3 : Vec F S128x2816 .f32) (x4 : Vec F S352x1024 .f32) (x5 : Vec F S1x1024 .f32) (x6 : Vec F S1x1024 .f32) (y7 : Vec F S512x1024 .f32) (y8 : Vec F S512x1024 .f32) (s0 : Vec F S1024x2816 .bf16) (s1 : Vec F S1024x2816 .bf16) (s2 : Vec F S2816x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8 ∗ owns (c : Thread nD τ) arg10 fullShare s0 ∗ owns (c : Thread nD τ) arg11 fullShare s1 ∗ owns (c : Thread nD τ) arg12 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8 ∗ owns (c : Thread nD τ) arg10 fullShare (VecWindow.put s0 (k0_off1 i) S128x2816.size (k0_pay1 x2)) ∗ owns (c : Thread nD τ) arg11 fullShare (VecWindow.put s1 (k0_off1 i) S128x2816.size (k0_pay2 x3)) ∗ owns (c : Thread nD τ) arg12 fullShare (VecWindow.put s2 (k0_off2 i) S352x1024.size (k0_pay3 x4))) -∗ K ⟨⟩))
      ⊢ wp frame (wpE (defs₀ (F := F)) Variants.none c none) E (cc0_back i arg1 harg1 arg2 harg2 arg3 harg3 arg4 harg4 arg5 harg5 arg6 harg6 arg7 harg7 arg8 harg8 arg9 harg9 arg10 harg10 arg11 harg11 arg12 harg12) K := by
  simp only [cc0_back_eq_skeleton]; unfold cc0_back_skel
  skip
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0 | sl_exact hc1 | sl_exact hc2)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; rw [View.read_writes_cons_put _ _ _ _ _ rfl, View.writes_nil, harg10.read_unread, View.readAt_full, harg3.read_unread]
  isplitl [H10]
  · iexists _; isplitr; swap; · iexact H10
    ipureintro; rw [View.read_writes_cons_put _ _ _ _ _ rfl, View.writes_nil, harg11.read_unread, View.readAt_full, harg4.read_unread]
  iexists _; isplitr; swap; · iexact H11
  ipureintro; rw [View.read_writes_cons_put _ _ _ _ _ rfl, View.writes_nil, harg12.read_unread, View.readAt_full, harg5.read_unread]

set_option maxHeartbeats 1000000 in
/-- At a point that works on prompt rows: the block of results is left in the first output's buffer. -/
theorem body_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S128x2816 .f32) (harg3 : arg3.IsWhole) (arg4 : Memref sig .tc .vmem S128x2816 .f32) (harg4 : arg4.IsWhole) (arg5 : Memref sig .tc .vmem S352x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole)
    (hc0 : ¬cond0_0 i) (hc1 : cond0_1 i) (hc2 : ¬cond0_2 i)
    (x0 : Vec F S512x1024 .f32) (x1 : Vec F S512x1024 .f32) (x2 : Vec F S128x2816 .f32) (x3 : Vec F S128x2816 .f32) (x4 : Vec F S352x1024 .f32) (x5 : Vec F S1x1024 .f32) (x6 : Vec F S1x1024 .f32) (y7 : Vec F S512x1024 .f32) (y8 : Vec F S512x1024 .f32) (s0 : Vec F S1024x2816 .bf16) (s1 : Vec F S1024x2816 .bf16) (s2 : Vec F S2816x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8 ∗ owns (c : Thread nD τ) arg10 fullShare s0 ∗ owns (c : Thread nD τ) arg11 fullShare s1 ∗ owns (c : Thread nD τ) arg12 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (block y7 x0 x5 x6 s0 s1 s2) ∗ owns (c : Thread nD τ) arg9 fullShare y8 ∗ owns (c : Thread nD τ) arg10 fullShare s0 ∗ owns (c : Thread nD τ) arg11 fullShare s1 ∗ owns (c : Thread nD τ) arg12 fullShare s2) -∗ K ⟨⟩))
      ⊢ wp frame (wpE (defs₀ (F := F)) Variants.none c none) E (cc0_back i arg1 harg1 arg2 harg2 arg3 harg3 arg4 harg4 arg5 harg5 arg6 harg6 arg7 harg7 arg8 harg8 arg9 harg9 arg10 harg10 arg11 harg11 arg12 harg12) K := by
  simp only [cc0_back_eq_skeleton]; unfold cc0_back_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0 | sl_exact hc1 | sl_exact hc2)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; sl_unfold_words
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e10 : arg10.view.readAt (Elt F) (Rect.unit ![0, 0] ![1024, 2816] inb_S1024x2816_S1024x2816_0_0).toLoadRect (harg10.unread s0) = s0 :=
      (View.readAt_full (s := S1024x2816) _ _ _).trans (harg10.read_unread _)
    have e11 : arg11.view.readAt (Elt F) (Rect.unit ![0, 0] ![1024, 2816] inb_S1024x2816_S1024x2816_0_0).toLoadRect (harg11.unread s1) = s1 :=
      (View.readAt_full (s := S1024x2816) _ _ _).trans (harg11.read_unread _)
    have e12 : arg12.view.readAt (Elt F) (Rect.unit ![0, 0] ![2816, 1024] inb_S2816x1024_S2816x1024_0_0).toLoadRect (harg12.unread s2) = s2 :=
      (View.readAt_full (s := S2816x1024) _ _ _).trans (harg12.read_unread _)
    have ex : ∀ off (inb : ∀ a : Fin 2, off a + S256x1024.size a ≤ S512x1024.size a), arg1.view.readAt (Elt F) (Rect.unit (s := S512x1024) off S256x1024.size inb).toLoadRect (harg1.unread x0) = VecWindow.window x0 off S256x1024.size inb :=
      fun off inb => (View.readAt_unit (s := S512x1024) _ _ _ rfl inb).trans (by rw [harg1.read_unread])
    simp only [View.read_writes_cons_put _ _ _ _ _ rfl, View.writes_nil, harg8.read_unread, half_second]
    rw [e6, e7, e10, e11, e12]
    exact congrArg₂ (fun a b => VecWindow.put (VecWindow.put y7 ![0, 0] S256x1024.size (half a x5 x6 s0 s1 s2)) ![256, 0] S256x1024.size (half b x5 x6 s0 s1 s2)) (ex _ _) (ex _ _)
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  iexists _; isplitr; swap; · iexact H11
  ipureintro; exact harg12.read_unread _

set_option maxHeartbeats 1000000 in
/-- At a point that works on sample rows: the block of results is left in the second output's buffer. -/
theorem body_C (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S128x2816 .f32) (harg3 : arg3.IsWhole) (arg4 : Memref sig .tc .vmem S128x2816 .f32) (harg4 : arg4.IsWhole) (arg5 : Memref sig .tc .vmem S352x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole)
    (hc0 : ¬cond0_0 i) (hc1 : ¬cond0_1 i) (hc2 : cond0_2 i)
    (x0 : Vec F S512x1024 .f32) (x1 : Vec F S512x1024 .f32) (x2 : Vec F S128x2816 .f32) (x3 : Vec F S128x2816 .f32) (x4 : Vec F S352x1024 .f32) (x5 : Vec F S1x1024 .f32) (x6 : Vec F S1x1024 .f32) (y7 : Vec F S512x1024 .f32) (y8 : Vec F S512x1024 .f32) (s0 : Vec F S1024x2816 .bf16) (s1 : Vec F S1024x2816 .bf16) (s2 : Vec F S2816x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8 ∗ owns (c : Thread nD τ) arg10 fullShare s0 ∗ owns (c : Thread nD τ) arg11 fullShare s1 ∗ owns (c : Thread nD τ) arg12 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare (block y8 x1 x5 x6 s0 s1 s2) ∗ owns (c : Thread nD τ) arg10 fullShare s0 ∗ owns (c : Thread nD τ) arg11 fullShare s1 ∗ owns (c : Thread nD τ) arg12 fullShare s2) -∗ K ⟨⟩))
      ⊢ wp frame (wpE (defs₀ (F := F)) Variants.none c none) E (cc0_back i arg1 harg1 arg2 harg2 arg3 harg3 arg4 harg4 arg5 harg5 arg6 harg6 arg7 harg7 arg8 harg8 arg9 harg9 arg10 harg10 arg11 harg11 arg12 harg12) K := by
  simp only [cc0_back_eq_skeleton]; unfold cc0_back_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact hc0 | sl_exact hc1 | sl_exact hc2)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; sl_unfold_words
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e10 : arg10.view.readAt (Elt F) (Rect.unit ![0, 0] ![1024, 2816] inb_S1024x2816_S1024x2816_0_0).toLoadRect (harg10.unread s0) = s0 :=
      (View.readAt_full (s := S1024x2816) _ _ _).trans (harg10.read_unread _)
    have e11 : arg11.view.readAt (Elt F) (Rect.unit ![0, 0] ![1024, 2816] inb_S1024x2816_S1024x2816_0_0).toLoadRect (harg11.unread s1) = s1 :=
      (View.readAt_full (s := S1024x2816) _ _ _).trans (harg11.read_unread _)
    have e12 : arg12.view.readAt (Elt F) (Rect.unit ![0, 0] ![2816, 1024] inb_S2816x1024_S2816x1024_0_0).toLoadRect (harg12.unread s2) = s2 :=
      (View.readAt_full (s := S2816x1024) _ _ _).trans (harg12.read_unread _)
    have ex : ∀ off (inb : ∀ a : Fin 2, off a + S256x1024.size a ≤ S512x1024.size a), arg2.view.readAt (Elt F) (Rect.unit (s := S512x1024) off S256x1024.size inb).toLoadRect (harg2.unread x1) = VecWindow.window x1 off S256x1024.size inb :=
      fun off inb => (View.readAt_unit (s := S512x1024) _ _ _ rfl inb).trans (by rw [harg2.read_unread])
    simp only [View.read_writes_cons_put _ _ _ _ _ rfl, View.writes_nil, harg9.read_unread, half_third, half_fourth]
    rw [e6, e7, e10, e11, e12]
    exact congrArg₂ (fun a b => VecWindow.put (VecWindow.put y8 ![0, 0] S256x1024.size (half a x5 x6 s0 s1 s2)) ![256, 0] S256x1024.size (half b x5 x6 s0 s1 s2)) (ex _ _) (ex _ _)
  isplitl [H9]
  · iexists _; isplitr; swap; · iexact H9
    ipureintro; exact harg10.read_unread _
  isplitl [H10]
  · iexists _; isplitr; swap; · iexact H10
    ipureintro; exact harg11.read_unread _
  iexists _; isplitr; swap; · iexact H11
  ipureintro; exact harg12.read_unread _

end Cert.BackIdeal.Run

end
-- ==== Proof.Rows.lean ====
module

public import Idealize.ShloMosaic.Lib.VecWindow
public import Idealize.ShloMosaic.Lib.Pointwise.Index

@[expose] public section

/-! # Buffers filled row by row

A buffer of `R` rows is filled chunk by chunk, each chunk of `C` rows put below the ones already there. `Held n w s`
says that the first `n` rows of the buffer `s` already are those of the array `w`. -/

namespace Cert.Rows

open Idealize.ShloMosaic

/-- The first `n` rows of `s` are those of `w`. -/
def Held {R K : ℕ} {α : Type} (n : ℕ) (w s : (⟨2, ![R, K]⟩ : Shape).Idx → α) : Prop := ∀ j, (j 0).val < n → s j = w j

/-- All rows held is equality. -/
theorem Held.all {R K : ℕ} {α : Type} {n : ℕ} {w s : (⟨2, ![R, K]⟩ : Shape).Idx → α} (h : Held n w s) (hn : R ≤ n) : s = w :=
  funext fun j => h j (lt_of_lt_of_le (j 0).isLt hn)

/-- Putting the chunk of point `t` extends the converted rows by one chunk. -/
theorem Held.put {R K C : ℕ} {α : Type} {t : ℕ} {w s : (⟨2, ![R, K]⟩ : Shape).Idx → α} (h : Held (C * t) w s)
    {off : Fin 2 → ℕ} (hoff : off = ![C * t, 0]) (p : (⟨2, ![C, K]⟩ : Shape).Idx → α)
    (hp : ∀ (r : Fin C) (k : Fin K) (hr : C * t + r.val < R), w (ix2 ⟨C * t + r.val, hr⟩ k) = p (ix2 r k)) :
    Held (C * (t + 1)) w (VecWindow.put (s := ⟨2, ![R, K]⟩) s off ![C, K] p) := by
  intro j hj
  subst hoff
  unfold VecWindow.put
  have hk : (j 1).val < K := (j 1).isLt
  have hR : (j 0).val < R := (j 0).isLt
  have hj' : (j 0).val < C * t + C := by rw [Nat.mul_succ] at hj; exact hj
  split
  · rename_i hin
    have h0 := hin 0
    have hlo : C * t ≤ (j 0).val := h0.1
    rw [show p _ = p (ix2 ⟨(j 0).val - C * t, by omega⟩ (j 1)) from congrArg p (by
      funext a
      match a with
      | ⟨0, _⟩ => exact Fin.ext rfl
      | ⟨1, _⟩ => exact Fin.ext (Nat.sub_zero _))]
    rw [← hp ⟨(j 0).val - C * t, by omega⟩ (j 1) (by simp only; omega)]
    congr 1
    funext a
    match a with
    | ⟨0, _⟩ => exact Fin.ext (Nat.add_sub_cancel' hlo)
    | ⟨1, _⟩ => rfl
  · rename_i hout
    refine h j ?_
    by_contra hlt
    refine hout fun a => ?_
    match a with
    | ⟨0, _⟩ => exact ⟨by show C * t ≤ (j 0).val; omega, hj'⟩
    | ⟨1, _⟩ => exact ⟨Nat.zero_le _, by show (j 1).val < 0 + K; omega⟩

/-- Reading an array after rows `o … o + C - 1` were put into it: one of those rows, … -/
theorem put_rows_in {R K C : ℕ} {α : Type} (s : (⟨2, ![R, K]⟩ : Shape).Idx → α) (o : ℕ) (p : (⟨2, ![C, K]⟩ : Shape).Idx → α)
    (r : Fin R) (k : Fin K) (hlo : o ≤ r.val) (hhi : r.val - o < C) :
    VecWindow.put (s := ⟨2, ![R, K]⟩) s ![o, 0] ![C, K] p (ix2 r k) = p (ix2 ⟨r.val - o, hhi⟩ k) := by
  unfold VecWindow.put
  rw [dif_pos (fun a => by
    match a with
    | ⟨0, _⟩ => exact ⟨hlo, by show r.val < o + C; omega⟩
    | ⟨1, _⟩ => exact ⟨Nat.zero_le _, by have := k.isLt; show k.val < 0 + K; omega⟩)]
  refine congrArg p (funext fun a => ?_)
  match a with
  | ⟨0, _⟩ => exact Fin.ext rfl
  | ⟨1, _⟩ => exact Fin.ext (Nat.sub_zero _)

/-- … or another row, which is as it was. -/
theorem put_rows_out {R K C : ℕ} {α : Type} (s : (⟨2, ![R, K]⟩ : Shape).Idx → α) (o : ℕ) (p : (⟨2, ![C, K]⟩ : Shape).Idx → α)
    (r : Fin R) (k : Fin K) (h : r.val < o ∨ o + C ≤ r.val) :
    VecWindow.put (s := ⟨2, ![R, K]⟩) s ![o, 0] ![C, K] p (ix2 r k) = s (ix2 r k) := by
  unfold VecWindow.put
  refine dif_neg fun hin => ?_
  have h0 : o ≤ r.val ∧ r.val < o + C := hin 0
  omega

/-- A window of rows `o … o + C - 1`, read at a row. -/
theorem window_rows {R K C : ℕ} {α : Type} (s : (⟨2, ![R, K]⟩ : Shape).Idx → α) (o : ℕ) (inb) (r : Fin C) (k : Fin K) (hr : o + r.val < R) :
    VecWindow.window (s := ⟨2, ![R, K]⟩) s ![o, 0] ![C, K] inb (ix2 r k) = s (ix2 ⟨o + r.val, hr⟩ k) := by
  unfold VecWindow.window
  refine congrArg s (funext fun a => ?_)
  match a with
  | ⟨0, _⟩ => exact Fin.ext (by show o + 1 * r.val = o + r.val; omega)
  | ⟨1, _⟩ => exact Fin.ext (by show 0 + 1 * k.val = k.val; omega)

end Cert.Rows

end
-- ==== Proof.BackRun.lean ====
module

public import proofs.«01_k».proof.Proof.BackBody
public import proofs.«01_k».proof.Proof.Rows
public import Idealize.ShloMosaic.Lib.Pipeline.TableIdle

@[expose] public section

set_option maxRecDepth 16384

noncomputable section

namespace Cert.BackIdeal.Run

open Cert.BackIdeal Cert.BackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Rows
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## Names for the buffers the body is given -/

abbrev ms0_0 (t : Fin cfg0.N) : Memref sig .tc .vmem S512x1024 .f32 := win0_0.stage (cfg0.slots t 0)
abbrev ms0_1 (t : Fin cfg0.N) : Memref sig .tc .vmem S512x1024 .f32 := win0_1.stage (cfg0.slots t 1)
abbrev ms0_2 (t : Fin cfg0.N) : Memref sig .tc .vmem S128x2816 .f32 := win0_2.stage (cfg0.slots t 2)
abbrev ms0_3 (t : Fin cfg0.N) : Memref sig .tc .vmem S128x2816 .f32 := win0_3.stage (cfg0.slots t 3)
abbrev ms0_4 (t : Fin cfg0.N) : Memref sig .tc .vmem S352x1024 .f32 := win0_4.stage (cfg0.slots t 4)
abbrev ms0_5 (t : Fin cfg0.N) : Memref sig .tc .vmem S1x1024 .f32 := win0_5.stage (cfg0.slots t 5)
abbrev ms0_6 (t : Fin cfg0.N) : Memref sig .tc .vmem S1x1024 .f32 := win0_6.stage (cfg0.slots t 6)
abbrev ms0_7 (t : Fin cfg0.N) : Memref sig .tc .vmem S512x1024 .f32 := win0_7.stage (cfg0.slots t 7)
abbrev ms0_8 (t : Fin cfg0.N) : Memref sig .tc .vmem S512x1024 .f32 := win0_8.stage (cfg0.slots t 8)
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The converted weights -/

/-- Grid point `n` of the conversion. -/
abbrev pt (n : ℕ) (h : n < 42) : Fin cfg0.N := ⟨n, h.trans_eq N_0.symm⟩

/-- The gate weights as the scratch buffer holds them once converted: row `r` comes from the chunk of point `r / 128`. -/
def wGate (c : Dev nD) : Vec F S1024x2816 .bf16 := fun j =>
  k0_pay1 (iblk m c 2 (pt ((j 0).val / 128) (by have : (j 0).val < 1024 := (j 0).isLt; omega))) (ix2 (n0 := 128) ⟨(j 0).val % 128, Nat.mod_lt _ (by decide)⟩ (j 1))

/-- The up-projection's weights, converted. -/
def wUp (c : Dev nD) : Vec F S1024x2816 .bf16 := fun j =>
  k0_pay2 (iblk m c 3 (pt ((j 0).val / 128) (by have : (j 0).val < 1024 := (j 0).isLt; omega))) (ix2 (n0 := 128) ⟨(j 0).val % 128, Nat.mod_lt _ (by decide)⟩ (j 1))

/-- The down-projection's weights, converted: chunks of 352 rows. -/
def wDown (c : Dev nD) : Vec F S2816x1024 .bf16 := fun j =>
  k0_pay3 (iblk m c 4 (pt ((j 0).val / 352) (by have : (j 0).val < 2816 := (j 0).isLt; omega))) (ix2 (n0 := 352) ⟨(j 0).val % 352, Nat.mod_lt _ (by decide)⟩ (j 1))

/-- Where the converted rows go. -/
theorem off1_eq : ∀ t : Fin cfg0.N, t.val < 8 → k0_off1 (grid0.coords t) = ![128 * t.val, 0] :=
  (by decide +kernel : ∀ t : Fin grid0.N, t.val < 8 → k0_off1 (grid0.coords t) = ![128 * t.val, 0])
/-- The same of the down-projection. -/
theorem off2_eq : ∀ t : Fin cfg0.N, t.val < 8 → k0_off2 (grid0.coords t) = ![352 * t.val, 0] :=
  (by decide +kernel : ∀ t : Fin grid0.N, t.val < 8 → k0_off2 (grid0.coords t) = ![352 * t.val, 0])

/-- What the scratch buffers hold before point `n`: their converted rows. -/
def Conv (c : Dev nD) (n : ℕ) (s0 s1 : Vec F S1024x2816 .bf16) (s2 : Vec F S2816x1024 .bf16) : Prop :=
  Held (R := 1024) (K := 2816) (128 * n) (wGate m c) s0 ∧ Held (R := 1024) (K := 2816) (128 * n) (wUp m c) s1 ∧ Held (R := 2816) (K := 1024) (352 * n) (wDown m c) s2

/-- One conversion point extends the converted rows. -/
theorem conv_step (c : Dev nD) (t : Fin cfg0.N) (ht : t.val < 8) (s0 s1 : Vec F S1024x2816 .bf16) (s2 : Vec F S2816x1024 .bf16) (h : Conv m c t.val s0 s1 s2) :
    Conv m c (t.val + 1) (VecWindow.put s0 (k0_off1 (grid0.coords t)) S128x2816.size (k0_pay1 (iblk m c 2 t)))
      (VecWindow.put s1 (k0_off1 (grid0.coords t)) S128x2816.size (k0_pay2 (iblk m c 3 t)))
      (VecWindow.put s2 (k0_off2 (grid0.coords t)) S352x1024.size (k0_pay3 (iblk m c 4 t))) := by
  refine ⟨Held.put h.1 (off1_eq t ht) _ ?_, Held.put h.2.1 (off1_eq t ht) _ ?_, Held.put h.2.2 (off2_eq t ht) _ ?_⟩
  · intro r k hr
    have hr' := r.isLt
    show k0_pay1 (iblk m c 2 (pt ((128 * t.val + r.val) / 128) _)) (ix2 ⟨(128 * t.val + r.val) % 128, _⟩ k) = _
    rw [show pt ((128 * t.val + r.val) / 128) (by omega) = t from Fin.ext (by show (128 * t.val + r.val) / 128 = t.val; omega),
      show (⟨(128 * t.val + r.val) % 128, Nat.mod_lt _ (by decide)⟩ : Fin 128) = r from Fin.ext (by show (128 * t.val + r.val) % 128 = r.val; omega)]
  · intro r k hr
    have hr' := r.isLt
    show k0_pay2 (iblk m c 3 (pt ((128 * t.val + r.val) / 128) _)) (ix2 ⟨(128 * t.val + r.val) % 128, _⟩ k) = _
    rw [show pt ((128 * t.val + r.val) / 128) (by omega) = t from Fin.ext (by show (128 * t.val + r.val) / 128 = t.val; omega),
      show (⟨(128 * t.val + r.val) % 128, Nat.mod_lt _ (by decide)⟩ : Fin 128) = r from Fin.ext (by show (128 * t.val + r.val) % 128 = r.val; omega)]
  · intro r k hr
    have hr' := r.isLt
    show k0_pay3 (iblk m c 4 (pt ((352 * t.val + r.val) / 352) _)) (ix2 ⟨(352 * t.val + r.val) % 352, _⟩ k) = _
    rw [show pt ((352 * t.val + r.val) / 352) (by omega) = t from Fin.ext (by show (352 * t.val + r.val) / 352 = t.val; omega),
      show (⟨(352 * t.val + r.val) % 352, Nat.mod_lt _ (by decide)⟩ : Fin 352) = r from Fin.ext (by show (352 * t.val + r.val) % 352 = r.val; omega)]

/-- Once every chunk is converted the scratch buffers are the converted weights. -/
theorem Conv.done {c : Dev nD} {n : ℕ} (hn : 8 ≤ n) {s0 s1 : Vec F S1024x2816 .bf16} {s2 : Vec F S2816x1024 .bf16} (h : Conv m c n s0 s1 s2) :
    s0 = wGate m c ∧ s1 = wUp m c ∧ s2 = wDown m c :=
  ⟨h.1.all (by omega), h.2.1.all (by omega), h.2.2.all (by omega)⟩

/-- Converted weights stay so. -/
theorem Conv.of_eq {c : Dev nD} (n : ℕ) : Conv m c n (wGate m c) (wUp m c) (wDown m c) :=
  ⟨fun _ _ => rfl, fun _ _ => rfl, fun _ _ => rfl⟩

/-! ## The pipeline's proof data -/

/-- The block of results does not depend on what the buffer held. -/
theorem block_prior (y y' x : Vec F S512x1024 .f32) (nw fw : Vec F S1x1024 .f32) (wg wu : Vec F S1024x2816 .bf16) (wd : Vec F S2816x1024 .bf16) :
    block y x nw fw wg wu wd = block y' x nw fw wg wu wd := by
  funext j
  unfold block VecWindow.put
  split
  · rfl
  · rename_i h
    have hj0 : (j 0).val < 512 := (j 0).isLt
    have hj1 : (j 1).val < 1024 := (j 1).isLt
    have h0 : (j 0).val < 256 := by
      by_contra hlt
      refine h fun a => ?_
      match a with
      | ⟨0, _⟩ => exact ⟨by show 256 ≤ (j 0).val; omega, by show (j 0).val < 256 + 256; omega⟩
      | ⟨1, _⟩ => exact ⟨Nat.zero_le _, by show (j 1).val < 0 + 1024; omega⟩
    have hin : ∀ a : Fin 2, (![0, 0] : Fin 2 → ℕ) a ≤ (j a).val ∧ (j a).val < (![0, 0] : Fin 2 → ℕ) a + S256x1024.size a := fun a => by
      match a with
      | ⟨0, _⟩ => exact ⟨Nat.zero_le _, by show (j 0).val < 0 + 256; omega⟩
      | ⟨1, _⟩ => exact ⟨Nat.zero_le _, by show (j 1).val < 0 + 1024; omega⟩
    rw [dif_pos hin, dif_pos hin]

/-- The block of results of point `t` for prompt rows, from the blocks the windows hold there. -/
def outA (c : Dev nD) (t : Fin cfg0.N) : Vec F S512x1024 .f32 :=
  block (iblk m c 0 t) (iblk m c 0 t) (iblk m c 5 t) (iblk m c 6 t) (wGate m c) (wUp m c) (wDown m c)
/-- The same for sample rows. -/
def outB (c : Dev nD) (t : Fin cfg0.N) : Vec F S512x1024 .f32 :=
  block (iblk m c 1 t) (iblk m c 1 t) (iblk m c 5 t) (iblk m c 6 t) (wGate m c) (wUp m c) (wDown m c)

/-- The invariant between points: the scratch buffers hold the rows converted so far. -/
def inv (c : Dev nD) (n : ℕ) : sProp 𝕄 :=
  iprop((∃ s0 s1 s2, ⌜Conv m c n s0 s1 s2⌝ ∗ owns (c : Thread nD τ) scM0_0 fullShare s0 ∗ owns (c : Thread nD τ) scM0_1 fullShare s1 ∗ owns (c : Thread nD τ) scM0_2 fullShare s2)
    ∗ ∃ r, prngReg c r)

/-- The proof data of the pipeline on core `c`. The first output's last block stays in its buffer through the
    points that work on sample rows: what is left there is what point 39 left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outA m c (pt (min t.val 39) (lt_of_le_of_lt (Nat.min_le_right _ _) (by decide)))
    | ⟨8, _⟩ => outB m c t
  Φ t := inv m c (min t.val 8)
  q _ := fullShare
  owed _ := 0

/-- The arrays at the start. -/
theorem A_eq (c : Dev nD) (w : Fin cfg0.W) : (dats m 0 c).A w = V m c (Pipeline.arrRef spec0 w) := by
  dsimp only [dats]

/-- What a point leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outA m c (pt (min t.val 39) (lt_of_le_of_lt (Nat.min_le_right _ _) (by decide))) := by dsimp only [dats]
theorem after0_8 (c : Dev nD) (t : Fin cfg0.N) : (dats m 0 c).after 8 t = outB m c t := by dsimp only [dats]

/-- What a point finds in each input buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## When the outputs' buffers are touched -/

/-- When each result is idle and written back. -/
theorem idle7 : ∀ t : Fin cfg0.N, cfg0.idle 7 (grid0.coords t) = decide (¬(8 ≤ t.val ∧ t.val ≤ 39)) :=
  (by decide +kernel : ∀ t : Fin grid0.N, idle0 7 (grid0.coords t) = decide (¬(8 ≤ t.val ∧ t.val ≤ 39)))
theorem idle8 : ∀ t : Fin cfg0.N, cfg0.idle 8 (grid0.coords t) = decide (¬(40 ≤ t.val)) :=
  (by decide +kernel : ∀ t : Fin grid0.N, idle0 8 (grid0.coords t) = decide (¬(40 ≤ t.val)))
theorem flush7 : ∀ t : Fin cfg0.N, (cfg0.win 7).flush t = decide ((8 ≤ t.val ∧ t.val ≤ 38) ∨ t.val = 41) :=
  (by decide +kernel : ∀ t : Fin grid0.N, win0_7.flush t = decide ((8 ≤ t.val ∧ t.val ≤ 38) ∨ t.val = 41))
theorem flush8 : ∀ t : Fin cfg0.N, (cfg0.win 8).flush t = decide (40 ≤ t.val) :=
  (by decide +kernel : ∀ t : Fin grid0.N, win0_8.flush t = decide (40 ≤ t.val))

/-- The first output's buffer is fresh up to point 39, and holds point 39's block afterwards. -/
theorem fresh7 (n : ℕ) (hn : n ≤ cfg0.N) : cfg0.fresh 7 n = decide (n ≤ 39 ∨ n = 42) :=
  Pipeline.Cfg.fresh_tab (cfg := cfg0) 7 (fun n => decide (n ≤ 39 ∨ n = 42)) rfl
    (by decide +kernel : ∀ t : Fin grid0.N, decide (t.val + 1 ≤ 39 ∨ t.val + 1 = 42) = (win0_7.flush t || (idle0 7 (grid0.coords t) && decide (t.val ≤ 39 ∨ t.val = 42)))) n hn

/-- At the last point the first output's buffer still holds point 39's block. -/
theorem before7_last (c : Dev nD) (t : Fin cfg0.N) (ht : 40 ≤ t.val) (d) : (dats m 0 c).before 7 t d = (dats m 0 c).after 7 t := by
  rw [(dats m 0 c).before_out_traj 7 rfl (fun _ _ => rfl) (fun t ht0 hi hf => ?_) t.val t rfl d, fresh7 _ t.isLt.le, if_neg (by have hN : t.val < 42 := lt_of_lt_of_eq t.isLt (show cfg0.N = 42 from N_0); simp; omega),
    after0_7, after0_7]
  · congr 2
    show min (t.val - 1) 39 = min t.val 39
    omega
  · rw [fresh7 _ t.isLt.le] at hf
    have := of_decide_eq_false hf
    rw [after0_7, after0_7]
    congr 2
    show min t.val 39 = min (t.val - 1) 39
    omega

/-! ## The body's obligation -/

abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)
abbrev hs0_6 (t : Fin cfg0.N) : (ms0_6 t).IsWhole := hstage0_6 ((cfg0.slots t 6).cast nbuf0_6)
abbrev hs0_7 (t : Fin cfg0.N) : (ms0_7 t).IsWhole := hstage0_7 ((cfg0.slots t 7).cast nbuf0_7)
abbrev hs0_8 (t : Fin cfg0.N) : (ms0_8 t).IsWhole := hstage0_8 ((cfg0.slots t 8).cast nbuf0_8)
/-- Input buffers are left as found. -/
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]

/-- A point that computes prompt rows leaves its block of results. -/
theorem leaves7_block (c : Dev nD) (t : Fin cfg0.N) (h : 8 ≤ t.val ∧ t.val ≤ 39) :
    (dats m 0 c).leavesExact 7 t = owns (c : Thread nD τ) (ms0_7 t) fullShare (outA m c t) := by
  unfold Dat.leavesExact
  rw [show cfg0.idle 7 (grid0.coords t) = false from (idle7 t).trans (decide_eq_false (not_not.mpr h)), after0_7,
    show pt (min t.val 39) (lt_of_le_of_lt (Nat.min_le_right _ _) (by decide)) = t from Fin.ext (min_eq_left h.2)]

/-- Any other point leaves the first output's buffer as it found it. -/
theorem leaves7_kept (c : Dev nD) (t : Fin cfg0.N) (h : ¬(8 ≤ t.val ∧ t.val ≤ 39)) (d) :
    owns (c : Thread nD τ) (ms0_7 t) fullShare ((dats m 0 c).before 7 t d) ⊢ (dats m 0 c).leavesExact 7 t := by
  by_cases hf : t.val = 41
  · unfold Dat.leavesExact
    rw [show cfg0.idle 7 (grid0.coords t) = true from (idle7 t).trans (decide_eq_true h),
      show (cfg0.win 7).flush t = true from (flush7 t).trans (decide_eq_true (Or.inr hf)), before7_last m c t (by omega) d]
  · rw [(dats m 0 c).leavesExact_idle 7 t ((idle7 t).trans (decide_eq_true h)) ((flush7 t).trans (decide_eq_false (by omega)))]
    iintro H; iexists d; iexact H

/-- A point that computes sample rows leaves its block of results. -/
theorem leaves8_block (c : Dev nD) (t : Fin cfg0.N) (h : 40 ≤ t.val) :
    (dats m 0 c).leavesExact 8 t = owns (c : Thread nD τ) (ms0_8 t) fullShare (outB m c t) := by
  unfold Dat.leavesExact
  rw [show cfg0.idle 8 (grid0.coords t) = false from (idle8 t).trans (decide_eq_false (not_not.mpr h)), after0_8]

/-- Any other point leaves the second output's buffer as it found it. -/
theorem leaves8_kept (c : Dev nD) (t : Fin cfg0.N) (h : ¬ 40 ≤ t.val) (d) :
    owns (c : Thread nD τ) (ms0_8 t) fullShare ((dats m 0 c).before 8 t d) ⊢ (dats m 0 c).leavesExact 8 t := by
  rw [(dats m 0 c).leavesExact_idle 8 t ((idle8 t).trans (decide_eq_true h)) ((flush8 t).trans (decide_eq_false h))]
  iintro H; iexists d; iexact H

/-- What the body has at point `t` … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- … and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3600000 in
/-- The body keeps its contract at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, leaves0_0, leaves0_1, leaves0_2, leaves0_3, leaves0_4, leaves0_5, leaves0_6]
  rw [show (dats m 0 c).owesAt () t.succ = (dats m 0 c).owesAt () t.castSucc from rfl,
    show (dats m 0 c).Φ t.castSucc = inv m c (min t.val 8) from rfl, show (dats m 0 c).Φ t.succ = inv m c (min (t.val + 1) 8) from rfl]
  unfold inv
  have hN : t.val < 42 := lt_of_lt_of_eq t.isLt (show cfg0.N = 42 from N_0)
  iintro ⟨⟨⟨%s0, %s1, %s2, %hs, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val < 8
  · have h1 : ¬(8 ≤ t.val ∧ t.val ≤ 39) := by omega
    have h2 : ¬ 40 ≤ t.val := by omega
    rw [min_eq_left h0.le] at hs
    rw [min_eq_left (Nat.succ_le_of_lt h0)]
    iapply (body_A c (grid0.coords t) _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · iexists _, _, _
        isplitr
        · ipureintro; exact conv_step m c t h0 s0 s1 s2 hs
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves7_kept m c t h1 d7); iexact H7
    iapply (leaves8_kept m c t h2 d8); iexact H8
  · rw [min_eq_right (not_lt.mp h0)] at hs
    rw [min_eq_right ((not_lt.mp h0).trans (Nat.le_succ _))]
    obtain ⟨rfl, rfl, rfl⟩ := hs.done m le_rfl
    by_cases h1 : 8 ≤ t.val ∧ t.val ≤ 39
    · have h2 : ¬ 40 ≤ t.val := by omega
      rw [leaves7_block m c t h1]
      iapply (body_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · iexists _, _, _
          isplitr
          · ipureintro; exact Conv.of_eq m 8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · rw [block_prior]; iexact H7
      iapply (leaves8_kept m c t h2 d8); iexact H8
    · have h2 : 40 ≤ t.val := by omega
      rw [leaves8_block m c t h2]
      iapply (body_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · iexists _, _, _
          isplitr
          · ipureintro; exact Conv.of_eq m 8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (leaves7_kept m c t h1 d7); iexact H7
      rw [block_prior]; iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point nothing is converted. -/
theorem inv_first (c : Dev nD) : Pipeline.ΦA spec0 c ⊢ (dats m 0 c).Φ 0 := by
  rw [PhiA0_eq, show (dats m 0 c).Φ 0 = inv m c 0 from rfl]
  unfold inv
  iintro ⟨⟨⟨%s0, H0⟩, ⟨%s1, H1⟩, ⟨%s2, H2⟩⟩, Hg⟩
  isplitl [H0 H1 H2]
  · iexists s0, s1, s2
    isplitr
    · ipureintro; exact ⟨fun _ h => absurd h (Nat.not_lt_zero _), fun _ h => absurd h (Nat.not_lt_zero _), fun _ h => absurd h (Nat.not_lt_zero _)⟩
    isplitl [H0]; · iexact H0
    isplitl [H1]; · iexact H1
    iexact H2
  iexact Hg

/-- After the last point the scratch buffers are given back at whatever they hold. -/
theorem inv_last (c : Dev nD) : (dats m 0 c).Φ (Fin.last cfg0.N) ⊢ Pipeline.ΦA spec0 c := by
  rw [PhiA0_eq, show (dats m 0 c).Φ (Fin.last cfg0.N) = inv m c 8 from rfl]
  unfold inv
  iintro ⟨⟨%s0, %s1, %s2, %hs, H0, H1, H2⟩, Hg⟩
  isplitl [H0 H1 H2]
  · isplitl [H0]; · iexists _; iexact H0
    isplitl [H1]; · iexists _; iexact H1
    iexists _; iexact H2
  iexact Hg

set_option backward.isDefEq.respectTransparency.types false in
/-- The program terminates with every array as the pipeline's proof data say, and with every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_first m) (hout := inv_last m)
    (hQ' := fun _ h => h)

end Cert.BackIdeal.Run

end
-- ==== Proof.RowMath.lean ====
module

public import Idealize.ShloMosaic.PureOps.Ideal

@[expose] public section

/-! # The layer's row functions

A feed-forward half works on each token's row by itself. The functions here say what it computes for one row, over the
extended reals, with the constants as the programs write them. -/

noncomputable section

namespace Cert.RowMath

open Idealize.ShloMosaic
open scoped BigOperators

/-- The RMS norm of the row `x` with weights `w`: each entry times the inverse root of the mean square plus 1e-6. -/
def normRow (x w : Fin 1024 → EReal) (k : Fin 1024) : EReal :=
  x k * Ideal.rsqrt (Ideal.div (∑ l, x l * x l) (Ideal.ofBits .f32 1149239296#32) + Ideal.ofBits .f32 897988541#32) * w k

/-- The gated unit between the two projections: `silu` of the gate times the up projection. -/
def actRow (x nw : Fin 1024 → EReal) (wg wu : Fin 1024 → Fin 2816 → EReal) (f : Fin 2816) : EReal :=
  (∑ k, normRow x nw k * wg k f) * Ideal.logistic (∑ k, normRow x nw k * wg k f) * ∑ k, normRow x nw k * wu k f

/-- A feed-forward half with its residual: the row plus half of the gated unit's down projection. -/
def mlpRow (x nw : Fin 1024 → EReal) (wg wu : Fin 1024 → Fin 2816 → EReal) (wd : Fin 2816 → Fin 1024 → EReal) (k : Fin 1024) : EReal :=
  x k + Ideal.ofBits .f32 1056964608#32 * ∑ f, actRow x nw wg wu f * wd f k

end Cert.RowMath

end
-- ==== Proof.BackValue.lean ====
module

public import proofs.«01_k».proof.Proof.BackRun
public import proofs.«01_k».proof.Proof.RowMath
public import proofs.«01_k».proof.Proof.Gen.BackRefIdeal.Read
public import Idealize.ShloMosaic.Lib.Pointwise
public import Idealize.ShloMosaic.Lib.Pipeline.ValueKit
public import Idealize.ShloMosaic.Lib.Claim

@[expose] public section

set_option maxRecDepth 16384

noncomputable section

/-! # What the second feed-forward half computes

Each result row is the feed-forward half of its input row, normed by the final norm; the reference computes the same row. -/

namespace Cert.BackIdeal.Val

open Cert.BackIdeal Cert.BackIdeal.Gen Cert.BackIdeal.Run Cert.RowMath Cert.Rows
open Idealize.ShloMosaic Idealize.ShloMosaic.TcCoe Idealize.ShloMosaic.Tactic
open Idealize.ShloMosaic.Pipeline (Dat Cfg Window)

/-- The whole row function: the feed-forward half, then the final norm. -/
def backRow (x nw fw : Fin 1024 → EReal) (wg wu : Fin 1024 → Fin 2816 → EReal) (wd : Fin 2816 → Fin 1024 → EReal) : Fin 1024 → EReal :=
  normRow (mlpRow x nw wg wu wd) fw

/-! ## The body's row -/

/-- A word of the half layer. -/
theorem mid_apply (x : Vec Ideal S256x1024 .f32) (nw : Vec Ideal S1x1024 .f32) (wg wu : Vec Ideal S1024x2816 .bf16) (wd : Vec Ideal S2816x1024 .bf16)
    (r : Fin 256) (k : Fin 1024) :
    k0_pay6 x nw wg wu wd (ix2 r k)
      = mlpRow (fun l => x (ix2 r l)) (fun l => nw (ix2 0 l)) (fun a b => wg (ix2 a b)) (fun a b => wu (ix2 a b)) (fun a b => wd (ix2 a b)) k := by
  pointwise [k0_pay6]
  rfl

/-- Its row scale. -/
theorem scale_apply (x : Vec Ideal S256x1024 .f32) (nw : Vec Ideal S1x1024 .f32) (wg wu : Vec Ideal S1024x2816 .bf16) (wd : Vec Ideal S2816x1024 .bf16)
    (r : Fin 256) :
    k0_pay8 x nw wg wu wd (ix2 r 0)
      = Ideal.rsqrt (Ideal.div (∑ l, k0_pay6 x nw wg wu wd (ix2 r l) * k0_pay6 x nw wg wu wd (ix2 r l)) (Ideal.ofBits .f32 1149239296#32) + Ideal.ofBits .f32 897988541#32) := by
  pointwise [k0_pay8]

/-- A word of the block. -/
theorem half_apply (x : Vec Ideal S256x1024 .f32) (nw fw : Vec Ideal S1x1024 .f32) (wg wu : Vec Ideal S1024x2816 .bf16) (wd : Vec Ideal S2816x1024 .bf16)
    (r : Fin 256) (k : Fin 1024) :
    half x nw fw wg wu wd (ix2 r k)
      = backRow (fun l => x (ix2 r l)) (fun l => nw (ix2 0 l)) (fun l => fw (ix2 0 l)) (fun a b => wg (ix2 a b)) (fun a b => wu (ix2 a b)) (fun a b => wd (ix2 a b)) k := by
  have h : half x nw fw wg wu wd (ix2 r k) = k0_pay6 x nw wg wu wd (ix2 r k) * k0_pay8 x nw wg wu wd (ix2 r 0) * fw (ix2 0 k) := by
    unfold half
    pointwise [k0_pay9, k0_pay7]
  rw [h, scale_apply]
  simp only [mid_apply]
  rfl

/-- A block of results, row by row. -/
theorem block_apply (y x : Vec Ideal S512x1024 .f32) (nw fw : Vec Ideal S1x1024 .f32) (wg wu : Vec Ideal S1024x2816 .bf16) (wd : Vec Ideal S2816x1024 .bf16)
    (r : Fin 512) (k : Fin 1024) :
    block y x nw fw wg wu wd (ix2 r k)
      = backRow (fun l => x (ix2 r l)) (fun l => nw (ix2 0 l)) (fun l => fw (ix2 0 l)) (fun a b => wg (ix2 a b)) (fun a b => wu (ix2 a b)) (fun a b => wd (ix2 a b)) k := by
  have hr := r.isLt
  by_cases h0 : 256 ≤ r.val
  · refine (put_rows_in (R := 512) (K := 1024) (C := 256) _ 256 _ r k h0 (by omega)).trans ?_
    rw [half_apply]
    congr 1
    funext l
    refine (window_rows (R := 512) (K := 1024) (C := 256) x 256 _ _ l (by show 256 + (r.val - 256) < 512; omega)).trans ?_
    exact congrArg (fun q => x (ix2 q l)) (Fin.ext (by show 256 + (r.val - 256) = r.val; omega))
  · refine (put_rows_out (R := 512) (K := 1024) (C := 256) _ 256 _ r k (Or.inl (not_le.mp h0))).trans ?_
    refine (put_rows_in (R := 512) (K := 1024) (C := 256) _ 0 _ r k (Nat.zero_le _) (by omega)).trans ?_
    rw [half_apply]
    congr 1
    funext l
    refine (window_rows (R := 512) (K := 1024) (C := 256) x 0 _ _ l (by show 0 + (r.val - 0) < 512; omega)).trans ?_
    exact congrArg (fun q => x (ix2 q l)) (Fin.ext (by show 0 + (r.val - 0) = r.val; omega))

/-! ## The arrays the body reads -/

variable (m : (ℓ : Loc nD τ sig) → Buf (Elt Ideal) ℓ)

/-- The blocks the windows take. -/
theorem idx0 : ∀ t : Fin cfg0.N, 8 ≤ t.val → t.val ≤ 39 → win0_0.index t = ![t.val - 8, 0] :=
  (by decide +kernel : ∀ t : Fin grid0.N, 8 ≤ t.val → t.val ≤ 39 → win0_0.index t = ![t.val - 8, 0])
theorem idx1 : ∀ t : Fin cfg0.N, 40 ≤ t.val → win0_1.index t = ![t.val - 40, 0] :=
  (by decide +kernel : ∀ t : Fin grid0.N, 40 ≤ t.val → win0_1.index t = ![t.val - 40, 0])
theorem idx234 : ∀ t : Fin cfg0.N, t.val < 8 → win0_2.index t = ![t.val, 0] ∧ win0_3.index t = ![t.val, 0] ∧ win0_4.index t = ![t.val, 0] :=
  (by decide +kernel : ∀ t : Fin grid0.N, t.val < 8 → win0_2.index t = ![t.val, 0] ∧ win0_3.index t = ![t.val, 0] ∧ win0_4.index t = ![t.val, 0])
theorem idx56 : ∀ t : Fin cfg0.N, win0_5.index t = ![0, 0] ∧ win0_6.index t = ![0, 0] :=
  (by decide +kernel : ∀ t : Fin grid0.N, win0_5.index t = ![0, 0] ∧ win0_6.index t = ![0, 0])
theorem idx7 : ∀ t : Fin cfg0.N, (win0_7.flush t = true) → win0_7.index t = ![min t.val 39 - 8, 0] ∧ 8 ≤ t.val :=
  (by decide +kernel : ∀ t : Fin grid0.N, (win0_7.flush t = true) → win0_7.index t = ![min t.val 39 - 8, 0] ∧ 8 ≤ t.val)
theorem idx8 : ∀ t : Fin cfg0.N, (win0_8.flush t = true) → win0_8.index t = ![t.val - 40, 0] ∧ 40 ≤ t.val :=
  (by decide +kernel : ∀ t : Fin grid0.N, (win0_8.flush t = true) → win0_8.index t = ![t.val - 40, 0] ∧ 40 ≤ t.val)

/-- The host's arrays by entry. -/
theorem V_main_v0_apply (c : Dev nD) (a : Fin 1024) (b : Fin 2816) : V m c main_v0 (ix2 a b) = m ((c.tc : Thread nD τ).loc main_arg3) (ix3 0 a b) := by
  entry_read
  pointwise

theorem V_main_v1_apply (c : Dev nD) (a : Fin 1024) (b : Fin 2816) : V m c main_v1 (ix2 a b) = m ((c.tc : Thread nD τ).loc main_arg4) (ix3 0 a b) := by
  entry_read
  pointwise

theorem V_main_v2_apply (c : Dev nD) (a : Fin 2816) (b : Fin 1024) : V m c main_v2 (ix2 a b) = m ((c.tc : Thread nD τ).loc main_arg5) (ix3 0 a b) := by
  entry_read
  pointwise

theorem V_main_v3_apply (c : Dev nD) (l : Fin 1024) : V m c main_v3 (ix2 0 l) = m ((c.tc : Thread nD τ).loc main_arg6) (ix1 l) := by
  entry_read
  pointwise

/-- Converted weights by entry. -/
theorem wGate_apply (c : Dev nD) (a : Fin 1024) (b : Fin 2816) :
    wGate m c (ix2 a b) = m ((c.tc : Thread nD τ).loc main_arg3) (ix3 0 a b) := by
  have ha := a.isLt
  have h := (idx234 (pt (a.val / 128) (by omega)) (by show a.val / 128 < 8; omega)).1
  unfold wGate
  pointwise [k0_pay1]
  refine Eq.trans ?_ (V_main_v0_apply m c a b)
  blk_ext [iblk, h]

theorem wUp_apply (c : Dev nD) (a : Fin 1024) (b : Fin 2816) :
    wUp m c (ix2 a b) = m ((c.tc : Thread nD τ).loc main_arg4) (ix3 0 a b) := by
  have ha := a.isLt
  have h := (idx234 (pt (a.val / 128) (by omega)) (by show a.val / 128 < 8; omega)).2.1
  unfold wUp
  pointwise [k0_pay2]
  refine Eq.trans ?_ (V_main_v1_apply m c a b)
  blk_ext [iblk, h]

theorem wDown_apply (c : Dev nD) (a : Fin 2816) (b : Fin 1024) :
    wDown m c (ix2 a b) = m ((c.tc : Thread nD τ).loc main_arg5) (ix3 0 a b) := by
  have ha := a.isLt
  have h := (idx234 (pt (a.val / 352) (by omega)) (by show a.val / 352 < 8; omega)).2.2
  unfold wDown
  pointwise [k0_pay3]
  refine Eq.trans ?_ (V_main_v2_apply m c a b)
  blk_ext [iblk, h]

/-- The gains by entry. -/
theorem norm_apply (c : Dev nD) (t : Fin cfg0.N) (l : Fin 1024) :
    iblk m c 5 t (ix2 0 l) = m ((c.tc : Thread nD τ).loc main_arg2) (ix2 0 l) := by
  blk_ext [iblk, (idx56 t).1]

theorem final_apply (c : Dev nD) (t : Fin cfg0.N) (l : Fin 1024) :
    iblk m c 6 t (ix2 0 l) = m ((c.tc : Thread nD τ).loc main_arg6) (ix1 l) := by
  refine Eq.trans ?_ (V_main_v3_apply m c l)
  blk_ext [iblk, (idx56 t).2]

/-- A row block of the prompt. -/
theorem prompt_apply (c : Dev nD) (t : Fin cfg0.N) (h8 : 8 ≤ t.val) (h39 : t.val ≤ 39) (r : Fin 512) (l : Fin 1024) (hr : (t.val - 8) * 512 + r.val < 16384) :
    iblk m c 0 t (ix2 r l) = m ((c.tc : Thread nD τ).loc main_arg0) (ix2 ⟨(t.val - 8) * 512 + r.val, hr⟩ l) := by
  blk_ext [iblk, idx0 t h8 h39]

/-- A row block of the sample. -/
theorem sample_apply (c : Dev nD) (t : Fin cfg0.N) (h40 : 40 ≤ t.val) (r : Fin 512) (l : Fin 1024) (hr : (t.val - 40) * 512 + r.val < 1024) :
    iblk m c 1 t (ix2 r l) = m ((c.tc : Thread nD τ).loc main_arg1) (ix2 ⟨(t.val - 40) * 512 + r.val, hr⟩ l) := by
  blk_ext [iblk, idx1 t h40]

/-! ## The result arrays -/

/-- The row function with the arguments' weights. -/
def rowOf (c : Dev nD) (x : Fin 1024 → EReal) : Fin 1024 → EReal :=
  backRow x (fun l => m ((c.tc : Thread nD τ).loc main_arg2) (ix2 0 l)) (fun l => m ((c.tc : Thread nD τ).loc main_arg6) (ix1 l))
    (fun a b => m ((c.tc : Thread nD τ).loc main_arg3) (ix3 0 a b)) (fun a b => m ((c.tc : Thread nD τ).loc main_arg4) (ix3 0 a b))
    (fun a b => m ((c.tc : Thread nD τ).loc main_arg5) (ix3 0 a b))

/-- The prompt tokens' results. -/
def prompt (c : Dev nD) : Vec Ideal S16384x1024 .f32 := fun i => rowOf m c (fun l => m ((c.tc : Thread nD τ).loc main_arg0) (ix2 (i 0) l)) (i 1)
/-- The sample tokens' results. -/
def sample (c : Dev nD) : Vec Ideal S1024x1024 .f32 := fun i => rowOf m c (fun l => m ((c.tc : Thread nD τ).loc main_arg1) (ix2 (i 0) l)) (i 1)

/-- A word of the first result. -/
theorem outA_apply (c : Dev nD) (t : Fin cfg0.N) (h8 : 8 ≤ t.val) (h39 : t.val ≤ 39) (r : Fin 512) (k : Fin 1024) (hr : (t.val - 8) * 512 + r.val < 16384) :
    outA m c t (ix2 r k) = prompt m c (ix2 ⟨(t.val - 8) * 512 + r.val, hr⟩ k) := by
  unfold outA
  rw [block_apply]
  simp only [wGate_apply, wUp_apply, wDown_apply, norm_apply, final_apply, prompt_apply m c t h8 h39 r _ hr]
  rfl

/-- A word of the second. -/
theorem outB_apply (c : Dev nD) (t : Fin cfg0.N) (h40 : 40 ≤ t.val) (r : Fin 512) (k : Fin 1024) (hr : (t.val - 40) * 512 + r.val < 1024) :
    outB m c t (ix2 r k) = sample m c (ix2 ⟨(t.val - 40) * 512 + r.val, hr⟩ k) := by
  unfold outB
  rw [block_apply]
  simp only [wGate_apply, wUp_apply, wDown_apply, norm_apply, final_apply, sample_apply m c t h40 r _ hr]
  rfl

/-- The first result array ends at the prompt tokens' results. -/
theorem array7 (c : Dev nD) : (dats m 0 c).arrAt 7 cfg0.N = prompt m c := by
  refine (dats m 0 c).arrAt_eq_of_covers 7 _ (by decide +kernel) fun t hf y => ?_
  obtain ⟨hi, h8⟩ := idx7 t hf
  have hN : t.val < 42 := lt_of_lt_of_eq t.isLt (show cfg0.N = 42 from N_0)
  blk_simp
  rw [after0_7]
  obtain ⟨r, k, rfl⟩ : ∃ (r : Fin 512) (k : Fin 1024), y = ix2 r k := ⟨y 0, y 1, by funext a; match a with | ⟨0, _⟩ => rfl | ⟨1, _⟩ => rfl⟩
  have hr := r.isLt
  refine (outA_apply m c (pt (min t.val 39) _) (by show 8 ≤ min t.val 39; omega) (by show min t.val 39 ≤ 39; omega) r k (by show (min t.val 39 - 8) * 512 + r.val < 16384; omega)).trans (congrArg (prompt m c) ?_)
  blk_ext [hi]

/-- The second result array ends at the sample tokens' results. -/
theorem array8 (c : Dev nD) : (dats m 0 c).arrAt 8 cfg0.N = sample m c := by
  refine (dats m 0 c).arrAt_eq_of_covers 8 _ (by decide +kernel) fun t hf y => ?_
  obtain ⟨hi, h8⟩ := idx8 t hf
  have hN : t.val < 42 := lt_of_lt_of_eq t.isLt (show cfg0.N = 42 from N_0)
  blk_simp
  rw [after0_8]
  obtain ⟨r, k, rfl⟩ : ∃ (r : Fin 512) (k : Fin 1024), y = ix2 r k := ⟨y 0, y 1, by funext a; match a with | ⟨0, _⟩ => rfl | ⟨1, _⟩ => rfl⟩
  have hr := r.isLt
  refine (outB_apply m c t h8 r k (by omega)).trans (congrArg (sample m c) ?_)
  blk_ext [hi]

/-! ## The reference's row -/

open Cert.BackRefIdeal.Read in
/-- The reference's half layer. -/
theorem ref_mid (x0 : Vec Ideal Cert.BackRefIdeal.S16384x1024 .f32) (x2 : Vec Ideal S1x1024 .f32) (x3 x4 : Vec Ideal S1x1024x2816 .f32) (x5 : Vec Ideal S1x2816x1024 .f32)
    (r : Fin 16384) (k : Fin 1024) :
    val_main_v24 (F := Ideal) x0 x2 x3 x4 x5 (ix2 r k)
      = mlpRow (fun l => x0 (ix2 r l)) (fun l => x2 (ix2 0 l)) (fun a b => x3 (ix3 0 a b)) (fun a b => x4 (ix3 0 a b)) (fun a b => x5 (ix3 0 a b)) k := by
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, val_main_call0_v0, val_main_call0_v1, val_main_call0_cst, val_main_call0_v2, val_main_call0_v3, val_main_call0_cst_0, val_main_call0_v4, val_main_call0_v5, val_main_v18, val_main_v19, val_main_v20, val_main_v21, val_main_cst_2, val_main_v22, val_main_v23, val_main_v24]
  rfl

open Cert.BackRefIdeal.Read in
/-- The reference's first result. -/
theorem ref_prompt (x0 : Vec Ideal Cert.BackRefIdeal.S16384x1024 .f32) (x2 : Vec Ideal S1x1024 .f32) (x3 x4 : Vec Ideal S1x1024x2816 .f32) (x5 : Vec Ideal S1x2816x1024 .f32)
    (x6 : Vec Ideal Cert.BackRefIdeal.S1024 .f32) (r : Fin 16384) (k : Fin 1024) :
    val_main_v37 (F := Ideal) x0 x2 x3 x4 x5 x6 (ix2 r k)
      = backRow (fun l => x0 (ix2 r l)) (fun l => x2 (ix2 0 l)) (fun l => x6 (ix1 l)) (fun a b => x3 (ix3 0 a b)) (fun a b => x4 (ix3 0 a b)) (fun a b => x5 (ix3 0 a b)) k := by
  pointwise [val_main_v25, val_main_cst_3, val_main_v26, val_main_v27, val_main_cst_4, val_main_v28, val_main_v29, val_main_cst_5, val_main_v30, val_main_v31, val_main_v32, val_main_v33, val_main_v34, val_main_v35, val_main_v36, val_main_v37]
  simp only [ref_mid]
  rfl

open Cert.BackRefIdeal.Read in
/-- The half layer of the sample. -/
theorem ref_mid' (x1 : Vec Ideal S1024x1024 .f32) (x2 : Vec Ideal S1x1024 .f32) (x3 x4 : Vec Ideal S1x1024x2816 .f32) (x5 : Vec Ideal S1x2816x1024 .f32)
    (r : Fin 1024) (k : Fin 1024) :
    val_main_v62 (F := Ideal) x1 x2 x3 x4 x5 (ix2 r k)
      = mlpRow (fun l => x1 (ix2 r l)) (fun l => x2 (ix2 0 l)) (fun a b => x3 (ix3 0 a b)) (fun a b => x4 (ix3 0 a b)) (fun a b => x5 (ix3 0 a b)) k := by
  pointwise [val_main_v38, val_main_v39, val_main_v40, val_main_v41, val_main_v42, val_main_cst_6, val_main_v43, val_main_v44, val_main_cst_7, val_main_v45, val_main_v46, val_main_cst_8, val_main_v47, val_main_v48, val_main_v49, val_main_v50, val_main_v51, val_main_v52, val_main_v53, val_main_v54, val_main_v55, val_main_call1_v0, val_main_call1_v1, val_main_call1_cst, val_main_call1_v2, val_main_call1_v3, val_main_call1_cst_0, val_main_call1_v4, val_main_call1_v5, val_main_v56, val_main_v57, val_main_v58, val_main_v59, val_main_cst_9, val_main_v60, val_main_v61, val_main_v62]
  rfl

open Cert.BackRefIdeal.Read in
/-- The reference's second result. -/
theorem ref_sample (x1 : Vec Ideal S1024x1024 .f32) (x2 : Vec Ideal S1x1024 .f32) (x3 x4 : Vec Ideal S1x1024x2816 .f32) (x5 : Vec Ideal S1x2816x1024 .f32)
    (x6 : Vec Ideal Cert.BackRefIdeal.S1024 .f32) (r : Fin 1024) (k : Fin 1024) :
    val_main_v75 (F := Ideal) x1 x2 x3 x4 x5 x6 (ix2 r k)
      = backRow (fun l => x1 (ix2 r l)) (fun l => x2 (ix2 0 l)) (fun l => x6 (ix1 l)) (fun a b => x3 (ix3 0 a b)) (fun a b => x4 (ix3 0 a b)) (fun a b => x5 (ix3 0 a b)) k := by
  pointwise [val_main_v63, val_main_cst_10, val_main_v64, val_main_v65, val_main_cst_11, val_main_v66, val_main_v67, val_main_cst_12, val_main_v68, val_main_v69, val_main_v70, val_main_v71, val_main_v72, val_main_v73, val_main_v74, val_main_v75]
  simp only [ref_mid']
  rfl

end Cert.BackIdeal.Val

end
-- ==== Proof.BackClaims.lean ====
module

public import proofs.«01_k».proof.Defs
public import proofs.«01_k».proof.Proof.BackValue
public import proofs.«01_k».proof.Proof.Gen.Back
public import proofs.«01_k».proof.Proof.Gen.BackRefIdeal
public import proofs.«01_k».proof.Proof.Gen.BackRefIdeal.Run

@[expose] public section

noncomputable section

namespace Cert.BackIdeal.Claims

open Idealize.ShloMosaic Idealize.SL.Sem

/-- The feed-forward program, over any float values, ends with its arguments unchanged and every semaphore at zero. -/
theorem frame_any {F : FTy → Type} [FloatOps F] (m : (ℓ : Loc Cert.BackIdeal.nD Cert.BackIdeal.τ Cert.BackIdeal.sig) → Buf (Elt F) ℓ)
    (ρ : Dev Cert.BackIdeal.nD → PrngReg) :
    θ_run (Cert.BackIdeal.defs (F := F)) (onTc (τ := Cert.BackIdeal.τ) (Cert.BackIdeal.main (F := F))) ⟨m, fun _ => 0, ρ⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6))
      ∧ r.2.sem = fun _ => 0) :=
  θ_run_and (Cert.BackIdeal.Gen.frame_of m ρ (Cert.BackIdeal.Run.dats m) (Cert.BackIdeal.Run.A_eq m)
      ((θ_run Cert.BackIdeal.defs _ _).mono (fun _ h => h.1) (Cert.BackIdeal.Run.run_main m ρ)))
    ((θ_run Cert.BackIdeal.defs _ _).mono (fun _ h => h.2) (Cert.BackIdeal.Run.run_main m ρ))

set_option maxRecDepth 65536 in
/-- The two readings of the program have the same body. -/
theorem body_same : Cert.Back.defs₀ (F := Bits) = Cert.BackIdeal.defs₀ (F := Bits) := by
  unfold Cert.Back.defs₀ Cert.BackIdeal.defs₀
  refine congrArg Defs.onTc ?_
  funext l x
  match l, x with
  | ⟨0, _⟩, (t, s) => rfl

/-- And the same table of calls. -/
theorem defs_same : Cert.Back.defs (F := Bits) = Cert.BackIdeal.defs (F := Bits) :=
  congrArg (Idealize.ShloMosaic.Pipeline.defs (Cert.BackIdeal.pcfgs (F := Bits))) body_same

set_option maxRecDepth 65536 in
/-- The program over machine words ends with its arguments unchanged and every semaphore at zero. -/
theorem frame_back : Cert.quiescent_Back := fun m ρ _ => by
  rw [defs_same]
  exact frame_any (F := Bits) m ρ

/-- The program over the extended reals ends with its arguments unchanged and every semaphore at zero. -/
theorem frame_backIdeal : Cert.quiescent_BackIdeal := fun m ρ _ => frame_any (F := Ideal) m ρ

/-- The feed-forward reference ends with its arguments unchanged; it has no semaphore. -/
theorem frame_backRef : Cert.quiescent_BackRefIdeal := fun m ρ _ =>
  (θ_run Cert.BackRefIdeal.defs _ _).mono
    (fun r h => ⟨fun c => (h c).2.2, sem_eq_zero_of_no_sems (by decide) r.2⟩)
    (Cert.BackRefIdeal.Value.run (F := Ideal) m ρ)

/-- The feed-forward program and its reference end with equal results. -/
theorem algebraic_back : Cert.algebraic_BackIdeal_BackRefIdeal := by
  intro m g m' g' _ hagree
  refine ⟨fun c => Cert.BackIdeal.Val.prompt m c, fun c => Cert.BackIdeal.Val.sample m c, ?_, ?_⟩
  · refine (θ_run Cert.BackIdeal.defs _ _).mono (fun r h c => ?_)
      (θ_run_and (Cert.BackIdeal.Run.run_main (F := Ideal) m g) (frame_backIdeal m g trivial))
    exact ⟨((h.1.1 c).1 7).trans (Cert.BackIdeal.Val.array7 m c), ((h.1.1 c).1 8).trans (Cert.BackIdeal.Val.array8 m c), h.2.1 c⟩
  · refine (θ_run Cert.BackRefIdeal.defs _ _).mono (fun r h c => ⟨(h c).1.trans ?_, (h c).2.1.trans ?_, (h c).2.2⟩)
      (Cert.BackRefIdeal.Value.run (F := Ideal) m' g')
    · obtain ⟨h0, h1, h2, h3, h4, h5, h6⟩ := hagree c
      rw [Cert.BackRefIdeal.Read.val_main_v37_eq, h0, h2, h3, h4, h5, h6]
      funext i
      obtain ⟨a, b, rfl⟩ : ∃ a b, i = ix2 a b := ⟨i 0, i 1, by funext d; match d with | 0 => rfl | 1 => rfl⟩
      exact Cert.BackIdeal.Val.ref_prompt _ _ _ _ _ _ a b
    · obtain ⟨h0, h1, h2, h3, h4, h5, h6⟩ := hagree c
      rw [Cert.BackRefIdeal.Read.val_main_v75_eq, h1, h2, h3, h4, h5, h6]
      funext i
      obtain ⟨a, b, rfl⟩ : ∃ a b, i = ix2 a b := ⟨i 0, i 1, by funext d; match d with | 0 => rfl | 1 => rfl⟩
      exact Cert.BackIdeal.Val.ref_sample _ _ _ _ _ _ a b

end Cert.BackIdeal.Claims

end
-- ==== Proof.FrontBody.lean ====
module

public import proofs.«01_k».proof.Proof.Gen.FrontIdeal.Frame
public import proofs.«01_k».proof.Proof.Gen.FrontIdeal.Skeleton
public import Idealize.ShloMosaic.Lib.VecWindow

@[expose] public section

set_option maxRecDepth 16384

noncomputable section

namespace Cert.FrontIdeal.Run

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body does at one grid point -/

/-- Points 0 to 7 convert the weights; -/
abbrev cond0_0 (i : grid0.Coords) : Prop := k0_cond1 i = 1#1
/-- When the body converts weights. -/
theorem hcond0_0 : ∀ t : Fin cfg0.N, cond0_0 (grid0.coords t) ↔ t.val < 8 :=
  (by decide +kernel : ∀ t : Fin grid0.N, cond0_0 (grid0.coords t) ↔ t.val < 8)
/-- points 8 to 71 work on a block of prompt rows; -/
abbrev cond0_1 (i : grid0.Coords) : Prop := k0_cond2 i = 1#1
/-- When it works on the prompt. -/
theorem hcond0_1 : ∀ t : Fin cfg0.N, cond0_1 (grid0.coords t) ↔ (8 ≤ t.val ∧ t.val ≤ 71) :=
  (by decide +kernel : ∀ t : Fin grid0.N, cond0_1 (grid0.coords t) ↔ (8 ≤ t.val ∧ t.val ≤ 71))
/-- points 72 to 76 work on a block of the other rows. -/
abbrev cond0_2 (i : grid0.Coords) : Prop := k0_cond3 i = 1#1
/-- When it works on the other rows. -/
theorem hcond0_2 : ∀ t : Fin cfg0.N, cond0_2 (grid0.coords t) ↔ 72 ≤ t.val :=
  (by decide +kernel : ∀ t : Fin grid0.N, cond0_2 (grid0.coords t) ↔ 72 ≤ t.val)

/-- What the body computes from 256 rows: the first feed-forward half; -/
def outH (x : Vec F S256x1024 .f32) (nw : Vec F S1x1024 .f32) (wg wu : Vec F S1024x2816 .bf16) (wd : Vec F S2816x1024 .bf16) : FVec F S256x1024 .f32 := k0_pay16 x nw wg wu wd
/-- the columns of the query, key and value part of the combined projection; -/
def outQkv (x : Vec F S256x1024 .f32) (nw : Vec F S1x1024 .f32) (mw : Vec F S1x1024 .f32) (wg wu : Vec F S1024x2816 .bf16) (wd : Vec F S2816x1024 .bf16) (w : Vec F S1024x2048 .bf16) : FVec F S256x1536 .f32 := k0_pay6 (k0_pay16 x nw wg wu wd) mw (k0_pay17 x nw wg wu wd) (Scalar.ofBits .f32 0x358637BD#32) w
/-- the columns of the gate part of the combined projection; -/
def outZ (x : Vec F S256x1024 .f32) (nw : Vec F S1x1024 .f32) (mw : Vec F S1x1024 .f32) (wg wu : Vec F S1024x2816 .bf16) (wd : Vec F S2816x1024 .bf16) (w : Vec F S1024x2048 .bf16) : FVec F S256x512 .f32 := k0_pay7 (k0_pay16 x nw wg wu wd) mw (k0_pay17 x nw wg wu wd) (Scalar.ofBits .f32 0x358637BD#32) w
/-- the gated linear unit of the convolution branch; -/
def outGlu (x : Vec F S256x1024 .f32) (nw : Vec F S1x1024 .f32) (mw : Vec F S1x1024 .f32) (wg wu : Vec F S1024x2816 .bf16) (wd : Vec F S2816x1024 .bf16) (w : Vec F S1024x1024 .bf16) : FVec F S256x512 .f32 := k0_pay8 (k0_pay16 x nw wg wu wd) mw (k0_pay17 x nw wg wu wd) (Scalar.ofBits .f32 0x358637BD#32) w
/-- the projection to the rates of the recurrence; -/
def outBa (x : Vec F S256x1024 .f32) (nw : Vec F S1x1024 .f32) (mw : Vec F S1x1024 .f32) (wg wu : Vec F S1024x2816 .bf16) (wd : Vec F S2816x1024 .bf16) (w : Vec F S1024x128 .bf16) : FVec F S256x128 .f32 := k0_pay9 (k0_pay16 x nw wg wu wd) mw (k0_pay17 x nw wg wu wd) (Scalar.ofBits .f32 0x358637BD#32) w

/-- The rows after the prompt's go through the same operations. -/
theorem second_outH (x : Vec F S256x1024 .f32) (nw : Vec F S1x1024 .f32) (wg wu : Vec F S1024x2816 .bf16) (wd : Vec F S2816x1024 .bf16) : k0_pay18 x nw wg wu wd = outH x nw wg wu wd := rfl
/-- The stored results, one by one. -/
theorem second_outQkv (x : Vec F S256x1024 .f32) (nw : Vec F S1x1024 .f32) (mw : Vec F S1x1024 .f32) (wg wu : Vec F S1024x2816 .bf16) (wd : Vec F S2816x1024 .bf16) (w : Vec F S1024x2048 .bf16) :
    k0_pay12 (k0_pay18 x nw wg wu wd) mw (k0_pay19 x nw wg wu wd) (Scalar.ofBits .f32 0x358637BD#32) w = outQkv x nw mw wg wu wd w := rfl
theorem second_outZ (x : Vec F S256x1024 .f32) (nw : Vec F S1x1024 .f32) (mw : Vec F S1x1024 .f32) (wg wu : Vec F S1024x2816 .bf16) (wd : Vec F S2816x1024 .bf16) (w : Vec F S1024x2048 .bf16) :
    k0_pay13 (k0_pay18 x nw wg wu wd) mw (k0_pay19 x nw wg wu wd) (Scalar.ofBits .f32 0x358637BD#32) w = outZ x nw mw wg wu wd w := rfl
theorem second_outGlu (x : Vec F S256x1024 .f32) (nw : Vec F S1x1024 .f32) (mw : Vec F S1x1024 .f32) (wg wu : Vec F S1024x2816 .bf16) (wd : Vec F S2816x1024 .bf16) (w : Vec F S1024x1024 .bf16) :
    k0_pay14 (k0_pay18 x nw wg wu wd) mw (k0_pay19 x nw wg wu wd) (Scalar.ofBits .f32 0x358637BD#32) w = outGlu x nw mw wg wu wd w := rfl
theorem second_outBa (x : Vec F S256x1024 .f32) (nw : Vec F S1x1024 .f32) (mw : Vec F S1x1024 .f32) (wg wu : Vec F S1024x2816 .bf16) (wd : Vec F S2816x1024 .bf16) (w : Vec F S1024x128 .bf16) :
    k0_pay15 (k0_pay18 x nw wg wu wd) mw (k0_pay19 x nw wg wu wd) (Scalar.ofBits .f32 0x358637BD#32) w = outBa x nw mw wg wu wd w := rfl

set_option maxHeartbeats 2000000 in
/-- At a point that converts weights: the three scratch buffers get the converted chunk put at the point's rows, everything else is left as it was. -/
theorem body_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S128x2816 .f32) (harg3 : arg3.IsWhole) (arg4 : Memref sig .tc .vmem S128x2816 .f32) (harg4 : arg4.IsWhole) (arg5 : Memref sig .tc .vmem S352x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S256x1024 .f32) (harg11 : arg11.IsWhole) (arg12 : Memref sig .tc .vmem S256x1536 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S1024x2816 .bf16) (harg16 : arg16.IsWhole) (arg17 : Memref sig .tc .vmem S1024x2816 .bf16) (harg17 : arg17.IsWhole) (arg18 : Memref sig .tc .vmem S2816x1024 .bf16) (harg18 : arg18.IsWhole)
    (hc0 : cond0_0 i) (hc1 : ¬cond0_1 i) (hc2 : ¬cond0_2 i)
    (x0 : Vec F S256x1024 .f32) (x1 : Vec F S256x1024 .f32) (x2 : Vec F S128x2816 .f32) (x3 : Vec F S128x2816 .f32) (x4 : Vec F S352x1024 .f32) (x5 : Vec F S1x1024 .f32) (x6 : Vec F S1x1024 .f32) (x7 : Vec F S1024x2048 .bf16) (x8 : Vec F S1024x1024 .bf16) (x9 : Vec F S1024x128 .bf16) (y10 : Vec F S256x1024 .f32) (y11 : Vec F S256x1536 .f32) (y12 : Vec F S256x512 .f32) (y13 : Vec F S256x512 .f32) (y14 : Vec F S256x128 .f32) (s0 : Vec F S1024x2816 .bf16) (s1 : Vec F S1024x2816 .bf16) (s2 : Vec F S2816x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y10 ∗ owns (c : Thread nD τ) arg12 fullShare y11 ∗ owns (c : Thread nD τ) arg13 fullShare y12 ∗ owns (c : Thread nD τ) arg14 fullShare y13 ∗ owns (c : Thread nD τ) arg15 fullShare y14 ∗ owns (c : Thread nD τ) arg16 fullShare s0 ∗ owns (c : Thread nD τ) arg17 fullShare s1 ∗ owns (c : Thread nD τ) arg18 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y10 ∗ owns (c : Thread nD τ) arg12 fullShare y11 ∗ owns (c : Thread nD τ) arg13 fullShare y12 ∗ owns (c : Thread nD τ) arg14 fullShare y13 ∗ owns (c : Thread nD τ) arg15 fullShare y14 ∗ owns (c : Thread nD τ) arg16 fullShare (VecWindow.put s0 (k0_off1 i) S128x2816.size (k0_pay1 x2)) ∗ owns (c : Thread nD τ) arg17 fullShare (VecWindow.put s1 (k0_off1 i) S128x2816.size (k0_pay2 x3)) ∗ owns (c : Thread nD τ) arg18 fullShare (VecWindow.put s2 (k0_off2 i) S352x1024.size (k0_pay3 x4))) -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_front_eq_skeleton]; unfold cc0_front_skel
  skip
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  sl_exec (disch := first | sl_exact hc0 | sl_exact hc1 | sl_exact hc2)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro; exact harg14.read_unread _
  isplitl [H14]
  · iexists _; isplitr; swap; · iexact H14
    ipureintro; exact harg15.read_unread _
  isplitl [H15]
  · iexists _; isplitr; swap; · iexact H15
    ipureintro; rw [View.read_writes_cons_put _ _ _ _ _ rfl, View.writes_nil, harg16.read_unread, View.readAt_full, harg3.read_unread]
  isplitl [H16]
  · iexists _; isplitr; swap; · iexact H16
    ipureintro; rw [View.read_writes_cons_put _ _ _ _ _ rfl, View.writes_nil, harg17.read_unread, View.readAt_full, harg4.read_unread]
  iexists _; isplitr; swap; · iexact H17
  ipureintro; rw [View.read_writes_cons_put _ _ _ _ _ rfl, View.writes_nil, harg18.read_unread, View.readAt_full, harg5.read_unread]

set_option maxHeartbeats 2000000 in
/-- At a point that works on prompt rows: the five blocks of results are left in the outputs' buffers. -/
theorem body_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S128x2816 .f32) (harg3 : arg3.IsWhole) (arg4 : Memref sig .tc .vmem S128x2816 .f32) (harg4 : arg4.IsWhole) (arg5 : Memref sig .tc .vmem S352x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S256x1024 .f32) (harg11 : arg11.IsWhole) (arg12 : Memref sig .tc .vmem S256x1536 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S1024x2816 .bf16) (harg16 : arg16.IsWhole) (arg17 : Memref sig .tc .vmem S1024x2816 .bf16) (harg17 : arg17.IsWhole) (arg18 : Memref sig .tc .vmem S2816x1024 .bf16) (harg18 : arg18.IsWhole)
    (hc0 : ¬cond0_0 i) (hc1 : cond0_1 i) (hc2 : ¬cond0_2 i)
    (x0 : Vec F S256x1024 .f32) (x1 : Vec F S256x1024 .f32) (x2 : Vec F S128x2816 .f32) (x3 : Vec F S128x2816 .f32) (x4 : Vec F S352x1024 .f32) (x5 : Vec F S1x1024 .f32) (x6 : Vec F S1x1024 .f32) (x7 : Vec F S1024x2048 .bf16) (x8 : Vec F S1024x1024 .bf16) (x9 : Vec F S1024x128 .bf16) (y10 : Vec F S256x1024 .f32) (y11 : Vec F S256x1536 .f32) (y12 : Vec F S256x512 .f32) (y13 : Vec F S256x512 .f32) (y14 : Vec F S256x128 .f32) (s0 : Vec F S1024x2816 .bf16) (s1 : Vec F S1024x2816 .bf16) (s2 : Vec F S2816x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y10 ∗ owns (c : Thread nD τ) arg12 fullShare y11 ∗ owns (c : Thread nD τ) arg13 fullShare y12 ∗ owns (c : Thread nD τ) arg14 fullShare y13 ∗ owns (c : Thread nD τ) arg15 fullShare y14 ∗ owns (c : Thread nD τ) arg16 fullShare s0 ∗ owns (c : Thread nD τ) arg17 fullShare s1 ∗ owns (c : Thread nD τ) arg18 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outH x0 x5 s0 s1 s2) ∗ owns (c : Thread nD τ) arg12 fullShare (outQkv x0 x5 x6 s0 s1 s2 x7) ∗ owns (c : Thread nD τ) arg13 fullShare (outZ x0 x5 x6 s0 s1 s2 x7) ∗ owns (c : Thread nD τ) arg14 fullShare (outGlu x0 x5 x6 s0 s1 s2 x8) ∗ owns (c : Thread nD τ) arg15 fullShare (outBa x0 x5 x6 s0 s1 s2 x9) ∗ owns (c : Thread nD τ) arg16 fullShare s0 ∗ owns (c : Thread nD τ) arg17 fullShare s1 ∗ owns (c : Thread nD τ) arg18 fullShare s2) -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_front_eq_skeleton]; unfold cc0_front_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  sl_exec (disch := first | sl_exact hc0 | sl_exact hc1 | sl_exact hc2)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; sl_unfold_words
    have e1 : arg1.view.readAt (Elt F) (Rect.unit ![0, 0] ![256, 1024] inb_S256x1024_S256x1024_0_0).toLoadRect (harg1.unread x0) = x0 :=
      (View.readAt_full (s := S256x1024) _ _ _).trans (harg1.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    refine (View.read_writes_full (s := S256x1024) _ _ _ _ _).trans ?_
    rw [e1, e6, e16, e17, e18]
    rfl
  isplitl [H11]
  · iexists _; isplitr; swap; · iexact H11
    ipureintro; sl_unfold_words
    have e1 : arg1.view.readAt (Elt F) (Rect.unit ![0, 0] ![256, 1024] inb_S256x1024_S256x1024_0_0).toLoadRect (harg1.unread x0) = x0 :=
      (View.readAt_full (s := S256x1024) _ _ _).trans (harg1.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e8 : arg8.view.readAt (Elt F) (Rect.unit ![0, 0] ![1024, 2048] inb_S1024x2048_S1024x2048_0_0).toLoadRect (harg8.unread x7) = x7 :=
      (View.readAt_full (s := S1024x2048) _ _ _).trans (harg8.read_unread _)
    refine (View.read_writes_full (s := S256x1536) _ _ _ _ _).trans ?_
    rw [e1, e6, e16, e17, e18, e7, e8]
    rfl
  isplitl [H12]
  · iexists _; isplitr; swap; · iexact H12
    ipureintro; sl_unfold_words
    have e1 : arg1.view.readAt (Elt F) (Rect.unit ![0, 0] ![256, 1024] inb_S256x1024_S256x1024_0_0).toLoadRect (harg1.unread x0) = x0 :=
      (View.readAt_full (s := S256x1024) _ _ _).trans (harg1.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e8 : arg8.view.readAt (Elt F) (Rect.unit ![0, 0] ![1024, 2048] inb_S1024x2048_S1024x2048_0_0).toLoadRect (harg8.unread x7) = x7 :=
      (View.readAt_full (s := S1024x2048) _ _ _).trans (harg8.read_unread _)
    refine (View.read_writes_full (s := S256x512) _ _ _ _ _).trans ?_
    rw [e1, e6, e16, e17, e18, e7, e8]
    rfl
  isplitl [H13]
  · iexists _; isplitr; swap; · iexact H13
    ipureintro; sl_unfold_words
    have e1 : arg1.view.readAt (Elt F) (Rect.unit ![0, 0] ![256, 1024] inb_S256x1024_S256x1024_0_0).toLoadRect (harg1.unread x0) = x0 :=
      (View.readAt_full (s := S256x1024) _ _ _).trans (harg1.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e9 : arg9.view.readAt (Elt F) (Rect.unit ![0, 0] ![1024, 1024] inb_S1024x1024_S1024x1024_0_0).toLoadRect (harg9.unread x8) = x8 :=
      (View.readAt_full (s := S1024x1024) _ _ _).trans (harg9.read_unread _)
    refine (View.read_writes_full (s := S256x512) _ _ _ _ _).trans ?_
    rw [e1, e6, e16, e17, e18, e7, e9]
    rfl
  isplitl [H14]
  · iexists _; isplitr; swap; · iexact H14
    ipureintro; sl_unfold_words
    have e1 : arg1.view.readAt (Elt F) (Rect.unit ![0, 0] ![256, 1024] inb_S256x1024_S256x1024_0_0).toLoadRect (harg1.unread x0) = x0 :=
      (View.readAt_full (s := S256x1024) _ _ _).trans (harg1.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e10 : arg10.view.readAt (Elt F) (Rect.unit ![0, 0] ![1024, 128] inb_S1024x128_S1024x128_0_0).toLoadRect (harg10.unread x9) = x9 :=
      (View.readAt_full (s := S1024x128) _ _ _).trans (harg10.read_unread _)
    refine (View.read_writes_full (s := S256x128) _ _ _ _ _).trans ?_
    rw [e1, e6, e16, e17, e18, e7, e10]
    rfl
  isplitl [H15]
  · iexists _; isplitr; swap; · iexact H15
    ipureintro; exact harg16.read_unread _
  isplitl [H16]
  · iexists _; isplitr; swap; · iexact H16
    ipureintro; exact harg17.read_unread _
  iexists _; isplitr; swap; · iexact H17
  ipureintro; exact harg18.read_unread _

set_option maxHeartbeats 2000000 in
/-- At a point that works on the rows after the prompt's: the five blocks of results are left in the outputs' buffers. -/
theorem body_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S128x2816 .f32) (harg3 : arg3.IsWhole) (arg4 : Memref sig .tc .vmem S128x2816 .f32) (harg4 : arg4.IsWhole) (arg5 : Memref sig .tc .vmem S352x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S1024x1024 .bf16) (harg9 : arg9.IsWhole) (arg10 : Memref sig .tc .vmem S1024x128 .bf16) (harg10 : arg10.IsWhole) (arg11 : Memref sig .tc .vmem S256x1024 .f32) (harg11 : arg11.IsWhole) (arg12 : Memref sig .tc .vmem S256x1536 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x128 .f32) (harg15 : arg15.IsWhole) (arg16 : Memref sig .tc .vmem S1024x2816 .bf16) (harg16 : arg16.IsWhole) (arg17 : Memref sig .tc .vmem S1024x2816 .bf16) (harg17 : arg17.IsWhole) (arg18 : Memref sig .tc .vmem S2816x1024 .bf16) (harg18 : arg18.IsWhole)
    (hc0 : ¬cond0_0 i) (hc1 : ¬cond0_1 i) (hc2 : cond0_2 i)
    (x0 : Vec F S256x1024 .f32) (x1 : Vec F S256x1024 .f32) (x2 : Vec F S128x2816 .f32) (x3 : Vec F S128x2816 .f32) (x4 : Vec F S352x1024 .f32) (x5 : Vec F S1x1024 .f32) (x6 : Vec F S1x1024 .f32) (x7 : Vec F S1024x2048 .bf16) (x8 : Vec F S1024x1024 .bf16) (x9 : Vec F S1024x128 .bf16) (y10 : Vec F S256x1024 .f32) (y11 : Vec F S256x1536 .f32) (y12 : Vec F S256x512 .f32) (y13 : Vec F S256x512 .f32) (y14 : Vec F S256x128 .f32) (s0 : Vec F S1024x2816 .bf16) (s1 : Vec F S1024x2816 .bf16) (s2 : Vec F S2816x1024 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y10 ∗ owns (c : Thread nD τ) arg12 fullShare y11 ∗ owns (c : Thread nD τ) arg13 fullShare y12 ∗ owns (c : Thread nD τ) arg14 fullShare y13 ∗ owns (c : Thread nD τ) arg15 fullShare y14 ∗ owns (c : Thread nD τ) arg16 fullShare s0 ∗ owns (c : Thread nD τ) arg17 fullShare s1 ∗ owns (c : Thread nD τ) arg18 fullShare s2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outH x1 x5 s0 s1 s2) ∗ owns (c : Thread nD τ) arg12 fullShare (outQkv x1 x5 x6 s0 s1 s2 x7) ∗ owns (c : Thread nD τ) arg13 fullShare (outZ x1 x5 x6 s0 s1 s2 x7) ∗ owns (c : Thread nD τ) arg14 fullShare (outGlu x1 x5 x6 s0 s1 s2 x8) ∗ owns (c : Thread nD τ) arg15 fullShare (outBa x1 x5 x6 s0 s1 s2 x9) ∗ owns (c : Thread nD τ) arg16 fullShare s0 ∗ owns (c : Thread nD τ) arg17 fullShare s1 ∗ owns (c : Thread nD τ) arg18 fullShare s2) -∗ K ⟨⟩))
      ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_front_eq_skeleton]; unfold cc0_front_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  sl_exec (disch := first | sl_exact hc0 | sl_exact hc1 | sl_exact hc2)
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; sl_unfold_words
    have e2 : arg2.view.readAt (Elt F) (Rect.unit ![0, 0] ![256, 1024] inb_S256x1024_S256x1024_0_0).toLoadRect (harg2.unread x1) = x1 :=
      (View.readAt_full (s := S256x1024) _ _ _).trans (harg2.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    refine (View.read_writes_full (s := S256x1024) _ _ _ _ _).trans ?_
    rw [e2, e6, e16, e17, e18]
    rfl
  isplitl [H11]
  · iexists _; isplitr; swap; · iexact H11
    ipureintro; sl_unfold_words
    have e2 : arg2.view.readAt (Elt F) (Rect.unit ![0, 0] ![256, 1024] inb_S256x1024_S256x1024_0_0).toLoadRect (harg2.unread x1) = x1 :=
      (View.readAt_full (s := S256x1024) _ _ _).trans (harg2.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e8 : arg8.view.readAt (Elt F) (Rect.unit ![0, 0] ![1024, 2048] inb_S1024x2048_S1024x2048_0_0).toLoadRect (harg8.unread x7) = x7 :=
      (View.readAt_full (s := S1024x2048) _ _ _).trans (harg8.read_unread _)
    refine (View.read_writes_full (s := S256x1536) _ _ _ _ _).trans ?_
    rw [e2, e6, e16, e17, e18, e7, e8]
    rfl
  isplitl [H12]
  · iexists _; isplitr; swap; · iexact H12
    ipureintro; sl_unfold_words
    have e2 : arg2.view.readAt (Elt F) (Rect.unit ![0, 0] ![256, 1024] inb_S256x1024_S256x1024_0_0).toLoadRect (harg2.unread x1) = x1 :=
      (View.readAt_full (s := S256x1024) _ _ _).trans (harg2.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e8 : arg8.view.readAt (Elt F) (Rect.unit ![0, 0] ![1024, 2048] inb_S1024x2048_S1024x2048_0_0).toLoadRect (harg8.unread x7) = x7 :=
      (View.readAt_full (s := S1024x2048) _ _ _).trans (harg8.read_unread _)
    refine (View.read_writes_full (s := S256x512) _ _ _ _ _).trans ?_
    rw [e2, e6, e16, e17, e18, e7, e8]
    rfl
  isplitl [H13]
  · iexists _; isplitr; swap; · iexact H13
    ipureintro; sl_unfold_words
    have e2 : arg2.view.readAt (Elt F) (Rect.unit ![0, 0] ![256, 1024] inb_S256x1024_S256x1024_0_0).toLoadRect (harg2.unread x1) = x1 :=
      (View.readAt_full (s := S256x1024) _ _ _).trans (harg2.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e9 : arg9.view.readAt (Elt F) (Rect.unit ![0, 0] ![1024, 1024] inb_S1024x1024_S1024x1024_0_0).toLoadRect (harg9.unread x8) = x8 :=
      (View.readAt_full (s := S1024x1024) _ _ _).trans (harg9.read_unread _)
    refine (View.read_writes_full (s := S256x512) _ _ _ _ _).trans ?_
    rw [e2, e6, e16, e17, e18, e7, e9]
    rfl
  isplitl [H14]
  · iexists _; isplitr; swap; · iexact H14
    ipureintro; sl_unfold_words
    have e2 : arg2.view.readAt (Elt F) (Rect.unit ![0, 0] ![256, 1024] inb_S256x1024_S256x1024_0_0).toLoadRect (harg2.unread x1) = x1 :=
      (View.readAt_full (s := S256x1024) _ _ _).trans (harg2.read_unread _)
    have e6 : arg6.view.readAt (Elt F) (Rect.unit ![0, 0] ![1, 1024] inb_S1x1024_S1x1024_0_0).toLoadRect (harg6.unread x5) = x5 :=
      (View.readAt_full (s := S1x1024) _ _ _).trans (harg6.read_unread _)
    have e16 : arg16.view.readAt (Elt F) (Rect.unit ![0, 0] ![1024, 2816] inb_S1024x2816_S1024x2816_0_0).toLoadRect (harg16.unread s0) = s0 :=
      (View.readAt_full (s := S1024x2816) _ _ _).trans (harg16.read_unread _)
    have e17 : arg17.view.readAt (Elt F) (Rect.unit ![0, 0] ![1024, 2816] inb_S1024x2816_S1024x2816_0_0).toLoadRect (harg17.unread s1) = s1 :=
      (View.readAt_full (s := S1024x2816) _ _ _).trans (harg17.read_unread _)
    have e18 : arg18.view.readAt (Elt F) (Rect.unit ![0, 0] ![2816, 1024] inb_S2816x1024_S2816x1024_0_0).toLoadRect (harg18.unread s2) = s2 :=
      (View.readAt_full (s := S2816x1024) _ _ _).trans (harg18.read_unread _)
    have e7 : arg7.view.readAt (Elt F) (Rect.unit ![0, 0] ![1, 1024] inb_S1x1024_S1x1024_0_0).toLoadRect (harg7.unread x6) = x6 :=
      (View.readAt_full (s := S1x1024) _ _ _).trans (harg7.read_unread _)
    have e10 : arg10.view.readAt (Elt F) (Rect.unit ![0, 0] ![1024, 128] inb_S1024x128_S1024x128_0_0).toLoadRect (harg10.unread x9) = x9 :=
      (View.readAt_full (s := S1024x128) _ _ _).trans (harg10.read_unread _)
    refine (View.read_writes_full (s := S256x128) _ _ _ _ _).trans ?_
    rw [e2, e6, e16, e17, e18, e7, e10]
    rfl
  isplitl [H15]
  · iexists _; isplitr; swap; · iexact H15
    ipureintro; exact harg16.read_unread _
  isplitl [H16]
  · iexists _; isplitr; swap; · iexact H16
    ipureintro; exact harg17.read_unread _
  iexists _; isplitr; swap; · iexact H17
  ipureintro; exact harg18.read_unread _

end Cert.FrontIdeal.Run

end
-- ==== Proof.FrontRun.lean ====
module

public import proofs.«01_k».proof.Proof.FrontBody
public import proofs.«01_k».proof.Proof.Rows
public import Idealize.ShloMosaic.Lib.Pipeline.TableIdle

@[expose] public section

set_option maxRecDepth 16384

noncomputable section

namespace Cert.FrontIdeal.Run

open Cert.FrontIdeal Cert.FrontIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Rows
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## Names for the buffers the body is given -/

abbrev ms0_0 (t : Fin cfg0.N) : Memref sig .tc .vmem S256x1024 .f32 := win0_0.stage (cfg0.slots t 0)
abbrev ms0_1 (t : Fin cfg0.N) : Memref sig .tc .vmem S256x1024 .f32 := win0_1.stage (cfg0.slots t 1)
abbrev ms0_2 (t : Fin cfg0.N) : Memref sig .tc .vmem S128x2816 .f32 := win0_2.stage (cfg0.slots t 2)
abbrev ms0_3 (t : Fin cfg0.N) : Memref sig .tc .vmem S128x2816 .f32 := win0_3.stage (cfg0.slots t 3)
abbrev ms0_4 (t : Fin cfg0.N) : Memref sig .tc .vmem S352x1024 .f32 := win0_4.stage (cfg0.slots t 4)
abbrev ms0_5 (t : Fin cfg0.N) : Memref sig .tc .vmem S1x1024 .f32 := win0_5.stage (cfg0.slots t 5)
abbrev ms0_6 (t : Fin cfg0.N) : Memref sig .tc .vmem S1x1024 .f32 := win0_6.stage (cfg0.slots t 6)
abbrev ms0_7 (t : Fin cfg0.N) : Memref sig .tc .vmem S1024x2048 .bf16 := win0_7.stage (cfg0.slots t 7)
abbrev ms0_8 (t : Fin cfg0.N) : Memref sig .tc .vmem S1024x1024 .bf16 := win0_8.stage (cfg0.slots t 8)
abbrev ms0_9 (t : Fin cfg0.N) : Memref sig .tc .vmem S1024x128 .bf16 := win0_9.stage (cfg0.slots t 9)
abbrev ms0_10 (t : Fin cfg0.N) : Memref sig .tc .vmem S256x1024 .f32 := win0_10.stage (cfg0.slots t 10)
abbrev ms0_11 (t : Fin cfg0.N) : Memref sig .tc .vmem S256x1536 .f32 := win0_11.stage (cfg0.slots t 11)
abbrev ms0_12 (t : Fin cfg0.N) : Memref sig .tc .vmem S256x512 .f32 := win0_12.stage (cfg0.slots t 12)
abbrev ms0_13 (t : Fin cfg0.N) : Memref sig .tc .vmem S256x512 .f32 := win0_13.stage (cfg0.slots t 13)
abbrev ms0_14 (t : Fin cfg0.N) : Memref sig .tc .vmem S256x128 .f32 := win0_14.stage (cfg0.slots t 14)
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The converted weights -/

/-- Grid point `n` of the conversion. -/
abbrev pt (n : ℕ) (h : n < 77) : Fin cfg0.N := ⟨n, h.trans_eq N_0.symm⟩

/-- The gate weights as the scratch buffer holds them once converted: row `r` comes from the chunk of point `r / 128`. -/
def wGate (c : Dev nD) : Vec F S1024x2816 .bf16 := fun j =>
  k0_pay1 (iblk m c 2 (pt ((j 0).val / 128) (by have : (j 0).val < 1024 := (j 0).isLt; omega))) (ix2 (n0 := 128) ⟨(j 0).val % 128, Nat.mod_lt _ (by decide)⟩ (j 1))

/-- The up-projection's weights, converted. -/
def wUp (c : Dev nD) : Vec F S1024x2816 .bf16 := fun j =>
  k0_pay2 (iblk m c 3 (pt ((j 0).val / 128) (by have : (j 0).val < 1024 := (j 0).isLt; omega))) (ix2 (n0 := 128) ⟨(j 0).val % 128, Nat.mod_lt _ (by decide)⟩ (j 1))

/-- The down-projection's weights, converted: chunks of 352 rows. -/
def wDown (c : Dev nD) : Vec F S2816x1024 .bf16 := fun j =>
  k0_pay3 (iblk m c 4 (pt ((j 0).val / 352) (by have : (j 0).val < 2816 := (j 0).isLt; omega))) (ix2 (n0 := 352) ⟨(j 0).val % 352, Nat.mod_lt _ (by decide)⟩ (j 1))

/-- Where the converted rows go. -/
theorem off1_eq : ∀ t : Fin cfg0.N, t.val < 8 → k0_off1 (grid0.coords t) = ![128 * t.val, 0] :=
  (by decide +kernel : ∀ t : Fin grid0.N, t.val < 8 → k0_off1 (grid0.coords t) = ![128 * t.val, 0])
/-- The same of the down-projection. -/
theorem off2_eq : ∀ t : Fin cfg0.N, t.val < 8 → k0_off2 (grid0.coords t) = ![352 * t.val, 0] :=
  (by decide +kernel : ∀ t : Fin grid0.N, t.val < 8 → k0_off2 (grid0.coords t) = ![352 * t.val, 0])

/-- What the scratch buffers hold before point `n`: their converted rows. -/
def Conv (c : Dev nD) (n : ℕ) (s0 s1 : Vec F S1024x2816 .bf16) (s2 : Vec F S2816x1024 .bf16) : Prop :=
  Held (R := 1024) (K := 2816) (128 * n) (wGate m c) s0 ∧ Held (R := 1024) (K := 2816) (128 * n) (wUp m c) s1 ∧ Held (R := 2816) (K := 1024) (352 * n) (wDown m c) s2

/-- One conversion point extends the converted rows. -/
theorem conv_step (c : Dev nD) (t : Fin cfg0.N) (ht : t.val < 8) (s0 s1 : Vec F S1024x2816 .bf16) (s2 : Vec F S2816x1024 .bf16) (h : Conv m c t.val s0 s1 s2) :
    Conv m c (t.val + 1) (VecWindow.put s0 (k0_off1 (grid0.coords t)) S128x2816.size (k0_pay1 (iblk m c 2 t)))
      (VecWindow.put s1 (k0_off1 (grid0.coords t)) S128x2816.size (k0_pay2 (iblk m c 3 t)))
      (VecWindow.put s2 (k0_off2 (grid0.coords t)) S352x1024.size (k0_pay3 (iblk m c 4 t))) := by
  refine ⟨Held.put h.1 (off1_eq t ht) _ ?_, Held.put h.2.1 (off1_eq t ht) _ ?_, Held.put h.2.2 (off2_eq t ht) _ ?_⟩
  · intro r k hr
    have hr' := r.isLt
    show k0_pay1 (iblk m c 2 (pt ((128 * t.val + r.val) / 128) _)) (ix2 ⟨(128 * t.val + r.val) % 128, _⟩ k) = _
    rw [show pt ((128 * t.val + r.val) / 128) (by omega) = t from Fin.ext (by show (128 * t.val + r.val) / 128 = t.val; omega),
      show (⟨(128 * t.val + r.val) % 128, Nat.mod_lt _ (by decide)⟩ : Fin 128) = r from Fin.ext (by show (128 * t.val + r.val) % 128 = r.val; omega)]
  · intro r k hr
    have hr' := r.isLt
    show k0_pay2 (iblk m c 3 (pt ((128 * t.val + r.val) / 128) _)) (ix2 ⟨(128 * t.val + r.val) % 128, _⟩ k) = _
    rw [show pt ((128 * t.val + r.val) / 128) (by omega) = t from Fin.ext (by show (128 * t.val + r.val) / 128 = t.val; omega),
      show (⟨(128 * t.val + r.val) % 128, Nat.mod_lt _ (by decide)⟩ : Fin 128) = r from Fin.ext (by show (128 * t.val + r.val) % 128 = r.val; omega)]
  · intro r k hr
    have hr' := r.isLt
    show k0_pay3 (iblk m c 4 (pt ((352 * t.val + r.val) / 352) _)) (ix2 ⟨(352 * t.val + r.val) % 352, _⟩ k) = _
    rw [show pt ((352 * t.val + r.val) / 352) (by omega) = t from Fin.ext (by show (352 * t.val + r.val) / 352 = t.val; omega),
      show (⟨(352 * t.val + r.val) % 352, Nat.mod_lt _ (by decide)⟩ : Fin 352) = r from Fin.ext (by show (352 * t.val + r.val) % 352 = r.val; omega)]

/-- Once every chunk is converted the scratch buffers are the converted weights. -/
theorem Conv.done {c : Dev nD} {n : ℕ} (hn : 8 ≤ n) {s0 s1 : Vec F S1024x2816 .bf16} {s2 : Vec F S2816x1024 .bf16} (h : Conv m c n s0 s1 s2) :
    s0 = wGate m c ∧ s1 = wUp m c ∧ s2 = wDown m c :=
  ⟨h.1.all (by omega), h.2.1.all (by omega), h.2.2.all (by omega)⟩

/-- Converted weights stay so. -/
theorem Conv.of_eq {c : Dev nD} (n : ℕ) : Conv m c n (wGate m c) (wUp m c) (wDown m c) :=
  ⟨fun _ _ => rfl, fun _ _ => rfl, fun _ _ => rfl⟩

/-! ## The pipeline's proof data -/

/-- The rows that point `t` works on: a block of the prompt's up to point 71, of the others' after it. -/
def rows (c : Dev nD) (t : Fin cfg0.N) : Vec F S256x1024 .f32 := if t.val ≤ 71 then iblk m c 0 t else iblk m c 1 t

/-- What point `t` leaves in the buffer of result 1. -/
def left10 (c : Dev nD) (t : Fin cfg0.N) : Vec F S256x1024 .f32 := outH (rows m c t) (iblk m c 5 t) (wGate m c) (wUp m c) (wDown m c)
/-- What point `t` leaves in the buffer of result 2. -/
def left11 (c : Dev nD) (t : Fin cfg0.N) : Vec F S256x1536 .f32 := outQkv (rows m c t) (iblk m c 5 t) (iblk m c 6 t) (wGate m c) (wUp m c) (wDown m c) (iblk m c 7 t)
/-- What point `t` leaves in the buffer of result 3. -/
def left12 (c : Dev nD) (t : Fin cfg0.N) : Vec F S256x512 .f32 := outZ (rows m c t) (iblk m c 5 t) (iblk m c 6 t) (wGate m c) (wUp m c) (wDown m c) (iblk m c 7 t)
/-- What point `t` leaves in the buffer of result 4. -/
def left13 (c : Dev nD) (t : Fin cfg0.N) : Vec F S256x512 .f32 := outGlu (rows m c t) (iblk m c 5 t) (iblk m c 6 t) (wGate m c) (wUp m c) (wDown m c) (iblk m c 8 t)
/-- What point `t` leaves in the buffer of result 5. -/
def left14 (c : Dev nD) (t : Fin cfg0.N) : Vec F S256x128 .f32 := outBa (rows m c t) (iblk m c 5 t) (iblk m c 6 t) (wGate m c) (wUp m c) (wDown m c) (iblk m c 9 t)

/-- The invariant between points: the scratch buffers hold the rows converted so far. -/
def inv (c : Dev nD) (n : ℕ) : sProp 𝕄 :=
  iprop((∃ s0 s1 s2, ⌜Conv m c n s0 s1 s2⌝ ∗ owns (c : Thread nD τ) scM0_0 fullShare s0 ∗ owns (c : Thread nD τ) scM0_1 fullShare s1 ∗ owns (c : Thread nD τ) scM0_2 fullShare s2)
    ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => left10 m c t
    | ⟨11, _⟩ => left11 m c t
    | ⟨12, _⟩ => left12 m c t
    | ⟨13, _⟩ => left13 m c t
    | ⟨14, _⟩ => left14 m c t
  Φ t := inv m c (min t.val 8)
  q _ := fullShare
  owed _ := 0

/-- The arrays at the start. -/
theorem A_eq (c : Dev nD) (w : Fin cfg0.W) : (dats m 0 c).A w = V m c (Pipeline.arrRef spec0 w) := by
  dsimp only [dats]

/-- What a point leaves in each buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = left10 m c t := by dsimp only [dats]
theorem after0_11 (c : Dev nD) (t : Fin cfg0.N) : (dats m 0 c).after 11 t = left11 m c t := by dsimp only [dats]
theorem after0_12 (c : Dev nD) (t : Fin cfg0.N) : (dats m 0 c).after 12 t = left12 m c t := by dsimp only [dats]
theorem after0_13 (c : Dev nD) (t : Fin cfg0.N) : (dats m 0 c).after 13 t = left13 m c t := by dsimp only [dats]
theorem after0_14 (c : Dev nD) (t : Fin cfg0.N) : (dats m 0 c).after 14 t = left14 m c t := by dsimp only [dats]
/-- What a point finds in each input buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## When the outputs' buffers are touched -/

/-- When each result is idle and written back. -/
theorem idle10 : ∀ t : Fin cfg0.N, cfg0.idle 10 (grid0.coords t) = decide (t.val < 8) :=
  (by decide +kernel : ∀ t : Fin grid0.N, idle0 10 (grid0.coords t) = decide (t.val < 8))
theorem flush10 : ∀ t : Fin cfg0.N, (cfg0.win 10).flush t = decide (8 ≤ t.val) :=
  (by decide +kernel : ∀ t : Fin grid0.N, win0_10.flush t = decide (8 ≤ t.val))
theorem idle11 : ∀ t : Fin cfg0.N, cfg0.idle 11 (grid0.coords t) = decide (t.val < 8) :=
  (by decide +kernel : ∀ t : Fin grid0.N, idle0 11 (grid0.coords t) = decide (t.val < 8))
theorem flush11 : ∀ t : Fin cfg0.N, (cfg0.win 11).flush t = decide (8 ≤ t.val) :=
  (by decide +kernel : ∀ t : Fin grid0.N, win0_11.flush t = decide (8 ≤ t.val))
theorem idle12 : ∀ t : Fin cfg0.N, cfg0.idle 12 (grid0.coords t) = decide (t.val < 8) :=
  (by decide +kernel : ∀ t : Fin grid0.N, idle0 12 (grid0.coords t) = decide (t.val < 8))
theorem flush12 : ∀ t : Fin cfg0.N, (cfg0.win 12).flush t = decide (8 ≤ t.val) :=
  (by decide +kernel : ∀ t : Fin grid0.N, win0_12.flush t = decide (8 ≤ t.val))
theorem idle13 : ∀ t : Fin cfg0.N, cfg0.idle 13 (grid0.coords t) = decide (t.val < 8) :=
  (by decide +kernel : ∀ t : Fin grid0.N, idle0 13 (grid0.coords t) = decide (t.val < 8))
theorem flush13 : ∀ t : Fin cfg0.N, (cfg0.win 13).flush t = decide (8 ≤ t.val) :=
  (by decide +kernel : ∀ t : Fin grid0.N, win0_13.flush t = decide (8 ≤ t.val))
theorem idle14 : ∀ t : Fin cfg0.N, cfg0.idle 14 (grid0.coords t) = decide (t.val < 8) :=
  (by decide +kernel : ∀ t : Fin grid0.N, idle0 14 (grid0.coords t) = decide (t.val < 8))
theorem flush14 : ∀ t : Fin cfg0.N, (cfg0.win 14).flush t = decide (8 ≤ t.val) :=
  (by decide +kernel : ∀ t : Fin grid0.N, win0_14.flush t = decide (8 ≤ t.val))

/-! ## The body's obligation -/

abbrev hs0_0 (t : Fin cfg0.N) : (ms0_0 t).IsWhole := hstage0_0 ((cfg0.slots t 0).cast nbuf0_0)
abbrev hs0_1 (t : Fin cfg0.N) : (ms0_1 t).IsWhole := hstage0_1 ((cfg0.slots t 1).cast nbuf0_1)
abbrev hs0_2 (t : Fin cfg0.N) : (ms0_2 t).IsWhole := hstage0_2 ((cfg0.slots t 2).cast nbuf0_2)
abbrev hs0_3 (t : Fin cfg0.N) : (ms0_3 t).IsWhole := hstage0_3 ((cfg0.slots t 3).cast nbuf0_3)
abbrev hs0_4 (t : Fin cfg0.N) : (ms0_4 t).IsWhole := hstage0_4 ((cfg0.slots t 4).cast nbuf0_4)
abbrev hs0_5 (t : Fin cfg0.N) : (ms0_5 t).IsWhole := hstage0_5 ((cfg0.slots t 5).cast nbuf0_5)
abbrev hs0_6 (t : Fin cfg0.N) : (ms0_6 t).IsWhole := hstage0_6 ((cfg0.slots t 6).cast nbuf0_6)
abbrev hs0_7 (t : Fin cfg0.N) : (ms0_7 t).IsWhole := hstage0_7 ((cfg0.slots t 7).cast nbuf0_7)
abbrev hs0_8 (t : Fin cfg0.N) : (ms0_8 t).IsWhole := hstage0_8 ((cfg0.slots t 8).cast nbuf0_8)
abbrev hs0_9 (t : Fin cfg0.N) : (ms0_9 t).IsWhole := hstage0_9 ((cfg0.slots t 9).cast nbuf0_9)
abbrev hs0_10 (t : Fin cfg0.N) : (ms0_10 t).IsWhole := hstage0_10 ((cfg0.slots t 10).cast nbuf0_10)
abbrev hs0_11 (t : Fin cfg0.N) : (ms0_11 t).IsWhole := hstage0_11 ((cfg0.slots t 11).cast nbuf0_11)
abbrev hs0_12 (t : Fin cfg0.N) : (ms0_12 t).IsWhole := hstage0_12 ((cfg0.slots t 12).cast nbuf0_12)
abbrev hs0_13 (t : Fin cfg0.N) : (ms0_13 t).IsWhole := hstage0_13 ((cfg0.slots t 13).cast nbuf0_13)
abbrev hs0_14 (t : Fin cfg0.N) : (ms0_14 t).IsWhole := hstage0_14 ((cfg0.slots t 14).cast nbuf0_14)
/-- Input buffers are left as found. -/
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after0_9]
/-- A point that works on rows leaves its block of result 1; a point that converts leaves the buffer as it found it. -/
theorem leaves10_block (c : Dev nD) (t : Fin cfg0.N) (h : ¬ t.val < 8) :
    (dats m 0 c).leavesExact 10 t = owns (c : Thread nD τ) (ms0_10 t) fullShare (left10 m c t) := by
  unfold Dat.leavesExact
  rw [show cfg0.idle 10 (grid0.coords t) = false from (idle10 t).trans (decide_eq_false h), after0_10]
/-- A conversion point keeps the result buffers. -/
theorem leaves10_kept (c : Dev nD) (t : Fin cfg0.N) (h : t.val < 8) (d) :
    owns (c : Thread nD τ) (ms0_10 t) fullShare ((dats m 0 c).before 10 t d) ⊢ (dats m 0 c).leavesExact 10 t := by
  rw [(dats m 0 c).leavesExact_idle 10 t ((idle10 t).trans (decide_eq_true h)) ((flush10 t).trans (decide_eq_false (by omega)))]
  iintro H; iexists d; iexact H
/-- A point that works on rows leaves its block of result 2; a point that converts leaves the buffer as it found it. -/
theorem leaves11_block (c : Dev nD) (t : Fin cfg0.N) (h : ¬ t.val < 8) :
    (dats m 0 c).leavesExact 11 t = owns (c : Thread nD τ) (ms0_11 t) fullShare (left11 m c t) := by
  unfold Dat.leavesExact
  rw [show cfg0.idle 11 (grid0.coords t) = false from (idle11 t).trans (decide_eq_false h), after0_11]
theorem leaves11_kept (c : Dev nD) (t : Fin cfg0.N) (h : t.val < 8) (d) :
    owns (c : Thread nD τ) (ms0_11 t) fullShare ((dats m 0 c).before 11 t d) ⊢ (dats m 0 c).leavesExact 11 t := by
  rw [(dats m 0 c).leavesExact_idle 11 t ((idle11 t).trans (decide_eq_true h)) ((flush11 t).trans (decide_eq_false (by omega)))]
  iintro H; iexists d; iexact H
/-- A point that works on rows leaves its block of result 3; a point that converts leaves the buffer as it found it. -/
theorem leaves12_block (c : Dev nD) (t : Fin cfg0.N) (h : ¬ t.val < 8) :
    (dats m 0 c).leavesExact 12 t = owns (c : Thread nD τ) (ms0_12 t) fullShare (left12 m c t) := by
  unfold Dat.leavesExact
  rw [show cfg0.idle 12 (grid0.coords t) = false from (idle12 t).trans (decide_eq_false h), after0_12]
theorem leaves12_kept (c : Dev nD) (t : Fin cfg0.N) (h : t.val < 8) (d) :
    owns (c : Thread nD τ) (ms0_12 t) fullShare ((dats m 0 c).before 12 t d) ⊢ (dats m 0 c).leavesExact 12 t := by
  rw [(dats m 0 c).leavesExact_idle 12 t ((idle12 t).trans (decide_eq_true h)) ((flush12 t).trans (decide_eq_false (by omega)))]
  iintro H; iexists d; iexact H
/-- A point that works on rows leaves its block of result 4; a point that converts leaves the buffer as it found it. -/
theorem leaves13_block (c : Dev nD) (t : Fin cfg0.N) (h : ¬ t.val < 8) :
    (dats m 0 c).leavesExact 13 t = owns (c : Thread nD τ) (ms0_13 t) fullShare (left13 m c t) := by
  unfold Dat.leavesExact
  rw [show cfg0.idle 13 (grid0.coords t) = false from (idle13 t).trans (decide_eq_false h), after0_13]
theorem leaves13_kept (c : Dev nD) (t : Fin cfg0.N) (h : t.val < 8) (d) :
    owns (c : Thread nD τ) (ms0_13 t) fullShare ((dats m 0 c).before 13 t d) ⊢ (dats m 0 c).leavesExact 13 t := by
  rw [(dats m 0 c).leavesExact_idle 13 t ((idle13 t).trans (decide_eq_true h)) ((flush13 t).trans (decide_eq_false (by omega)))]
  iintro H; iexists d; iexact H
/-- A point that works on rows leaves its block of result 5; a point that converts leaves the buffer as it found it. -/
theorem leaves14_block (c : Dev nD) (t : Fin cfg0.N) (h : ¬ t.val < 8) :
    (dats m 0 c).leavesExact 14 t = owns (c : Thread nD τ) (ms0_14 t) fullShare (left14 m c t) := by
  unfold Dat.leavesExact
  rw [show cfg0.idle 14 (grid0.coords t) = false from (idle14 t).trans (decide_eq_false h), after0_14]
theorem leaves14_kept (c : Dev nD) (t : Fin cfg0.N) (h : t.val < 8) (d) :
    owns (c : Thread nD τ) (ms0_14 t) fullShare ((dats m 0 c).before 14 t d) ⊢ (dats m 0 c).leavesExact 14 t := by
  rw [(dats m 0 c).leavesExact_idle 14 t ((idle14 t).trans (decide_eq_true h)) ((flush14 t).trans (decide_eq_false (by omega)))]
  iintro H; iexists d; iexact H

/-- What the body has at point `t` … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- … and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 3600000 in
/-- The body keeps its contract at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9]
  rw [show (dats m 0 c).owesAt () t.succ = (dats m 0 c).owesAt () t.castSucc from rfl,
    show (dats m 0 c).Φ t.castSucc = inv m c (min t.val 8) from rfl, show (dats m 0 c).Φ t.succ = inv m c (min (t.val + 1) 8) from rfl]
  unfold inv
  have hN : t.val < 77 := lt_of_lt_of_eq t.isLt (show cfg0.N = 77 from N_0)
  iintro ⟨⟨⟨%s0, %s1, %s2, %hs, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases h0 : t.val < 8
  · have h1 : ¬(8 ≤ t.val ∧ t.val ≤ 71) := by omega
    have h2 : ¬ 72 ≤ t.val := by omega
    rw [min_eq_left h0.le] at hs
    rw [min_eq_left (Nat.succ_le_of_lt h0)]
    iapply (body_A c (grid0.coords t) _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    iintro ⟨H0, H1, H2, H3, H4, H5, H6, H7, H8, H9, H10, H11, H12, H13, H14, HS0, HS1, HS2⟩
    isplitl [HS0 HS1 HS2 Hg]
    · isplitl [HS0 HS1 HS2]
      · iexists _, _, _
        isplitr
        · ipureintro; exact conv_step m c t h0 s0 s1 s2 hs
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (leaves10_kept m c t h0 d10); iexact H10
    isplitl [H11]; · iapply (leaves11_kept m c t h0 d11); iexact H11
    isplitl [H12]; · iapply (leaves12_kept m c t h0 d12); iexact H12
    isplitl [H13]; · iapply (leaves13_kept m c t h0 d13); iexact H13
    iapply (leaves14_kept m c t h0 d14); iexact H14
  · rw [min_eq_right (not_lt.mp h0)] at hs
    rw [min_eq_right ((not_lt.mp h0).trans (Nat.le_succ _))]
    obtain ⟨rfl, rfl, rfl⟩ := hs.done m le_rfl
    rw [leaves10_block m c t h0, leaves11_block m c t h0, leaves12_block m c t h0, leaves13_block m c t h0, leaves14_block m c t h0]
    unfold left10 left11 left12 left13 left14
    by_cases h1 : 8 ≤ t.val ∧ t.val ≤ 71
    · have h2 : ¬ 72 ≤ t.val := by omega
      rw [show rows m c t = iblk m c 0 t from if_pos h1.2]
      iapply (body_B c (grid0.coords t) _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · iexists _, _, _
          isplitr
          · ipureintro; exact Conv.of_eq m 8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · have h2 : 72 ≤ t.val := by omega
      rw [show rows m c t = iblk m c 1 t from if_neg (by omega)]
      iapply (body_C c (grid0.coords t) _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HS0]; · iexact HS0
      isplitl [HS1]; · iexact HS1
      isplitl [HS2]; · iexact HS2
      iintro ⟨H0, H1, H2, H3, H4, H5, H6, H7, H8, H9, H10, H11, H12, H13, H14, HS0, HS1, HS2⟩
      isplitl [HS0 HS1 HS2 Hg]
      · isplitl [HS0 HS1 HS2]
        · iexists _, _, _
          isplitr
          · ipureintro; exact Conv.of_eq m 8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point nothing is converted. -/
theorem inv_first (c : Dev nD) : Pipeline.ΦA spec0 c ⊢ (dats m 0 c).Φ 0 := by
  rw [PhiA0_eq, show (dats m 0 c).Φ 0 = inv m c 0 from rfl]
  unfold inv
  iintro ⟨⟨⟨%s0, H0⟩, ⟨%s1, H1⟩, ⟨%s2, H2⟩⟩, Hg⟩
  isplitl [H0 H1 H2]
  · iexists s0, s1, s2
    isplitr
    · ipureintro; exact ⟨fun _ h => absurd h (Nat.not_lt_zero _), fun _ h => absurd h (Nat.not_lt_zero _), fun _ h => absurd h (Nat.not_lt_zero _)⟩
    isplitl [H0]; · iexact H0
    isplitl [H1]; · iexact H1
    iexact H2
  iexact Hg

/-- After the last point the scratch buffers are given back at whatever they hold. -/
theorem inv_last (c : Dev nD) : (dats m 0 c).Φ (Fin.last cfg0.N) ⊢ Pipeline.ΦA spec0 c := by
  rw [PhiA0_eq, show (dats m 0 c).Φ (Fin.last cfg0.N) = inv m c 8 from rfl]
  unfold inv
  iintro ⟨⟨%s0, %s1, %s2, %hs, H0, H1, H2⟩, Hg⟩
  isplitl [H0 H1 H2]
  · isplitl [H0]; · iexists _; iexact H0
    isplitl [H1]; · iexists _; iexact H1
    iexists _; iexact H2
  iexact Hg

set_option backward.isDefEq.respectTransparency.types false in
/-- The program terminates with every array as the pipeline's proof data say, and with every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_first m) (hout := inv_last m)
    (hQ' := fun _ h => h)

end Cert.FrontIdeal.Run

end
-- ==== Proof.FrontValue.lean ====
module

public import proofs.«01_k».proof.Proof.FrontRun
public import proofs.«01_k».proof.Proof.RowMath
public import proofs.«01_k».proof.Proof.Gen.FrontRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.FrontIdeal.Val

open Cert.FrontIdeal Cert.FrontIdeal.Gen Cert.FrontIdeal.Run Cert.RowMath Cert.Rows
open Idealize.ShloMosaic Idealize.ShloMosaic.TcCoe Idealize.ShloMosaic.Tactic
open Idealize.ShloMosaic.Pipeline (Dat Cfg Window)

/-- The row that the projections are taken of: the first half layer's row, normed with the mixer's weights. -/
def innerRow (x nw mw : Fin 1024 → EReal) (wg wu : Fin 1024 → Fin 2816 → EReal) (wd : Fin 2816 → Fin 1024 → EReal) : Fin 1024 → EReal :=
  normRow (mlpRow x nw wg wu wd) mw

/-- One entry of a row's projection. -/
def proj {K : ℕ} (u : Fin 1024 → EReal) (w : Fin 1024 → Fin K → EReal) (k : Fin K) : EReal := ∑ l, u l * w l k

/-- One entry of the convolution branch's gated linear unit: the first half of the columns times the logistic of the second. -/
def gluEntry (u : Fin 1024 → EReal) (w : Fin 1024 → Fin 1024 → EReal) (k : Fin 512) : EReal :=
  proj u w ⟨k.val, by omega⟩ * Ideal.logistic (proj u w ⟨512 + k.val, by omega⟩)

/-! ## The body's rows -/

/-- A row of the block of first results. -/
theorem outH_apply (x : Vec Ideal S256x1024 .f32) (nw : Vec Ideal S1x1024 .f32) (wg wu : Vec Ideal S1024x2816 .bf16) (wd : Vec Ideal S2816x1024 .bf16) (r : Fin 256) (k : Fin 1024) :
    outH x nw wg wu wd (ix2 r k)
      = mlpRow (fun l => x (ix2 r l)) (fun l => nw (ix2 0 l)) (fun a b => wg (ix2 a b)) (fun a b => wu (ix2 a b)) (fun a b => wd (ix2 a b)) k := by
  unfold outH
  pointwise [k0_pay16]
  rfl

/-- A word of the half layer. -/
theorem first_apply (x : Vec Ideal S256x1024 .f32) (nw : Vec Ideal S1x1024 .f32) (wg wu : Vec Ideal S1024x2816 .bf16) (wd : Vec Ideal S2816x1024 .bf16) (r : Fin 256) (k : Fin 1024) :
    k0_pay16 x nw wg wu wd (ix2 r k)
      = mlpRow (fun l => x (ix2 r l)) (fun l => nw (ix2 0 l)) (fun a b => wg (ix2 a b)) (fun a b => wu (ix2 a b)) (fun a b => wd (ix2 a b)) k :=
  outH_apply x nw wg wu wd r k

/-- A row of the block of second results. -/
theorem outQkv_apply (x : Vec Ideal S256x1024 .f32) (nw mw : Vec Ideal S1x1024 .f32) (wg wu : Vec Ideal S1024x2816 .bf16) (wd : Vec Ideal S2816x1024 .bf16) (w : Vec Ideal S1024x2048 .bf16) (r : Fin 256) (k : Fin 1536) :
    outQkv x nw mw wg wu wd w (ix2 r k)
      = proj (innerRow (fun l => x (ix2 r l)) (fun l => nw (ix2 0 l)) (fun l => mw (ix2 0 l)) (fun a b => wg (ix2 a b)) (fun a b => wu (ix2 a b)) (fun a b => wd (ix2 a b))) (fun a b => w (ix2 a b)) ⟨k.val, by omega⟩ := by
  unfold outQkv
  pointwise [k0_pay6, k0_pay5, k0_pay4, k0_pay17]
  simp only [first_apply]
  rfl

/-- A row of the block of third results. -/
theorem outZ_apply (x : Vec Ideal S256x1024 .f32) (nw mw : Vec Ideal S1x1024 .f32) (wg wu : Vec Ideal S1024x2816 .bf16) (wd : Vec Ideal S2816x1024 .bf16) (w : Vec Ideal S1024x2048 .bf16) (r : Fin 256) (k : Fin 512) :
    outZ x nw mw wg wu wd w (ix2 r k)
      = proj (innerRow (fun l => x (ix2 r l)) (fun l => nw (ix2 0 l)) (fun l => mw (ix2 0 l)) (fun a b => wg (ix2 a b)) (fun a b => wu (ix2 a b)) (fun a b => wd (ix2 a b))) (fun a b => w (ix2 a b)) ⟨1536 + k.val, by omega⟩ := by
  unfold outZ
  pointwise [k0_pay7, k0_pay5, k0_pay4, k0_pay17]
  simp only [first_apply]
  rfl

/-- A row of the block of fourth results. -/
theorem outGlu_apply (x : Vec Ideal S256x1024 .f32) (nw mw : Vec Ideal S1x1024 .f32) (wg wu : Vec Ideal S1024x2816 .bf16) (wd : Vec Ideal S2816x1024 .bf16) (w : Vec Ideal S1024x1024 .bf16) (r : Fin 256) (k : Fin 512) :
    outGlu x nw mw wg wu wd w (ix2 r k)
      = gluEntry (innerRow (fun l => x (ix2 r l)) (fun l => nw (ix2 0 l)) (fun l => mw (ix2 0 l)) (fun a b => wg (ix2 a b)) (fun a b => wu (ix2 a b)) (fun a b => wd (ix2 a b))) (fun a b => w (ix2 a b)) k := by
  unfold outGlu
  pointwise [k0_pay8, k0_pay4, k0_pay17]
  simp only [first_apply]
  rfl

/-- A row of the block of fifth results. -/
theorem outBa_apply (x : Vec Ideal S256x1024 .f32) (nw mw : Vec Ideal S1x1024 .f32) (wg wu : Vec Ideal S1024x2816 .bf16) (wd : Vec Ideal S2816x1024 .bf16) (w : Vec Ideal S1024x128 .bf16) (r : Fin 256) (k : Fin 128) :
    outBa x nw mw wg wu wd w (ix2 r k)
      = proj (innerRow (fun l => x (ix2 r l)) (fun l => nw (ix2 0 l)) (fun l => mw (ix2 0 l)) (fun a b => wg (ix2 a b)) (fun a b => wu (ix2 a b)) (fun a b => wd (ix2 a b))) (fun a b => w (ix2 a b)) k := by
  unfold outBa
  pointwise [k0_pay9, k0_pay4, k0_pay17]
  simp only [first_apply]
  rfl

/-! ## The arrays the body reads -/

variable (m : (ℓ : Loc nD τ sig) → Buf (Elt Ideal) ℓ)

/-- The blocks the windows take. -/
theorem idx0 : ∀ t : Fin cfg0.N, 8 ≤ t.val → t.val ≤ 71 → win0_0.index t = ![t.val - 8, 0] :=
  (by decide +kernel : ∀ t : Fin grid0.N, 8 ≤ t.val → t.val ≤ 71 → win0_0.index t = ![t.val - 8, 0])
theorem idx1 : ∀ t : Fin cfg0.N, 72 ≤ t.val → win0_1.index t = ![t.val - 72, 0] :=
  (by decide +kernel : ∀ t : Fin grid0.N, 72 ≤ t.val → win0_1.index t = ![t.val - 72, 0])
theorem idx234 : ∀ t : Fin cfg0.N, t.val < 8 → win0_2.index t = ![t.val, 0] ∧ win0_3.index t = ![t.val, 0] ∧ win0_4.index t = ![t.val, 0] :=
  (by decide +kernel : ∀ t : Fin grid0.N, t.val < 8 → win0_2.index t = ![t.val, 0] ∧ win0_3.index t = ![t.val, 0] ∧ win0_4.index t = ![t.val, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, (win0_10.flush t = true) → win0_10.index t = ![t.val - 8, 0] ∧ 8 ≤ t.val :=
  (by decide +kernel : ∀ t : Fin grid0.N, (win0_10.flush t = true) → win0_10.index t = ![t.val - 8, 0] ∧ 8 ≤ t.val)
theorem idx11 : ∀ t : Fin cfg0.N, (win0_11.flush t = true) → win0_11.index t = ![t.val - 8, 0] ∧ 8 ≤ t.val :=
  (by decide +kernel : ∀ t : Fin grid0.N, (win0_11.flush t = true) → win0_11.index t = ![t.val - 8, 0] ∧ 8 ≤ t.val)
theorem idx12 : ∀ t : Fin cfg0.N, (win0_12.flush t = true) → win0_12.index t = ![t.val - 8, 0] ∧ 8 ≤ t.val :=
  (by decide +kernel : ∀ t : Fin grid0.N, (win0_12.flush t = true) → win0_12.index t = ![t.val - 8, 0] ∧ 8 ≤ t.val)
theorem idx13 : ∀ t : Fin cfg0.N, (win0_13.flush t = true) → win0_13.index t = ![t.val - 8, 0] ∧ 8 ≤ t.val :=
  (by decide +kernel : ∀ t : Fin grid0.N, (win0_13.flush t = true) → win0_13.index t = ![t.val - 8, 0] ∧ 8 ≤ t.val)
theorem idx14 : ∀ t : Fin cfg0.N, (win0_14.flush t = true) → win0_14.index t = ![t.val - 8, 0] ∧ 8 ≤ t.val :=
  (by decide +kernel : ∀ t : Fin grid0.N, (win0_14.flush t = true) → win0_14.index t = ![t.val - 8, 0] ∧ 8 ≤ t.val)

/-- The host's arrays by entry. -/
theorem V_main_v0_apply (c : Dev nD) (a : Fin 1024) (b : Fin 2816) : V m c main_v0 (ix2 a b) = m ((c.tc : Thread nD τ).loc main_arg3) (ix3 0 a b) := by
  entry_read
  pointwise

theorem V_main_v1_apply (c : Dev nD) (a : Fin 1024) (b : Fin 2816) : V m c main_v1 (ix2 a b) = m ((c.tc : Thread nD τ).loc main_arg4) (ix3 0 a b) := by
  entry_read
  pointwise

theorem V_main_v2_apply (c : Dev nD) (a : Fin 2816) (b : Fin 1024) : V m c main_v2 (ix2 a b) = m ((c.tc : Thread nD τ).loc main_arg5) (ix3 0 a b) := by
  entry_read
  pointwise

/-- Converted weights by entry. -/
theorem wGate_apply (c : Dev nD) (a : Fin 1024) (b : Fin 2816) :
    wGate m c (ix2 a b) = m ((c.tc : Thread nD τ).loc main_arg3) (ix3 0 a b) := by
  have ha := a.isLt
  have h := (idx234 (pt (a.val / 128) (by omega)) (by show a.val / 128 < 8; omega)).1
  unfold wGate
  pointwise [k0_pay1]
  refine Eq.trans ?_ (V_main_v0_apply m c a b)
  blk_ext [iblk, h]

theorem wUp_apply (c : Dev nD) (a : Fin 1024) (b : Fin 2816) :
    wUp m c (ix2 a b) = m ((c.tc : Thread nD τ).loc main_arg4) (ix3 0 a b) := by
  have ha := a.isLt
  have h := (idx234 (pt (a.val / 128) (by omega)) (by show a.val / 128 < 8; omega)).2.1
  unfold wUp
  pointwise [k0_pay2]
  refine Eq.trans ?_ (V_main_v1_apply m c a b)
  blk_ext [iblk, h]

theorem wDown_apply (c : Dev nD) (a : Fin 2816) (b : Fin 1024) :
    wDown m c (ix2 a b) = m ((c.tc : Thread nD τ).loc main_arg5) (ix3 0 a b) := by
  have ha := a.isLt
  have h := (idx234 (pt (a.val / 352) (by omega)) (by show a.val / 352 < 8; omega)).2.2
  unfold wDown
  pointwise [k0_pay3]
  refine Eq.trans ?_ (V_main_v2_apply m c a b)
  blk_ext [iblk, h]

/-- The constant windows by entry. -/
theorem const5_apply (c : Dev nD) (t : Fin cfg0.N) (l : Fin 1024) :
    iblk m c 5 t (ix2 0 l) = m ((c.tc : Thread nD τ).loc main_arg2) (ix2 0 l) := by
  blk_ext [iblk, idx5 t]

theorem const6_apply (c : Dev nD) (t : Fin cfg0.N) (l : Fin 1024) :
    iblk m c 6 t (ix2 0 l) = m ((c.tc : Thread nD τ).loc main_arg6) (ix2 0 l) := by
  blk_ext [iblk, idx6 t]

theorem const7_apply (c : Dev nD) (t : Fin cfg0.N) (a : Fin 1024) (b : Fin 2048) :
    iblk m c 7 t (ix2 a b) = m ((c.tc : Thread nD τ).loc main_arg7) (ix2 a b) := by
  blk_ext [iblk, idx7 t]

theorem const8_apply (c : Dev nD) (t : Fin cfg0.N) (a : Fin 1024) (b : Fin 1024) :
    iblk m c 8 t (ix2 a b) = m ((c.tc : Thread nD τ).loc main_arg8) (ix2 a b) := by
  blk_ext [iblk, idx8 t]

theorem const9_apply (c : Dev nD) (t : Fin cfg0.N) (a : Fin 1024) (b : Fin 128) :
    iblk m c 9 t (ix2 a b) = m ((c.tc : Thread nD τ).loc main_arg9) (ix2 a b) := by
  blk_ext [iblk, idx9 t]

/-- A row block of the prompt. -/
theorem prompt_apply (c : Dev nD) (t : Fin cfg0.N) (h8 : 8 ≤ t.val) (h71 : t.val ≤ 71) (r : Fin 256) (l : Fin 1024) (hr : (t.val - 8) * 256 + r.val < 16384) :
    iblk m c 0 t (ix2 r l) = m ((c.tc : Thread nD τ).loc main_arg0) (ix2 ⟨(t.val - 8) * 256 + r.val, hr⟩ l) := by
  blk_ext [iblk, idx0 t h8 h71]

/-- A row block of the rest. -/
theorem tail_apply (c : Dev nD) (t : Fin cfg0.N) (h72 : 72 ≤ t.val) (r : Fin 256) (l : Fin 1024) (hr : (t.val - 72) * 256 + r.val < 1280) :
    iblk m c 1 t (ix2 r l) = m ((c.tc : Thread nD τ).loc main_arg1) (ix2 ⟨(t.val - 72) * 256 + r.val, hr⟩ l) := by
  blk_ext [iblk, idx1 t h72]

/-- Row `r` of the layer's input: the prompt's rows, then the others. -/
def stack (x0 : Vec Ideal S16384x1024 .f32) (x1 : Vec Ideal S1280x1024 .f32) (r : Fin 17664) (l : Fin 1024) : EReal :=
  if h : r.val < 16384 then x0 (ix2 ⟨r.val, h⟩ l) else x1 (ix2 ⟨r.val - 16384, by omega⟩ l)

/-- The rows that a point works on are those of the stacked input. -/
theorem rows_apply (c : Dev nD) (t : Fin cfg0.N) (h8 : 8 ≤ t.val) (r : Fin 256) (l : Fin 1024) (hr : (t.val - 8) * 256 + r.val < 17664) :
    rows m c t (ix2 r l) = stack (m ((c.tc : Thread nD τ).loc main_arg0)) (m ((c.tc : Thread nD τ).loc main_arg1)) ⟨(t.val - 8) * 256 + r.val, hr⟩ l := by
  have hr' := r.isLt
  unfold rows stack
  by_cases h : t.val ≤ 71
  · rw [if_pos h, dif_pos (show (t.val - 8) * 256 + r.val < 16384 by omega)]
    exact prompt_apply m c t h8 h r l (by omega)
  · rw [if_neg h, dif_neg (show ¬ (t.val - 8) * 256 + r.val < 16384 by omega)]
    refine (tail_apply m c t (by omega) r l (by have := t.isLt.trans_eq (show cfg0.N = 77 from N_0); omega)).trans ?_
    exact congrArg (fun q => m ((c.tc : Thread nD τ).loc main_arg1) (ix2 q l)) (Fin.ext (by show (t.val - 72) * 256 + r.val = (t.val - 8) * 256 + r.val - 16384; omega))

/-! ## The result arrays -/

section
variable (x0 : Vec Ideal S16384x1024 .f32) (x1 : Vec Ideal S1280x1024 .f32) (x2 : Vec Ideal S1x1024 .f32) (x3 x4 : Vec Ideal S1x1024x2816 .f32) (x5 : Vec Ideal S1x2816x1024 .f32)
  (x6 : Vec Ideal S1x1024 .f32) (x7 : Vec Ideal S1024x2048 .bf16) (x8 : Vec Ideal S1024x1024 .bf16) (x9 : Vec Ideal S1024x128 .bf16)

/-- Row `r` after the first half layer, from the arguments. -/
def hRow (r : Fin 17664) : Fin 1024 → EReal :=
  mlpRow (stack x0 x1 r) (fun l => x2 (ix2 0 l)) (fun a b => x3 (ix3 0 a b)) (fun a b => x4 (ix3 0 a b)) (fun a b => x5 (ix3 0 a b))
/-- The same row, normed for the projections. -/
def uRow (r : Fin 17664) : Fin 1024 → EReal := normRow (hRow x0 x1 x2 x3 x4 x5 r) (fun l => x6 (ix2 0 l))
/-- The five results. -/
def resH : Vec Ideal S17664x1024 .f32 := fun i => hRow x0 x1 x2 x3 x4 x5 (i 0) (i 1)
/-- The other results. -/
def resQkv : Vec Ideal S17664x1536 .f32 := fun i => proj (uRow x0 x1 x2 x3 x4 x5 x6 (i 0)) (fun a b => x7 (ix2 a b)) ⟨(i 1).val, lt_of_lt_of_le (i 1).isLt (by decide)⟩
def resZ : Vec Ideal S17664x512 .f32 := fun i => proj (uRow x0 x1 x2 x3 x4 x5 x6 (i 0)) (fun a b => x7 (ix2 a b)) ⟨1536 + (i 1).val, lt_of_lt_of_le (Nat.add_lt_add_left (i 1).isLt _) (by decide)⟩
def resGlu : Vec Ideal S17664x512 .f32 := fun i => gluEntry (uRow x0 x1 x2 x3 x4 x5 x6 (i 0)) (fun a b => x8 (ix2 a b)) (i 1)
def resBa : Vec Ideal S17664x128 .f32 := fun i => proj (uRow x0 x1 x2 x3 x4 x5 x6 (i 0)) (fun a b => x9 (ix2 a b)) (i 1)
end

/-- Result 1 ends at its rows. -/
theorem array10 (c : Dev nD) : (dats m 0 c).arrAt 10 cfg0.N = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 10 _ (by decide +kernel) fun t hf y => ?_
  obtain ⟨hi, h8⟩ := idx10 t hf
  have hN : t.val < 77 := lt_of_lt_of_eq t.isLt (show cfg0.N = 77 from N_0)
  blk_simp
  rw [after0_10]
  obtain ⟨r, k, rfl⟩ : ∃ (r : Fin 256) (k : Fin 1024), y = ix2 r k := ⟨y 0, y 1, by funext a; match a with | ⟨0, _⟩ => rfl | ⟨1, _⟩ => rfl⟩
  have hr := r.isLt
  have hlt : (t.val - 8) * 256 + r.val < 17664 := by omega
  have e : left10 m c t (ix2 r k) = resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 ⟨(t.val - 8) * 256 + r.val, hlt⟩ k) := by
    unfold left10
    rw [outH_apply]
    simp only [rows_apply m c t h8 r _ hlt, wGate_apply, wUp_apply, wDown_apply, const5_apply m c t]
    rfl
  refine e.trans (congrArg (resH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) ?_)
  blk_ext [hi]

/-- Result 2 ends at its rows. -/
theorem array11 (c : Dev nD) : (dats m 0 c).arrAt 11 cfg0.N = resQkv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 11 _ (by decide +kernel) fun t hf y => ?_
  obtain ⟨hi, h8⟩ := idx11 t hf
  have hN : t.val < 77 := lt_of_lt_of_eq t.isLt (show cfg0.N = 77 from N_0)
  blk_simp
  rw [after0_11]
  obtain ⟨r, k, rfl⟩ : ∃ (r : Fin 256) (k : Fin 1536), y = ix2 r k := ⟨y 0, y 1, by funext a; match a with | ⟨0, _⟩ => rfl | ⟨1, _⟩ => rfl⟩
  have hr := r.isLt
  have hlt : (t.val - 8) * 256 + r.val < 17664 := by omega
  have e : left11 m c t (ix2 r k) = resQkv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 ⟨(t.val - 8) * 256 + r.val, hlt⟩ k) := by
    unfold left11
    rw [outQkv_apply]
    simp only [rows_apply m c t h8 r _ hlt, wGate_apply, wUp_apply, wDown_apply, const5_apply m c t, const6_apply m c t, const7_apply m c t]
    rfl
  refine e.trans (congrArg (resQkv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) ?_)
  blk_ext [hi]

/-- Result 3 ends at its rows. -/
theorem array12 (c : Dev nD) : (dats m 0 c).arrAt 12 cfg0.N = resZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 12 _ (by decide +kernel) fun t hf y => ?_
  obtain ⟨hi, h8⟩ := idx12 t hf
  have hN : t.val < 77 := lt_of_lt_of_eq t.isLt (show cfg0.N = 77 from N_0)
  blk_simp
  rw [after0_12]
  obtain ⟨r, k, rfl⟩ : ∃ (r : Fin 256) (k : Fin 512), y = ix2 r k := ⟨y 0, y 1, by funext a; match a with | ⟨0, _⟩ => rfl | ⟨1, _⟩ => rfl⟩
  have hr := r.isLt
  have hlt : (t.val - 8) * 256 + r.val < 17664 := by omega
  have e : left12 m c t (ix2 r k) = resZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 ⟨(t.val - 8) * 256 + r.val, hlt⟩ k) := by
    unfold left12
    rw [outZ_apply]
    simp only [rows_apply m c t h8 r _ hlt, wGate_apply, wUp_apply, wDown_apply, const5_apply m c t, const6_apply m c t, const7_apply m c t]
    rfl
  refine e.trans (congrArg (resZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) ?_)
  blk_ext [hi]

/-- Result 4 ends at its rows. -/
theorem array13 (c : Dev nD) : (dats m 0 c).arrAt 13 cfg0.N = resGlu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) := by
  refine (dats m 0 c).arrAt_eq_of_covers 13 _ (by decide +kernel) fun t hf y => ?_
  obtain ⟨hi, h8⟩ := idx13 t hf
  have hN : t.val < 77 := lt_of_lt_of_eq t.isLt (show cfg0.N = 77 from N_0)
  blk_simp
  rw [after0_13]
  obtain ⟨r, k, rfl⟩ : ∃ (r : Fin 256) (k : Fin 512), y = ix2 r k := ⟨y 0, y 1, by funext a; match a with | ⟨0, _⟩ => rfl | ⟨1, _⟩ => rfl⟩
  have hr := r.isLt
  have hlt : (t.val - 8) * 256 + r.val < 17664 := by omega
  have e : left13 m c t (ix2 r k) = resGlu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (ix2 ⟨(t.val - 8) * 256 + r.val, hlt⟩ k) := by
    unfold left13
    rw [outGlu_apply]
    simp only [rows_apply m c t h8 r _ hlt, wGate_apply, wUp_apply, wDown_apply, const5_apply m c t, const6_apply m c t, const8_apply m c t]
    rfl
  refine e.trans (congrArg (resGlu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8))) ?_)
  blk_ext [hi]

/-- Result 5 ends at its rows. -/
theorem array14 (c : Dev nD) : (dats m 0 c).arrAt 14 cfg0.N = resBa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) := by
  refine (dats m 0 c).arrAt_eq_of_covers 14 _ (by decide +kernel) fun t hf y => ?_
  obtain ⟨hi, h8⟩ := idx14 t hf
  have hN : t.val < 77 := lt_of_lt_of_eq t.isLt (show cfg0.N = 77 from N_0)
  blk_simp
  rw [after0_14]
  obtain ⟨r, k, rfl⟩ : ∃ (r : Fin 256) (k : Fin 128), y = ix2 r k := ⟨y 0, y 1, by funext a; match a with | ⟨0, _⟩ => rfl | ⟨1, _⟩ => rfl⟩
  have hr := r.isLt
  have hlt : (t.val - 8) * 256 + r.val < 17664 := by omega
  have e : left14 m c t (ix2 r k) = resBa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (ix2 ⟨(t.val - 8) * 256 + r.val, hlt⟩ k) := by
    unfold left14
    rw [outBa_apply]
    simp only [rows_apply m c t h8 r _ hlt, wGate_apply, wUp_apply, wDown_apply, const5_apply m c t, const6_apply m c t, const9_apply m c t]
    rfl
  refine e.trans (congrArg (resBa (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9))) ?_)
  blk_ext [hi]

/-! ## The reference's rows -/

open Cert.FrontRefIdeal.Read in
/-- The stacked input. -/
theorem ref_stack (x0 : Vec Ideal Cert.FrontRefIdeal.S16384x1024 .f32) (x1 : Vec Ideal Cert.FrontRefIdeal.S1280x1024 .f32) (r : Fin 17664) (l : Fin 1024) : val_main_v0 (F := Ideal) x0 x1 (ix2 r l) = stack x0 x1 r l := by
  pointwise [val_main_v0]
  rfl

open Cert.FrontRefIdeal.Read in
/-- The first half layer's row. -/
theorem ref_h (x0 : Vec Ideal Cert.FrontRefIdeal.S16384x1024 .f32) (x1 : Vec Ideal Cert.FrontRefIdeal.S1280x1024 .f32) (x2 : Vec Ideal S1x1024 .f32) (x3 : Vec Ideal S1x1024x2816 .f32) (x4 : Vec Ideal S1x1024x2816 .f32) (x5 : Vec Ideal S1x2816x1024 .f32) (r : Fin 17664) (k : Fin 1024) :
    val_main_v25 (F := Ideal) x0 x1 x2 x3 x4 x5 (ix2 r k) = resH x0 x1 x2 x3 x4 x5 (ix2 r k) := by
  pointwise [val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_call0_v0, val_main_call0_v1, val_main_call0_cst, val_main_call0_v2, val_main_call0_v3, val_main_call0_cst_0, val_main_call0_v4, val_main_call0_v5, val_main_v19, val_main_v20, val_main_v21, val_main_v22, val_main_cst_2, val_main_v23, val_main_v24, val_main_v25]
  simp only [ref_stack]
  rfl

open Cert.FrontRefIdeal.Read in
/-- The row that the projections are taken of. -/
theorem ref_u (x0 : Vec Ideal Cert.FrontRefIdeal.S16384x1024 .f32) (x1 : Vec Ideal Cert.FrontRefIdeal.S1280x1024 .f32) (x2 : Vec Ideal S1x1024 .f32) (x3 : Vec Ideal S1x1024x2816 .f32) (x4 : Vec Ideal S1x1024x2816 .f32) (x5 : Vec Ideal S1x2816x1024 .f32) (x6 : Vec Ideal S1x1024 .f32) (r : Fin 17664) (k : Fin 1024) :
    val_main_v39 (F := Ideal) x0 x1 x2 x3 x4 x5 x6 (ix2 r k) = uRow x0 x1 x2 x3 x4 x5 x6 r k := by
  pointwise [val_main_v26, val_main_v27, val_main_cst_3, val_main_v28, val_main_v29, val_main_cst_4, val_main_v30, val_main_v31, val_main_cst_5, val_main_v32, val_main_v33, val_main_v34, val_main_v35, val_main_v36, val_main_v37, val_main_v38, val_main_v39]
  simp only [ref_h]
  rfl

open Cert.FrontRefIdeal.Read in
/-- The reference's array `resQkv`. -/
theorem ref_resQkv (x0 : Vec Ideal Cert.FrontRefIdeal.S16384x1024 .f32) (x1 : Vec Ideal Cert.FrontRefIdeal.S1280x1024 .f32) (x2 : Vec Ideal S1x1024 .f32) (x3 : Vec Ideal S1x1024x2816 .f32) (x4 : Vec Ideal S1x1024x2816 .f32) (x5 : Vec Ideal S1x2816x1024 .f32) (x6 : Vec Ideal S1x1024 .f32) (x7 : Vec Ideal S1024x2048 .bf16) (r : Fin 17664) (k : Fin 1536) :
    val_main_v44 (F := Ideal) x0 x1 x2 x3 x4 x5 x6 x7 (ix2 r k) = resQkv x0 x1 x2 x3 x4 x5 x6 x7 (ix2 r k) := by
  pointwise [val_main_v40, val_main_v41, val_main_v44]
  simp only [ref_u]
  rfl

open Cert.FrontRefIdeal.Read in
/-- The reference's array `resZ`. -/
theorem ref_resZ (x0 : Vec Ideal Cert.FrontRefIdeal.S16384x1024 .f32) (x1 : Vec Ideal Cert.FrontRefIdeal.S1280x1024 .f32) (x2 : Vec Ideal S1x1024 .f32) (x3 : Vec Ideal S1x1024x2816 .f32) (x4 : Vec Ideal S1x1024x2816 .f32) (x5 : Vec Ideal S1x2816x1024 .f32) (x6 : Vec Ideal S1x1024 .f32) (x7 : Vec Ideal S1024x2048 .bf16) (r : Fin 17664) (k : Fin 512) :
    val_main_v45 (F := Ideal) x0 x1 x2 x3 x4 x5 x6 x7 (ix2 r k) = resZ x0 x1 x2 x3 x4 x5 x6 x7 (ix2 r k) := by
  pointwise [val_main_v40, val_main_v41, val_main_v45]
  simp only [ref_u]
  rfl

open Cert.FrontRefIdeal.Read in
/-- The reference's array `resGlu`. -/
theorem ref_resGlu (x0 : Vec Ideal Cert.FrontRefIdeal.S16384x1024 .f32) (x1 : Vec Ideal Cert.FrontRefIdeal.S1280x1024 .f32) (x2 : Vec Ideal S1x1024 .f32) (x3 : Vec Ideal S1x1024x2816 .f32) (x4 : Vec Ideal S1x1024x2816 .f32) (x5 : Vec Ideal S1x2816x1024 .f32) (x6 : Vec Ideal S1x1024 .f32) (x8 : Vec Ideal S1024x1024 .bf16) (r : Fin 17664) (k : Fin 512) :
    val_main_v54 (F := Ideal) x0 x1 x2 x3 x4 x5 x6 x8 (ix2 r k) = resGlu x0 x1 x2 x3 x4 x5 x6 x8 (ix2 r k) := by
  pointwise [val_main_v42, val_main_v43, val_main_v46, val_main_v47, val_main_v48, val_main_v49, val_main_cst_6, val_main_v50, val_main_v51, val_main_cst_7, val_main_v52, val_main_v53, val_main_v54]
  simp only [ref_u]
  rfl

open Cert.FrontRefIdeal.Read in
/-- The reference's array `resBa`. -/
theorem ref_resBa (x0 : Vec Ideal Cert.FrontRefIdeal.S16384x1024 .f32) (x1 : Vec Ideal Cert.FrontRefIdeal.S1280x1024 .f32) (x2 : Vec Ideal S1x1024 .f32) (x3 : Vec Ideal S1x1024x2816 .f32) (x4 : Vec Ideal S1x1024x2816 .f32) (x5 : Vec Ideal S1x2816x1024 .f32) (x6 : Vec Ideal S1x1024 .f32) (x9 : Vec Ideal S1024x128 .bf16) (r : Fin 17664) (k : Fin 128) :
    val_main_v56 (F := Ideal) x0 x1 x2 x3 x4 x5 x6 x9 (ix2 r k) = resBa x0 x1 x2 x3 x4 x5 x6 x9 (ix2 r k) := by
  pointwise [val_main_v55, val_main_v56]
  simp only [ref_u]
  rfl

end Cert.FrontIdeal.Val

end
-- ==== Proof.FrontClaims.lean ====
module

public import proofs.«01_k».proof.Defs
public import proofs.«01_k».proof.Proof.FrontValue
public import proofs.«01_k».proof.Proof.Gen.Front
public import proofs.«01_k».proof.Proof.Gen.FrontRefIdeal
public import proofs.«01_k».proof.Proof.Gen.FrontRefIdeal.Run

@[expose] public section

set_option maxHeartbeats 4000000

noncomputable section

namespace Cert.FrontIdeal.Claims

open Idealize.ShloMosaic Idealize.SL.Sem

/-- The program of the first half layer and its projections, over any float values, ends with its arguments unchanged and every semaphore at zero. -/
theorem frame_any {F : FTy → Type} [FloatOps F] (m : (ℓ : Loc Cert.FrontIdeal.nD Cert.FrontIdeal.τ Cert.FrontIdeal.sig) → Buf (Elt F) ℓ)
    (ρ : Dev Cert.FrontIdeal.nD → PrngReg) :
    θ_run (Cert.FrontIdeal.defs (F := F)) (onTc (τ := Cert.FrontIdeal.τ) (Cert.FrontIdeal.main (F := F))) ⟨m, fun _ => 0, ρ⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9))
      ∧ r.2.sem = fun _ => 0) :=
  θ_run_and (Cert.FrontIdeal.Gen.frame_of m ρ (Cert.FrontIdeal.Run.dats m) (Cert.FrontIdeal.Run.A_eq m)
      ((θ_run Cert.FrontIdeal.defs _ _).mono (fun _ h => h.1) (Cert.FrontIdeal.Run.run_main m ρ)))
    ((θ_run Cert.FrontIdeal.defs _ _).mono (fun _ h => h.2) (Cert.FrontIdeal.Run.run_main m ρ))

set_option maxRecDepth 65536 in
/-- The two readings of the program have the same body. -/
theorem body_same : Cert.Front.defs₀ (F := Bits) = Cert.FrontIdeal.defs₀ (F := Bits) := by
  unfold Cert.Front.defs₀ Cert.FrontIdeal.defs₀
  refine congrArg Defs.onTc ?_
  funext l x
  match l, x with
  | ⟨0, _⟩, (t, s) => rfl

/-- And the same table of calls. -/
theorem defs_same : Cert.Front.defs (F := Bits) = Cert.FrontIdeal.defs (F := Bits) :=
  congrArg (Idealize.ShloMosaic.Pipeline.defs (Cert.FrontIdeal.pcfgs (F := Bits))) body_same

set_option maxRecDepth 65536 in
/-- The program over machine words ends with its arguments unchanged and every semaphore at zero. -/
theorem frame_front : Cert.quiescent_Front := fun m ρ _ => by
  rw [defs_same]
  exact frame_any (F := Bits) m ρ

/-- The program over the extended reals ends with its arguments unchanged and every semaphore at zero. -/
theorem frame_frontIdeal : Cert.quiescent_FrontIdeal := fun m ρ _ => frame_any (F := Ideal) m ρ

/-- Its reference ends with its arguments unchanged; it has no semaphore. -/
theorem frame_frontRef : Cert.quiescent_FrontRefIdeal := fun m ρ _ =>
  (θ_run Cert.FrontRefIdeal.defs _ _).mono
    (fun r h => ⟨fun c => (h c).2.2.2.2.2, sem_eq_zero_of_no_sems (by decide) r.2⟩)
    (Cert.FrontRefIdeal.Value.run (F := Ideal) m ρ)

/-- The program and its reference end with equal results: the half layer's rows and the four projections of each. -/
theorem algebraic_front : Cert.algebraic_FrontIdeal_FrontRefIdeal := by
  intro m g m' g' _ hagree
  refine ⟨fun c => Cert.FrontIdeal.Val.resH (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)),
    fun c => Cert.FrontIdeal.Val.resQkv (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)),
    fun c => Cert.FrontIdeal.Val.resZ (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)),
    fun c => Cert.FrontIdeal.Val.resGlu (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg8)),
    fun c => Cert.FrontIdeal.Val.resBa (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg9)), ?_, ?_⟩
  · refine (θ_run Cert.FrontIdeal.defs _ _).mono (fun r h c => ?_)
      (θ_run_and (Cert.FrontIdeal.Run.run_main (F := Ideal) m g) (frame_frontIdeal m g trivial))
    exact ⟨((h.1.1 c).1 10).trans (Cert.FrontIdeal.Val.array10 m c), ((h.1.1 c).1 11).trans (Cert.FrontIdeal.Val.array11 m c), ((h.1.1 c).1 12).trans (Cert.FrontIdeal.Val.array12 m c), ((h.1.1 c).1 13).trans (Cert.FrontIdeal.Val.array13 m c), ((h.1.1 c).1 14).trans (Cert.FrontIdeal.Val.array14 m c), h.2.1 c⟩
  · refine (θ_run Cert.FrontRefIdeal.defs _ _).mono (fun r h c => ⟨(h c).1.trans ?_, (h c).2.1.trans ?_, (h c).2.2.1.trans ?_, (h c).2.2.2.1.trans ?_, (h c).2.2.2.2.1.trans ?_, (h c).2.2.2.2.2⟩)
      (Cert.FrontRefIdeal.Value.run (F := Ideal) m' g')
    · obtain ⟨h0, h1, h2, h3, h4, h5, h6, h7, h8, h9⟩ := hagree c
      rw [Cert.FrontRefIdeal.Read.val_main_v25_eq, h0, h1, h2, h3, h4, h5]
      funext i
      obtain ⟨a, b, rfl⟩ : ∃ a b, i = ix2 a b := ⟨i 0, i 1, by funext d; match d with | 0 => rfl | 1 => rfl⟩
      exact Cert.FrontIdeal.Val.ref_h _ _ _ _ _ _ a b
    · obtain ⟨h0, h1, h2, h3, h4, h5, h6, h7, h8, h9⟩ := hagree c
      rw [Cert.FrontRefIdeal.Read.val_main_v44_eq, h0, h1, h2, h3, h4, h5, h6, h7]
      funext i
      obtain ⟨a, b, rfl⟩ : ∃ a b, i = ix2 a b := ⟨i 0, i 1, by funext d; match d with | 0 => rfl | 1 => rfl⟩
      exact Cert.FrontIdeal.Val.ref_resQkv _ _ _ _ _ _ _ _ a b
    · obtain ⟨h0, h1, h2, h3, h4, h5, h6, h7, h8, h9⟩ := hagree c
      rw [Cert.FrontRefIdeal.Read.val_main_v45_eq, h0, h1, h2, h3, h4, h5, h6, h7]
      funext i
      obtain ⟨a, b, rfl⟩ : ∃ a b, i = ix2 a b := ⟨i 0, i 1, by funext d; match d with | 0 => rfl | 1 => rfl⟩
      exact Cert.FrontIdeal.Val.ref_resZ _ _ _ _ _ _ _ _ a b
    · obtain ⟨h0, h1, h2, h3, h4, h5, h6, h7, h8, h9⟩ := hagree c
      rw [Cert.FrontRefIdeal.Read.val_main_v54_eq, h0, h1, h2, h3, h4, h5, h6, h8]
      funext i
      obtain ⟨a, b, rfl⟩ : ∃ a b, i = ix2 a b := ⟨i 0, i 1, by funext d; match d with | 0 => rfl | 1 => rfl⟩
      exact Cert.FrontIdeal.Val.ref_resGlu _ _ _ _ _ _ _ _ a b
    · obtain ⟨h0, h1, h2, h3, h4, h5, h6, h7, h8, h9⟩ := hagree c
      rw [Cert.FrontRefIdeal.Read.val_main_v56_eq, h0, h1, h2, h3, h4, h5, h6, h9]
      funext i
      obtain ⟨a, b, rfl⟩ : ∃ a b, i = ix2 a b := ⟨i 0, i 1, by funext d; match d with | 0 => rfl | 1 => rfl⟩
      exact Cert.FrontIdeal.Val.ref_resBa _ _ _ _ _ _ _ _ a b

end Cert.FrontIdeal.Claims

end
-- ==== Proof.lean ====
/- The certificate: each claim of `Cert.Claim`, from the modules under proof/Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.MixPre
public import proofs.«01_k».proof.Proof.MixClaims
public import proofs.«01_k».proof.Proof.Gen.Back
public import proofs.«01_k».proof.Proof.Gen.Back.Frame
public import proofs.«01_k».proof.Proof.Gen.BackIdeal
public import proofs.«01_k».proof.Proof.Gen.BackRefIdeal
public import proofs.«01_k».proof.Proof.BackClaims
public import proofs.«01_k».proof.Proof.Gen.Front
public import proofs.«01_k».proof.Proof.Gen.Front.Frame
public import proofs.«01_k».proof.Proof.Gen.FrontIdeal
public import proofs.«01_k».proof.Proof.Gen.FrontRefIdeal
public import proofs.«01_k».proof.Proof.FrontClaims

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Back.Gen.facts, Cert.BackIdeal.Gen.facts, Cert.BackRefIdeal.Gen.facts,
  Cert.Front.Gen.facts, Cert.FrontIdeal.Gen.facts, Cert.FrontRefIdeal.Gen.facts, Cert.KernelIdeal.Val.finiteFacts,
  Cert.KernelIdeal.Claims.frame_kernel, Cert.KernelIdeal.Claims.frame_kernelIdeal, Cert.KernelIdeal.Claims.frame_kernelIdeal_finite,
  Cert.KernelIdeal.Claims.frame_reference, Cert.KernelIdeal.Claims.frame_reference_finite,
  Cert.BackIdeal.Claims.frame_back, Cert.BackIdeal.Claims.frame_backIdeal, Cert.BackIdeal.Claims.frame_backRef,
  Cert.FrontIdeal.Claims.frame_front, Cert.FrontIdeal.Claims.frame_frontIdeal, Cert.FrontIdeal.Claims.frame_frontRef,
  trivial, Cert.KernelIdeal.Claims.algebraic_kernel, trivial, Cert.BackIdeal.Claims.algebraic_back, trivial, Cert.FrontIdeal.Claims.algebraic_front⟩

end Cert.Proof

end
